-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_QkPrep (m : (ℓ : Loc Cert.QkPrep.nD Cert.QkPrep.τ Cert.QkPrep.sig) → Buf (Elt Bits) ℓ) : Prop :=
  True

def Pre_QkPrepIdeal (m : (ℓ : Loc Cert.QkPrepIdeal.nD Cert.QkPrepIdeal.τ Cert.QkPrepIdeal.sig) → Buf (Elt Ideal) ℓ) : Prop :=
  True

def Pre_QkPrepRefIdeal (m : (ℓ : Loc Cert.QkPrepRefIdeal.nD Cert.QkPrepRefIdeal.τ Cert.QkPrepRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_QkPrep [hQkPrep : Cert.QkPrep.Facts] : Prop :=
  ∀ (m : (ℓ : Loc Cert.QkPrep.nD Cert.QkPrep.τ Cert.QkPrep.sig) → Buf (Elt Bits) ℓ) (g : Dev Cert.QkPrep.nD → PrngReg), Pre_QkPrep m →
    θ_run (Cert.QkPrep.defs (F := Bits)) (onTc (τ := Cert.QkPrep.τ) (Cert.QkPrep.main (F := Bits))) ⟨m, fun _ => 0, g⟩ (fun r => (∀ c : Dev Cert.QkPrep.nD,
      r.2.mem ((c.tc : Thread Cert.QkPrep.nD Cert.QkPrep.τ).loc Cert.QkPrep.main_arg0) = m ((c.tc : Thread Cert.QkPrep.nD Cert.QkPrep.τ).loc Cert.QkPrep.main_arg0)
      ∧ r.2.mem ((c.tc : Thread Cert.QkPrep.nD Cert.QkPrep.τ).loc Cert.QkPrep.main_arg1) = m ((c.tc : Thread Cert.QkPrep.nD Cert.QkPrep.τ).loc Cert.QkPrep.main_arg1)
      ∧ r.2.mem ((c.tc : Thread Cert.QkPrep.nD Cert.QkPrep.τ).loc Cert.QkPrep.main_arg2) = m ((c.tc : Thread Cert.QkPrep.nD Cert.QkPrep.τ).loc Cert.QkPrep.main_arg2))
      ∧ r.2.sem = fun _ => 0)

def quiescent_QkPrepIdeal [hQkPrepIdeal : Cert.QkPrepIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2))
      ∧ r.2.sem = fun _ => 0)

def quiescent_QkPrepRefIdeal [hQkPrepRefIdeal : Cert.QkPrepRefIdeal.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Kernel_KernelIdeal : Prop :=
  IdealRules.named_const.Statement Cert.KernelIdeal.κ "att_scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v133_0)) (v1 : (c : Dev Cert.KernelIdeal.nD) → Buf (Elt Ideal) ((c.tc : Thread Cert.KernelIdeal.nD Cert.KernelIdeal.τ).loc Cert.KernelIdeal.main_v133_1)) (v2 : (c : Dev Cert.KernelIdeal.nD) → Buf (Elt Ideal) ((c.tc : Thread Cert.KernelIdeal.nD Cert.KernelIdeal.τ).loc Cert.KernelIdeal.main_v133_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133_0) = v0 c
          ∧ r.2.mem ((c.tc : Thread Cert.KernelIdeal.nD Cert.KernelIdeal.τ).loc Cert.KernelIdeal.main_v133_1) = v1 c
          ∧ r.2.mem ((c.tc : Thread Cert.KernelIdeal.nD Cert.KernelIdeal.τ).loc Cert.KernelIdeal.main_v133_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v6) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v4) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v4) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v0_0)) (v1 : (c : Dev Cert.Norm1Ideal.nD) → Buf (Elt Ideal) ((c.tc : Thread Cert.Norm1Ideal.nD Cert.Norm1Ideal.τ).loc Cert.Norm1Ideal.main_v0_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0_0) = v0 c
          ∧ r.2.mem ((c.tc : Thread Cert.Norm1Ideal.nD Cert.Norm1Ideal.τ).loc Cert.Norm1Ideal.main_v0_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v18) = v0 c
          ∧ r.2.mem ((c.tc : Thread Cert.Norm1RefIdeal.nD Cert.Norm1RefIdeal.τ).loc Cert.Norm1RefIdeal.main_v26) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)) (v2 : (c : Dev Cert.Norm2Ideal.nD) → Buf (Elt Ideal) ((c.tc : Thread Cert.Norm2Ideal.nD Cert.Norm2Ideal.τ).loc Cert.Norm2Ideal.main_v0_2)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_v0_2) = v2 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v2) = v0 c
          ∧ r.2.mem ((c.tc : Thread Cert.Norm2RefIdeal.nD Cert.Norm2RefIdeal.τ).loc Cert.Norm2RefIdeal.main_v21) = v1 c
          ∧ r.2.mem ((c.tc : Thread Cert.Norm2RefIdeal.nD Cert.Norm2RefIdeal.τ).loc Cert.Norm2RefIdeal.main_v29) = v2 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v3) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v4) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_QkPrep_QkPrepIdeal : Prop :=
  True

def algebraic_QkPrepIdeal_QkPrepRefIdeal [hQkPrepIdeal : Cert.QkPrepIdeal.Facts] [hQkPrepRefIdeal : Cert.QkPrepRefIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg)
    (m' : (ℓ : Loc Cert.QkPrepRefIdeal.nD Cert.QkPrepRefIdeal.τ Cert.QkPrepRefIdeal.sig) → Buf (Elt Ideal) ℓ) (g' : Dev Cert.QkPrepRefIdeal.nD → PrngReg), Pre_QkPrepIdeal m →
    (∀ c : Dev Cert.QkPrepIdeal.nD,
      m' ((c.tc : Thread Cert.QkPrepRefIdeal.nD Cert.QkPrepRefIdeal.τ).loc Cert.QkPrepRefIdeal.main_arg0) = m ((c.tc : Thread Cert.QkPrepIdeal.nD Cert.QkPrepIdeal.τ).loc Cert.QkPrepIdeal.main_arg0)
      ∧ m' ((c.tc : Thread Cert.QkPrepRefIdeal.nD Cert.QkPrepRefIdeal.τ).loc Cert.QkPrepRefIdeal.main_arg1) = m ((c.tc : Thread Cert.QkPrepIdeal.nD Cert.QkPrepIdeal.τ).loc Cert.QkPrepIdeal.main_arg1)
      ∧ m' ((c.tc : Thread Cert.QkPrepRefIdeal.nD Cert.QkPrepRefIdeal.τ).loc Cert.QkPrepRefIdeal.main_arg2) = m ((c.tc : Thread Cert.QkPrepIdeal.nD Cert.QkPrepIdeal.τ).loc Cert.QkPrepIdeal.main_arg2)) →
    ∃ (v0 : (c : Dev Cert.QkPrepIdeal.nD) → Buf (Elt Ideal) ((c.tc : Thread Cert.QkPrepIdeal.nD Cert.QkPrepIdeal.τ).loc Cert.QkPrepIdeal.main_v0_0)) (v1 : (c : Dev Cert.QkPrepIdeal.nD) → Buf (Elt Ideal) ((c.tc : Thread Cert.QkPrepIdeal.nD Cert.QkPrepIdeal.τ).loc Cert.QkPrepIdeal.main_v0_1)) (v2 : (c : Dev Cert.QkPrepIdeal.nD) → Buf (Elt Ideal) ((c.tc : Thread Cert.QkPrepIdeal.nD Cert.QkPrepIdeal.τ).loc Cert.QkPrepIdeal.main_v0_2)),
      θ_run (Cert.QkPrepIdeal.defs (F := Ideal)) (onTc (τ := Cert.QkPrepIdeal.τ) (Cert.QkPrepIdeal.main (F := Ideal))) ⟨m, fun _ => 0, g⟩ (fun r => ∀ c : Dev Cert.QkPrepIdeal.nD,
          r.2.mem ((c.tc : Thread Cert.QkPrepIdeal.nD Cert.QkPrepIdeal.τ).loc Cert.QkPrepIdeal.main_v0_0) = v0 c
          ∧ r.2.mem ((c.tc : Thread Cert.QkPrepIdeal.nD Cert.QkPrepIdeal.τ).loc Cert.QkPrepIdeal.main_v0_1) = v1 c
          ∧ r.2.mem ((c.tc : Thread Cert.QkPrepIdeal.nD Cert.QkPrepIdeal.τ).loc Cert.QkPrepIdeal.main_v0_2) = v2 c
          ∧ r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
          ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
          ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2))
      ∧ θ_run (Cert.QkPrepRefIdeal.defs (F := Ideal)) (onTc (τ := Cert.QkPrepRefIdeal.τ) (Cert.QkPrepRefIdeal.main (F := Ideal))) ⟨m', fun _ => 0, g'⟩ (fun r => ∀ c : Dev Cert.QkPrepRefIdeal.nD,
          r.2.mem ((c.tc : Thread Cert.QkPrepRefIdeal.nD Cert.QkPrepRefIdeal.τ).loc Cert.QkPrepRefIdeal.main_v33) = v0 c
          ∧ r.2.mem ((c.tc : Thread Cert.QkPrepRefIdeal.nD Cert.QkPrepRefIdeal.τ).loc Cert.QkPrepRefIdeal.main_v35) = v1 c
          ∧ r.2.mem ((c.tc : Thread Cert.QkPrepRefIdeal.nD Cert.QkPrepRefIdeal.τ).loc Cert.QkPrepRefIdeal.main_v37) = v2 c
          ∧ r.2.mem ((c.tc : Thread Cert.QkPrepRefIdeal.nD Cert.QkPrepRefIdeal.τ).loc Cert.QkPrepRefIdeal.main_arg0) = m' ((c.tc : Thread Cert.QkPrepRefIdeal.nD Cert.QkPrepRefIdeal.τ).loc Cert.QkPrepRefIdeal.main_arg0)
          ∧ r.2.mem ((c.tc : Thread Cert.QkPrepRefIdeal.nD Cert.QkPrepRefIdeal.τ).loc Cert.QkPrepRefIdeal.main_arg1) = m' ((c.tc : Thread Cert.QkPrepRefIdeal.nD Cert.QkPrepRefIdeal.τ).loc Cert.QkPrepRefIdeal.main_arg1)
          ∧ r.2.mem ((c.tc : Thread Cert.QkPrepRefIdeal.nD Cert.QkPrepRefIdeal.τ).loc Cert.QkPrepRefIdeal.main_arg2) = m' ((c.tc : Thread Cert.QkPrepRefIdeal.nD Cert.QkPrepRefIdeal.τ).loc Cert.QkPrepRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg3) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hNorm1 : Cert.Norm1.Facts) (hNorm1Ideal : Cert.Norm1Ideal.Facts) (hNorm1RefIdeal : Cert.Norm1RefIdeal.Facts) (hNorm2 : Cert.Norm2.Facts) (hNorm2Ideal : Cert.Norm2Ideal.Facts) (hNorm2RefIdeal : Cert.Norm2RefIdeal.Facts) (hAdaFwd : Cert.AdaFwd.Facts) (hAdaFwdIdeal : Cert.AdaFwdIdeal.Facts) (hAdaFwdRefIdeal : Cert.AdaFwdRefIdeal.Facts) (hAdaDw : Cert.AdaDw.Facts) (hAdaDwIdeal : Cert.AdaDwIdeal.Facts) (hAdaDwRefIdeal : Cert.AdaDwRefIdeal.Facts) (hQkPrep : Cert.QkPrep.Facts) (hQkPrepIdeal : Cert.QkPrepIdeal.Facts) (hQkPrepRefIdeal : Cert.QkPrepRefIdeal.Facts) (hAdam : Cert.Adam.Facts) (hAdamIdeal : Cert.AdamIdeal.Facts) (hAdamRefIdeal : Cert.AdamRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_QkPrep (hQkPrep := hQkPrep)
    ∧ quiescent_QkPrepIdeal (hQkPrepIdeal := hQkPrepIdeal)
    ∧ quiescent_QkPrepRefIdeal (hQkPrepRefIdeal := hQkPrepRefIdeal)
    ∧ quiescent_Adam (hAdam := hAdam)
    ∧ quiescent_AdamIdeal (hAdamIdeal := hAdamIdeal)
    ∧ quiescent_AdamRefIdeal (hAdamRefIdeal := hAdamRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_Norm1_Norm1Ideal
    ∧ algebraic_Norm1Ideal_Norm1RefIdeal (hNorm1Ideal := hNorm1Ideal) (hNorm1RefIdeal := hNorm1RefIdeal)
    ∧ preserves_Norm2_Norm2Ideal
    ∧ algebraic_Norm2Ideal_Norm2RefIdeal (hNorm2Ideal := hNorm2Ideal) (hNorm2RefIdeal := hNorm2RefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaDw_AdaDwIdeal
    ∧ algebraic_AdaDwIdeal_AdaDwRefIdeal (hAdaDwIdeal := hAdaDwIdeal) (hAdaDwRefIdeal := hAdaDwRefIdeal)
    ∧ preserves_QkPrep_QkPrepIdeal
    ∧ algebraic_QkPrepIdeal_QkPrepRefIdeal (hQkPrepIdeal := hQkPrepIdeal) (hQkPrepRefIdeal := hQkPrepRefIdeal)
    ∧ preserves_Adam_AdamIdeal
    ∧ algebraic_AdamIdeal_AdamRefIdeal (hAdamIdeal := hAdamIdeal) (hAdamRefIdeal := hAdamRefIdeal)
-- ==== Pre_finite.lean ====
abbrev S2048x1024 : Shape := ⟨2, ![2048, 1024]⟩
abbrev S2048x2048 : Shape := ⟨2, ![2048, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S2048x2048_S2048x1024_0_1024 : S2048x2048.Slices ![0, 1024] S2048x1024

variable [Facts]

def fn_part1 {F : FTy → Type} [FloatOps F] (main_v16 : IVec S_ 1) (main_v17 : FVec F S2048x1024 .f32) : IVec S_ 1 :=
  let main_v18 : FVec F S2048x1024 .f32 := Host.absf main_v17
  let main_cst_4 : FVec F S_ .f32 := constant S_ .f32 0x7F800000#32
  let main_v19 : FVec F S2048x1024 .f32 := broadcastInDim S2048x1024 ![] bcast_S_S2048x1024 main_cst_4
  let main_v20 : IVec S2048x1024 1 := cmpf .olt main_v18 main_v19
  let main_c_5 : IVec S_ 1 := constantI S_ 1 1#1
  let main_v21 : IVec S_ 1 := (fun x v => Host.reduce IntOp.andi x v reducesTo_S2048x1024_S_d0_1 h_S_) main_v20 main_c_5
  let main_v22 : IVec S_ 1 := andi main_v16 main_v21
  main_v22

def fn {F : FTy → Type} [FloatOps F] (main_arg0 : FVec F S2048x1024 .bf16) (main_arg1 : FVec F S2048x1024 .bf16) (main_arg2 : FVec F S2048x1024 .bf16) (main_arg3 : FVec F S2048x2048 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S2048x1024 .f32 := (extf .f32 · bitsLt_bf16_f32) main_arg2
  let main_v12 : FVec F S2048x1024 .f32 := Host.absf main_v11
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v10 main_v15
  let main_v17 : FVec F S2048x1024 .f32 := (extractStridedSlice S2048x1024 ![0, 1024] · slices_S2048x2048_S2048x1024_0_1024) main_arg3
  fn_part1 (F := F) main_v16 main_v17
-- ==== Kernel.lean ====
abbrev S2048x1024 : Shape := ⟨2, ![2048, 1024]⟩
abbrev S2048x2048 : Shape := ⟨2, ![2048, 2048]⟩
abbrev S8 : Shape := ⟨1, ![8]⟩
abbrev S8x1x128 : Shape := ⟨3, ![8, 1, 128]⟩
abbrev S2048x8x128 : Shape := ⟨3, ![2048, 8, 128]⟩
abbrev S8x2048x128 : Shape := ⟨3, ![8, 2048, 128]⟩
abbrev S_ : Shape := ⟨0, ![]⟩
abbrev S8x2048x2048 : Shape := ⟨3, ![8, 2048, 2048]⟩
abbrev S8x1x1 : Shape := ⟨3, ![8, 1, 1]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x8x2048x2048 : Shape := ⟨4, ![3, 8, 2048, 2048]⟩
abbrev S1x8x2048x2048 : Shape := ⟨4, ![1, 8, 2048, 2048]⟩
abbrev S3x8x2048 : Shape := ⟨3, ![3, 8, 2048]⟩
abbrev S3x8x2048x1 : Shape := ⟨4, ![3, 8, 2048, 1]⟩
abbrev S8x2048 : Shape := ⟨2, ![8, 2048]⟩
abbrev S1x8x2048 : Shape := ⟨3, ![1, 8, 2048]⟩
abbrev S8x2048x1 : Shape := ⟨3, ![8, 2048, 1]⟩
abbrev S4x512x512 : Shape := ⟨3, ![4, 512, 512]⟩
abbrev S512x128 : Shape := ⟨2, ![512, 128]⟩
abbrev S2048x128 : Shape := ⟨2, ![2048, 128]⟩
abbrev S1x512x1 : Shape := ⟨3, ![1, 512, 1]⟩
abbrev S1x1x128 : Shape := ⟨3, ![1, 1, 128]⟩
abbrev S1x1x1 : Shape := ⟨3, ![1, 1, 1]⟩
abbrev S1x1 : Shape := ⟨2, ![1, 1]⟩
abbrev S512x1 : Shape := ⟨2, ![512, 1]⟩
abbrev S512 : Shape := ⟨1, ![512]⟩
abbrev S512x512 : Shape := ⟨2, ![512, 512]⟩
abbrev S1x512x512 : Shape := ⟨3, ![1, 512, 512]⟩

abbrev nBuf : Space → Nat
  | .hbm => 176
  | .vmem => 22
  | .smem => 0
  | _ => 0

abbrev hbmTy0_0 (i : Nat) : BufTy := match i % 128 with
  | 0 => ⟨S2048x1024, .bf16⟩
  | 1 => ⟨S2048x1024, .bf16⟩
  | 2 => ⟨S2048x1024, .bf16⟩
  | 3 => ⟨S2048x2048, .f32⟩
  | 4 => ⟨S8, .f32⟩
  | 5 => ⟨S8x1x128, .f32⟩
  | 6 => ⟨S2048x1024, .f32⟩
  | 7 => ⟨S2048x8x128, .f32⟩
  | 8 => ⟨S8x2048x128, .f32⟩
  | 9 => ⟨S2048x1024, .f32⟩
  | 10 => ⟨S2048x8x128, .f32⟩
  | 11 => ⟨S8x2048x128, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S_, .f32⟩
  | 24 => ⟨S8, .f32⟩
  | 25 => ⟨S8, .f32⟩
  | 26 => ⟨S8, .f32⟩
  | 27 => ⟨S2048x2048, .i32⟩
  | 28 => ⟨S2048x2048, .i32⟩
  | 29 => ⟨S2048x2048, .i32⟩
  | 30 => ⟨S8x2048x2048, .f32⟩
  | 31 => ⟨S_, .f32⟩
  | 32 => ⟨S_, .f32⟩
  | 33 => ⟨S8x2048x2048, .f32⟩
  | 34 => ⟨S8x2048x2048, .f32⟩
  | 35 => ⟨S8x1x1, .f32⟩
  | 36 => ⟨S8x1x1, .f32⟩
  | 37 => ⟨S2048x2048, .f32⟩
  | 38 => ⟨S1x2048x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S3x2048x2048, .i32⟩
  | 44 => ⟨S_, .i32⟩
  | 45 => ⟨S3x2048x2048, .i32⟩
  | 46 => ⟨S3x2048x2048, .i32⟩
  | 47 => ⟨S_, .i32⟩
  | 48 => ⟨S3x2048x2048, .i32⟩
  | 49 => ⟨S3x2048x2048, .i32⟩
  | 50 => ⟨S3x2048x2048, .i32⟩
  | 51 => ⟨S_, .i32⟩
  | 52 => ⟨S3x2048x2048, .i32⟩
  | 53 => ⟨S3x2048x2048, .i1⟩
  | 54 => ⟨S_, .i32⟩
  | 55 => ⟨S3x2048x2048, .i32⟩
  | 56 => ⟨S3x2048x2048, .i32⟩
  | 57 => ⟨S3x2048x2048, .i1⟩
  | 58 => ⟨S3x2048x2048, .i1⟩
  | 59 => ⟨S3x2048x2048, .i32⟩
  | 60 => ⟨S_, .i32⟩
  | 61 => ⟨S3x2048x2048, .i32⟩
  | 62 => ⟨S3x2048x2048, .i1⟩
  | 63 => ⟨S3x2048x2048, .i1⟩
  | 64 => ⟨S3x1x2048x2048, .i1⟩
  | 65 => ⟨S3x8x2048x2048, .i1⟩
  | 66 => ⟨S1x8x2048x2048, .f32⟩
  | 67 => ⟨S3x8x2048x2048, .f32⟩
  | 68 => ⟨S_, .f32⟩
  | 69 => ⟨S3x8x2048x2048, .f32⟩
  | 70 => ⟨S3x8x2048x2048, .f32⟩
  | 71 => ⟨S_, .f32⟩
  | 72 => ⟨S3x8x2048, .f32⟩
  | 73 => ⟨S3x8x2048x1, .f32⟩
  | 74 => ⟨S3x8x2048x2048, .f32⟩
  | 75 => ⟨S3x8x2048x2048, .f32⟩
  | 76 => ⟨S3x8x2048x2048, .f32⟩
  | 77 => ⟨S_, .f32⟩
  | 78 => ⟨S3x8x2048, .f32⟩
  | 79 => ⟨S3x8x2048x1, .f32⟩
  | 80 => ⟨S3x8x2048x1, .f32⟩
  | 81 => ⟨S3x8x2048x1, .f32⟩
  | 82 => ⟨S3x8x2048, .f32⟩
  | 83 => ⟨S_, .f32⟩
  | 84 => ⟨S8x2048, .f32⟩
  | 85 => ⟨S1x8x2048, .f32⟩
  | 86 => ⟨S3x8x2048, .f32⟩
  | 87 => ⟨S3x8x2048, .f32⟩
  | 88 => ⟨S3x8x2048, .f32⟩
  | 89 => ⟨S_, .f32⟩
  | 90 => ⟨S8x2048, .f32⟩
  | 91 => ⟨S8x2048, .f32⟩
  | 92 => ⟨S8x2048, .f32⟩
  | 93 => ⟨S_, .f32⟩
  | 94 => ⟨S8x2048, .f32⟩
  | 95 => ⟨S_, .f32⟩
  | 96 => ⟨S8x2048, .f32⟩
  | 97 => ⟨S8x2048, .f32⟩
  | 98 => ⟨S1x8x2048, .f32⟩
  | 99 => ⟨S3x8x2048, .f32⟩
  | 100 => ⟨S3x8x2048, .f32⟩
  | 101 => ⟨S3x8x2048, .f32⟩
  | 102 => ⟨S_, .f32⟩
  | 103 => ⟨S8x2048, .f32⟩
  | 104 => ⟨S1x8x2048, .f32⟩
  | 105 => ⟨S3x8x2048, .f32⟩
  | 106 => ⟨S3x8x2048, .f32⟩
  | 107 => ⟨S3x8x2048x2048, .f32⟩
  | 108 => ⟨S3x8x2048x2048, .f32⟩
  | 109 => ⟨S3x8x2048x1, .f32⟩
  | 110 => ⟨S3x8x2048x2048, .f32⟩
  | 111 => ⟨S3x8x2048x2048, .f32⟩
  | 112 => ⟨S_, .f32⟩
  | 113 => ⟨S8x2048x2048, .f32⟩
  | 114 => ⟨S2048x1024, .f32⟩
  | 115 => ⟨S2048x8x128, .f32⟩
  | 116 => ⟨S8x2048x128, .f32⟩
  | 117 => ⟨S8x2048x128, .f32⟩
  | 118 => ⟨S2048x8x128, .f32⟩
  | 119 => ⟨S2048x1024, .f32⟩
  | 120 => ⟨S8x2048x1, .f32⟩
  | 121 => ⟨S4x512x512, .i32⟩
  | 122 => ⟨S4x512x512, .i32⟩
  | 123 => ⟨S4x512x512, .i32⟩
  | 124 => ⟨S_, .i32⟩
  | 125 => ⟨S4x512x512, .i32⟩
  | 126 => ⟨S4x512x512, .i32⟩
  | 127 => ⟨S4x512x512, .i32⟩
  | _ => ⟨S2048x1024, .bf16⟩

abbrev hbmTy0_1 (i : Nat) : BufTy := match i % 128 with
  | 0 => ⟨S4x512x512, .i32⟩
  | 1 => ⟨S_, .i32⟩
  | 2 => ⟨S4x512x512, .i32⟩
  | 3 => ⟨S4x512x512, .i1⟩
  | 4 => ⟨S4x512x512, .f32⟩
  | 5 => ⟨S_, .i32⟩
  | 6 => ⟨S4x512x512, .i32⟩
  | 7 => ⟨S4x512x512, .i32⟩
  | 8 => ⟨S_, .i32⟩
  | 9 => ⟨S4x512x512, .i32⟩
  | 10 => ⟨S4x512x512, .i1⟩
  | 11 => ⟨S_, .i32⟩
  | 12 => ⟨S4x512x512, .i32⟩
  | 13 => ⟨S4x512x512, .i1⟩
  | 14 => ⟨S4x512x512, .i1⟩
  | 15 => ⟨S4x512x512, .f32⟩
  | 16 => ⟨S4x512x512, .f32⟩
  | 17 => ⟨S_, .i32⟩
  | 18 => ⟨S4x512x512, .i32⟩
  | 19 => ⟨S4x512x512, .i32⟩
  | 20 => ⟨S_, .i32⟩
  | 21 => ⟨S4x512x512, .i32⟩
  | 22 => ⟨S4x512x512, .i1⟩
  | 23 => ⟨S4x512x512, .f32⟩
  | 24 => ⟨S4x512x512, .f32⟩
  | 25 => ⟨S_, .i32⟩
  | 26 => ⟨S4x512x512, .i32⟩
  | 27 => ⟨S4x512x512, .i1⟩
  | 28 => ⟨S_, .f32⟩
  | 29 => ⟨S4x512x512, .f32⟩
  | 30 => ⟨S4x512x512, .i1⟩
  | 31 => ⟨S4x512x512, .i1⟩
  | 32 => ⟨S4x512x512, .f32⟩
  | 33 => ⟨S_, .f32⟩
  | 34 => ⟨S_, .f32⟩
  | 35 => ⟨S4x512x512, .f32⟩
  | 36 => ⟨S4x512x512, .f32⟩
  | 37 => ⟨S_, .f32⟩
  | 38 => ⟨S4x512x512, .f32⟩
  | 39 => ⟨S4x512x512, .f32⟩
  | 40 => ⟨S4x512x512, .f32⟩
  | 41 => ⟨S_, .f32⟩
  | 42 => ⟨S_, .f32⟩
  | 43 => ⟨S4x512x512, .f32⟩
  | 44 => ⟨S4x512x512, .f32⟩
  | 45 => ⟨S2048x1024, .f32⟩
  | 46 => ⟨S2048x1024, .f32⟩
  | 47 => ⟨S2048x1024, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | .local _ .vmem, ⟨10, _⟩ => ⟨S512x128, .f32⟩
  | .local _ .vmem, ⟨11, _⟩ => ⟨S512x128, .f32⟩
  | .local _ .vmem, ⟨12, _⟩ => ⟨S1x1x128, .f32⟩
  | .local _ .vmem, ⟨13, _⟩ => ⟨S1x1x128, .f32⟩
  | .local _ .vmem, ⟨14, _⟩ => ⟨S4x512x512, .f32⟩
  | .local _ .vmem, ⟨15, _⟩ => ⟨S4x512x512, .f32⟩
  | .local _ .vmem, ⟨16, _⟩ => ⟨S512x128, .f32⟩
  | .local _ .vmem, ⟨17, _⟩ => ⟨S512x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_14 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_16 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_17 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_18 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_19 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_20 : Ref sig .tc := ⟨.hbm, 133, rfl⟩
abbrev main_v107 : Ref sig .tc := ⟨.hbm, 134, rfl⟩
abbrev main_v108 : Ref sig .tc := ⟨.hbm, 135, rfl⟩
abbrev main_c_21 : Ref sig .tc := ⟨.hbm, 136, rfl⟩
abbrev main_v109 : Ref sig .tc := ⟨.hbm, 137, rfl⟩
abbrev main_v110 : Ref sig .tc := ⟨.hbm, 138, rfl⟩
abbrev main_c_22 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_c_23 : Ref sig .tc := ⟨.hbm, 145, rfl⟩
abbrev main_v116 : Ref sig .tc := ⟨.hbm, 146, rfl⟩
abbrev main_v117 : Ref sig .tc := ⟨.hbm, 147, rfl⟩
abbrev main_c_24 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_c_25 : Ref sig .tc := ⟨.hbm, 153, rfl⟩
abbrev main_v122 : Ref sig .tc := ⟨.hbm, 154, rfl⟩
abbrev main_v123 : Ref sig .tc := ⟨.hbm, 155, rfl⟩
abbrev main_cst_26 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_27 : Ref sig .tc := ⟨.hbm, 161, rfl⟩
abbrev main_call0_v0 : Ref sig .tc := ⟨.hbm, 162, rfl⟩
abbrev main_call0_v1 : Ref sig .tc := ⟨.hbm, 163, rfl⟩
abbrev main_v128 : Ref sig .tc := ⟨.hbm, 164, rfl⟩
abbrev main_cst_28 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_29 : Ref sig .tc := ⟨.hbm, 169, rfl⟩
abbrev main_call1_v0 : Ref sig .tc := ⟨.hbm, 170, rfl⟩
abbrev main_call1_v1 : Ref sig .tc := ⟨.hbm, 171, rfl⟩
abbrev main_v132 : Ref sig .tc := ⟨.hbm, 172, rfl⟩
abbrev main_v133_0 : Ref sig .tc := ⟨.hbm, 173, rfl⟩
abbrev main_v133_1 : Ref sig .tc := ⟨.hbm, 174, rfl⟩
abbrev main_v133_2 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_20 : BitVec 32 := 0#32
  let arg1 : BitVec 32 := BitVec.ofNat 32 (i 1).val
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let c1_i32_22 : BitVec 32 := 1#32
  ⟨c0_i32_20, v38, c1_i32_22⟩
def k0_mult1 (i : grid0.Coords) (k0_t1 : Fin (k0_t1_loop i).trips) : BitVec 32 :=
  let c0_i32_20 : BitVec 32 := 0#32
  let c1_i32_22 : BitVec 32 := 1#32
  let arg14 : BitVec 32 := Scf.iv c0_i32_20 c1_i32_22 k0_t1
  let c512_i32 : BitVec 32 := 512#32
  let v44 : BitVec 32 := Scalar.muli arg14 c512_i32
  v44
def k0_off1 (i : grid0.Coords) (k0_t1 : Fin (k0_t1_loop i).trips) : Fin 2 → Nat :=
  let c0_i32_20 : BitVec 32 := 0#32
  let c1_i32_22 : BitVec 32 := 1#32
  let arg14 : BitVec 32 := Scf.iv c0_i32_20 c1_i32_22 k0_t1
  let c512_i32 : BitVec 32 := 512#32
  let v44 : BitVec 32 := Scalar.muli arg14 c512_i32
  let v45 : BitVec 32 := v44
  let v48 : Index := Scalar.indexCast v45
  let c0_28 : Index := 0#32
  ![v48.toNat, 0]
def k0_off2 (i : grid0.Coords) (k0_t1 : Fin (k0_t1_loop i).trips) : Fin 3 → Nat :=
  let arg1 : BitVec 32 := BitVec.ofNat 32 (i 1).val
  let c0_i32_20 : BitVec 32 := 0#32
  let c1_i32_22 : BitVec 32 := 1#32
  let arg14 : BitVec 32 := Scf.iv c0_i32_20 c1_i32_22 k0_t1
  let c1_i32_27 : BitVec 32 := 1#32
  let v46 : BitVec 32 := Scalar.muli arg14 c1_i32_27
  let v47 : BitVec 32 := Scalar.subi arg1 v46
  let v53 : Index := Scalar.indexCast v47
  let c0_31 : Index := 0#32
  let c0_32 : Index := 0#32
  ![v53.toNat, 0, 0]
@[reducible] def k0_t2_loop (i : grid0.Coords) : Scf.Loop 32 :=
  let c0_i32_20 : BitVec 32 := 0#32
  let arg1 : BitVec 32 := BitVec.ofNat 32 (i 1).val
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let v35 : BitVec 32 := Scalar.addi c0_i32_20 v34
  let c1_i32_23 : BitVec 32 := 1#32
  ⟨v38, v35, c1_i32_23⟩
def k0_mult2 (i : grid0.Coords) (k0_t2 : Fin (k0_t2_loop i).trips) : BitVec 32 :=
  let c0_i32_20 : BitVec 32 := 0#32
  let arg1 : BitVec 32 := BitVec.ofNat 32 (i 1).val
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let c1_i32_23 : BitVec 32 := 1#32
  let arg14 : BitVec 32 := Scf.iv v38 c1_i32_23 k0_t2
  let c512_i32 : BitVec 32 := 512#32
  let v44 : BitVec 32 := Scalar.muli arg14 c512_i32
  v44
def k0_off3 (i : grid0.Coords) (k0_t2 : Fin (k0_t2_loop i).trips) : Fin 2 → Nat :=
  let c0_i32_20 : BitVec 32 := 0#32
  let arg1 : BitVec 32 := BitVec.ofNat 32 (i 1).val
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let c1_i32_23 : BitVec 32 := 1#32
  let arg14 : BitVec 32 := Scf.iv v38 c1_i32_23 k0_t2
  let c512_i32 : BitVec 32 := 512#32
  let v44 : BitVec 32 := Scalar.muli arg14 c512_i32
  let v45 : BitVec 32 := v44
  let v48 : Index := Scalar.indexCast v45
  let c0_28 : Index := 0#32
  ![v48.toNat, 0]
def k0_off4 (i : grid0.Coords) (k0_t2 : Fin (k0_t2_loop i).trips) : Fin 3 → Nat :=
  let arg1 : BitVec 32 := BitVec.ofNat 32 (i 1).val
  let c0_i32_20 : BitVec 32 := 0#32
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let c1_i32_23 : BitVec 32 := 1#32
  let arg14 : BitVec 32 := Scf.iv v38 c1_i32_23 k0_t2
  let c1_i32_27 : BitVec 32 := 1#32
  let v46 : BitVec 32 := Scalar.muli arg14 c1_i32_27
  let v47 : BitVec 32 := Scalar.subi arg1 v46
  let v53 : Index := Scalar.indexCast v47
  let c0_31 : Index := 0#32
  let c0_32 : Index := 0#32
  ![v53.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "att_scale" => some (((Real.sqrt 128)⁻¹ : ℝ) : EReal)
  | _ => none
-- ==== ReferenceIdeal.lean ====
abbrev S2048x1024 : Shape := ⟨2, ![2048, 1024]⟩
abbrev S2048x2048 : Shape := ⟨2, ![2048, 2048]⟩
abbrev S2048x8x128 : Shape := ⟨3, ![2048, 8, 128]⟩
abbrev S8x2048x128 : Shape := ⟨3, ![8, 2048, 128]⟩
abbrev S8 : Shape := ⟨1, ![8]⟩
abbrev S_ : Shape := ⟨0, ![]⟩
abbrev S8x2048x2048 : Shape := ⟨3, ![8, 2048, 2048]⟩
abbrev S8x1x1 : Shape := ⟨3, ![8, 1, 1]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x8x2048x2048 : Shape := ⟨4, ![3, 8, 2048, 2048]⟩
abbrev S1x8x2048x2048 : Shape := ⟨4, ![1, 8, 2048, 2048]⟩
abbrev S3x8x2048 : Shape := ⟨3, ![3, 8, 2048]⟩
abbrev S3x8x2048x1 : Shape := ⟨4, ![3, 8, 2048, 1]⟩
abbrev S3x8x2048x128 : Shape := ⟨4, ![3, 8, 2048, 128]⟩
abbrev S8x2048 : Shape := ⟨2, ![8, 2048]⟩
abbrev S1x8x2048 : Shape := ⟨3, ![1, 8, 2048]⟩
abbrev S3x8x128x2048 : Shape := ⟨4, ![3, 8, 128, 2048]⟩

abbrev nBuf : Space → Nat
  | .hbm => 222
  | .vmem => 0
  | .smem => 0
  | _ => 0

abbrev hbmTy0_0 (i : Nat) : BufTy := match i % 128 with
  | 0 => ⟨S2048x1024, .bf16⟩
  | 1 => ⟨S2048x1024, .bf16⟩
  | 2 => ⟨S2048x1024, .bf16⟩
  | 3 => ⟨S2048x2048, .f32⟩
  | 4 => ⟨S2048x1024, .f32⟩
  | 5 => ⟨S2048x1024, .f32⟩
  | 6 => ⟨S2048x1024, .f32⟩
  | 7 => ⟨S2048x8x128, .f32⟩
  | 8 => ⟨S8x2048x128, .f32⟩
  | 9 => ⟨S2048x8x128, .f32⟩
  | 10 => ⟨S8x2048x128, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S_, .f32⟩
  | 23 => ⟨S8, .f32⟩
  | 24 => ⟨S8, .f32⟩
  | 25 => ⟨S8, .f32⟩
  | 26 => ⟨S2048x2048, .i32⟩
  | 27 => ⟨S2048x2048, .i32⟩
  | 28 => ⟨S2048x2048, .i32⟩
  | 29 => ⟨S8x2048x2048, .f32⟩
  | 30 => ⟨S_, .f32⟩
  | 31 => ⟨S_, .f32⟩
  | 32 => ⟨S8x2048x2048, .f32⟩
  | 33 => ⟨S8x2048x2048, .f32⟩
  | 34 => ⟨S8x1x1, .f32⟩
  | 35 => ⟨S8x1x1, .f32⟩
  | 36 => ⟨S2048x2048, .f32⟩
  | 37 => ⟨S1x2048x2048, .f32⟩
  | 38 => ⟨S8x2048x2048, .f32⟩
  | 39 => ⟨S8x2048x2048, .f32⟩
  | 40 => ⟨S8x2048x2048, .f32⟩
  | 41 => ⟨S8x2048x2048, .f32⟩
  | 42 => ⟨S3x2048x2048, .i32⟩
  | 43 => ⟨S_, .i32⟩
  | 44 => ⟨S3x2048x2048, .i32⟩
  | 45 => ⟨S3x2048x2048, .i32⟩
  | 46 => ⟨S_, .i32⟩
  | 47 => ⟨S3x2048x2048, .i32⟩
  | 48 => ⟨S3x2048x2048, .i32⟩
  | 49 => ⟨S3x2048x2048, .i32⟩
  | 50 => ⟨S_, .i32⟩
  | 51 => ⟨S3x2048x2048, .i32⟩
  | 52 => ⟨S3x2048x2048, .i1⟩
  | 53 => ⟨S_, .i32⟩
  | 54 => ⟨S3x2048x2048, .i32⟩
  | 55 => ⟨S3x2048x2048, .i32⟩
  | 56 => ⟨S3x2048x2048, .i1⟩
  | 57 => ⟨S3x2048x2048, .i1⟩
  | 58 => ⟨S3x2048x2048, .i32⟩
  | 59 => ⟨S_, .i32⟩
  | 60 => ⟨S3x2048x2048, .i32⟩
  | 61 => ⟨S3x2048x2048, .i1⟩
  | 62 => ⟨S3x2048x2048, .i1⟩
  | 63 => ⟨S3x1x2048x2048, .i1⟩
  | 64 => ⟨S3x8x2048x2048, .i1⟩
  | 65 => ⟨S1x8x2048x2048, .f32⟩
  | 66 => ⟨S3x8x2048x2048, .f32⟩
  | 67 => ⟨S_, .f32⟩
  | 68 => ⟨S3x8x2048x2048, .f32⟩
  | 69 => ⟨S3x8x2048x2048, .f32⟩
  | 70 => ⟨S_, .f32⟩
  | 71 => ⟨S3x8x2048x2048, .f32⟩
  | 72 => ⟨S_, .f32⟩
  | 73 => ⟨S3x8x2048, .f32⟩
  | 74 => ⟨S3x8x2048x1, .f32⟩
  | 75 => ⟨S3x8x2048x2048, .f32⟩
  | 76 => ⟨S3x8x2048x2048, .i1⟩
  | 77 => ⟨S3x8x2048x2048, .f32⟩
  | 78 => ⟨S_, .f32⟩
  | 79 => ⟨S3x8x2048, .f32⟩
  | 80 => ⟨S3x8x2048x1, .f32⟩
  | 81 => ⟨S3x8x2048x2048, .f32⟩
  | 82 => ⟨S3x8x2048x2048, .f32⟩
  | 83 => ⟨S3x8x2048x2048, .f32⟩
  | 84 => ⟨S_, .f32⟩
  | 85 => ⟨S3x8x2048, .f32⟩
  | 86 => ⟨S3x8x2048x1, .f32⟩
  | 87 => ⟨S3x8x2048x1, .f32⟩
  | 88 => ⟨S3x8x2048x1, .f32⟩
  | 89 => ⟨S3x8x2048, .f32⟩
  | 90 => ⟨S2048x8x128, .f32⟩
  | 91 => ⟨S8x2048x128, .f32⟩
  | 92 => ⟨S3x8x2048x128, .f32⟩
  | 93 => ⟨S3x8x2048x128, .f32⟩
  | 94 => ⟨S3x8x2048x128, .f32⟩
  | 95 => ⟨S3x8x2048x128, .f32⟩
  | 96 => ⟨S3x8x2048x1, .f32⟩
  | 97 => ⟨S_, .f32⟩
  | 98 => ⟨S3x8x2048x1, .f32⟩
  | 99 => ⟨S3x8x2048x1, .f32⟩
  | 100 => ⟨S_, .f32⟩
  | 101 => ⟨S8x2048, .f32⟩
  | 102 => ⟨S1x8x2048, .f32⟩
  | 103 => ⟨S3x8x2048, .f32⟩
  | 104 => ⟨S3x8x2048, .i1⟩
  | 105 => ⟨S3x8x2048, .f32⟩
  | 106 => ⟨S_, .f32⟩
  | 107 => ⟨S8x2048, .f32⟩
  | 108 => ⟨S_, .f32⟩
  | 109 => ⟨S8x2048, .f32⟩
  | 110 => ⟨S8x2048, .f32⟩
  | 111 => ⟨S_, .f32⟩
  | 112 => ⟨S8x2048, .f32⟩
  | 113 => ⟨S8x2048, .i1⟩
  | 114 => ⟨S_, .f32⟩
  | 115 => ⟨S8x2048, .f32⟩
  | 116 => ⟨S8x2048, .i1⟩
  | 117 => ⟨S_, .f32⟩
  | 118 => ⟨S8x2048, .f32⟩
  | 119 => ⟨S_, .f32⟩
  | 120 => ⟨S8x2048, .f32⟩
  | 121 => ⟨S_, .f32⟩
  | 122 => ⟨S8x2048, .f32⟩
  | 123 => ⟨S8x2048, .f32⟩
  | 124 => ⟨S8x2048, .f32⟩
  | 125 => ⟨S1x8x2048, .f32⟩
  | 126 => ⟨S3x8x2048, .f32⟩
  | 127 => ⟨S3x8x2048, .f32⟩
  | _ => ⟨S2048x1024, .bf16⟩

abbrev hbmTy0_1 (i : Nat) : BufTy := match i % 128 with
  | 0 => ⟨S3x8x2048, .f32⟩
  | 1 => ⟨S_, .f32⟩
  | 2 => ⟨S8x2048, .f32⟩
  | 3 => ⟨S1x8x2048, .f32⟩
  | 4 => ⟨S3x8x2048, .f32⟩
  | 5 => ⟨S3x8x2048, .f32⟩
  | 6 => ⟨S1x8x2048, .f32⟩
  | 7 => ⟨S_, .f32⟩
  | 8 => ⟨S1x8x2048, .f32⟩
  | 9 => ⟨S1x8x2048, .f32⟩
  | 10 => ⟨S3x8x2048x1, .f32⟩
  | 11 => ⟨S3x8x2048x128, .f32⟩
  | 12 => ⟨S3x8x2048x128, .f32⟩
  | 13 => ⟨S_, .f32⟩
  | 14 => ⟨S8x2048x128, .f32⟩
  | 15 => ⟨S2048x8x128, .f32⟩
  | 16 => ⟨S2048x1024, .f32⟩
  | 17 => ⟨S2048x1024, .f32⟩
  | 18 => ⟨S2048x8x128, .f32⟩
  | 19 => ⟨S8x2048x128, .f32⟩
  | 20 => ⟨S3x8x2048x128, .f32⟩
  | 21 => ⟨S3x8x2048x128, .f32⟩
  | 22 => ⟨S3x8x2048x128, .f32⟩
  | 23 => ⟨S3x8x2048x128, .f32⟩
  | 24 => ⟨S_, .f32⟩
  | 25 => ⟨S3x8x2048, .f32⟩
  | 26 => ⟨S3x8x2048x1, .f32⟩
  | 27 => ⟨S_, .f32⟩
  | 28 => ⟨S3x8x2048, .f32⟩
  | 29 => ⟨S3x8x2048, .f32⟩
  | 30 => ⟨S3x8x2048, .f32⟩
  | 31 => ⟨S3x8x2048, .f32⟩
  | 32 => ⟨S_, .f32⟩
  | 33 => ⟨S8x2048, .f32⟩
  | 34 => ⟨S1x8x2048, .f32⟩
  | 35 => ⟨S1x8x2048, .f32⟩
  | 36 => ⟨S3x8x2048, .f32⟩
  | 37 => ⟨S3x8x2048, .f32⟩
  | 38 => ⟨S_, .f32⟩
  | 39 => ⟨S8x2048, .f32⟩
  | 40 => ⟨S3x8x2048, .f32⟩
  | 41 => ⟨S3x8x2048, .f32⟩
  | 42 => ⟨S3x8x2048, .f32⟩
  | 43 => ⟨S3x8x2048x128, .f32⟩
  | 44 => ⟨S3x8x2048x128, .f32⟩
  | 45 => ⟨S3x8x2048x128, .f32⟩
  | 46 => ⟨S_, .f32⟩
  | 47 => ⟨S3x8x2048, .f32⟩
  | 48 => ⟨S3x8x2048x1, .f32⟩
  | 49 => ⟨S3x8x2048x1, .f32⟩
  | 50 => ⟨S3x8x2048x128, .f32⟩
  | 51 => ⟨S3x8x2048x128, .f32⟩
  | 52 => ⟨S3x8x128x2048, .f32⟩
  | 53 => ⟨S3x8x2048x128, .f32⟩
  | 54 => ⟨S3x8x2048x2048, .f32⟩
  | 55 => ⟨S_, .f32⟩
  | 56 => ⟨S8x2048x128, .f32⟩
  | 57 => ⟨S2048x8x128, .f32⟩
  | 58 => ⟨S2048x1024, .f32⟩
  | 59 => ⟨S3x8x2048x1, .f32⟩
  | 60 => ⟨S3x8x2048x1, .f32⟩
  | 61 => ⟨S3x8x2048x1, .f32⟩
  | 62 => ⟨S_, .f32⟩
  | 63 => ⟨S3x8x2048, .f32⟩
  | 64 => ⟨S3x8x2048x2048, .f32⟩
  | 65 => ⟨S3x8x2048x2048, .f32⟩
  | 66 => ⟨S3x8x2048x2048, .f32⟩
  | 67 => ⟨S3x8x2048x2048, .f32⟩
  | 68 => ⟨S_, .f32⟩
  | 69 => ⟨S3x8x2048, .f32⟩
  | 70 => ⟨S3x8x2048x1, .f32⟩
  | 71 => ⟨S3x8x2048x1, .f32⟩
  | 72 => ⟨S_, .f32⟩
  | 73 => ⟨S3x8x2048, .f32⟩
  | 74 => ⟨S3x8x2048, .f32⟩
  | 75 => ⟨S3x8x2048x2048, .f32⟩
  | 76 => ⟨S3x8x2048x2048, .f32⟩
  | 77 => ⟨S3x8x2048x2048, .f32⟩
  | 78 => ⟨S_, .f32⟩
  | 79 => ⟨S3x8x2048x2048, .f32⟩
  | 80 => ⟨S3x8x2048x2048, .f32⟩
  | 81 => ⟨S_, .f32⟩
  | 82 => ⟨S8x2048x2048, .f32⟩
  | 83 => ⟨S1x8x2048x2048, .f32⟩
  | 84 => ⟨S_, .f32⟩
  | 85 => ⟨S8x2048x2048, .f32⟩
  | 86 => ⟨S8x2048x2048, .f32⟩
  | 87 => ⟨S8x2048x2048, .f32⟩
  | 88 => ⟨S8x2048x128, .f32⟩
  | 89 => ⟨S8x2048x128, .f32⟩
  | 90 => ⟨S2048x8x128, .f32⟩
  | 91 => ⟨S2048x1024, .f32⟩
  | 92 => ⟨S2048x8x128, .f32⟩
  | 93 => ⟨S2048x1024, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_13 : Ref sig .tc := ⟨.hbm, 97, rfl⟩
abbrev main_v78 : Ref sig .tc := ⟨.hbm, 98, rfl⟩
abbrev main_v79 : Ref sig .tc := ⟨.hbm, 99, rfl⟩
abbrev main_cst_14 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_15 : Ref sig .tc := ⟨.hbm, 106, rfl⟩
abbrev main_v85 : Ref sig .tc := ⟨.hbm, 107, rfl⟩
abbrev main_cst_16 : Ref sig .tc := ⟨.hbm, 108, rfl⟩
abbrev main_v86 : Ref sig .tc := ⟨.hbm, 109, rfl⟩
abbrev main_v87 : Ref sig .tc := ⟨.hbm, 110, rfl⟩
abbrev main_cst_17 : Ref sig .tc := ⟨.hbm, 111, rfl⟩
abbrev main_v88 : Ref sig .tc := ⟨.hbm, 112, rfl⟩
abbrev main_v89 : Ref sig .tc := ⟨.hbm, 113, rfl⟩
abbrev main_cst_18 : Ref sig .tc := ⟨.hbm, 114, rfl⟩
abbrev main_v90 : Ref sig .tc := ⟨.hbm, 115, rfl⟩
abbrev main_v91 : Ref sig .tc := ⟨.hbm, 116, rfl⟩
abbrev main_cst_19 : Ref sig .tc := ⟨.hbm, 117, rfl⟩
abbrev main_v92 : Ref sig .tc := ⟨.hbm, 118, rfl⟩
abbrev main_cst_20 : Ref sig .tc := ⟨.hbm, 119, rfl⟩
abbrev main_v93 : Ref sig .tc := ⟨.hbm, 120, rfl⟩
abbrev main_cst_21 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_22 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_23 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_24 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_25 : Ref sig .tc := ⟨.hbm, 152, rfl⟩
abbrev main_v121 : Ref sig .tc := ⟨.hbm, 153, rfl⟩
abbrev main_v122 : Ref sig .tc := ⟨.hbm, 154, rfl⟩
abbrev main_cst_26 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_27 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_28 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_29 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_30 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_31 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_32 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_33 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_cst_34 : Ref sig .tc := ⟨.hbm, 206, rfl⟩
abbrev main_v166 : Ref sig .tc := ⟨.hbm, 207, rfl⟩
abbrev main_v167 : Ref sig .tc := ⟨.hbm, 208, rfl⟩
abbrev main_cst_35 : Ref sig .tc := ⟨.hbm, 209, rfl⟩
abbrev main_v168 : Ref sig .tc := ⟨.hbm, 210, rfl⟩
abbrev main_v169 : Ref sig .tc := ⟨.hbm, 211, rfl⟩
abbrev main_cst_36 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩

abbrev nD : Nat := 1
abbrev τ : Topo := Topo.v7x

variable {F : FTy → Type} [FloatOps F]
-- ==== UpDw.lean ====
abbrev S2048x2048 : Shape := ⟨2, ![2048, 2048]⟩
abbrev S2048x5632 : Shape := ⟨2, ![2048, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpDwRefIdeal.lean ====
abbrev S2048x2048 : Shape := ⟨2, ![2048, 2048]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x11264, .bf16⟩
  | .hbm, ⟨4, _⟩ => ⟨S_, .f32⟩
  | .hbm, ⟨5, _⟩ => ⟨S2048x11264, .f32⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== UpDx.lean ====
abbrev S2048x5632 : Shape := ⟨2, ![2048, 5632]⟩
abbrev S8x2048x1408 : Shape := ⟨3, ![8, 2048, 1408]⟩
abbrev S2048x2048 : Shape := ⟨2, ![2048, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1024x2048, .f32⟩
  | .local _ .vmem, ⟨7, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .ne v14 c0_i32_9
  v15

def k0_cond4 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def k0_cond5 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def k0_cond6 (i : grid0.Coords) : BitVec 1 :=
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpDxRefIdeal.lean ====
abbrev S2048x5632 : Shape := ⟨2, ![2048, 5632]⟩
abbrev S8x2048x1408 : Shape := ⟨3, ![8, 2048, 1408]⟩
abbrev S2048x11264 : Shape := ⟨2, ![2048, 11264]⟩
abbrev S2048x8x1408 : Shape := ⟨3, ![2048, 8, 1408]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S2048x11264, .bf16⟩
  | .hbm, ⟨4, _⟩ => ⟨S2048x8x1408, .bf16⟩
  | .hbm, ⟨5, _⟩ => ⟨S2048x11264, .bf16⟩
  | .hbm, ⟨6, _⟩ => ⟨S_, .f32⟩
  | .hbm, ⟨7, _⟩ => ⟨S2048x2048, .f32⟩
  | .hbm, ⟨8, _⟩ => ⟨S2048x11264, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S2048x2048 : Shape := ⟨2, ![2048, 2048]⟩
abbrev S2048x7168 : Shape := ⟨2, ![2048, 7168]⟩
abbrev S8x2048x896 : Shape := ⟨3, ![8, 2048, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S8x2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S2048x2048 : Shape := ⟨2, ![2048, 2048]⟩
abbrev S2048x7168 : Shape := ⟨2, ![2048, 7168]⟩
abbrev S_ : Shape := ⟨0, ![]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S_, .f32⟩
  | .hbm, ⟨3, _⟩ => ⟨S2048x7168, .f32⟩
  | .hbm, ⟨4, _⟩ => ⟨S2048x2048, .f32⟩
  | .hbm, ⟨5, _⟩ => ⟨S2048x7168, .f32⟩
  | .hbm, ⟨6, _⟩ => ⟨S2048x7168, .f32⟩
  | .hbm, ⟨7, _⟩ => ⟨S7168x2048, .f32⟩
  | .hbm, ⟨8, _⟩ => ⟨S2048x7168, .f32⟩
  | .hbm, ⟨9, _⟩ => ⟨S2048x8x896, .f32⟩
  | .hbm, ⟨10, _⟩ => ⟨S8x2048x896, .f32⟩
  | .hbm, ⟨11, _⟩ => ⟨S8x2048x896, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDx.lean ====
abbrev S2048x7168 : Shape := ⟨2, ![2048, 7168]⟩
abbrev S8x2048x896 : Shape := ⟨3, ![8, 2048, 896]⟩
abbrev S2048x2048 : Shape := ⟨2, ![2048, 2048]⟩
abbrev S1024x896 : Shape := ⟨2, ![1024, 896]⟩
abbrev S1x2048x896 : Shape := ⟨3, ![1, 2048, 896]⟩
abbrev S1024x2048 : Shape := ⟨2, ![1024, 2048]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x7168, .bf16⟩
  | .hbm, ⟨1, _⟩ => ⟨S8x2048x896, .bf16⟩
  | .hbm, ⟨2, _⟩ => ⟨S2048x2048, .f32⟩
  | .local _ .vmem, ⟨0, _⟩ => ⟨S1024x896, .bf16⟩
  | .local _ .vmem, ⟨1, _⟩ => ⟨S1024x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x2048, .f32⟩
  | .local _ .vmem, ⟨5, _⟩ => ⟨S1024x2048, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDxRefIdeal.lean ====
abbrev S2048x7168 : Shape := ⟨2, ![2048, 7168]⟩
abbrev S8x2048x896 : Shape := ⟨3, ![8, 2048, 896]⟩
abbrev S2048x8x896 : Shape := ⟨3, ![2048, 8, 896]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S8x2048x896, .bf16⟩
  | .hbm, ⟨2, _⟩ => ⟨S2048x8x896, .bf16⟩
  | .hbm, ⟨3, _⟩ => ⟨S2048x7168, .bf16⟩
  | .hbm, ⟨4, _⟩ => ⟨S_, .f32⟩
  | .hbm, ⟨5, _⟩ => ⟨S2048x2048, .f32⟩
  | .hbm, ⟨6, _⟩ => ⟨S2048x7168, .f32⟩
  | .hbm, ⟨7, _⟩ => ⟨S2048x7168, .f32⟩
  | .hbm, ⟨8, _⟩ => ⟨S2048x7168, .f32⟩
  | .hbm, ⟨9, _⟩ => ⟨S2048x2048, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InFwd.lean ====
abbrev S2048x2048 : Shape := ⟨2, ![2048, 2048]⟩
abbrev S8x2048x896 : Shape := ⟨3, ![8, 2048, 896]⟩
abbrev S2048x7168 : Shape := ⟨2, ![2048, 7168]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFwdRefIdeal.lean ====
abbrev S2048x2048 : Shape := ⟨2, ![2048, 2048]⟩
abbrev S8x2048x896 : Shape := ⟨3, ![8, 2048, 896]⟩
abbrev S2048x8x896 : Shape := ⟨3, ![2048, 8, 896]⟩
abbrev S2048x7168 : Shape := ⟨2, ![2048, 7168]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x8x896, .bf16⟩
  | .hbm, ⟨3, _⟩ => ⟨S2048x7168, .bf16⟩
  | .hbm, ⟨4, _⟩ => ⟨S2048x2048, .f32⟩
  | .hbm, ⟨5, _⟩ => ⟨S2048x7168, .f32⟩
  | .hbm, ⟨6, _⟩ => ⟨S2048x7168, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutFwd.lean ====
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutFwdRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpFwd.lean ====
abbrev S2048x2048 : Shape := ⟨2, ![2048, 2048]⟩
abbrev S8x2048x1408 : Shape := ⟨3, ![8, 2048, 1408]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpFwdRefIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S2048x2048, .f32⟩
  | .hbm, ⟨5, _⟩ => ⟨S2048x11264, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownFwd.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownFwdRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Norm1.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .hbm, ⟨5, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x1, .f32⟩
  | .local _ .vmem, ⟨8, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Norm1RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Norm2.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x1, .f32⟩
  | .local _ .vmem, ⟨13, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Norm2RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdaFwd.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x2048 : Shape := ⟨2, ![8, 2048]⟩
abbrev S2048x1536 : Shape := ⟨2, ![2048, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdaDw.lean ====
abbrev S8x2048 : Shape := ⟨2, ![8, 2048]⟩
abbrev S8x1536 : Shape := ⟨2, ![8, 1536]⟩
abbrev S2048x1536 : Shape := ⟨2, ![2048, 1536]⟩
abbrev S8x512 : Shape := ⟨2, ![8, 512]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .local _ .vmem, ⟨0, _⟩ => ⟨S8x512, .f32⟩
  | .local _ .vmem, ⟨1, _⟩ => ⟨S8x512, .f32⟩
  | .local _ .vmem, ⟨2, _⟩ => ⟨S8x1536, .f32⟩
  | .local _ .vmem, ⟨3, _⟩ => ⟨S512x1536, .f32⟩
  | .local _ .vmem, ⟨4, _⟩ => ⟨S512x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaDwRefIdeal.lean ====
abbrev S8x2048 : Shape := ⟨2, ![8, 2048]⟩
abbrev S8x1536 : Shape := ⟨2, ![8, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S_, .f32⟩
  | .hbm, ⟨3, _⟩ => ⟨S2048x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1536, .f32⟩
  | .hbm, ⟨14, _⟩ => ⟨S1536x2048, .f32⟩
  | .hbm, ⟨15, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== QkPrep.lean ====
abbrev S2048x7168 : Shape := ⟨2, ![2048, 7168]⟩
abbrev S1x128 : Shape := ⟨2, ![1, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x7168, .f32⟩
  | .hbm, ⟨1, _⟩ => ⟨S1x128, .f32⟩
  | .hbm, ⟨2, _⟩ => ⟨S1x128, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c40_i32 : BitVec 32 := 40#32
  let v0 : BitVec 32 := Scalar.addi arg0 c40_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c48_i32 : BitVec 32 := 48#32
  let v0 : BitVec 32 := Scalar.addi arg0 c48_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkPrepRefIdeal.lean ====
abbrev S2048x7168 : Shape := ⟨2, ![2048, 7168]⟩
abbrev S1x128 : Shape := ⟨2, ![1, 128]⟩
abbrev S2048x1024 : Shape := ⟨2, ![2048, 1024]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S1x128, .f32⟩
  | .hbm, ⟨2, _⟩ => ⟨S1x128, .f32⟩
  | .hbm, ⟨3, _⟩ => ⟨S2048x1024, .f32⟩
  | .hbm, ⟨4, _⟩ => ⟨S2048x8x128, .f32⟩
  | .hbm, ⟨5, _⟩ => ⟨S2048x1024, .f32⟩
  | .hbm, ⟨6, _⟩ => ⟨S2048x8x128, .f32⟩
  | .hbm, ⟨7, _⟩ => ⟨S2048x1024, .f32⟩
  | .hbm, ⟨8, _⟩ => ⟨S2048x8x128, .f32⟩
  | .hbm, ⟨9, _⟩ => ⟨S2048x8x128, .f32⟩
  | .hbm, ⟨10, _⟩ => ⟨S_, .f32⟩
  | .hbm, ⟨11, _⟩ => ⟨S2048x8, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S_, .f32⟩
  | .hbm, ⟨17, _⟩ => ⟨S2048x8x1, .f32⟩
  | .hbm, ⟨18, _⟩ => ⟨S2048x8x1, .f32⟩
  | .hbm, ⟨19, _⟩ => ⟨S2048x8x1, .f32⟩
  | .hbm, ⟨20, _⟩ => ⟨S2048x8x128, .f32⟩
  | .hbm, ⟨21, _⟩ => ⟨S2048x8x128, .f32⟩
  | .hbm, ⟨22, _⟩ => ⟨S1x1x128, .f32⟩
  | .hbm, ⟨23, _⟩ => ⟨S2048x8x128, .f32⟩
  | .hbm, ⟨24, _⟩ => ⟨S2048x8x128, .f32⟩
  | .hbm, ⟨25, _⟩ => ⟨S2048x8x128, .f32⟩
  | .hbm, ⟨26, _⟩ => ⟨S_, .f32⟩
  | .hbm, ⟨27, _⟩ => ⟨S2048x8, .f32⟩
  | .hbm, ⟨28, _⟩ => ⟨S2048x8x1, .f32⟩
  | .hbm, ⟨29, _⟩ => ⟨S_, .f32⟩
  | .hbm, ⟨30, _⟩ => ⟨S2048x8x1, .f32⟩
  | .hbm, ⟨31, _⟩ => ⟨S2048x8x1, .f32⟩
  | .hbm, ⟨32, _⟩ => ⟨S_, .f32⟩
  | .hbm, ⟨33, _⟩ => ⟨S2048x8x1, .f32⟩
  | .hbm, ⟨34, _⟩ => ⟨S2048x8x1, .f32⟩
  | .hbm, ⟨35, _⟩ => ⟨S2048x8x1, .f32⟩
  | .hbm, ⟨36, _⟩ => ⟨S2048x8x128, .f32⟩
  | .hbm, ⟨37, _⟩ => ⟨S2048x8x128, .f32⟩
  | .hbm, ⟨38, _⟩ => ⟨S1x1x128, .f32⟩
  | .hbm, ⟨39, _⟩ => ⟨S2048x8x128, .f32⟩
  | .hbm, ⟨40, _⟩ => ⟨S2048x8x128, .f32⟩
  | .hbm, ⟨41, _⟩ => ⟨S2048x1024, .f32⟩
  | .hbm, ⟨42, _⟩ => ⟨S2048x1024, .bf16⟩
  | .hbm, ⟨43, _⟩ => ⟨S2048x1024, .f32⟩
  | .hbm, ⟨44, _⟩ => ⟨S2048x1024, .bf16⟩
  | .hbm, ⟨45, _⟩ => ⟨S2048x1024, .f32⟩
  | .hbm, ⟨46, _⟩ => ⟨S2048x1024, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Adam.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Finite.lean ====
/-
  WHAT THE PRECONDITION SAYS.

  Every element of q, of k, of v and of the right half of the mixed gradient lies strictly between minus and plus
  infinity, so it is a real number.
-/
module

public import proofs.«01_k».proof.Proof.Gen.Pre_finite
public import Idealize.ShloMosaic.Lib.ReduceAll
public import Idealize.ShloMosaic.Lib.ValueIdx
public import Idealize.ShloMosaic.PureOps.Ideal

@[expose] public section

noncomputable section

namespace Cert.Finite

open Cert.Pre_finite Cert.Pre_finite.Gen
open Idealize.ShloMosaic Idealize.ShloMosaic.ValueIdx

theorem top_word : Ideal.ofBits .f32 0x7F800000#32 = ⊤ := by
  simp [Ideal.ofBits, Ideal.ieee]

/-- A value whose magnitude is below plus infinity is a real number. -/
theorem real_of_small {x : EReal}
    (h : FloatOps.cmpf (F := Ideal) (φ := .f32) .olt (FloatOps.hostAbsf (F := Ideal) (φ := .f32) x) (Ideal.ofBits .f32 0x7F800000#32) = 1#1) :
    ((x.toReal : ℝ) : EReal) = x := by
  rw [top_word] at h
  induction x using EReal.rec with
  | bot => exfalso; revert h; show ¬ Ideal.cmp .olt (max (_ : EReal) _) _ = 1#1; simp [Ideal.cmp]
  | top => exfalso; revert h; show ¬ Ideal.cmp .olt (max (_ : EReal) _) _ = 1#1; simp [Ideal.cmp]
  | coe r => rfl

theorem and_one {a b : BitVec 1} (h : IntOp.andi a b = 1#1) : a = 1#1 ∧ b = 1#1 := by
  revert a b; decide

/-- What the precondition says of the four arrays. -/
theorem reals_of_finite (x0 x1 x2 : FVec Ideal S2048x1024 .bf16) (x3 : FVec Ideal S2048x2048 .f32)
    (h : Cert.Pre_finite.fn (F := Ideal) x0 x1 x2 x3 = fun _ => 1#1) :
    (∀ i, (((x0 i : EReal).toReal : ℝ) : EReal) = x0 i) ∧ (∀ i, (((x1 i : EReal).toReal : ℝ) : EReal) = x1 i)
    ∧ (∀ i, (((x2 i : EReal).toReal : ℝ) : EReal) = x2 i)
    ∧ ∀ i : S2048x1024.Idx, (((x3 (ix2 (i 0) ⟨1024 + (i 1).val, by have : (i 1).val < 1024 := (i 1).isLt; omega⟩) : EReal).toReal : ℝ) : EReal)
        = x3 (ix2 (i 0) ⟨1024 + (i 1).val, by have : (i 1).val < 1024 := (i 1).isLt; omega⟩) := by
  have h' := congrFun h ix0
  unfold Cert.Pre_finite.fn Cert.Pre_finite.fn_part1 at h'
  dsimp only at h'
  obtain ⟨h012, h3⟩ := and_one h'
  obtain ⟨h01, h2⟩ := and_one h012
  obtain ⟨h0, h1⟩ := and_one h01
  haveI : Subsingleton S_.Idx := ⟨fun a b => funext fun k => k.elim0⟩
  refine ⟨fun i => ?_, fun i => ?_, fun i => ?_, fun i => ?_⟩
  · exact real_of_small (Host.reduce_andi_all _ _ _ _ _ h0 i)
  · exact real_of_small (Host.reduce_andi_all _ _ _ _ _ h1 i)
  · exact real_of_small (Host.reduce_andi_all _ _ _ _ _ h2 i)
  · refine real_of_small ((congrArg (fun y => FloatOps.cmpf (F := Ideal) (φ := .f32) .olt
      (FloatOps.hostAbsf (F := Ideal) (φ := .f32) y) (Ideal.ofBits .f32 0x7F800000#32)) ?_).trans
      (Host.reduce_andi_all _ _ _ _ _ h3 i))
    exact congrArg x3 (funext fun a => Fin.ext (by
      match a with
      | ⟨0, _⟩ => show (i 0).val = 0 + (i 0).val; omega
      | ⟨1, _⟩ => rfl))

end Cert.Finite

end
-- ==== Proof.Reals.lean ====
/-
  VALUES THAT ARE REAL, and the words of the masks.

  The float operations at real arguments: each lemma takes "the operand is the real `x`" and gives "the result is the
  real …", so that a chain of operations is read by nesting them. Then the integer words of a mask (the distance of a
  query and a key, compared with the pattern's reach and its dilation) as the statement they stand for, and the maximum
  of finitely many values of which each is a real or `-∞`.
-/
module

public import Idealize.ShloMosaic.Lib.ValueIdx
public import Idealize.ShloMosaic.Lib.IdealHost
public import Idealize.ShloMosaic.Lib.WordCmp
public import Idealize.ShloMosaic.Lib.KernelVsHost
public import Idealize.ShloMosaic.PureOps.Ideal.Laws

@[expose] public section

noncomputable section

namespace Cert.Reals

open Idealize.ShloMosaic

variable {φ : FTy} {a b : Ideal φ} {x y : ℝ}

theorem mulC (ha : a = (x : EReal)) (hb : b = (y : EReal)) : FloatOps.mulf a b = ((x * y : ℝ) : EReal) := by
  subst ha hb; exact (EReal.coe_mul x y).symm

theorem addC (ha : a = (x : EReal)) (hb : b = (y : EReal)) : FloatOps.addf a b = ((x + y : ℝ) : EReal) := by
  subst ha hb; exact (EReal.coe_add x y).symm

theorem subC (ha : a = (x : EReal)) (hb : b = (y : EReal)) : FloatOps.subf a b = ((x - y : ℝ) : EReal) := by
  subst ha hb; exact (EReal.coe_sub x y).symm

theorem negC (ha : a = (x : EReal)) : FloatOps.negf a = ((-x : ℝ) : EReal) := by
  subst ha; exact (EReal.coe_neg x).symm

theorem div_real (hy : y ≠ 0) : Ideal.div (x : EReal) (y : EReal) = ((x / y : ℝ) : EReal) := by
  rw [Ideal.div_coe hy, ← EReal.coe_mul, mul_one_div]

theorem divC (ha : a = (x : EReal)) (hb : b = (y : EReal)) (hy : y ≠ 0) :
    FloatOps.hostDivf a b = ((x / y : ℝ) : EReal) := by
  subst ha hb; exact div_real hy

theorem expC (ha : a = (x : EReal)) : FloatOps.hostUnary .exp a = ((Real.exp x : ℝ) : EReal) := by
  subst ha; rfl

theorem log_real (hx : 0 < x) : Ideal.log (x : EReal) = ((Real.log x : ℝ) : EReal) := by
  rw [Ideal.log_coe, if_neg (not_le.2 hx)]

theorem logC (ha : a = (x : EReal)) (hx : 0 < x) : FloatOps.hostUnary .log a = ((Real.log x : ℝ) : EReal) := by
  subst ha; exact log_real hx

theorem sqrt_real (hx : 0 ≤ x) : Ideal.sqrt (x : EReal) = ((Real.sqrt x : ℝ) : EReal) := by
  rw [Ideal.sqrt_coe, if_neg (not_lt.2 hx)]

/-- A sum of reals is a real. -/
theorem sum_real {ι : Type} [Fintype ι] {f : ι → EReal} {g : ι → ℝ} (h : ∀ k, f k = (g k : EReal)) :
    ∑ k, f k = ((∑ k, g k : ℝ) : EReal) := by
  rw [Finset.sum_congr rfl fun k _ => h k]
  classical
  induction (Finset.univ : Finset ι) using Finset.induction_on with
  | empty => simp
  | insert i s hi ih => rw [Finset.sum_insert hi, Finset.sum_insert hi, ih, EReal.coe_add]

/-- The host's sum from a zero. -/
theorem sumC {ι : Type} [Fintype ι] {z : EReal} {f : ι → EReal} {g : ι → ℝ} (hz : z = 0) (h : ∀ k, f k = (g k : EReal)) :
    z + ∑ k, f k = ((∑ k, g k : ℝ) : EReal) := by
  rw [hz, zero_add, sum_real h]

/-- A contraction. -/
theorem dotC {ι : Type} [Fintype ι] {f f' : ι → EReal} {g g' : ι → ℝ} (h : ∀ k, f k = (g k : EReal))
    (h' : ∀ k, f' k = (g' k : EReal)) : ∑ k, f k * f' k = ((∑ k, g k * g' k : ℝ) : EReal) :=
  sum_real fun k => by rw [h k, h' k, EReal.coe_mul]

theorem word_zero : Ideal.ofBits .f32 0x00000000#32 = 0 := Ideal.ofBits_zero_f32

theorem word_one : Ideal.ofBits .f32 0x3F800000#32 = ((1 : ℝ) : EReal) := by
  simp [Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

theorem word_eight : Ideal.ofBits .f32 0x41000000#32 = ((8 : ℝ) : EReal) := by
  simp [Ideal.ofBits, Ideal.ieee]; rw [← EReal.coe_mul]; norm_num

theorem word_neg_eight : Ideal.ofBits .f32 0xC1000000#32 = ((-8 : ℝ) : EReal) := by
  simp [Ideal.ofBits, Ideal.ieee]; rw [← EReal.coe_mul]; norm_num

theorem word_128 : Ideal.ofBits .f32 0x43000000#32 = ((128 : ℝ) : EReal) := by
  simp [Ideal.ofBits, Ideal.ieee]; rw [← EReal.coe_mul]; norm_num

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

/-! ## The masks -/

/-- How far back a pattern looks. -/
def reach : Fin 3 → Nat
  | ⟨0, _⟩ => 128
  | ⟨1, _⟩ => 512
  | ⟨_ + 2, _⟩ => 2048

/-- Every which key a pattern looks at. -/
def step : Fin 3 → Nat
  | ⟨0, _⟩ => 1
  | ⟨1, _⟩ => 4
  | ⟨_ + 2, _⟩ => 16

/-- Pattern `p` lets query `t` see key `s`. -/
def sees (p : Fin 3) (t s : Fin 2048) : Prop :=
  s.val ≤ t.val ∧ t.val - s.val ≤ reach p ∧ (t.val - s.val) % step p = 0

instance (p : Fin 3) (t s : Fin 2048) : Decidable (sees p t s) := by unfold sees; infer_instance

theorem sees_self (p : Fin 3) (t : Fin 2048) : sees p t t := by
  unfold sees; simp

/-- The word of the distance of a query and a key. -/
abbrev distWord (t s : Fin 2048) : BitVec 32 := IntOp.subi (BitVec.ofNat 32 t.val) (BitVec.ofNat 32 s.val)

theorem distWord_toInt (t s : Fin 2048) : (distWord t s).toInt = (t.val : Int) - s.val := by
  have ht := t.isLt
  have hs := s.isLt
  unfold distWord IntOp.subi
  rw [BitVec.toInt_sub, BitVec.toInt_eq_toNat_bmod, BitVec.toInt_eq_toNat_bmod, BitVec.toNat_ofNat, BitVec.toNat_ofNat]
  simp only [Int.bmod_def]
  omega

theorem small_toInt (n : Nat) (h : n ≤ 2048) : (BitVec.ofNat 32 n).toInt = n := by
  rw [BitVec.toInt_eq_toNat_bmod, BitVec.toNat_ofNat]; simp only [Int.bmod_def]; omega

theorem and_words (p q : Bool) : IntOp.andi (BitVec.ofBool p) (BitVec.ofBool q) = BitVec.ofBool (p && q) := by
  cases p <;> cases q <;> rfl

/-- The host's words of a pattern's mask. -/
theorem mask_word (t s : Fin 2048) (N D : Nat) (hN : N ≤ 2048) (hD : 0 < D) (hD' : D ≤ 16) :
    IntOp.andi (IntOp.andi (IntOp.cmpi .sge (distWord t s) (BitVec.ofNat 32 0))
        (IntOp.cmpi .sle (distWord t s) (BitVec.ofNat 32 N)))
      (IntOp.cmpi .eq (IntOp.remsi .host (distWord t s) (BitVec.ofNat 32 D)) (BitVec.ofNat 32 0))
      = BitVec.ofBool (decide (s.val ≤ t.val ∧ t.val - s.val ≤ N ∧ (t.val - s.val) % D = 0)) := by
  have hd := distWord_toInt t s
  have hrem : (IntOp.remsi .host (distWord t s) (BitVec.ofNat 32 D)).toInt = Int.tmod ((t.val : Int) - s.val) D := by
    unfold IntOp.remsi
    rw [if_neg, BitVec.toInt_srem, hd, small_toInt D (by omega)]
    rintro (h | ⟨_, h⟩)
    · have := congrArg BitVec.toNat h
      simp at this; omega
    · have := congrArg BitVec.toInt h
      rw [small_toInt D (by omega)] at this
      simp at this
  rw [WordCmp.cmpi_sge_eq, WordCmp.cmpi_sle_eq, WordCmp.cmpi_eq_eq, and_words, and_words]
  congr 1
  rw [hd, small_toInt N hN, small_toInt 0 (by omega), Bool.eq_iff_iff]
  simp only [Bool.and_eq_true, decide_eq_true_eq]
  rw [← BitVec.toInt_inj, hrem, small_toInt 0 (by omega)]
  constructor
  · rintro ⟨⟨h0, h1⟩, h2⟩
    have hle : s.val ≤ t.val := by omega
    refine ⟨hle, by omega, ?_⟩
    have e : ((t.val : Int) - s.val) = ((t.val - s.val : Nat) : Int) := by omega
    rw [e, Int.tmod_eq_emod_of_nonneg (by omega)] at h2
    exact_mod_cast h2
  · rintro ⟨h0, h1, h2⟩
    refine ⟨⟨by omega, by omega⟩, ?_⟩
    have e : ((t.val : Int) - s.val) = ((t.val - s.val : Nat) : Int) := by omega
    rw [e, Int.tmod_eq_emod_of_nonneg (by omega)]
    exact_mod_cast h2

/-! ## Maxima -/

/-- The maximum of finitely many values, each a real or `-∞` and not all `-∞`, is a real that one of them attains. -/
theorem fold_max {ι : Type} [Fintype ι] (f : ι → EReal) (hf : ∀ i, f i ≠ ⊤) (i : ι) (hi : f i ≠ ⊥) :
    ∃ j, ∃ m : ℝ, (Finset.univ : Finset ι).fold max ⊥ f = (m : EReal) ∧ f j = (m : EReal) := by
  classical
  obtain ⟨j, -, hj⟩ := Finset.exists_max_image Finset.univ f ⟨i, Finset.mem_univ i⟩
  have e : (Finset.univ : Finset ι).fold max ⊥ f = f j := by
    refine le_antisymm ?_ ?_
    · rw [Finset.fold_max_le]; exact ⟨bot_le, fun k hk => hj k hk⟩
    · rw [Finset.le_fold_max]; exact .inr ⟨j, Finset.mem_univ j, le_rfl⟩
  have hb : f j ≠ ⊥ := fun h => hi (le_bot_iff.1 (h ▸ hj i (Finset.mem_univ i)))
  exact ⟨j, (f j).toReal, by rw [e, EReal.coe_toReal (hf j) hb], by rw [EReal.coe_toReal (hf j) hb]⟩

end Cert.Reals
-- ==== Proof.Block.lean ====
/-
  ONE BLOCK OF THE KERNEL AT REAL ARGUMENTS.

  The kernel's loop takes a block of 512 queries against a block of 512 keys. Where the loaded blocks hold real numbers,
  each of the body's values is, element by element, the real number written here: the probabilities, the gradient of the
  scores, and the three products accumulated from them. The table of distances holds plus infinity at a key that is not
  attended; the probability there is zero.
-/
module

public import proofs.«01_k».proof.Proof.Reals
public import proofs.«01_k».proof.Proof.Gen.KernelIdeal.Skeleton
public import Idealize.ShloMosaic.Lib.Pointwise

@[expose] public section

noncomputable section

namespace Cert.Block

open Cert.KernelIdeal Cert.KernelIdeal.Gen Cert.Reals
open Idealize.ShloMosaic

/-- The scale of the scores. -/
abbrev inv : ℝ := (Real.sqrt 128)⁻¹

theorem named_inv : Named.named (F := Ideal) (φ := .f32) κ "att_scale" 0x3DB504F3#32 = ((inv : ℝ) : EReal) := rfl

theorem mulE {a b : EReal} {x y : ℝ} (ha : a = (x : EReal)) (hb : b = (y : EReal)) : a * b = ((x * y : ℝ) : EReal) := by
  subst ha hb; exact (EReal.coe_mul x y).symm

theorem addE {a b : EReal} {x y : ℝ} (ha : a = (x : EReal)) (hb : b = (y : EReal)) : a + b = ((x + y : ℝ) : EReal) := by
  subst ha hb; exact (EReal.coe_add x y).symm

theorem subE {a b : EReal} {x y : ℝ} (ha : a = (x : EReal)) (hb : b = (y : EReal)) : a - b = ((x - y : ℝ) : EReal) := by
  subst ha hb; exact (EReal.coe_sub x y).symm

variable {v0 v2 v49 v67 v91 : FVec Ideal S512x128 .bf16} {v4 : FVec Ideal S1x1 .f32} {v6 v11 : FVec Ideal S512x1 .f32}
  {v54 v60 : FVec Ideal S1x512x512 .f32} {v40 v74 v83 v84 acc : FVec Ideal S512x128 .f32}
  {v72 v85 : FVec Ideal S512x512 .bf16}
  {Q G K V A O : Fin 512 → Fin 128 → ℝ} {P W : Fin 512 → Fin 512 → ℝ} {sl : ℝ} {ls dl : Fin 512 → ℝ}

/-- The scores' block against the tables: at an attended key the exponential of the masked score, elsewhere zero. -/
def Probs (Q K : Fin 512 → Fin 128 → ℝ) (sl : ℝ) (ls : Fin 512 → ℝ) (v54 v60 : FVec Ideal S1x512x512 .f32)
    (P : Fin 512 → Fin 512 → ℝ) : Prop :=
  ∀ r c : Fin 512, (∃ a b : ℝ, v54 (ix3 0 r c) = (a : EReal) ∧ v60 (ix3 0 r c) = (b : EReal)
      ∧ P r c = Real.exp ((∑ d, Q r d * K c d) * inv - sl * a + b - ls r))
    ∨ (v54 (ix3 0 r c) = ⊤ ∧ (∃ b : ℝ, v60 (ix3 0 r c) = (b : EReal)) ∧ P r c = 0)

theorem pay7 (h0 : ∀ j, v0 j = ((Q (j 0) (j 1) : ℝ) : EReal)) (h49 : ∀ j, v49 j = ((K (j 0) (j 1) : ℝ) : EReal))
    (h4 : ∀ j, v4 j = ((sl : ℝ) : EReal)) (hs : 0 < sl) (h6 : ∀ j, v6 j = ((ls (j 0) : ℝ) : EReal))
    (hP : Probs Q K sl ls v54 v60 P) (j : S512x512.Idx) :
    k0_pay7 v0 v4 v6 v49 v54 v60 j = ((P (j 0) (j 1) : ℝ) : EReal) := by
  pointwise [k0_pay7]
  simp only [h0, h49, h4, h6]
  rcases hP (j 0) (j 1) with ⟨a, b, ha, hb, e⟩ | ⟨ha, ⟨b, hb⟩, e⟩
  · rw [ha, hb, e]
    exact congrArg Ideal.exp (subE (addE (subE (mulE (dotC (fun _ => rfl) fun _ => rfl) named_inv) (mulE rfl rfl)) rfl) rfl)
  · rw [ha, hb, e, EReal.coe_mul_top_of_pos hs, EReal.sub_top, EReal.bot_add, EReal.bot_sub, Ideal.exp_bot]
    rfl

theorem pay8 (h0 : ∀ j, v0 j = ((Q (j 0) (j 1) : ℝ) : EReal)) (h2 : ∀ j, v2 j = ((G (j 0) (j 1) : ℝ) : EReal))
    (h49 : ∀ j, v49 j = ((K (j 0) (j 1) : ℝ) : EReal)) (h67 : ∀ j, v67 j = ((V (j 0) (j 1) : ℝ) : EReal))
    (h4 : ∀ j, v4 j = ((sl : ℝ) : EReal)) (hs : 0 < sl) (h6 : ∀ j, v6 j = ((ls (j 0) : ℝ) : EReal))
    (h11 : ∀ j, v11 j = ((dl (j 0) : ℝ) : EReal))
    (hP : Probs Q K sl ls v54 v60 P) (j : S512x512.Idx) :
    k0_pay8 v0 v2 v4 v6 v11 v49 v54 v60 v67 j
      = ((P (j 0) (j 1) * ((∑ d, G (j 0) d * V (j 1) d) - dl (j 0)) : ℝ) : EReal) := by
  unfold k0_pay8
  have e := pay7 h0 h49 h4 hs h6 hP
  generalize k0_pay7 v0 v4 v6 v49 v54 v60 = p at e
  pointwise []
  simp only [h2, h67, h11, e]
  exact mulE rfl (subE (dotC (fun _ => rfl) fun _ => rfl) rfl)

theorem pay2 (h2 : ∀ j, v2 j = ((G (j 0) (j 1) : ℝ) : EReal)) (h84 : ∀ j, v84 j = ((A (j 0) (j 1) : ℝ) : EReal))
    (h85 : ∀ j, v85 j = ((P (j 0) (j 1) : ℝ) : EReal)) (j : S512x128.Idx) :
    k0_pay2 v2 v84 v85 j = ((A (j 0) (j 1) + ∑ r, P r (j 0) * G r (j 1) : ℝ) : EReal) := by
  pointwise [k0_pay2]
  simp only [h2, h84, h85]
  exact addE rfl (dotC (fun _ => rfl) fun _ => rfl)

theorem pay3 (h91 : ∀ j, v91 j = ((K (j 0) (j 1) : ℝ) : EReal)) (ha : ∀ j, acc j = ((A (j 0) (j 1) : ℝ) : EReal))
    (h72 : ∀ j, v72 j = ((W (j 0) (j 1) : ℝ) : EReal)) (j : S512x128.Idx) :
    k0_pay3 acc v72 v91 j = ((A (j 0) (j 1) + ∑ c, W (j 0) c * K c (j 1) : ℝ) : EReal) := by
  pointwise [k0_pay3]
  simp only [h91, ha, h72]
  exact addE rfl (dotC (fun _ => rfl) fun _ => rfl)

theorem pay6 (h40 : ∀ j, v40 j = ((A (j 0) (j 1) : ℝ) : EReal)) (j : S512x128.Idx) :
    k0_pay6 v40 j = ((A (j 0) (j 1) * inv : ℝ) : EReal) := by
  unfold k0_pay6
  rw [named_inv]
  exact mulC (h40 j) rfl

theorem pay9 (h0 : ∀ j, v0 j = ((Q (j 0) (j 1) : ℝ) : EReal))
    (h8 : ∀ j, k0_pay8 v0 v2 v4 v6 v11 v49 v54 v60 v67 j = ((W (j 0) (j 1) : ℝ) : EReal))
    (h74 : ∀ j, v74 j = ((A (j 0) (j 1) : ℝ) : EReal)) (j : S512x128.Idx) :
    k0_pay9 v0 v2 v4 v6 v11 v49 v54 v60 v67 v74 j
      = ((A (j 0) (j 1) + (∑ r, W r (j 0) * Q r (j 1)) * inv : ℝ) : EReal) := by
  unfold k0_pay9
  generalize k0_pay8 v0 v2 v4 v6 v11 v49 v54 v60 v67 = w at h8
  pointwise []
  simp only [h0, h8, h74]
  exact addE rfl (mulE (dotC (fun _ => rfl) fun _ => rfl) named_inv)

theorem pay20 {v1 v7 : FVec Ideal S512x128 .f32} (h1 : ∀ j, v1 j = ((G (j 0) (j 1) : ℝ) : EReal))
    (h7 : ∀ j, v7 j = ((O (j 0) (j 1) : ℝ) : EReal)) (j : S512x1.Idx) :
    (k0_pay20 (F := Ideal) v1 v7 j : EReal) = ((∑ d, G (j 0) d * O (j 0) d : ℝ) : EReal) := by
  pointwise [k0_pay20]
  simp only [h1, h7]
  exact dotC (fun _ => rfl) fun _ => rfl

end Cert.Block

end
-- ==== Proof.Steps.lean ====
/-
  WHERE THE KERNEL'S LOOP READS AND WRITES.

  At the point of head h and query block b the loop makes b + 1 trips; trip n takes the rows of key block n, and the
  table whose blocks lie b - n apart. The loop for a remainder makes none.
-/
module

public import proofs.«01_k».proof.Proof.Block

@[expose] public section

noncomputable section

namespace Cert.Block

open Cert.KernelIdeal Cert.KernelIdeal.Gen
open Idealize.ShloMosaic

theorem trips1 (i : grid0.Coords) : (k0_t1_loop i).trips = (i 1).val + 1 := by
  have h : (i 1).val < 4 := (i 1).isLt
  unfold k0_t1_loop
  generalize (i 1).val = b at h
  interval_cases b <;> decide

theorem trips2 (i : grid0.Coords) : (k0_t2_loop i).trips = 0 := by
  have h : (i 1).val < 4 := (i 1).isLt
  unfold k0_t2_loop
  generalize (i 1).val = b at h
  interval_cases b <;> decide

theorem off1 (i : grid0.Coords) (n : Fin (k0_t1_loop i).trips) : k0_off1 i n = ![n.val * 512, 0] := by
  have h : (i 1).val < 4 := (i 1).isLt
  have hn : n.val < 4 := by have := n.isLt; have := trips1 i; omega
  unfold k0_off1 Scf.iv
  dsimp only
  generalize n.val = k at hn
  interval_cases k <;> rfl

theorem off2 (i : grid0.Coords) (n : Fin (k0_t1_loop i).trips) : k0_off2 i n = ![(i 1).val - n.val, 0, 0] := by
  have h : (i 1).val < 4 := (i 1).isLt
  have hn : n.val ≤ (i 1).val := by have := n.isLt; have := trips1 i; omega
  unfold k0_off2 Scf.iv
  dsimp only
  generalize n.val = k at hn
  generalize (i 1).val = b at h hn
  interval_cases b <;> interval_cases k <;> rfl

end Cert.Block

end
-- ==== Proof.Trips.lean ====
/-
  ONE POINT'S LOOP IN CLOSED FORM.

  The loop over the key blocks carries the rows of dq and adds one block's rows to dk and to dv at each trip. Over real
  contents its state after n trips is a sum over the keys before 512 n, the rows of dk and dv past them being as they
  were found.
-/
module

public import proofs.«01_k».proof.Proof.Gen.KernelIdeal.Loops
public import proofs.«01_k».proof.Proof.Steps
public import Idealize.ShloMosaic.Lib.WritesUnit

@[expose] public section

set_option maxRecDepth 8192

noncomputable section

namespace Cert.Block

open Cert.KernelIdeal Cert.KernelIdeal.Gen
open Idealize.ShloMosaic Idealize.ShloMosaic.TcCoe Idealize.ShloMosaic.Tactic

/-! ## Sums over the keys before a bound -/

/-- A function of a position, and zero past the last of 2048. -/
def ext (f : Fin 2048 → ℝ) (s : ℕ) : ℝ := if h : s < 2048 then f ⟨s, h⟩ else 0

/-- The sum over the first n blocks of 512. -/
def upto (n : ℕ) (f : Fin 2048 → ℝ) : ℝ := ∑ s ∈ Finset.range (512 * n), ext f s

theorem upto_zero (f : Fin 2048 → ℝ) : upto 0 f = 0 := by simp [upto]

theorem upto_succ {n : ℕ} (hn : n < 4) (f : Fin 2048 → ℝ) :
    upto (n + 1) f = upto n f + ∑ c : Fin 512, f ⟨n * 512 + c.val, by omega⟩ := by
  unfold upto
  rw [show 512 * (n + 1) = 512 * n + 512 by ring, Finset.sum_range_add]
  congr 1
  rw [Finset.sum_range]
  refine Finset.sum_congr rfl fun c _ => ?_
  have : 512 * n + c.val < 2048 := by omega
  rw [ext, dif_pos this]
  exact congrArg f (Fin.ext (by show 512 * n + c.val = n * 512 + c.val; omega))

theorem upto_all (f : Fin 2048 → ℝ) : upto 4 f = ∑ s, f s := by
  unfold upto
  rw [Finset.sum_range]
  refine Finset.sum_congr rfl fun s _ => ?_
  rw [ext, dif_pos s.isLt]

/-- Past the keys that a function reaches, the partial sum is the whole. -/
theorem upto_full {n : ℕ} (hn : n ≤ 4) (f : Fin 2048 → ℝ) (h : ∀ s : Fin 2048, 512 * n ≤ s.val → f s = 0) :
    upto n f = ∑ s, f s := by
  rw [← upto_all]
  unfold upto
  refine Finset.sum_subset (fun s hs => Finset.mem_range.2 (by have := Finset.mem_range.1 hs; omega)) fun s hs hn' => ?_
  have h1 : s < 2048 := by have := Finset.mem_range.1 hs; omega
  rw [ext, dif_pos h1]
  exact h ⟨s, h1⟩ (by by_contra hlt; exact hn' (Finset.mem_range.2 (by change ¬ 512 * n ≤ s at hlt; omega)))

/-! ## Reading a block of rows -/

theorem read_rows {sp : Space} {κ' : Kind} {φ : EltTy} (v : View sig κ' sp S2048x128 φ) (f : v.ty.Contents (Elt Ideal)) {n : ℕ} (hn : n < 4)
    {off : Fin 2 → ℕ} (hoff : off = ![n * 512, 0]) (inb : ∀ a : Fin 2, off a + S512x128.size a ≤ S2048x128.size a) (j : S512x128.Idx) :
    v.readAt (Elt Ideal) (Rect.unit (s := S2048x128) off S512x128.size inb).toLoadRect f j
      = v.read (Elt Ideal) f (ix2 ⟨n * 512 + (j 0).val, by have : (j 0).val < 512 := (j 0).isLt; omega⟩ (j 1)) := by
  subst hoff
  refine congrArg (v.read (Elt Ideal) f) (funext fun a => Fin.ext ?_)
  fin_cases a
  · show n * 512 + 1 * (j 0).val = n * 512 + (j 0).val; omega
  · show 0 + 1 * (j 1).val = (j 1).val; omega

theorem read_table {sp : Space} {κ' : Kind} {φ : EltTy} (v : View sig κ' sp S4x512x512 φ) (f : v.ty.Contents (Elt Ideal)) {n : ℕ} (hn : n < 4)
    {off : Fin 3 → ℕ} (hoff : off = ![n, 0, 0]) (inb : ∀ a : Fin 3, off a + S1x512x512.size a ≤ S4x512x512.size a) (r c : Fin 512) :
    v.readAt (Elt Ideal) (Rect.unit (s := S4x512x512) off S1x512x512.size inb).toLoadRect f (ix3 0 r c)
      = v.read (Elt Ideal) f (ix3 ⟨n, hn⟩ r c) := by
  subst hoff
  refine congrArg (v.read (Elt Ideal) f) (funext fun a => Fin.ext ?_)
  fin_cases a
  · show n + 1 * 0 = n; omega
  · show 0 + 1 * r.val = r.val; omega
  · show 0 + 1 * c.val = c.val; omega

/-- Newest wins: what a buffer of rows reads once one block of rows was written. -/
theorem read_write {sp : Space} {κ' : Kind} {φ : EltTy} (v : View sig κ' sp S2048x128 φ) (f : v.ty.Contents (Elt Ideal)) {n : ℕ} (hn : n < 4)
    {off : Fin 2 → ℕ} (hoff : off = ![n * 512, 0]) (inb : ∀ a : Fin 2, off a + S512x128.size a ≤ S2048x128.size a)
    (w : S512x128.Idx → Elt Ideal φ) (L : List (View.Piece (Elt Ideal) S2048x128 φ)) (s : Fin 2048) (d : Fin 128) :
    v.read (Elt Ideal) (v.writes (Elt Ideal) f ((⟨Rect.unit (s := S2048x128) off S512x128.size inb, w⟩ : View.Piece (Elt Ideal) S2048x128 φ) :: L)) (ix2 s d)
      = if h : n * 512 ≤ s.val ∧ s.val < n * 512 + 512 then w (ix2 ⟨s.val - n * 512, by omega⟩ d)
        else v.read (Elt Ideal) (v.writes (Elt Ideal) f L) (ix2 s d) := by
  by_cases h : n * 512 ≤ s.val ∧ s.val < n * 512 + 512
  · rw [dif_pos h]
    exact View.read_writes_cons_rows_of_mem v f inb w L (ix2 s d) (ix2 ⟨s.val - n * 512, by omega⟩ d) hoff
      (by show s.val = n * 512 + (s.val - n * 512); omega) rfl
  · rw [dif_neg h]
    exact View.read_writes_cons_rows_of_not_mem (W := 512) v f inb w L (ix2 s d) hoff rfl
      (by show s.val < n * 512 ∨ n * 512 + 512 ≤ s.val; omega)

/-! ## One trip -/

variable (𝒱 : Variants) (c : Dev nD) (bd : Option 𝒱.V) (i : grid0.Coords)
  (arg2 : Memref sig .tc .vmem S512x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S512x128 .f32) (harg5 : arg5.IsWhole)
  (arg6 : Memref sig .tc .vmem S1x512x1 .f32) (harg6 : arg6.IsWhole)
  (arg7 : Memref sig .tc .vmem S512x128 .f32) (harg7 : arg7.IsWhole)
  (arg8 : Memref sig .tc .vmem S1x1x128 .f32) (harg8 : arg8.IsWhole)
  (arg9 : Memref sig .tc .vmem S4x512x512 .f32) (harg9 : arg9.IsWhole)
  (arg10 : Memref sig .tc .vmem S4x512x512 .f32) (harg10 : arg10.IsWhole)
  (arg11 : Memref sig .tc .vmem S512x128 .f32) (harg11 : arg11.IsWhole)
  (arg12 : Memref sig .tc .vmem S2048x128 .f32) (harg12 : arg12.IsWhole)
  (arg13 : Memref sig .tc .vmem S2048x128 .f32) (harg13 : arg13.IsWhole)
  (arg1 : BitVec 32) (v0 : Vec Ideal S512x128 .bf16) (v2 : FVec Ideal S512x128 .bf16) (v4 : FVec Ideal S1x1 .f32) (v6 : FVec Ideal S512x1 .f32) (v11 : FVec Ideal S512x1 .f32)
  (X_arg3 : BufTy.Contents (Elt Ideal) arg3.view.ty) (X_arg4 : BufTy.Contents (Elt Ideal) arg4.view.ty) (X_arg9 : BufTy.Contents (Elt Ideal) arg9.view.ty) (X_arg10 : BufTy.Contents (Elt Ideal) arg10.view.ty)

theorem trip_R (k : Fin (k0_t1_loop i).trips) (acc : FVec Ideal S512x128 .f32) (f12 : BufTy.Contents (Elt Ideal) arg12.view.ty)
    (f13 : BufTy.Contents (Elt Ideal) arg13.view.ty) :
    ∃ (inb : ∀ a : Fin 2, k0_off1 i k a + S512x128.size a ≤ S2048x128.size a) (inb' : ∀ a : Fin 3, k0_off2 i k a + S1x512x512.size a ≤ S4x512x512.size a),
      tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 X_arg3 X_arg4 X_arg9 X_arg10 k acc f12 f13
        = k0_pay3 acc (k0_pay8 v0 v2 v4 v6 v11 (arg3.view.readAt (Elt Ideal) (Rect.unit (s := S2048x128) (k0_off1 i k) S512x128.size inb).toLoadRect X_arg3)
            (arg9.view.readAt (Elt Ideal) (Rect.unit (s := S4x512x512) (k0_off2 i k) S1x512x512.size inb').toLoadRect X_arg9)
            (arg10.view.readAt (Elt Ideal) (Rect.unit (s := S4x512x512) (k0_off2 i k) S1x512x512.size inb').toLoadRect X_arg10)
            (arg4.view.readAt (Elt Ideal) (Rect.unit (s := S2048x128) (k0_off1 i k) S512x128.size inb).toLoadRect X_arg4))
          (arg3.view.readAt (Elt Ideal) (Rect.unit (s := S2048x128) (k0_off1 i k) S512x128.size inb).toLoadRect X_arg3)
      ∧ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 X_arg3 X_arg4 X_arg9 X_arg10 k acc f12 f13
        = ([⟨Rect.unit (s := S2048x128) (k0_off1 i k) S512x128.size inb,
              k0_pay9 v0 v2 v4 v6 v11 (arg3.view.readAt (Elt Ideal) (Rect.unit (s := S2048x128) (k0_off1 i k) S512x128.size inb).toLoadRect X_arg3)
                (arg9.view.readAt (Elt Ideal) (Rect.unit (s := S4x512x512) (k0_off2 i k) S1x512x512.size inb').toLoadRect X_arg9)
                (arg10.view.readAt (Elt Ideal) (Rect.unit (s := S4x512x512) (k0_off2 i k) S1x512x512.size inb').toLoadRect X_arg10)
                (arg4.view.readAt (Elt Ideal) (Rect.unit (s := S2048x128) (k0_off1 i k) S512x128.size inb).toLoadRect X_arg4)
                (arg12.view.readAt (Elt Ideal) (Rect.unit (s := S2048x128) (k0_off1 i k) S512x128.size inb).toLoadRect f12)⟩],
           [⟨Rect.unit (s := S2048x128) (k0_off1 i k) S512x128.size inb,
              k0_pay2 v2 (k0_pay10 (arg13.view.readAt (Elt Ideal) (Rect.unit (s := S2048x128) (k0_off1 i k) S512x128.size inb).toLoadRect f13))
                (k0_pay11 v0 v4 v6 (arg3.view.readAt (Elt Ideal) (Rect.unit (s := S2048x128) (k0_off1 i k) S512x128.size inb).toLoadRect X_arg3)
                  (arg9.view.readAt (Elt Ideal) (Rect.unit (s := S4x512x512) (k0_off2 i k) S1x512x512.size inb').toLoadRect X_arg9)
                  (arg10.view.readAt (Elt Ideal) (Rect.unit (s := S4x512x512) (k0_off2 i k) S1x512x512.size inb').toLoadRect X_arg10))⟩]) := by
  unfold tripR_k0_t1 tripL_k0_t1 trip_k0_t1
  exact ⟨_, _, rfl, rfl⟩

/-! ## The state after n trips -/

/-- The gradient of the scores at row r and key s. -/
def wgt (G : Fin 512 → Fin 128 → ℝ) (V : Fin 2048 → Fin 128 → ℝ) (P : Fin 512 → Fin 2048 → ℝ) (dl : Fin 512 → ℝ) (r : Fin 512) (s : Fin 2048) : ℝ :=
  P r s * ((∑ d, G r d * V s d) - dl r)

/-- The key at place c of block n. -/
def key (n : ℕ) (hn : n < 4) (c : Fin 512) : Fin 2048 := ⟨n * 512 + c.val, by omega⟩

/-- The probabilities of query block b from the tables, for every key block up to it. -/
def Tabled (b : Fin 4) (Q : Fin 512 → Fin 128 → ℝ) (K : Fin 2048 → Fin 128 → ℝ) (sl : ℝ) (ls : Fin 512 → ℝ)
    (T9 T10 : S4x512x512.Idx → EReal) (P : Fin 512 → Fin 2048 → ℝ) : Prop :=
  ∀ (n : ℕ) (hn : n ≤ b.val) (r c : Fin 512),
    (∃ x y : ℝ, T9 (ix3 ⟨b.val - n, by omega⟩ r c) = (x : EReal) ∧ T10 (ix3 ⟨b.val - n, by omega⟩ r c) = (y : EReal)
      ∧ P r (key n (by omega) c) = Real.exp ((∑ d, Q r d * K (key n (by omega) c) d) * inv - sl * x + y - ls r))
    ∨ (T9 (ix3 ⟨b.val - n, by omega⟩ r c) = ⊤ ∧ (∃ y : ℝ, T10 (ix3 ⟨b.val - n, by omega⟩ r c) = (y : EReal))
      ∧ P r (key n (by omega) c) = 0)

theorem grown {n : ℕ} (s : ℕ) (a x : ℝ) (h : ¬(n * 512 ≤ s ∧ s < n * 512 + 512)) :
    a + (if s < n * 512 then x else 0) = a + (if s < (n + 1) * 512 then x else 0) := by
  have : (s < n * 512) ↔ (s < (n + 1) * 512) := by omega
  simp only [this]

theorem loop {Q G : Fin 512 → Fin 128 → ℝ} {K V : Fin 2048 → Fin 128 → ℝ} {P : Fin 512 → Fin 2048 → ℝ} {sl : ℝ} {ls dl : Fin 512 → ℝ}
    {A12 A13 : Fin 2048 → Fin 128 → ℝ} {T9 T10 : S4x512x512.Idx → EReal}
    (G12 : BufTy.Contents (Elt Ideal) arg12.view.ty) (G13 : BufTy.Contents (Elt Ideal) arg13.view.ty) (init : FVec Ideal S512x128 .f32)
    (h0 : ∀ j, v0 j = ((Q (j 0) (j 1) : ℝ) : EReal)) (h2 : ∀ j, v2 j = ((G (j 0) (j 1) : ℝ) : EReal))
    (h4 : ∀ j, v4 j = ((sl : ℝ) : EReal)) (hs : 0 < sl) (h6 : ∀ j, v6 j = ((ls (j 0) : ℝ) : EReal)) (h11 : ∀ j, v11 j = ((dl (j 0) : ℝ) : EReal))
    (hK : ∀ j, (arg3.view.read (Elt Ideal) X_arg3 j : EReal) = ((K (j 0) (j 1) : ℝ) : EReal))
    (hV : ∀ j, (arg4.view.read (Elt Ideal) X_arg4 j : EReal) = ((V (j 0) (j 1) : ℝ) : EReal))
    (h9 : ∀ j, (arg9.view.read (Elt Ideal) X_arg9 j : EReal) = T9 j) (h10 : ∀ j, (arg10.view.read (Elt Ideal) X_arg10 j : EReal) = T10 j)
    (hP : Tabled (i 1) Q K sl ls T9 T10 P)
    (h12 : ∀ s d, (arg12.view.read (Elt Ideal) G12 (ix2 s d) : EReal) = ((A12 s d : ℝ) : EReal))
    (h13 : ∀ s d, (arg13.view.read (Elt Ideal) G13 (ix2 s d) : EReal) = ((A13 s d : ℝ) : EReal))
    (hi : ∀ j, init j = ((0 : ℝ) : EReal)) :
    ∀ n : ℕ, n ≤ (i 1).val + 1 →
      (∀ j, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 X_arg3 X_arg4 X_arg9 X_arg10 G12 G13 init n).1 j = ((upto n (fun s => wgt G V P dl (j 0) s * K s (j 1)) : ℝ) : EReal))
      ∧ (∀ s d, (arg12.view.read (Elt Ideal) (arg12.view.writes (Elt Ideal) G12 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 X_arg3 X_arg4 X_arg9 X_arg10 G12 G13 init n).2.1) (ix2 s d) : EReal)
          = ((A12 s d + (if s.val < n * 512 then (∑ r, wgt G V P dl r s * Q r d) * inv else 0) : ℝ) : EReal))
      ∧ (∀ s d, (arg13.view.read (Elt Ideal) (arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 X_arg3 X_arg4 X_arg9 X_arg10 G12 G13 init n).2.2) (ix2 s d) : EReal)
          = ((A13 s d + (if s.val < n * 512 then (∑ r, P r s * G r d) else 0) : ℝ) : EReal)) := by
  intro n
  induction n with
  | zero =>
    intro _
    refine ⟨fun j => ?_, fun s d => ?_, fun s d => ?_⟩
    · rw [upto_zero]; exact hi j
    · rw [if_neg (by omega), add_zero]; exact h12 s d
    · rw [if_neg (by omega), add_zero]; exact h13 s d
  | succ n ih =>
    intro hn
    have hb : (i 1).val < 4 := (i 1).isLt
    have hn4 : n < 4 := by omega
    obtain ⟨ihR, ih12, ih13⟩ := ih (by omega)
    have hk : n < (k0_t1_loop i).trips := by rw [trips1]; omega
    rw [show n + 1 = (⟨n, hk⟩ : Fin (k0_t1_loop i).trips).val + 1 from rfl, st_k0_t1_succ]
    generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 X_arg3 X_arg4 X_arg9 X_arg10 G12 G13 init n = S at ihR ih12 ih13 ⊢
    obtain ⟨inb, inb', eR, eL⟩ := trip_R 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 X_arg3 X_arg4 X_arg9 X_arg10 ⟨n, hk⟩ S.1 (arg12.view.writes (Elt Ideal) G12 S.2.1) (arg13.view.writes (Elt Ideal) G13 S.2.2)
    rw [eR, eL]
    clear eR eL
    dsimp only
    have o1 := off1 i ⟨n, hk⟩
    have o2 := off2 i ⟨n, hk⟩
    dsimp only at o1 o2
    have e3 := fun j => (read_rows arg3.view X_arg3 hn4 o1 inb j).trans (hK _)
    have e4 := fun j => (read_rows arg4.view X_arg4 hn4 o1 inb j).trans (hV _)
    have e12 := fun j => (read_rows arg12.view (arg12.view.writes (Elt Ideal) G12 S.2.1) hn4 o1 inb j).trans (ih12 _ _)
    have e13 := fun j => (read_rows arg13.view (arg13.view.writes (Elt Ideal) G13 S.2.2) hn4 o1 inb j).trans (ih13 _ _)
    have hPr : Probs Q (fun c d => K (key n hn4 c) d) sl ls
        (arg9.view.readAt (Elt Ideal) (Rect.unit (s := S4x512x512) (k0_off2 i ⟨n, hk⟩) S1x512x512.size inb').toLoadRect X_arg9)
        (arg10.view.readAt (Elt Ideal) (Rect.unit (s := S4x512x512) (k0_off2 i ⟨n, hk⟩) S1x512x512.size inb').toLoadRect X_arg10)
        (fun r c => P r (key n hn4 c)) := by
      intro r c
      have a9 := (read_table arg9.view X_arg9 (show (i 1).val - n < 4 by omega) o2 inb' r c).trans (h9 _)
      have a10 := (read_table arg10.view X_arg10 (show (i 1).val - n < 4 by omega) o2 inb' r c).trans (h10 _)
      rcases hP n (by omega) r c with ⟨x, y, e, e', e''⟩ | ⟨e, ⟨y, e'⟩, e''⟩
      · exact Or.inl ⟨x, y, a9.trans e, a10.trans e', e''⟩
      · exact Or.inr ⟨a9.trans e, ⟨y, a10.trans e'⟩, e''⟩
    have w8 := pay8 (V := fun c d => V (key n hn4 c) d) h0 h2 e3 e4 h4 hs h6 h11 hPr
    have w7 := pay7 h0 e3 h4 hs h6 hPr
    refine ⟨fun j => ?_, fun s d => ?_, fun s d => ?_⟩
    · rw [upto_succ hn4]
      exact pay3 (A := fun r d => upto n fun s => wgt G V P dl r s * K s d) (W := fun r c => wgt G V P dl r (key n hn4 c)) e3 ihR w8 j
    · rw [List.singleton_append, read_write arg12.view G12 hn4 o1 inb]
      by_cases h : n * 512 ≤ s.val ∧ s.val < n * 512 + 512
      · rw [dif_pos h]
        refine (pay9 (A := fun r d => A12 (key n hn4 r) d + (if (key n hn4 r).val < n * 512 then (∑ r', wgt G V P dl r' (key n hn4 r) * Q r' d) * inv else 0))
          (W := fun r c => wgt G V P dl r (key n hn4 c)) h0 w8 e12 _).trans ?_
        have hk : key n hn4 ⟨s.val - n * 512, by omega⟩ = s := Fin.ext (by show n * 512 + (s.val - n * 512) = s.val; omega)
        refine congrArg Real.toEReal ?_
        show A12 (key n hn4 ⟨s.val - n * 512, by omega⟩) d + (if (key n hn4 ⟨s.val - n * 512, by omega⟩).val < n * 512 then _ else 0) + (∑ r, wgt G V P dl r (key n hn4 ⟨s.val - n * 512, by omega⟩) * Q r d) * inv = _
        rw [hk, if_neg (by omega), if_pos (by omega), add_zero]
      · rw [dif_neg h, ih12, grown _ _ _ h]
    · rw [List.singleton_append, read_write arg13.view G13 hn4 o1 inb]
      by_cases h : n * 512 ≤ s.val ∧ s.val < n * 512 + 512
      · rw [dif_pos h]
        refine (pay2 (A := fun r d => A13 (key n hn4 r) d + (if (key n hn4 r).val < n * 512 then (∑ r', P r' (key n hn4 r) * G r' d) else 0))
          (P := fun r c => P r (key n hn4 c)) h2 (fun j => ?_) (fun j => ?_) _).trans ?_
        rotate_left 1
        · exact w7 j
        rotate_left 1
        · unfold k0_pay10; rw [shapeCast_self]; exact e13 j
        have hk : key n hn4 ⟨s.val - n * 512, by omega⟩ = s := Fin.ext (by show n * 512 + (s.val - n * 512) = s.val; omega)
        refine congrArg Real.toEReal ?_
        show A13 (key n hn4 ⟨s.val - n * 512, by omega⟩) d + (if (key n hn4 ⟨s.val - n * 512, by omega⟩).val < n * 512 then _ else 0) + (∑ r, P r (key n hn4 ⟨s.val - n * 512, by omega⟩) * G r d) = _
        rw [hk, if_neg (by omega), if_pos (by omega), add_zero]
      · rw [dif_neg h, ih13, grown _ _ _ h]

end Cert.Block

end
-- ==== Proof.HostRead.lean ====
/-
  WHAT THE HOST HANDS TO THE KERNEL.

  The lines before the kernel compute, from the queries, keys and values, the output of the forward attention and the
  logarithms of its denominators, and from nothing the slopes and the two tables of distances and multiplicities.  Here
  each of these arrays is given as a term (`outArr`, `lseArr`, `slopeArr`, `distArr`, `countArr`), the forward lines they
  share with the reference being the reference's own arrays.
-/
module

public import proofs.«01_k».proof.Proof.Gen.KernelIdeal.Frame
public import Idealize.ShloMosaic.Lib.StableHlo.Run
public import proofs.«01_k».proof.Proof.Gen.ReferenceIdeal.Read

@[expose] public section

set_option maxRecDepth 8192

noncomputable section

namespace Cert.Host

open Cert.KernelIdeal Cert.KernelIdeal.Gen
open Idealize.ShloMosaic Idealize.ShloMosaic.TcCoe Idealize.ShloMosaic.Tactic Idealize.ShloMosaic.StableHlo

variable {F : FTy → Type} [FloatOps F]

abbrev Wide (F : FTy → Type) := (⟨S2048x1024, .bf16⟩ : BufTy).Contents (Elt F)

/-! ## The arrays -/

/-- The probabilities of the mixture: each pattern's, times its weight, summed over the patterns. -/
def mixArr (x0 x1 : Wide F) : (⟨S8x2048x2048, .f32⟩ : BufTy).Contents (Elt F) :=
  Host.reduceAdd
    (mulf
      (Host.divf (Cert.ReferenceIdeal.Read.val_main_v65 (F := F) x0 x1)
        (broadcastInDim S3x8x2048x2048 ![0, 1, 2, 3] bcast_S3x8x2048x1_S3x8x2048x2048_0_1_2_3
          (Cert.ReferenceIdeal.Read.val_main_v67 (F := F) x0 x1)))
      (broadcastInDim S3x8x2048x2048 ![0, 1, 2, 3] bcast_S3x8x2048x1_S3x8x2048x2048_0_1_2_3
        (Cert.ReferenceIdeal.Read.val_main_v108 (F := F) x0 x1)))
    (constant S_ .f32 0x00000000#32) reducesTo_S3x8x2048x2048_S8x2048x2048_d0 h_S_

/-- The output of the forward attention, the heads side by side. -/
def outArr (x0 x1 x2 : Wide F) : (⟨S2048x1024, .f32⟩ : BufTy).Contents (Elt F) :=
  shapeCast S2048x1024
    (transpose S2048x8x128 [1, 0, 2]
      (Host.dotGeneral dot_S8x2048x2048_S8x2048x128_S8x2048x128_2_1_1_2_0_0 none (mixArr x0 x1)
        (Cert.ReferenceIdeal.Read.val_main_v72 (F := F) x2))
      transposes_S8x2048x128_S2048x8x128_1_0_2)
    shapeCasts_S2048x8x128_S2048x1024

/-- A pattern's share before it is normalised. -/
def shareArr (x0 x1 : Wide F) : (⟨S3x8x2048, .f32⟩ : BufTy).Contents (Elt F) :=
  Host.exp (subf (Cert.ReferenceIdeal.Read.val_main_v70 (F := F) x0 x1)
    (broadcastInDim S3x8x2048 ![0, 1, 2] bcast_S1x8x2048_S3x8x2048_0_1_2
      (broadcastInDim S1x8x2048 ![1, 2] bcast_S8x2048_S1x8x2048_1_2
        (Cert.ReferenceIdeal.Read.val_main_v80 (F := F) x0 x1))))

/-- The logarithms of the mixture's denominators. -/
def lseArr (x0 x1 : Wide F) : (⟨S8x2048x1, .f32⟩ : BufTy).Contents (Elt F) :=
  broadcastInDim S8x2048x1 ![0, 1] bcast_S8x2048_S8x2048x1_0_1
    (addf (Cert.ReferenceIdeal.Read.val_main_v80 (F := F) x0 x1)
      (Host.log (Host.reduceAdd (shareArr x0 x1) (constant S_ .f32 0x00000000#32) reducesTo_S3x8x2048_S8x2048_d0 h_S_)))

/-- The slopes of the heads, one row of lanes each. -/
def slopeArr : (⟨S8x1x128, .f32⟩ : BufTy).Contents (Elt F) :=
  broadcastInDim S8x1x128 ![0] bcast_S8_S8x1x128_0
    (fun i => FloatOps.ofBits .f32 (lit0 (S8.rowMajor i)) : (⟨S8, .f32⟩ : BufTy).Contents (Elt F))

abbrev Words (F : FTy → Type) := (⟨S4x512x512, .i32⟩ : BufTy).Contents (Elt F)
abbrev Masks (F : FTy → Type) := (⟨S4x512x512, .i1⟩ : BufTy).Contents (Elt F)
abbrev Tables (F : FTy → Type) := (⟨S4x512x512, .f32⟩ : BufTy).Contents (Elt F)

/-- A word everywhere. -/
abbrev word (w : BitVec 32) : Words F := broadcastInDim S4x512x512 ![] bcast_S_S4x512x512 (constantI S_ 32 w)
/-- A float everywhere. -/
abbrev real (w : BitVec 32) : Tables F := broadcastInDim S4x512x512 ![] bcast_S_S4x512x512 (constant S_ .f32 w)

/-- The distance of a query and a key, by the offset of their blocks. -/
def distW : Words F :=
  subi (addi (muli (iotaInDim S4x512x512 32 0) (word (F := F) 512#32)) (iotaInDim S4x512x512 32 1)) (iotaInDim S4x512x512 32 2)

/-- How many patterns reach over a distance, causality aside. -/
def multA : Tables F :=
  addf
    (addf (uitofp .f32 (cmpi .sle (distW (F := F)) (word (F := F) 128#32)))
      (uitofp .f32 (andi (cmpi .eq (andi (distW (F := F)) (word (F := F) 3#32)) (word (F := F) 0#32)) (cmpi .sle (distW (F := F)) (word (F := F) 512#32)))))
    (uitofp .f32 (cmpi .eq (andi (distW (F := F)) (word (F := F) 15#32)) (word (F := F) 0#32)))

/-- Whether some pattern attends over a distance. -/
def seenA : Masks F := andi (cmpi .sge (distW (F := F)) (word (F := F) 0#32)) (cmpf .ogt (multA (F := F)) (real (F := F) 0x00000000#32))

/-- The distances, +∞ where no pattern attends. -/
def distArr : Tables F := select (seenA (F := F)) (sitofp .f32 (distW (F := F))) (real 0x7F800000#32)

/-- The logarithms of the multiplicities, 0 where no pattern attends. -/
def countArr : Tables F := select (seenA (F := F)) (Host.log (maximumf (multA (F := F)) (real (F := F) 0x3F800000#32))) (real 0x00000000#32)

/-! ## Reading them -/

/-- The lines before the kernel, in stretches. -/
theorem stretches : List.flatten [hostOps0 (F := Ideal), hostOps0_1, hostOps0_2, hostOps0_3]
    = main_part0_ops0 ++ (main_part1_ops0 ++ (main_part2_ops0 ++ (main_part2_ops1 ++ (main_part2_ops2 ++ main_part2_ops3)))) := rfl

section
variable (V0 : Valuation τ sig (Elt Ideal))

set_option maxHeartbeats 2000000 in
theorem first_0 : after main_part0_ops0 V0 (no_index (Proc.devRef .tc main_v0)) = slopeArr (F := Ideal) := by
  simp only [main_part0_ops0]; after_results_simp; rfl

set_option maxHeartbeats 2000000 in
theorem first_32 : after main_part0_ops0 V0 (no_index (Proc.devRef .tc main_v32))
    = Cert.ReferenceIdeal.Read.val_main_v32 (F := Ideal) (V0 (Proc.devRef .tc main_arg0)) (V0 (Proc.devRef .tc main_arg1)) := by
  simp only [main_part0_ops0]; after_results_simp; rfl

set_option maxHeartbeats 2000000 in
theorem first_48 : after main_part0_ops0 V0 (no_index (Proc.devRef .tc main_v48))
    = Cert.ReferenceIdeal.Read.val_main_v48 (F := Ideal) := by
  simp only [main_part0_ops0]; after_results_simp; rfl

set_option maxHeartbeats 2000000 in
theorem first_arg2 : after main_part0_ops0 V0 (no_index (Proc.devRef .tc main_arg2)) = V0 (Proc.devRef .tc main_arg2) := by
  simp only [main_part0_ops0]; after_results_simp

variable (V1 : Valuation τ sig (Elt Ideal)) (hV : V1 = after main_part0_ops0 V0)
include hV

set_option maxHeartbeats 2000000 in
theorem second_0 : after main_part1_ops0 V1 (no_index (Proc.devRef .tc main_v0)) = slopeArr (F := Ideal) := by
  simp only [main_part1_ops0]; after_results_simp; rw [hV, first_0]

set_option maxHeartbeats 2000000 in
theorem second_95 : after main_part1_ops0 V1 (no_index (Proc.devRef .tc main_v95))
    = outArr (F := Ideal) (V0 (Proc.devRef .tc main_arg0)) (V0 (Proc.devRef .tc main_arg1)) (V0 (Proc.devRef .tc main_arg2)) := by
  simp only [main_part1_ops0]; after_results_simp
  simp only [hV, first_32, first_48, first_arg2]
  rfl

set_option maxHeartbeats 2000000 in
theorem second_96 : after main_part1_ops0 V1 (no_index (Proc.devRef .tc main_v96))
    = lseArr (F := Ideal) (V0 (Proc.devRef .tc main_arg0)) (V0 (Proc.devRef .tc main_arg1)) := by
  simp only [main_part1_ops0]; after_results_simp
  simp only [hV, first_32, first_48]
  rfl

omit hV

set_option maxHeartbeats 2000000 in
theorem second_97 : after main_part1_ops0 V1 (no_index (Proc.devRef .tc main_v97)) = iotaInDim S4x512x512 32 0 := by
  simp only [main_part1_ops0]; after_results_simp
set_option maxHeartbeats 2000000 in
theorem second_98 : after main_part1_ops0 V1 (no_index (Proc.devRef .tc main_v98)) = iotaInDim S4x512x512 32 1 := by
  simp only [main_part1_ops0]; after_results_simp
set_option maxHeartbeats 2000000 in
theorem second_99 : after main_part1_ops0 V1 (no_index (Proc.devRef .tc main_v99)) = iotaInDim S4x512x512 32 2 := by
  simp only [main_part1_ops0]; after_results_simp

variable (V2 : Valuation τ sig (Elt Ideal))

set_option maxHeartbeats 2000000 in
theorem third_keep (b : Ref sig .tc) (h0 : ∀ op ∈ (main_part2_ops0 : List (HloOp τ sig (Elt Ideal))), Proc.devRef .tc b ∉ op.writes)
    (h1 : ∀ op ∈ (main_part2_ops1 : List (HloOp τ sig (Elt Ideal))), Proc.devRef .tc b ∉ op.writes)
    (h2 : ∀ op ∈ (main_part2_ops2 : List (HloOp τ sig (Elt Ideal))), Proc.devRef .tc b ∉ op.writes)
    (h3 : ∀ op ∈ (main_part2_ops3 : List (HloOp τ sig (Elt Ideal))), Proc.devRef .tc b ∉ op.writes) :
    after main_part2_ops3 (after main_part2_ops2 (after main_part2_ops1 (after main_part2_ops0 V2))) (Proc.devRef .tc b)
      = V2 (Proc.devRef .tc b) := by
  rw [after_of_forall_not_mem _ _ h3, after_of_forall_not_mem _ _ h2, after_of_forall_not_mem _ _ h1,
    after_of_forall_not_mem _ _ h0]

variable (hV2 : V2 = after main_part1_ops0 V1)
include hV2

set_option maxHeartbeats 2000000 in
theorem third_121 : after main_part2_ops0 V2 (no_index (Proc.devRef .tc main_v121)) = multA (F := Ideal) := by
  simp only [main_part2_ops0]; after_results_simp
  simp only [hV2, second_97, second_98, second_99]
  rfl
set_option maxHeartbeats 2000000 in
theorem third_126 : after main_part2_ops0 V2 (no_index (Proc.devRef .tc main_v126)) = seenA (F := Ideal) := by
  simp only [main_part2_ops0]; after_results_simp
  simp only [hV2, second_97, second_98, second_99]
  rfl
set_option maxHeartbeats 2000000 in
theorem third_127 : after main_part2_ops0 V2 (no_index (Proc.devRef .tc main_v127)) = sitofp (F := Ideal) .f32 (distW (F := Ideal)) := by
  simp only [main_part2_ops0]; after_results_simp
  simp only [hV2, second_97, second_98, second_99]
  rfl
omit hV2
set_option maxHeartbeats 2000000 in
theorem third_inf : after main_part2_ops0 V2 (no_index (Proc.devRef .tc main_cst_27)) = constant (F := Ideal) S_ .f32 0x7F800000#32 := by
  simp only [main_part2_ops0]; after_results_simp
include hV2

set_option maxHeartbeats 2000000 in
theorem last_128 : after main_part2_ops3 (after main_part2_ops2 (after main_part2_ops1 (after main_part2_ops0 V2))) (Proc.devRef .tc main_v128)
      = distArr (F := Ideal) := by
  generalize hV3 : after main_part2_ops0 V2 = V3
  simp only [main_part2_ops1, main_part2_ops2, main_part2_ops3, List.map]
  after_results_simp
  simp only [← hV3, third_126 V1 V2 hV2, third_127 V1 V2 hV2, third_inf]
  rfl

set_option maxHeartbeats 2000000 in
theorem last_132 : after main_part2_ops3 (after main_part2_ops2 (after main_part2_ops1 (after main_part2_ops0 V2))) (Proc.devRef .tc main_v132)
      = countArr (F := Ideal) := by
  generalize hV3 : after main_part2_ops0 V2 = V3
  simp only [main_part2_ops1, main_part2_ops2, main_part2_ops3, List.map]
  after_results_simp
  simp only [← hV3, third_126 V1 V2 hV2, third_121 V1 V2 hV2]
  rfl
end

/-! ## At the kernel's start -/

variable (m : (ℓ : Loc nD τ sig) → Buf (Elt Ideal) ℓ) (c : Dev nD)

/-- A device's arrays before the lines. -/
abbrev start : Valuation τ sig (Elt Ideal) := fun b => m (c, b)

theorem V_eq (b : Ref sig .tc) : V m c b
    = after main_part2_ops3 (after main_part2_ops2 (after main_part2_ops1 (after main_part2_ops0
        (after main_part1_ops0 (after main_part0_ops0 (start m c)))))) (Proc.devRef .tc b) := by
  unfold V
  rw [stretches, after_append, after_append, after_append, after_append, after_append]

theorem V_v0 : V m c main_v0 = slopeArr (F := Ideal) := by
  rw [V_eq, third_keep]
  · exact second_0 (start m c) _ rfl
  all_goals
    refine List.forall_iff_forall_mem.mp ?_
    simp only [main_part2_ops0, main_part2_ops1, main_part2_ops2, main_part2_ops3, List.Forall, TRef.unary, TRef.ternary, nullary_writes, unary_writes, binary_writes, ternary_writes, Finset.mem_singleton]
    repeat' apply And.intro
    all_goals exact devRef_ne_of_ne (by decide)

theorem V_v95 : V m c main_v95 = outArr (F := Ideal) (m (c, Proc.devRef .tc main_arg0)) (m (c, Proc.devRef .tc main_arg1)) (m (c, Proc.devRef .tc main_arg2)) := by
  rw [V_eq, third_keep]
  · exact second_95 (start m c) _ rfl
  all_goals
    refine List.forall_iff_forall_mem.mp ?_
    simp only [main_part2_ops0, main_part2_ops1, main_part2_ops2, main_part2_ops3, List.Forall, TRef.unary, TRef.ternary, nullary_writes, unary_writes, binary_writes, ternary_writes, Finset.mem_singleton]
    repeat' apply And.intro
    all_goals exact devRef_ne_of_ne (by decide)

theorem V_v96 : V m c main_v96 = lseArr (F := Ideal) (m (c, Proc.devRef .tc main_arg0)) (m (c, Proc.devRef .tc main_arg1)) := by
  rw [V_eq, third_keep]
  · exact second_96 (start m c) _ rfl
  all_goals
    refine List.forall_iff_forall_mem.mp ?_
    simp only [main_part2_ops0, main_part2_ops1, main_part2_ops2, main_part2_ops3, List.Forall, TRef.unary, TRef.ternary, nullary_writes, unary_writes, binary_writes, ternary_writes, Finset.mem_singleton]
    repeat' apply And.intro
    all_goals exact devRef_ne_of_ne (by decide)

theorem V_v128 : V m c main_v128 = distArr (F := Ideal) := by
  rw [V_eq]; exact last_128 (after main_part0_ops0 (start m c)) _ rfl

theorem V_v132 : V m c main_v132 = countArr (F := Ideal) := by
  rw [V_eq]; exact last_132 (after main_part0_ops0 (start m c)) _ rfl

end Cert.Host
-- ==== Proof.Model.lean ====
/-
  ONE ROW OF THE DILATED MIXTURE AND ITS GRADIENT, over the real numbers (no program is mentioned here).

  A query sees, in each of several patterns `p`, the keys `s` with `ok p s`, at the scores `S s`. The forward lines take
  per pattern the numerators `exp (S s - m p)`, their sum, and the logarithm of the softmax denominator; the patterns
  are merged by the softmax of those logarithms. The derivative of these lines, taken one line after the other, is
  `Row.pull` (the gradient of the scores of one pattern), and this file proves what the backward kernel relies on:
  summed over the patterns it is `prob s * (g · v s - g · out)` with ONE probability per key (`Row.sum_pull`), and the
  part that flows through the subtracted maximum is zero (`Row.through_max`).
-/
module

public import Mathlib.Analysis.SpecialFunctions.Log.Basic
public import Mathlib.Algebra.BigOperators.Field
public import Mathlib.Tactic.FieldSimp

@[expose] public section

noncomputable section

namespace Cert.Row

variable {P K D : Type} [Fintype P] [Fintype K] [Fintype D]

/-- The softmax numerator of key `s` in pattern `p`: zero for a key the pattern does not see. -/
def num (ok : P → K → Prop) [∀ p s, Decidable (ok p s)] (S : K → ℝ) (m : P → ℝ) (p : P) (s : K) : ℝ :=
  if ok p s then Real.exp (S s - m p) else 0

variable (ok : P → K → Prop) [∀ p s, Decidable (ok p s)] (S : K → ℝ) (m : P → ℝ) (mx : ℝ) (v : K → D → ℝ) (g : D → ℝ)

/-- The sum of a pattern's numerators. -/
def den (p : P) : ℝ := ∑ s, num ok S m p s

/-- The logarithm of a pattern's softmax denominator. -/
def lse (p : P) : ℝ := m p + Real.log (den ok S m p)

/-- A pattern's share of the mixture before it is normalised. -/
def share (p : P) : ℝ := Real.exp (lse ok S m p - mx)

/-- The shares' sum. -/
def total : ℝ := ∑ p, share ok S m mx p

/-- The weight of a pattern in the mixture. -/
def wt (p : P) : ℝ := share ok S m mx p / total ok S m mx

/-- The logarithm of the denominator of the whole mixture. -/
def full : ℝ := mx + Real.log (total ok S m mx)

/-- The probability of key `s` in the whole mixture: one term for each pattern that sees it. -/
def prob (s : K) : ℝ := ∑ p, if ok p s then Real.exp (S s - full ok S m mx) else 0

/-- The mixture's output. -/
def out (d : D) : ℝ := ∑ s, prob ok S m mx s * v s d

/-- The gradient of the scores, as the backward kernel computes it. -/
def grad (s : K) : ℝ := prob ok S m mx s * (∑ d, g d * v s d - ∑ d, g d * out ok S m mx v d)

/-- A pattern's numerators against the values. -/
def nv (p : P) (d : D) : ℝ := ∑ s, num ok S m p s * v s d

/-- The gradient of a pattern's weight. -/
def gw (p : P) : ℝ := ∑ d, g d * (nv ok S m v p d / den ok S m p)

/-- The gradient of a pattern's log denominator, through the softmax over the patterns. -/
def glse (p : P) : ℝ :=
  (gw ok S m v g p / total ok S m mx
    + -∑ p', gw ok S m v g p' * (1 / (total ok S m mx * total ok S m mx)) * share ok S m mx p') * share ok S m mx p

/-- The gradient of a pattern's sum of numerators, through the division. -/
def gden (p : P) : ℝ :=
  -∑ d, wt ok S m mx p * g d * (1 / (den ok S m p * den ok S m p)) * nv ok S m v p d

/-- The gradient of a pattern's score of key `s`, before the part that flows through the maximum. -/
def pull (p : P) (s : K) : ℝ :=
  (∑ d, wt ok S m mx p * g d / den ok S m p * v s d
    + (gden ok S m mx v g p + glse ok S m mx v g p / den ok S m p)) * num ok S m p s

variable {ok}

theorem den_pos (h : ∀ p, ∃ s, ok p s) (p : P) : 0 < den ok S m p := by
  obtain ⟨s, hs⟩ := h p
  refine Finset.sum_pos' (fun s _ => ?_) ⟨s, Finset.mem_univ _, ?_⟩
  · unfold num; split
    · exact (Real.exp_pos _).le
    · exact le_rfl
  · unfold num; rw [if_pos hs]; exact Real.exp_pos _

theorem total_pos [Nonempty P] : 0 < total ok S m mx :=
  Finset.sum_pos (fun _ _ => Real.exp_pos _) Finset.univ_nonempty

theorem share_eq (h : ∀ p, ∃ s, ok p s) (p : P) :
    share ok S m mx p = Real.exp (m p - mx) * den ok S m p := by
  unfold share lse
  rw [show m p + Real.log (den ok S m p) - mx = (m p - mx) + Real.log (den ok S m p) by ring, Real.exp_add,
    Real.exp_log (den_pos S m h p)]

/-- A pattern's numerator, divided by its sum and weighed, is its term of the mixture's probability. -/
theorem num_wt [Nonempty P] (h : ∀ p, ∃ s, ok p s) (p : P) (s : K) :
    num ok S m p s / den ok S m p * wt ok S m mx p = if ok p s then Real.exp (S s - full ok S m mx) else 0 := by
  have hd := (den_pos S m h p).ne'
  have ht : (0 : ℝ) < total ok S m mx := total_pos S m mx
  unfold num wt
  split
  · rw [share_eq S m mx h p]
    unfold full
    have e : Real.exp (S s - (mx + Real.log (total ok S m mx)))
        = Real.exp (S s - m p) * Real.exp (m p - mx) / total ok S m mx := by
      rw [show S s - (mx + Real.log (total ok S m mx)) = (S s - m p + (m p - mx)) - Real.log (total ok S m mx) by ring,
        Real.exp_sub, Real.exp_log ht, Real.exp_add]
    rw [e]
    field_simp
  · simp

theorem prob_eq [Nonempty P] (h : ∀ p, ∃ s, ok p s) (s : K) :
    prob ok S m mx s = ∑ p, num ok S m p s / den ok S m p * wt ok S m mx p :=
  Finset.sum_congr rfl fun p _ => (num_wt S m mx h p s).symm

/-- The weighed weights' gradient is the gradient against the output. -/
theorem sum_wt_gw [Nonempty P] (h : ∀ p, ∃ s, ok p s) :
    ∑ p, wt ok S m mx p * gw ok S m v g p = ∑ d, g d * out ok S m mx v d := by
  unfold gw out nv
  simp only [prob_eq S m mx h, Finset.mul_sum, Finset.sum_mul, Finset.sum_div]
  rw [Finset.sum_comm]
  refine Finset.sum_congr rfl fun d _ => ?_
  rw [Finset.sum_comm]
  refine Finset.sum_congr rfl fun s _ => Finset.sum_congr rfl fun p _ => ?_
  ring

theorem glse_eq [Nonempty P] (h : ∀ p, ∃ s, ok p s) (p : P) :
    glse ok S m mx v g p = wt ok S m mx p * (gw ok S m v g p - ∑ d, g d * out ok S m mx v d) := by
  have ht : total ok S m mx ≠ 0 := (total_pos S m mx).ne'
  rw [← sum_wt_gw S m mx v g h]
  have e : ∑ p', gw ok S m v g p' * (1 / (total ok S m mx * total ok S m mx)) * share ok S m mx p'
      = (∑ p', wt ok S m mx p' * gw ok S m v g p') / total ok S m mx := by
    rw [Finset.sum_div]
    refine Finset.sum_congr rfl fun p' _ => ?_
    unfold wt; field_simp
  unfold glse
  rw [e]
  generalize ∑ p', wt ok S m mx p' * gw ok S m v g p' = C
  unfold wt; field_simp; ring

theorem gden_eq (h : ∀ p, ∃ s, ok p s) (p : P) :
    gden ok S m mx v g p = -(wt ok S m mx p / den ok S m p * gw ok S m v g p) := by
  have hd := (den_pos S m h p).ne'
  unfold gden gw
  rw [Finset.mul_sum]
  congr 1
  refine Finset.sum_congr rfl fun d _ => ?_
  field_simp

theorem pull_eq [Nonempty P] (h : ∀ p, ∃ s, ok p s) (p : P) (s : K) :
    pull ok S m mx v g p s = num ok S m p s / den ok S m p * wt ok S m mx p
      * (∑ d, g d * v s d - ∑ d, g d * out ok S m mx v d) := by
  have hd := (den_pos S m h p).ne'
  have e : ∑ d, wt ok S m mx p * g d / den ok S m p * v s d = wt ok S m mx p / den ok S m p * ∑ d, g d * v s d := by
    rw [Finset.mul_sum]
    refine Finset.sum_congr rfl fun d _ => ?_
    field_simp
  unfold pull
  rw [e, gden_eq S m mx v g h, glse_eq S m mx v g h]
  generalize ∑ d, g d * v s d = G
  generalize ∑ d, g d * out ok S m mx v d = C
  generalize gw ok S m v g p = c
  generalize num ok S m p s = n
  field_simp; ring

/-- THE GRADIENT OF THE SCORES: summed over the patterns it is the backward kernel's. -/
theorem sum_pull [Nonempty P] (h : ∀ p, ∃ s, ok p s) (s : K) :
    ∑ p, pull ok S m mx v g p s = grad ok S m mx v g s := by
  unfold grad
  rw [prob_eq S m mx h, Finset.sum_mul]
  exact Finset.sum_congr rfl fun p _ => pull_eq S m mx v g h p s

theorem pull_off {p : P} {s : K} (h : ¬ok p s) : pull ok S m mx v g p s = 0 := by
  unfold pull num; rw [if_neg h, mul_zero]

/-- WHAT FLOWS THROUGH THE MAXIMUM IS ZERO. -/
theorem through_max [Nonempty P] (h : ∀ p, ∃ s, ok p s) (p : P) :
    glse ok S m mx v g p + ∑ s, -pull ok S m mx v g p s = 0 := by
  have hd := (den_pos S m h p).ne'
  have e : ∑ s, pull ok S m mx v g p s = wt ok S m mx p * (gw ok S m v g p - ∑ d, g d * out ok S m mx v d) := by
    simp only [pull_eq S m mx v g h]
    generalize ∑ d, g d * out ok S m mx v d = C
    have e1 : ∀ s, num ok S m p s / den ok S m p * wt ok S m mx p * (∑ d, g d * v s d - C)
        = wt ok S m mx p / den ok S m p * (num ok S m p s * ∑ d, g d * v s d)
          - wt ok S m mx p / den ok S m p * C * num ok S m p s := fun s => by field_simp
    simp only [e1]
    rw [Finset.sum_sub_distrib, ← Finset.mul_sum, ← Finset.mul_sum, show ∑ s, num ok S m p s = den ok S m p from rfl]
    have e2 : ∑ s, num ok S m p s * ∑ d, g d * v s d = den ok S m p * gw ok S m v g p := by
      unfold gw nv
      simp only [Finset.mul_sum, Finset.sum_div]
      rw [Finset.sum_comm]
      refine Finset.sum_congr rfl fun d _ => Finset.sum_congr rfl fun s _ => ?_
      field_simp
    rw [e2]; field_simp
  rw [Finset.sum_neg_distrib, e, glse_eq S m mx v g h]; ring

/-- The values' gradient: a pattern's numerators, weighed and divided by their sum. -/
theorem sum_values [Nonempty P] (h : ∀ p, ∃ s, ok p s) (s : K) (d : D) :
    ∑ p, wt ok S m mx p * g d / den ok S m p * num ok S m p s = prob ok S m mx s * g d := by
  rw [prob_eq S m mx h, Finset.sum_mul]
  refine Finset.sum_congr rfl fun p _ => ?_
  ring

end Cert.Row

end
-- ==== Proof.RefForward.lean ====
/-
  THE REFERENCE'S FORWARD LINES AT REAL ARGUMENTS.

  With queries, keys and values that are real numbers (`Holds`), each array of the reference's forward lines is, element
  by element, the real number that one row of the mixture (Model.lean) gives it: the scores, the masks, the softmax
  numerators and their sums, the logarithms and the weights of the three patterns.
-/
module

public import proofs.«01_k».proof.Proof.Model
public import proofs.«01_k».proof.Proof.Reals
public import proofs.«01_k».proof.Proof.Gen.ReferenceIdeal.Read

@[expose] public section

noncomputable section

namespace Cert.RefRows

open Cert.ReferenceIdeal Cert.ReferenceIdeal.Gen Cert.ReferenceIdeal.Read Cert.Reals
open Idealize.ShloMosaic Idealize.ShloMosaic.ValueIdx

/-- The column of head `h`'s lane `d`. -/
abbrev col (h : Fin 8) (d : Fin 128) : Fin 1024 := ⟨h.val * 128 + d.val, by omega⟩

/-- The column of head `h`'s lane `d` in the right half. -/
abbrev colR (h : Fin 8) (d : Fin 128) : Fin 2048 := ⟨1024 + (h.val * 128 + d.val), by omega⟩

/-- An array of eight heads side by side holds the reals `q`. -/
def Holds (x : (⟨S2048x1024, .bf16⟩ : BufTy).Contents (Elt Ideal)) (q : Fin 8 → Fin 2048 → Fin 128 → ℝ) : Prop :=
  ∀ h t d, x (ix2 t (col h d)) = ((q h t d : ℝ) : EReal)

/-- The right half of an array holds the reals `g`. -/
def HoldsR (x : (⟨S2048x2048, .f32⟩ : BufTy).Contents (Elt Ideal)) (g : Fin 8 → Fin 2048 → Fin 128 → ℝ) : Prop :=
  ∀ h t d, x (ix2 t (colR h d)) = ((g h t d : ℝ) : EReal)

/-- The slope of a head. -/
def slope (h : Fin 8) : ℝ := Real.exp (-8 * (1 + (h.val : ℝ)) / 8 * Real.log 2)

/-- The score of query `t` against key `s`. -/
def score (q k : Fin 8 → Fin 2048 → Fin 128 → ℝ) (h : Fin 8) (t s : Fin 2048) : ℝ :=
  (∑ d, q h t d * k h s d) / Real.sqrt 128 + -slope h * ((t.val : ℝ) - (s.val : ℝ))

/-- Which keys the patterns let query `t` see. -/
abbrev okT (t : Fin 2048) : Fin 3 → Fin 2048 → Prop := fun p s => sees p t s

theorem okT_some (t : Fin 2048) (p : Fin 3) : ∃ s, okT t p s := ⟨t, sees_self p t⟩

variable {x0 x1 x2 : (⟨S2048x1024, .bf16⟩ : BufTy).Contents (Elt Ideal)}
  {x3 : (⟨S2048x2048, .f32⟩ : BufTy).Contents (Elt Ideal)} {q k v g : Fin 8 → Fin 2048 → Fin 128 → ℝ}

/-! ## The arguments by head -/

theorem split_idx (i : S8x2048x128.Idx) : idx_main_v3 (idx_main_v4 i) = ix2 (i 1) (col (i 0) (i 2)) := by
  have h0 : (i 0).val < 8 := (i 0).isLt
  have h1 : (i 1).val < 2048 := (i 1).isLt
  have h2 : (i 2).val < 128 := (i 2).isLt
  funext a; apply Fin.ext
  match a with
  | ⟨0, _⟩ => show (((i 1).val * 8 + (i 0).val) * 128 + (i 2).val) / 1024 = (i 1).val; omega
  | ⟨1, _⟩ => show (((i 1).val * 8 + (i 0).val) * 128 + (i 2).val) % 1024 = (i 0).val * 128 + (i 2).val; omega

theorem r4 (hq : Holds x0 q) (i : S8x2048x128.Idx) :
    val_main_v4 (F := Ideal) x0 i = ((q (i 0) (i 1) (i 2) : ℝ) : EReal) := by
  rw [val_main_v4_apply, val_main_v3_apply, split_idx]; exact hq _ _ _

theorem r6 (hk : Holds x1 k) (i : S8x2048x128.Idx) :
    val_main_v6 (F := Ideal) x1 i = ((k (i 0) (i 1) (i 2) : ℝ) : EReal) := by
  rw [val_main_v6_apply, val_main_v5_apply]
  rw [show idx_main_v5 (idx_main_v6 i) = ix2 (i 1) (col (i 0) (i 2)) from split_idx i]; exact hk _ _ _

theorem r73 (hv : Holds x2 v) (i : S3x8x2048x128.Idx) :
    val_main_v73 (F := Ideal) x2 i = ((v (i 1) (i 2) (i 3) : ℝ) : EReal) := by
  rw [val_main_v73_apply, val_main_v72_apply, val_main_v71_apply]
  rw [show idx_main_v71 (idx_main_v72 (idx_main_v73 i)) = ix2 (i 2) (col (i 1) (i 3)) from split_idx (idx_main_v73 i)]
  exact hv _ _ _

theorem r117 (hg : HoldsR x3 g) (i : S3x8x2048x128.Idx) :
    val_main_v117 (F := Ideal) x3 i = ((g (i 1) (i 2) (i 3) : ℝ) : EReal) := by
  rw [val_main_v117_apply, val_main_v116_apply, val_main_v115_apply]
  rw [show idx_main_v115 (idx_main_v116 (idx_main_v117 i)) = ix2 (i 2) (col (i 1) (i 3)) from split_idx (idx_main_v117 i)]
  refine (val_main_v114_apply x3 _).trans ?_
  exact (congrArg x3 (show idx_main_v114 (ix2 (i 2) (col (i 1) (i 3))) = ix2 (i 2) (colR (i 1) (i 3)) from
    funext fun a => match a with | ⟨0, _⟩ => rfl | ⟨1, _⟩ => rfl)).trans (hg _ _ _)

/-! ## The scores -/

theorem r17 (i : S8.Idx) : val_main_v17 (F := Ideal) i = ((slope (i 0) : ℝ) : EReal) := by
  have h7 : val_main_v7 (F := Ideal) i = (((i 0).val : ℝ) : EReal) := by
    show (((BitVec.ofNat 32 (i 0).val).toInt : ℝ) : EReal) = _
    have h0 : (i 0).val < 8 := (i 0).isLt
    rw [small_toInt _ (by omega)]; simp
  rw [val_main_v17_apply]
  unfold slope
  refine expC ?_
  rw [val_main_v16_apply]
  refine mulC ?_ ?_
  · rw [val_main_v13_apply]
    refine divC ?_ ?_ (by norm_num)
    · rw [val_main_v11_apply]
      refine mulC ?_ ?_
      · rw [val_main_v10_apply, val_main_cst_0_apply]; exact word_neg_eight
      · rw [val_main_v9_apply]
        refine addC ?_ h7
        rw [val_main_v8_apply, val_main_cst_apply]; exact word_one
    · rw [val_main_v12_apply, val_main_cst_1_apply]; exact word_eight
  · rw [val_main_v15_apply, val_main_v14_apply]
    refine logC ?_ (by norm_num)
    rw [val_main_cst_2_apply]; exact word_two

theorem r22 (i : S_.Idx) : val_main_v22 (F := Ideal) i = ((Real.sqrt 128 : ℝ) : EReal) := by
  rw [val_main_v22_apply, val_main_cst_3_apply]
  show Ideal.sqrt (Ideal.ofBits .f32 0x43000000#32) = _
  rw [word_128, sqrt_real (by norm_num)]

theorem sqrt128_ne : Real.sqrt 128 ≠ 0 := by positivity

theorem r20 (i : S2048x2048.Idx) : val_main_v20 (F := Ideal) i = distWord (i 0) (i 1) := by
  rw [val_main_v20_apply, val_main_v18_apply, val_main_v19_apply]

theorem r27 (i : S2048x2048.Idx) :
    val_main_v27 (F := Ideal) i = ((((i 0).val : ℝ) - ((i 1).val : ℝ) : ℝ) : EReal) := by
  rw [val_main_v27_apply, r20]
  have h : ∀ t s : Fin 2048, (((distWord t s).toInt : ℝ) : EReal) = (((t.val : ℝ) - (s.val : ℝ) : ℝ) : EReal) := by
    intro t s; rw [distWord_toInt]; push_cast; rfl
  exact h (i 0) (i 1)

theorem r32 (hq : Holds x0 q) (hk : Holds x1 k) (i : S8x2048x2048.Idx) :
    val_main_v32 (F := Ideal) x0 x1 i = ((score q k (i 0) (i 1) (i 2) : ℝ) : EReal) := by
  rw [val_main_v32_apply]
  unfold score
  refine addC ?_ ?_
  · rw [val_main_v24_apply]
    refine divC ?_ ?_ sqrt128_ne
    · rw [val_main_v21_apply]
      exact dotC (fun d => r4 hq _) (fun d => r6 hk _)
    · rw [val_main_v23_apply]; exact r22 _
  · rw [val_main_v31_apply]
    refine mulC ?_ ?_
    · rw [val_main_v29_apply, val_main_v26_apply, val_main_v25_apply]
      exact negC (r17 _)
    · rw [val_main_v30_apply, val_main_v28_apply]; exact r27 _

/-! ## The masks -/

/-- The words of a pattern's dilation, `1 <<< (2 * p)`. -/
theorem r37 (p : Fin 3) (t s : Fin 2048) : val_main_v37 (F := Ideal) (ix3 p t s) = BitVec.ofNat 32 (step p) := by
  rw [val_main_v37_apply, val_main_v36_apply, val_main_c_4_apply, val_main_v35_apply, val_main_v34_apply,
    val_main_c_apply, val_main_v33_apply]
  match p with
  | ⟨0, _⟩ => rfl
  | ⟨1, _⟩ => rfl
  | ⟨2, _⟩ => rfl

theorem r42 (p : Fin 3) (t s : Fin 2048) : val_main_v42 (F := Ideal) (ix3 p t s) = BitVec.ofNat 32 (reach p) := by
  rw [val_main_v42_apply, val_main_v41_apply, val_main_c_6_apply, r37]
  match p with
  | ⟨0, _⟩ => rfl
  | ⟨1, _⟩ => rfl
  | ⟨2, _⟩ => rfl

theorem r48 (p : Fin 3) (t s : Fin 2048) :
    val_main_v48 (F := Ideal) (ix3 p t s) = BitVec.ofBool (decide (sees p t s)) := by
  have h38 : val_main_v38 (F := Ideal) (ix3 p t s) = distWord t s := by
    rw [val_main_v38_apply]; exact r20 _
  rw [val_main_v48_apply, val_main_v44_apply, val_main_v40_apply, val_main_v43_apply, val_main_v47_apply,
    val_main_v45_apply, h38, r37, r42, val_main_v39_apply, val_main_v46_apply, val_main_c_5_apply, val_main_c_7_apply]
  exact mask_word t s (reach p) (step p) (by unfold reach; split <;> omega) (by unfold step; split <;> omega)
    (by unfold step; split <;> omega)

theorem r50 (p : Fin 3) (h : Fin 8) (t s : Fin 2048) :
    val_main_v50 (F := Ideal) (ix4 p h t s) = BitVec.ofBool (decide (sees p t s)) := by
  rw [val_main_v50_apply, val_main_v49_apply]
  exact (congrArg (val_main_v48 (F := Ideal)) (funext fun a => match a with | ⟨0, _⟩ => rfl | ⟨1, _⟩ => rfl | ⟨2, _⟩ => rfl)).trans
    (r48 p t s)

/-- A choice by a mask's word. -/
theorem pick {α : Type} (P : Prop) [Decidable P] (x y : α) :
    Scalar.select (BitVec.ofBool (decide P)) x y = if P then x else y := by
  by_cases h : P
  · rw [decide_eq_true h, if_pos h]; rfl
  · rw [decide_eq_false h, if_neg h]; rfl

theorem r54 (hq : Holds x0 q) (hk : Holds x1 k) (p : Fin 3) (h : Fin 8) (t s : Fin 2048) :
    (val_main_v54 (F := Ideal) x0 x1 (ix4 p h t s) : EReal)
      = if sees p t s then ((score q k h t s : ℝ) : EReal) else ⊥ := by
  rw [val_main_v54_apply, r50, pick, val_main_v52_apply, val_main_v51_apply, r32 hq hk, val_main_v53_apply,
    val_main_cst_8_apply]
  rw [show FloatOps.ofBits (F := Ideal) .f32 0xFF800000#32 = ⊥ from word_bot]
  rfl

/-! ## The maxima -/

/-- A greatest value over the last axis. -/
theorem max_keys (f : S3x8x2048x2048.Idx → EReal) (i : S3x8x2048.Idx) :
    Host.reduce (FloatOps.maximumf (F := Ideal) (φ := .f32)) f (constant (F := Ideal) S_ .f32 0xFF800000#32)
        reducesTo_S3x8x2048x2048_S3x8x2048_d3 h_S_ i
      = (Finset.univ : Finset (Fin 2048)).fold max ⊥ (fun s => f (ix4 (i 0) (i 1) (i 2) s)) := by
  have hr : S3x8x2048x2048.Reduces [3] S3x8x2048 := by decide
  have e := hostReduce_maximumf_eq_multiReduction (F := Ideal) (φ := .f32) f 0xFF800000#32
    reducesTo_S3x8x2048x2048_S3x8x2048_d3 h_S_ hr (.inl rfl) rfl
  refine (congrFun e i).trans ?_
  refine (Ideal.multiReduction_maximumf_single _ _ _ _ _ _).trans ?_
  have hw : FloatOps.ofBits (F := Ideal) .f32 0xFF800000#32 = (⊥ : EReal) := word_bot
  rw [hw]
  refine congrArg (fun f : Fin 2048 → EReal => (Finset.univ : Finset (Fin 2048)).fold max (⊥ : EReal) f) (funext fun s => ?_)
  exact congrArg f (funext fun a => Fin.ext (by
    match a with | ⟨0, _⟩ => rfl | ⟨1, _⟩ => rfl | ⟨2, _⟩ => rfl | ⟨3, _⟩ => rfl))

/-- A greatest value over the three patterns. -/
theorem max_patterns (f : S3x8x2048.Idx → EReal) (i : S8x2048.Idx) :
    Host.reduce (FloatOps.maximumf (F := Ideal) (φ := .f32)) f (constant (F := Ideal) S_ .f32 0xFF800000#32)
        reducesTo_S3x8x2048_S8x2048_d0 h_S_ i
      = (Finset.univ : Finset (Fin 3)).fold max ⊥ (fun p => f (ix3 p (i 0) (i 1))) := by
  have hr : S3x8x2048.Reduces [0] S8x2048 := by decide
  have e := hostReduce_maximumf_eq_multiReduction (F := Ideal) (φ := .f32) f 0xFF800000#32
    reducesTo_S3x8x2048_S8x2048_d0 h_S_ hr (.inl rfl) rfl
  refine (congrFun e i).trans ?_
  refine (Ideal.multiReduction_maximumf_single _ _ _ _ _ _).trans ?_
  have hw : FloatOps.ofBits (F := Ideal) .f32 0xFF800000#32 = (⊥ : EReal) := word_bot
  rw [hw]
  refine congrArg (fun f : Fin 3 → EReal => (Finset.univ : Finset (Fin 3)).fold max (⊥ : EReal) f) (funext fun s => ?_)
  exact congrArg f (funext fun a => Fin.ext (by
    match a with | ⟨0, _⟩ => rfl | ⟨1, _⟩ => rfl | ⟨2, _⟩ => rfl))

theorem r56 (hq : Holds x0 q) (hk : Holds x1 k) (i : S3x8x2048.Idx) :
    ∃ s : Fin 2048, ∃ m : ℝ, val_main_v56 (F := Ideal) x0 x1 i = (m : EReal)
      ∧ val_main_v54 (F := Ideal) x0 x1 (ix4 (i 0) (i 1) (i 2) s) = (m : EReal) := by
  have e : val_main_v56 (F := Ideal) x0 x1 i
      = (Finset.univ : Finset (Fin 2048)).fold max ⊥
        (fun s => val_main_v54 (F := Ideal) x0 x1 (ix4 (i 0) (i 1) (i 2) s)) := by
    unfold val_main_v56 val_main_cst_10
    exact max_keys _ i
  rw [e]
  refine fold_max _ (fun s => ?_) (i 2) ?_
  · refine ne_of_eq_of_ne (r54 hq hk (i 0) (i 1) (i 2) s) ?_
    split
    · exact EReal.coe_ne_top _
    · exact bot_ne_top
  · refine ne_of_eq_of_ne (r54 hq hk (i 0) (i 1) (i 2) (i 2)) ?_
    exact ne_of_eq_of_ne (if_pos (sees_self (i 0) (i 2))) (EReal.coe_ne_bot _)

/-! ## The numerators and what follows from them -/

section
variable {m : Fin 3 → Fin 8 → Fin 2048 → ℝ}

/-- The maxima are the reals `m`, and each is one of the scores. -/
def Tops (x0 x1 : (⟨S2048x1024, .bf16⟩ : BufTy).Contents (Elt Ideal)) (m : Fin 3 → Fin 8 → Fin 2048 → ℝ) : Prop :=
  ∀ p h t, val_main_v56 (F := Ideal) x0 x1 (ix3 p h t) = ((m p h t : ℝ) : EReal)
    ∧ ∃ s : Fin 2048, val_main_v54 (F := Ideal) x0 x1 (ix4 p h t s) = ((m p h t : ℝ) : EReal)

theorem tops_exist (hq : Holds x0 q) (hk : Holds x1 k) : ∃ m, Tops x0 x1 m := by
  refine ⟨fun p h t => (val_main_v56 (F := Ideal) x0 x1 (ix3 p h t)).toReal, fun p h t => ?_⟩
  obtain ⟨s, m, e, e'⟩ := r56 hq hk (ix3 p h t)
  have h : ((((val_main_v56 (F := Ideal) x0 x1 (ix3 p h t) : EReal).toReal : ℝ)) : EReal) = (m : EReal) := by rw [e]; rfl
  exact ⟨e.trans h.symm, s, e'.trans h.symm⟩

theorem r56' (hm : Tops x0 x1 m) (i : S3x8x2048.Idx) :
    val_main_v56 (F := Ideal) x0 x1 i = ((m (i 0) (i 1) (i 2) : ℝ) : EReal) :=
  (congrArg (fun i => val_main_v56 (F := Ideal) x0 x1 i) (eq_ix3 (n0 := 3) (n1 := 8) (n2 := 2048) i)).trans (hm (i 0) (i 1) (i 2)).1

/-- The numerators of one row. -/
abbrev rnum (q k : Fin 8 → Fin 2048 → Fin 128 → ℝ) (m : Fin 3 → Fin 8 → Fin 2048 → ℝ) (p : Fin 3) (h : Fin 8)
    (t s : Fin 2048) : ℝ := Row.num (okT t) (score q k h t) (fun p => m p h t) p s

abbrev rden (q k : Fin 8 → Fin 2048 → Fin 128 → ℝ) (m : Fin 3 → Fin 8 → Fin 2048 → ℝ) (p : Fin 3) (h : Fin 8)
    (t : Fin 2048) : ℝ := Row.den (okT t) (score q k h t) (fun p => m p h t) p

abbrev rlse (q k : Fin 8 → Fin 2048 → Fin 128 → ℝ) (m : Fin 3 → Fin 8 → Fin 2048 → ℝ) (p : Fin 3) (h : Fin 8)
    (t : Fin 2048) : ℝ := Row.lse (okT t) (score q k h t) (fun p => m p h t) p

theorem rden_pos (p : Fin 3) (h : Fin 8) (t : Fin 2048) : 0 < rden q k m p h t := Row.den_pos _ _ (okT_some t) p

theorem r63 (hm : Tops x0 x1 m) (i : S3x8x2048x2048.Idx) :
    val_main_v63 (F := Ideal) x0 x1 i = ((m (i 0) (i 1) (i 2) : ℝ) : EReal) := by
  rw [val_main_v63_apply, val_main_v62_apply]; exact r56' hm _

theorem r65 (hq : Holds x0 q) (hk : Holds x1 k) (hm : Tops x0 x1 m) (i : S3x8x2048x2048.Idx) :
    val_main_v65 (F := Ideal) x0 x1 i = ((rnum q k m (i 0) (i 1) (i 2) (i 3) : ℝ) : EReal) := by
  suffices H : ∀ (p : Fin 3) (h : Fin 8) (t s : Fin 2048),
      val_main_v65 (F := Ideal) x0 x1 (ix4 p h t s) = ((rnum q k m p h t s : ℝ) : EReal) from
    (congrArg (val_main_v65 (F := Ideal) x0 x1) (eq_ix4 i)).trans (H _ _ _ _)
  intro p h t s
  rw [val_main_v65_apply, val_main_v64_apply, r63 hm, r54 hq hk]
  unfold rnum Row.num
  by_cases hs : sees p t s
  · rw [if_pos hs, if_pos (show okT t p s from hs)]; exact expC (subC rfl rfl)
  · rw [if_neg hs, if_neg (show ¬ okT t p s from hs)]
    show Ideal.exp ((⊥ : EReal) - ((m p h t : ℝ) : EReal)) = _
    rw [EReal.bot_sub, Ideal.exp_bot]; rfl

theorem r66 (hq : Holds x0 q) (hk : Holds x1 k) (hm : Tops x0 x1 m) (i : S3x8x2048.Idx) :
    val_main_v66 (F := Ideal) x0 x1 i = ((rden q k m (i 0) (i 1) (i 2) : ℝ) : EReal) := by
  rw [val_main_v66_apply]
  exact sumC word_zero fun s => r65 hq hk hm _

theorem r67 (hq : Holds x0 q) (hk : Holds x1 k) (hm : Tops x0 x1 m) (i : S3x8x2048x1.Idx) :
    val_main_v67 (F := Ideal) x0 x1 i = ((rden q k m (i 0) (i 1) (i 2) : ℝ) : EReal) := by
  rw [val_main_v67_apply]; exact r66 hq hk hm _

theorem r69 (hq : Holds x0 q) (hk : Holds x1 k) (hm : Tops x0 x1 m) (i : S3x8x2048x1.Idx) :
    val_main_v69 (F := Ideal) x0 x1 i = ((rlse q k m (i 0) (i 1) (i 2) : ℝ) : EReal) := by
  rw [val_main_v69_apply]
  unfold rlse Row.lse
  refine addC ?_ ?_
  · rw [val_main_v62_apply]; exact r56' hm _
  · rw [val_main_v68_apply]; exact logC (r67 hq hk hm i) (rden_pos _ _ _)

/-- Dropping a last axis of size one. -/
theorem drop_last (i : S3x8x2048.Idx) : idx_main_v70 i = ix4 (i 0) (i 1) (i 2) 0 := by
  have h0 : (i 0).val < 3 := (i 0).isLt
  have h1 : (i 1).val < 8 := (i 1).isLt
  have h2 : (i 2).val < 2048 := (i 2).isLt
  funext a; apply Fin.ext
  match a with
  | ⟨0, _⟩ => show (((i 0).val * 8 + (i 1).val) * 2048 + (i 2).val) / 16384 = (i 0).val; omega
  | ⟨1, _⟩ => show (((i 0).val * 8 + (i 1).val) * 2048 + (i 2).val) / 2048 % 8 = (i 1).val; omega
  | ⟨2, _⟩ => show (((i 0).val * 8 + (i 1).val) * 2048 + (i 2).val) / 1 % 2048 = (i 2).val; omega
  | ⟨3, _⟩ => rfl

/-- An index less its last axis of size one. -/
def front (i : S3x8x2048x1.Idx) : S3x8x2048.Idx := ix3 (n0 := 3) (n1 := 8) (n2 := 2048) (i 0) (i 1) (i 2)

/-- Adding a last axis of size one. -/
theorem add_last (i : S3x8x2048x1.Idx) : idx_main_v57 i = front i := by
  have h0 : (i 0).val < 3 := (i 0).isLt
  have h1 : (i 1).val < 8 := (i 1).isLt
  have h2 : (i 2).val < 2048 := (i 2).isLt
  have h3 : (i 3).val < 1 := (i 3).isLt
  funext a; apply Fin.ext
  match a with
  | ⟨0, _⟩ => show ((((i 0).val * 8 + (i 1).val) * 2048 + (i 2).val) * 1 + (i 3).val) / 16384 = (i 0).val; omega
  | ⟨1, _⟩ => show ((((i 0).val * 8 + (i 1).val) * 2048 + (i 2).val) * 1 + (i 3).val) / 2048 % 8 = (i 1).val; omega
  | ⟨2, _⟩ => show ((((i 0).val * 8 + (i 1).val) * 2048 + (i 2).val) * 1 + (i 3).val) % 2048 = (i 2).val; omega

theorem r70 (hq : Holds x0 q) (hk : Holds x1 k) (hm : Tops x0 x1 m) (i : S3x8x2048.Idx) :
    val_main_v70 (F := Ideal) x0 x1 i = ((rlse q k m (i 0) (i 1) (i 2) : ℝ) : EReal) := by
  rw [val_main_v70_apply, drop_last]; exact r69 hq hk hm _

/-! ## The shares of the patterns -/

theorem r80 (hq : Holds x0 q) (hk : Holds x1 k) (hm : Tops x0 x1 m) (i : S8x2048.Idx) :
    ∃ mx : ℝ, val_main_v80 (F := Ideal) x0 x1 i = (mx : EReal) := by
  have e : val_main_v80 (F := Ideal) x0 x1 i
      = (Finset.univ : Finset (Fin 3)).fold max ⊥ (fun p => val_main_v70 (F := Ideal) x0 x1 (ix3 p (i 0) (i 1))) := by
    unfold val_main_v80 val_main_cst_14
    exact max_patterns _ i
  rw [e]
  obtain ⟨_, mx, h, _⟩ := fold_max (fun p => val_main_v70 (F := Ideal) x0 x1 (ix3 p (i 0) (i 1)))
    (fun p => by rw [r70 hq hk hm]; exact EReal.coe_ne_top _) (0 : Fin 3) (by rw [r70 hq hk hm]; exact EReal.coe_ne_bot _)
  exact ⟨mx, h⟩

/-- The greatest logarithms are the reals `mx`. -/
def TopLse (x0 x1 : (⟨S2048x1024, .bf16⟩ : BufTy).Contents (Elt Ideal)) (mx : Fin 8 → Fin 2048 → ℝ) : Prop :=
  ∀ i : S8x2048.Idx, val_main_v80 (F := Ideal) x0 x1 i = ((mx (i 0) (i 1) : ℝ) : EReal)

theorem topLse_exist (hq : Holds x0 q) (hk : Holds x1 k) (hm : Tops x0 x1 m) : ∃ mx, TopLse x0 x1 mx := by
  refine ⟨fun h t => (val_main_v80 (F := Ideal) x0 x1 (ix2 h t)).toReal, fun i => ?_⟩
  obtain ⟨y, e⟩ := r80 hq hk hm i
  have e' : val_main_v80 (F := Ideal) x0 x1 (ix2 (i 0) (i 1)) = (y : EReal) := (congrArg (val_main_v80 (F := Ideal) x0 x1) (eq_ix2 i)).symm.trans e
  rw [e]
  show (y : EReal) = (((val_main_v80 (F := Ideal) x0 x1 (ix2 (i 0) (i 1)) : EReal).toReal : ℝ) : EReal)
  rw [e']; rfl

end

end Cert.RefRows
-- ==== Proof.RefBackward.lean ====
/-
  THE REFERENCE'S BACKWARD LINES AT REAL ARGUMENTS.

  The same reading goes on through the derivative of the forward lines, down to the three results: the gradients of the
  queries, the keys and the values, each a sum over `Row.grad` or `Row.prob` of Model.lean (`ref_dq`, `ref_dk`, `ref_dv`).
-/
module

public import proofs.«01_k».proof.Proof.RefForward

@[expose] public section

noncomputable section

namespace Cert.RefRows

open Cert.ReferenceIdeal Cert.ReferenceIdeal.Gen Cert.ReferenceIdeal.Read Cert.Reals
open Idealize.ShloMosaic Idealize.ShloMosaic.ValueIdx

abbrev Heads := Fin 8 → Fin 2048 → Fin 128 → ℝ

variable {x0 x1 x2 : (⟨S2048x1024, .bf16⟩ : BufTy).Contents (Elt Ideal)}
  {x3 : (⟨S2048x2048, .f32⟩ : BufTy).Contents (Elt Ideal)} {q k v g : Heads}
  {m : Fin 3 → Fin 8 → Fin 2048 → ℝ} {mx : Fin 8 → Fin 2048 → ℝ}

section rows
variable (q k v g) (m) (mx)

/-! The quantities of Model.lean at head `h` and query `t`. -/
abbrev rshare (p : Fin 3) (h : Fin 8) (t : Fin 2048) : ℝ :=
  Row.share (okT t) (score q k h t) (fun p => m p h t) (mx h t) p
abbrev rtotal (h : Fin 8) (t : Fin 2048) : ℝ := Row.total (okT t) (score q k h t) (fun p => m p h t) (mx h t)
abbrev rwt (p : Fin 3) (h : Fin 8) (t : Fin 2048) : ℝ := Row.wt (okT t) (score q k h t) (fun p => m p h t) (mx h t) p
abbrev rnv (p : Fin 3) (h : Fin 8) (t : Fin 2048) (d : Fin 128) : ℝ :=
  Row.nv (okT t) (score q k h t) (fun p => m p h t) (fun s d => v h s d) p d
abbrev rgw (p : Fin 3) (h : Fin 8) (t : Fin 2048) : ℝ :=
  Row.gw (okT t) (score q k h t) (fun p => m p h t) (fun s d => v h s d) (fun d => g h t d) p
abbrev rglse (p : Fin 3) (h : Fin 8) (t : Fin 2048) : ℝ :=
  Row.glse (okT t) (score q k h t) (fun p => m p h t) (mx h t) (fun s d => v h s d) (fun d => g h t d) p
abbrev rgden (p : Fin 3) (h : Fin 8) (t : Fin 2048) : ℝ :=
  Row.gden (okT t) (score q k h t) (fun p => m p h t) (mx h t) (fun s d => v h s d) (fun d => g h t d) p
abbrev rpull (p : Fin 3) (h : Fin 8) (t s : Fin 2048) : ℝ :=
  Row.pull (okT t) (score q k h t) (fun p => m p h t) (mx h t) (fun s d => v h s d) (fun d => g h t d) p s
abbrev rgrad (h : Fin 8) (t s : Fin 2048) : ℝ :=
  Row.grad (okT t) (score q k h t) (fun p => m p h t) (mx h t) (fun s d => v h s d) (fun d => g h t d) s
abbrev rprob (h : Fin 8) (t s : Fin 2048) : ℝ :=
  Row.prob (okT t) (score q k h t) (fun p => m p h t) (mx h t) s
end rows

theorem rthrough (p : Fin 3) (h : Fin 8) (t : Fin 2048) : rglse q k v g m mx p h t + ∑ s, -rpull q k v g m mx p h t s = 0 :=
  Row.through_max _ _ _ _ _ (okT_some t) p

theorem rsum_pull (h : Fin 8) (t s : Fin 2048) : ∑ p, rpull q k v g m mx p h t s = rgrad q k v g m mx h t s :=
  Row.sum_pull _ _ _ _ _ (okT_some t) s

theorem rtotal_pos (h : Fin 8) (t : Fin 2048) : 0 < rtotal q k m mx h t := Row.total_pos _ _ _

section
variable (hq : Holds x0 q) (hk : Holds x1 k) (hv : Holds x2 v) (hg : HoldsR x3 g) (hm : Tops x0 x1 m)
  (hx : TopLse x0 x1 mx)
include hq hk hm

/-! ## The mixture -/

theorem r74 (hv : Holds x2 v) (i : S3x8x2048x128.Idx) :
    val_main_v74 (F := Ideal) x0 x1 x2 i = ((rnv q k v m (i 0) (i 1) (i 2) (i 3) : ℝ) : EReal) := by
  rw [val_main_v74_apply]
  exact dotC (fun s => r65 hq hk hm _) (fun s => r73 hv _)

theorem r76 (hv : Holds x2 v) (i : S3x8x2048x128.Idx) :
    val_main_v76 (F := Ideal) x0 x1 x2 i
      = ((rnv q k v m (i 0) (i 1) (i 2) (i 3) / rden q k m (i 0) (i 1) (i 2) : ℝ) : EReal) := by
  rw [val_main_v76_apply]
  refine divC (r74 hq hk hm hv i) ?_ (rden_pos _ _ _).ne'
  rw [val_main_v75_apply]; exact r67 hq hk hm _

theorem r79 (i : S3x8x2048x1.Idx) :
    val_main_v79 (F := Ideal) x0 x1 i
      = ((1 / (rden q k m (i 0) (i 1) (i 2) * rden q k m (i 0) (i 1) (i 2)) : ℝ) : EReal) := by
  rw [val_main_v79_apply, val_main_v78_apply, val_main_cst_13_apply, val_main_v77_apply]
  have h := (rden_pos (q := q) (k := k) (m := m) (i 0) (i 1) (i 2)).ne'
  exact divC word_one (mulC (r67 hq hk hm i) (r67 hq hk hm i)) (mul_ne_zero h h)

include hx

theorem r100 (i : S3x8x2048.Idx) :
    val_main_v100 (F := Ideal) x0 x1 i = ((rshare q k m mx (i 0) (i 1) (i 2) : ℝ) : EReal) := by
  rw [val_main_v100_apply, val_main_v99_apply]
  refine expC (subC (r70 hq hk hm i) ?_)
  rw [val_main_v98_apply, val_main_v97_apply, val_main_v87_apply, hx, val_main_v86_apply, val_main_cst_16_apply,
    show FloatOps.ofBits (F := Ideal) .f32 0xFF800000#32 = ⊥ from word_bot]
  exact max_eq_right bot_le

theorem r102 (i : S1x8x2048.Idx) :
    val_main_v102 (F := Ideal) x0 x1 i = ((rtotal q k m mx (i 1) (i 2) : ℝ) : EReal) := by
  rw [val_main_v102_apply, val_main_v101_apply]
  exact sumC word_zero fun p => r100 hq hk hm hx _

theorem r104 (i : S3x8x2048.Idx) :
    val_main_v104 (F := Ideal) x0 x1 i = ((rwt q k m mx (i 0) (i 1) (i 2) : ℝ) : EReal) := by
  rw [val_main_v104_apply]
  refine divC (r100 hq hk hm hx i) ?_ (rtotal_pos (i 1) (i 2)).ne'
  rw [val_main_v103_apply]; exact r102 hq hk hm hx _

theorem r107 (i : S1x8x2048.Idx) :
    val_main_v107 (F := Ideal) x0 x1 i
      = ((1 / (rtotal q k m mx (i 1) (i 2) * rtotal q k m mx (i 1) (i 2)) : ℝ) : EReal) := by
  rw [val_main_v107_apply, val_main_v106_apply, val_main_cst_23_apply, val_main_v105_apply]
  have h := (rtotal_pos (q := q) (k := k) (m := m) (mx := mx) (i 1) (i 2)).ne'
  exact divC word_one (mulC (r102 hq hk hm hx i) (r102 hq hk hm hx i)) (mul_ne_zero h h)

theorem r119 (hg : HoldsR x3 g) (i : S3x8x2048x128.Idx) :
    val_main_v119 (F := Ideal) x0 x1 x3 i
      = ((rwt q k m mx (i 0) (i 1) (i 2) * g (i 1) (i 2) (i 3) : ℝ) : EReal) := by
  rw [val_main_v119_apply]
  refine mulC ?_ (r117 hg i)
  rw [val_main_v118_apply, val_main_v108_apply]; exact r104 hq hk hm hx _

/-! ## The gradient of the weights and of the logarithms -/

omit hx in
theorem r123 (hv : Holds x2 v) (hg : HoldsR x3 g) (i : S3x8x2048.Idx) :
    val_main_v123 (F := Ideal) x0 x1 x2 x3 i = ((rgw q k v g m (i 0) (i 1) (i 2) : ℝ) : EReal) := by
  have h121 : ∀ j : S3x8x2048.Idx,
      val_main_v121 (F := Ideal) x0 x1 x2 x3 j = ((rgw q k v g m (j 0) (j 1) (j 2) : ℝ) : EReal) := fun j => by
    rw [val_main_v121_apply]
    refine sumC word_zero fun d => ?_
    rw [val_main_v120_apply]
    exact mulC (r117 hg _) (r76 hq hk hm hv _)
  rw [val_main_v123_apply]
  refine (sumC (g := fun _ => rgw q k v g m (i 0) (i 1) (i 2)) word_zero fun d => ?_).trans (by simp)
  rw [val_main_v122_apply, show idx_main_v122 (idx_main_v123 i d) = front _ from add_last _]
  exact h121 _

theorem r127 (hv : Holds x2 v) (hg : HoldsR x3 g) (i : S8x2048.Idx) :
    val_main_v127 (F := Ideal) x0 x1 x2 x3 i
      = ((∑ p, rgw q k v g m p (i 0) (i 1) * (1 / (rtotal q k m mx (i 0) (i 1) * rtotal q k m mx (i 0) (i 1)))
          * rshare q k m mx p (i 0) (i 1) : ℝ) : EReal) := by
  rw [val_main_v127_apply]
  refine sumC word_zero fun p => ?_
  rw [val_main_v126_apply, val_main_v125_apply]
  refine mulC (mulC (r123 hq hk hm hv hg _) ?_) (r100 hq hk hm hx _)
  rw [val_main_v124_apply]; exact r107 hq hk hm hx _

omit hq hk hm hx in
/-- Adding a first axis of size one. -/
theorem add_first (i : S1x8x2048.Idx) : idx_main_v128 i = ix2 (i 1) (i 2) := by
  have h0 : (i 0).val < 1 := (i 0).isLt
  have h1 : (i 1).val < 8 := (i 1).isLt
  have h2 : (i 2).val < 2048 := (i 2).isLt
  funext a; apply Fin.ext
  match a with
  | ⟨0, _⟩ => show (((i 0).val * 8 + (i 1).val) * 2048 + (i 2).val) / 2048 = (i 1).val; omega
  | ⟨1, _⟩ => show (((i 0).val * 8 + (i 1).val) * 2048 + (i 2).val) % 2048 = (i 2).val; omega

theorem r135 (hv : Holds x2 v) (hg : HoldsR x3 g) (i : S3x8x2048.Idx) :
    val_main_v135 (F := Ideal) x0 x1 x2 x3 i = ((rglse q k v g m mx (i 0) (i 1) (i 2) : ℝ) : EReal) := by
  rw [val_main_v135_apply]
  unfold rglse Row.glse
  refine mulC ?_ (r100 hq hk hm hx i)
  rw [val_main_v134_apply]
  refine addC ?_ ?_
  · rw [val_main_v131_apply]
    refine divC (r123 hq hk hm hv hg i) ?_ (rtotal_pos (i 1) (i 2)).ne'
    rw [val_main_v130_apply]; exact r102 hq hk hm hx _
  · rw [val_main_v133_apply, val_main_v132_apply]
    refine (sumC (g := fun _ => -∑ p, rgw q k v g m p (i 1) (i 2)
      * (1 / (rtotal q k m mx (i 1) (i 2) * rtotal q k m mx (i 1) (i 2))) * rshare q k m mx p (i 1) (i 2))
      word_zero fun d => ?_).trans (by simp)
    rw [val_main_v129_apply, val_main_v128_apply, add_first]
    exact negC (r127 hq hk hm hx hv hg _)

theorem r141 (hv : Holds x2 v) (hg : HoldsR x3 g) (i : S3x8x2048x1.Idx) :
    val_main_v141 (F := Ideal) x0 x1 x2 x3 i = ((rgden q k v g m mx (i 0) (i 1) (i 2) : ℝ) : EReal) := by
  rw [val_main_v141_apply, val_main_v140_apply, show idx_main_v140 i = front _ from add_last i, val_main_v139_apply]
  unfold rgden Row.gden
  refine negC (sumC word_zero fun d => ?_)
  rw [val_main_v138_apply, val_main_v137_apply]
  refine mulC (mulC (r119 hq hk hm hx hg _) ?_) (r74 hq hk hm hv _)
  rw [val_main_v136_apply]; exact r79 hq hk hm _

theorem r143 (hg : HoldsR x3 g) (i : S3x8x2048x128.Idx) :
    val_main_v143 (F := Ideal) x0 x1 x3 i
      = ((rwt q k m mx (i 0) (i 1) (i 2) * g (i 1) (i 2) (i 3) / rden q k m (i 0) (i 1) (i 2) : ℝ) : EReal) := by
  rw [val_main_v143_apply]
  refine divC (r119 hq hk hm hx hg i) ?_ (rden_pos _ _ _).ne'
  rw [val_main_v142_apply]; exact r67 hq hk hm _

/-! ## The gradient of the scores -/

theorem r156 (hv : Holds x2 v) (hg : HoldsR x3 g) (i : S3x8x2048x2048.Idx) :
    val_main_v156 (F := Ideal) x0 x1 x2 x3 i = ((rpull q k v g m mx (i 0) (i 1) (i 2) (i 3) : ℝ) : EReal) := by
  rw [val_main_v156_apply]
  unfold rpull Row.pull
  refine mulC ?_ (r65 hq hk hm i)
  rw [val_main_v155_apply]
  refine addC ?_ ?_
  · rw [val_main_v146_apply]
    exact dotC (fun d => r143 hq hk hm hx hg _) (fun d => r73 hv _)
  · rw [val_main_v154_apply, val_main_v153_apply]
    refine (sumC (g := fun _ => rgden q k v g m mx (i 0) (i 1) (i 2)
      + rglse q k v g m mx (i 0) (i 1) (i 2) / rden q k m (i 0) (i 1) (i 2)) word_zero fun d => ?_).trans (by simp)
    rw [val_main_v152_apply]
    refine addC (r141 hq hk hm hx hv hg _) ?_
    rw [val_main_v151_apply]
    refine divC ?_ (r67 hq hk hm _) (rden_pos _ _ _).ne'
    rw [val_main_v150_apply]; exact r135 hq hk hm hx hv hg _

/-- The part that flows through the maximum is zero. -/
theorem r161 (hv : Holds x2 v) (hg : HoldsR x3 g) (i : S3x8x2048.Idx) :
    val_main_v161 (F := Ideal) x0 x1 x2 x3 i = ((0 : ℝ) : EReal) := by
  rw [val_main_v161_apply]
  refine (sumC (g := fun _ => (0 : ℝ)) word_zero fun d => ?_).trans (by simp)
  rw [val_main_v160_apply, val_main_v150_apply, val_main_v159_apply,
    show idx_main_v159 (idx_main_v161 i d) = front _ from add_last _, val_main_v158_apply]
  refine (addC (r135 hq hk hm hx hv hg _) (sumC (g := fun s => -rpull q k v g m mx (i 0) (i 1) (i 2) s) word_zero fun s => ?_)).trans ?_
  · rw [val_main_v157_apply]; exact negC (r156 hq hk hm hx hv hg _)
  · exact congrArg Real.toEReal (rthrough (i 0) (i 1) (i 2))

omit hx in
/-- The number of keys at the maximum is not zero. -/
theorem r61 (i : S3x8x2048.Idx) : ∃ n : ℝ, n ≠ 0 ∧ val_main_v61 (F := Ideal) x0 x1 i = (n : EReal) := by
  have h60 : ∀ j : S3x8x2048x2048.Idx, val_main_v60 (F := Ideal) x0 x1 j
      = (((val_main_v59 (F := Ideal) x0 x1 j).toNat : ℝ) : EReal) := fun j => by rw [val_main_v60_apply]; rfl
  refine ⟨∑ s : Fin 2048, ((val_main_v59 (F := Ideal) x0 x1 (idx_main_v61 i s)).toNat : ℝ), ?_, ?_⟩
  · obtain ⟨s, hs⟩ := (hm (i 0) (i 1) (i 2)).2
    refine (Finset.sum_pos' (fun _ _ => Nat.cast_nonneg _) ⟨s, Finset.mem_univ s, ?_⟩).ne'
    rw [val_main_v59_apply, val_main_v58_apply, val_main_v57_apply,
      show idx_main_v57 (idx_main_v58 (idx_main_v61 i s)) = front _ from add_last _, r56' hm]
    rw [show val_main_v54 (F := Ideal) x0 x1 (idx_main_v61 i s) = ((m (i 0) (i 1) (i 2) : ℝ) : EReal) from
      (congrArg _ (funext fun a => match a with | ⟨0, _⟩ => rfl | ⟨1, _⟩ => rfl | ⟨2, _⟩ => rfl | ⟨3, _⟩ => rfl)).trans hs]
    rw [Ideal.cmpf_def]
    unfold Ideal.cmp
    refine Nat.cast_pos.2 ?_
    have h : ∀ z : EReal, 0 < (BitVec.ofBool (decide (z = z))).toNat := fun z => by rw [decide_eq_true rfl]; decide
    exact h ((m (i 0) (i 1) (i 2) : ℝ) : EReal)
  · rw [val_main_v61_apply]
    exact sumC word_zero fun s => h60 _

theorem r165 (hv : Holds x2 v) (hg : HoldsR x3 g) (i : S3x8x2048x2048.Idx) :
    val_main_v165 (F := Ideal) x0 x1 x2 x3 i = ((rpull q k v g m mx (i 0) (i 1) (i 2) (i 3) : ℝ) : EReal) := by
  rw [val_main_v165_apply]
  refine (addC (r156 hq hk hm hx hv hg i) (y := 0) ?_).trans (by rw [add_zero])
  rw [val_main_v164_apply, val_main_v163_apply, val_main_v162_apply, val_main_v60_apply]
  obtain ⟨n, hn, e⟩ := r61 hq hk hm (idx_main_v163 i)
  refine (mulC (divC (r161 hq hk hm hx hv hg _) e hn) (y := ((val_main_v59 (F := Ideal) x0 x1 i).toNat : ℝ)) rfl).trans ?_
  rw [zero_div, zero_mul]

theorem r172 (hv : Holds x2 v) (hg : HoldsR x3 g) (i : S8x2048x2048.Idx) :
    val_main_v172 (F := Ideal) x0 x1 x2 x3 i
      = ((rgrad q k v g m mx (i 0) (i 1) (i 2) / Real.sqrt 128 : ℝ) : EReal) := by
  have H : ∀ (h : Fin 8) (t s : Fin 2048),
      val_main_v170 (F := Ideal) x0 x1 x2 x3 (ix3 h t s) = ((rgrad q k v g m mx h t s : ℝ) : EReal) := by
    intro h t s
    rw [val_main_v170_apply]
    refine (sumC (g := fun _ => rgrad q k v g m mx h t s) word_zero fun d => ?_).trans (by simp)
    rw [val_main_v169_apply, val_main_v168_apply]
    refine (sumC (g := fun p => rpull q k v g m mx p h t s) word_zero fun p => ?_).trans (congrArg Real.toEReal (rsum_pull h t s))
    have e : idx_main_v168 (idx_main_v169 (idx_main_v170 (ix3 h t s) d)) p = ix4 p h t s := by
      funext a; match a with | ⟨0, _⟩ => rfl | ⟨1, _⟩ => rfl | ⟨2, _⟩ => rfl | ⟨3, _⟩ => rfl
    rw [e, val_main_v167_apply, r50, pick, r165 hq hk hm hx hv hg, val_main_v166_apply, val_main_cst_34_apply]
    by_cases hs : sees p t s
    · exact if_pos hs
    · refine (if_neg hs).trans (word_zero.trans ?_)
      rw [show rpull q k v g m mx p h t s = 0 from Row.pull_off _ _ _ _ _ (show ¬ okT t p s from hs)]; rfl
  have h170 : val_main_v170 (F := Ideal) x0 x1 x2 x3 i = ((rgrad q k v g m mx (i 0) (i 1) (i 2) : ℝ) : EReal) := by
    refine (congrArg (val_main_v170 (F := Ideal) x0 x1 x2 x3) (eq_ix3 (n0 := 8) (n1 := 2048) (n2 := 2048) i)).trans (H (i 0) (i 1) (i 2))
  rw [val_main_v172_apply]
  refine divC h170 ?_ sqrt128_ne
  rw [val_main_v171_apply]; exact r22 _

/-! ## The results -/

omit hq hk hm hx in
theorem join_idx (h : Fin 8) (t : Fin 2048) (d : Fin 128) : idx_main_v149 (ix2 t (col h d)) = ix3 t h d := by
  funext a; apply Fin.ext
  match a with
  | ⟨0, _⟩ => show (t.val * 1024 + (h.val * 128 + d.val)) / 1024 = t.val; omega
  | ⟨1, _⟩ => show (t.val * 1024 + (h.val * 128 + d.val)) / 128 % 8 = h.val; omega
  | ⟨2, _⟩ => show (t.val * 1024 + (h.val * 128 + d.val)) % 128 = d.val; omega

theorem ref_dq (hv : Holds x2 v) (hg : HoldsR x3 g) (h : Fin 8) (t : Fin 2048) (d : Fin 128) :
    val_main_v178 (F := Ideal) x0 x1 x2 x3 (ix2 t (col h d))
      = ((∑ s, rgrad q k v g m mx h t s / Real.sqrt 128 * k h s d : ℝ) : EReal) := by
  rw [val_main_v178_apply, show idx_main_v178 (ix2 t (col h d)) = _ from join_idx h t d, val_main_v177_apply,
    val_main_v174_apply]
  exact dotC (fun s => r172 hq hk hm hx hv hg _) (fun s => r6 hk _)

theorem ref_dk (hv : Holds x2 v) (hg : HoldsR x3 g) (h : Fin 8) (s : Fin 2048) (d : Fin 128) :
    val_main_v176 (F := Ideal) x0 x1 x2 x3 (ix2 s (col h d))
      = ((∑ t, rgrad q k v g m mx h t s / Real.sqrt 128 * q h t d : ℝ) : EReal) := by
  rw [val_main_v176_apply, show idx_main_v176 (ix2 s (col h d)) = _ from join_idx h s d, val_main_v175_apply,
    val_main_v173_apply]
  exact dotC (fun t => r172 hq hk hm hx hv hg _) (fun t => r4 hq _)

theorem ref_dv (hg : HoldsR x3 g) (h : Fin 8) (s : Fin 2048) (d : Fin 128) :
    val_main_v149 (F := Ideal) x0 x1 x3 (ix2 s (col h d))
      = ((∑ t, rprob q k m mx h t s * g h t d : ℝ) : EReal) := by
  rw [val_main_v149_apply, join_idx h s d, val_main_v148_apply, val_main_v147_apply]
  refine (sumC (g := fun p => ∑ t, rwt q k m mx p h t * g h t d / rden q k m p h t * rnum q k m p h t s)
    word_zero fun p => ?_).trans ?_
  · rw [val_main_v145_apply, val_main_v144_apply]
    exact dotC (fun t => r143 hq hk hm hx hg _) (fun t => r65 hq hk hm _)
  · rw [Finset.sum_comm]
    exact congrArg _ (Finset.sum_congr rfl fun t _ => Row.sum_values _ _ _ _ (okT_some t) s d)

end

end Cert.RefRows
-- ==== Proof.HostValues.lean ====
/-
  THE FORWARD ATTENTION'S OUTPUT AND LOGARITHMS, ELEMENT BY ELEMENT.

  With real queries, keys and values the output the host hands to the kernel is `Row.out` of Model.lean (`out_value`), and
  the logarithm of a row's denominator is `Row.full` (`lse_value`).
-/
module

public import proofs.«01_k».proof.Proof.HostRead
public import proofs.«01_k».proof.Proof.RefBackward

@[expose] public section

noncomputable section

namespace Cert.Host

open Cert.KernelIdeal Cert.KernelIdeal.Gen Cert.Reals Cert.RefRows
open Idealize.ShloMosaic Idealize.ShloMosaic.ValueIdx

/-! ## The layout changes -/

theorem keep_last (y : S3x8x2048x1.Idx → EReal) (p : Fin 3) (h : Fin 8) (t s : Fin 2048) :
    broadcastInDim S3x8x2048x2048 ![0, 1, 2, 3] bcast_S3x8x2048x1_S3x8x2048x2048_0_1_2_3 y (ix4 p h t s) = y (ix4 p h t 0) :=
  broadcastInDim_apply _ bcast_S3x8x2048x1_S3x8x2048x2048_0_1_2_3 y (ix4 p h t s) (ix4 p h t 0) (fun a => match a with
    | ⟨0, _⟩ => by show p.val = if (3 : Nat) = 1 then 0 else p.val; rw [if_neg (by decide)]
    | ⟨1, _⟩ => by show h.val = if (8 : Nat) = 1 then 0 else h.val; rw [if_neg (by decide)]
    | ⟨2, _⟩ => by show t.val = if (2048 : Nat) = 1 then 0 else t.val; rw [if_neg (by decide)]
    | ⟨3, _⟩ => by show 0 = if (1 : Nat) = 1 then 0 else s.val; rw [if_pos rfl])

theorem over_patterns (y : S8x2048.Idx → EReal) (p : Fin 3) (h : Fin 8) (t : Fin 2048) :
    broadcastInDim S3x8x2048 ![0, 1, 2] bcast_S1x8x2048_S3x8x2048_0_1_2
      (broadcastInDim S1x8x2048 ![1, 2] bcast_S8x2048_S1x8x2048_1_2 y) (ix3 p h t) = y (ix2 h t) :=
  (broadcastInDim_apply _ bcast_S1x8x2048_S3x8x2048_0_1_2 _ (ix3 p h t) (ix3 0 h t) (fun a => match a with
    | ⟨0, _⟩ => by show 0 = if (1 : Nat) = 1 then 0 else p.val; rw [if_pos rfl]
    | ⟨1, _⟩ => by show h.val = if (8 : Nat) = 1 then 0 else h.val; rw [if_neg (by decide)]
    | ⟨2, _⟩ => by show t.val = if (2048 : Nat) = 1 then 0 else t.val; rw [if_neg (by decide)])).trans
  (broadcastInDim_apply _ bcast_S8x2048_S1x8x2048_1_2 y (ix3 0 h t) (ix2 h t) (fun a => match a with
    | ⟨0, _⟩ => by show h.val = if (8 : Nat) = 1 then 0 else h.val; rw [if_neg (by decide)]
    | ⟨1, _⟩ => by show t.val = if (2048 : Nat) = 1 then 0 else t.val; rw [if_neg (by decide)]))

theorem add_unit (y : S8x2048.Idx → EReal) (h : Fin 8) (t : Fin 2048) :
    broadcastInDim S8x2048x1 ![0, 1] bcast_S8x2048_S8x2048x1_0_1 y (ix3 h t 0) = y (ix2 h t) :=
  broadcastInDim_apply _ bcast_S8x2048_S8x2048x1_0_1 y (ix3 h t 0) (ix2 h t) (fun a => match a with
    | ⟨0, _⟩ => by show h.val = if (8 : Nat) = 1 then 0 else h.val; rw [if_neg (by decide)]
    | ⟨1, _⟩ => by show t.val = if (2048 : Nat) = 1 then 0 else t.val; rw [if_neg (by decide)])

theorem sum_patterns4 (f : FVec Ideal S3x8x2048x2048 .f32) (z : FVec Ideal S_ .f32) (h : Fin 8) (t s : Fin 2048) :
    Host.reduceAdd f z reducesTo_S3x8x2048x2048_S8x2048x2048_d0 h_S_ (ix3 h t s)
      = z (Shape.Idx.first h_S_) + ∑ p : Fin 3, f (ix4 p h t s) := by
  simp only [Host.reduceAdd, Ideal.hostReduceAdd_def]
  rw [Ideal.hostReduceAdd_single reducesTo_S3x8x2048x2048_S8x2048x2048_d0 (by decide)]
  refine congrArg (_ + ·) (Finset.sum_congr rfl fun k _ => ?_)
  exact congrArg f (funext fun a => Fin.ext (by match a with | ⟨0, _⟩ => rfl | ⟨1, _⟩ => rfl | ⟨2, _⟩ => rfl | ⟨3, _⟩ => rfl))

theorem sum_patterns3 (f : FVec Ideal S3x8x2048 .f32) (z : FVec Ideal S_ .f32) (h : Fin 8) (t : Fin 2048) :
    Host.reduceAdd f z reducesTo_S3x8x2048_S8x2048_d0 h_S_ (ix2 h t)
      = z (Shape.Idx.first h_S_) + ∑ p : Fin 3, f (ix3 p h t) := by
  simp only [Host.reduceAdd, Ideal.hostReduceAdd_def]
  rw [Ideal.hostReduceAdd_single reducesTo_S3x8x2048_S8x2048_d0 (by decide)]
  refine congrArg (_ + ·) (Finset.sum_congr rfl fun k _ => ?_)
  exact congrArg f (funext fun a => Fin.ext (by match a with | ⟨0, _⟩ => rfl | ⟨1, _⟩ => rfl | ⟨2, _⟩ => rfl))

theorem heads_dot (a : FVec Ideal S8x2048x2048 .f32) (b : FVec Ideal S8x2048x128 .f32) (h : Fin 8) (t : Fin 2048) (d : Fin 128) :
    Host.dotGeneral dot_S8x2048x2048_S8x2048x128_S8x2048x128_2_1_1_2_0_0 none a b (ix3 h t d)
      = ∑ s : Fin 2048, a (ix3 h t s) * b (ix3 h s d) := by
  simp only [Host.dotGeneral]
  rw [Ideal.dotGeneral_apply,
    ← Equiv.sum_comp (ValueIdx.contrEquiv1 dot_S8x2048x2048_S8x2048x128_S8x2048x128_2_1_1_2_0_0 2048 rfl rfl).symm]
  refine Finset.sum_congr rfl fun k _ => ?_
  have hk := ValueIdx.contrEquiv1_symm_val dot_S8x2048x2048_S8x2048x128_S8x2048x128_2_1_1_2_0_0 2048 rfl rfl k
  have el : dot_S8x2048x2048_S8x2048x128_S8x2048x128_2_1_1_2_0_0.lhsIdx (ix3 h t d)
      ((ValueIdx.contrEquiv1 dot_S8x2048x2048_S8x2048x128_S8x2048x128_2_1_1_2_0_0 2048 rfl rfl).symm k)
      = ix3 h t k := funext fun a => Fin.ext (by
    match a with
    | ⟨0, _⟩ => exact Cert.ReferenceIdeal.Read.lhs_main_v174_0 _ _
    | ⟨1, _⟩ => exact Cert.ReferenceIdeal.Read.lhs_main_v174_1 _ _
    | ⟨2, _⟩ => exact (Cert.ReferenceIdeal.Read.lhs_main_v174_2 _ _).trans hk)
  have er : dot_S8x2048x2048_S8x2048x128_S8x2048x128_2_1_1_2_0_0.rhsIdx (ix3 h t d)
      ((ValueIdx.contrEquiv1 dot_S8x2048x2048_S8x2048x128_S8x2048x128_2_1_1_2_0_0 2048 rfl rfl).symm k)
      = ix3 h k d := funext fun a => Fin.ext (by
    match a with
    | ⟨0, _⟩ => exact Cert.ReferenceIdeal.Read.rhs_main_v174_0 _ _
    | ⟨1, _⟩ => exact (Cert.ReferenceIdeal.Read.rhs_main_v174_1 _ _).trans hk
    | ⟨2, _⟩ => exact Cert.ReferenceIdeal.Read.rhs_main_v174_2 _ _)
  rw [el, er]

theorem side_by_side (y : S8x2048x128.Idx → EReal) (h : Fin 8) (t : Fin 2048) (d : Fin 128) :
    shapeCast S2048x1024 (transpose S2048x8x128 [1, 0, 2] y transposes_S8x2048x128_S2048x8x128_1_0_2)
      shapeCasts_S2048x8x128_S2048x1024 (ix2 t (col h d)) = y (ix3 h t d) :=
  (shapeCast_apply _ shapeCasts_S2048x8x128_S2048x1024 (ix2 t (col h d)) (ix3 t h d) (by
    rewrite [Shape.rowMajor_val_three, Shape.rowMajor_val_two]
    show (t.val * 8 + h.val) * 128 + d.val = t.val * 1024 + (h.val * 128 + d.val)
    omega)).trans
  (transpose_apply [1, 0, 2] y transposes_S8x2048x128_S2048x8x128_1_0_2 (ix3 t h d) (ix3 h t d) (fun b => match b with
    | ⟨0, _⟩ => rfl
    | ⟨1, _⟩ => rfl
    | ⟨2, _⟩ => rfl))

/-- The forward output of any probabilities and values. -/
theorem mixed (P : FVec Ideal S8x2048x2048 .f32) (b : FVec Ideal S8x2048x128 .f32) (h : Fin 8) (t : Fin 2048) (d : Fin 128) :
    shapeCast S2048x1024
      (transpose S2048x8x128 [1, 0, 2]
        (Host.dotGeneral dot_S8x2048x2048_S8x2048x128_S8x2048x128_2_1_1_2_0_0 none P b)
        transposes_S8x2048x128_S2048x8x128_1_0_2)
      shapeCasts_S2048x8x128_S2048x1024 (ix2 t (col h d)) = ∑ s : Fin 2048, P (ix3 h t s) * b (ix3 h s d) :=
  (side_by_side _ h t d).trans (heads_dot P b h t d)

/-- The mixture of any numerators, denominators and weights. -/
theorem mixture (n : FVec Ideal S3x8x2048x2048 .f32) (d w : FVec Ideal S3x8x2048x1 .f32) (h : Fin 8) (t s : Fin 2048)
    {rn rd rw : Fin 3 → ℝ} (hn : ∀ p, n (ix4 p h t s) = ((rn p : ℝ) : EReal)) (hd : ∀ p, d (ix4 p h t 0) = ((rd p : ℝ) : EReal))
    (h0 : ∀ p, rd p ≠ 0) (hw : ∀ p, w (ix4 p h t 0) = ((rw p : ℝ) : EReal)) :
    Host.reduceAdd
      (mulf (Host.divf n (broadcastInDim S3x8x2048x2048 ![0, 1, 2, 3] bcast_S3x8x2048x1_S3x8x2048x2048_0_1_2_3 d))
        (broadcastInDim S3x8x2048x2048 ![0, 1, 2, 3] bcast_S3x8x2048x1_S3x8x2048x2048_0_1_2_3 w))
      (constant (F := Ideal) S_ .f32 0x00000000#32) reducesTo_S3x8x2048x2048_S8x2048x2048_d0 h_S_ (ix3 h t s)
      = ((∑ p, rn p / rd p * rw p : ℝ) : EReal) := by
  rw [sum_patterns4]
  exact sumC word_zero fun p => mulC (divC (hn p) ((keep_last d p h t s).trans (hd p)) (h0 p)) ((keep_last w p h t s).trans (hw p))

/-- The shares of any logarithms and maxima. -/
theorem shares (l : FVec Ideal S3x8x2048 .f32) (a : FVec Ideal S8x2048 .f32) (p : Fin 3) (h : Fin 8) (t : Fin 2048)
    {x y : ℝ} (hl : l (ix3 p h t) = (x : EReal)) (ha : a (ix2 h t) = (y : EReal)) :
    Host.exp (subf l (broadcastInDim S3x8x2048 ![0, 1, 2] bcast_S1x8x2048_S3x8x2048_0_1_2
      (broadcastInDim S1x8x2048 ![1, 2] bcast_S8x2048_S1x8x2048_1_2 a))) (ix3 p h t) = ((Real.exp (x - y) : ℝ) : EReal) :=
  expC (φ := .f32) (subC hl ((over_patterns a p h t).trans ha))

/-- The logarithms of the denominators of any maxima and shares. -/
theorem logs (a : FVec Ideal S8x2048 .f32) (f : FVec Ideal S3x8x2048 .f32) (h : Fin 8) (t : Fin 2048)
    {y : ℝ} {g : Fin 3 → ℝ} (ha : a (ix2 h t) = (y : EReal)) (hf : ∀ p, f (ix3 p h t) = ((g p : ℝ) : EReal)) (hg : 0 < ∑ p, g p) :
    broadcastInDim S8x2048x1 ![0, 1] bcast_S8x2048_S8x2048x1_0_1
      (addf a (Host.log (Host.reduceAdd f (constant (F := Ideal) S_ .f32 0x00000000#32) reducesTo_S3x8x2048_S8x2048_d0 h_S_)))
      (ix3 h t 0) = ((y + Real.log (∑ p, g p) : ℝ) : EReal) :=
  (add_unit _ h t).trans (addC (φ := .f32) ha (logC (φ := .f32) ((sum_patterns3 f _ h t).trans (sumC word_zero hf)) hg))

/-! ## The values -/

section
variable {x0 x1 x2 : Wide Ideal} {q k v : Heads} {m : Fin 3 → Fin 8 → Fin 2048 → ℝ} {mx : Fin 8 → Fin 2048 → ℝ}
  (hq : Holds x0 q) (hk : Holds x1 k) (hm : Tops x0 x1 m) (hx : TopLse x0 x1 mx)
include hq hk hm hx

theorem mix_value (h : Fin 8) (t s : Fin 2048) :
    mixArr x0 x1 (ix3 h t s) = ((rprob q k m mx h t s : ℝ) : EReal) := by
  have hw : ∀ p, Cert.ReferenceIdeal.Read.val_main_v108 (F := Ideal) x0 x1 (ix4 p h t 0) = ((rwt q k m mx p h t : ℝ) : EReal) := by
    intro p
    rw [Cert.ReferenceIdeal.Read.val_main_v108_apply]
    exact r104 hq hk hm hx _
  unfold mixArr
  refine (mixture _ _ _ h t s (fun p => r65 hq hk hm (ix4 p h t s)) (fun p => r67 hq hk hm (ix4 p h t 0))
    (fun p => (rden_pos p h t).ne') hw).trans ?_
  exact congrArg _ (Row.prob_eq _ _ _ (okT_some t) s).symm

theorem out_value (hv : Holds x2 v) (h : Fin 8) (t : Fin 2048) (d : Fin 128) :
    outArr x0 x1 x2 (ix2 t (col h d))
      = ((Row.out (okT t) (score q k h t) (fun p => m p h t) (mx h t) (fun s d => v h s d) d : ℝ) : EReal) := by
  have hb : ∀ s, Cert.ReferenceIdeal.Read.val_main_v72 (F := Ideal) x2 (ix3 h s d) = ((v h s d : ℝ) : EReal) := by
    intro s
    rw [Cert.ReferenceIdeal.Read.val_main_v72_apply, Cert.ReferenceIdeal.Read.val_main_v71_apply]
    exact (congrArg x2 (split_idx _)).trans (hv h s d)
  unfold outArr
  refine (mixed _ _ h t d).trans ?_
  exact dotC (fun s => mix_value hq hk hm hx h t s) hb

theorem share_value (p : Fin 3) (h : Fin 8) (t : Fin 2048) :
    shareArr x0 x1 (ix3 p h t) = ((rshare q k m mx p h t : ℝ) : EReal) := by
  unfold shareArr
  exact shares _ _ p h t (r70 hq hk hm (ix3 p h t)) (hx (ix2 h t))

theorem lse_value (h : Fin 8) (t : Fin 2048) :
    lseArr x0 x1 (ix3 h t 0) = ((Row.full (okT t) (score q k h t) (fun p => m p h t) (mx h t) : ℝ) : EReal) := by
  unfold lseArr
  exact logs _ _ h t (hx (ix2 h t)) (fun p => share_value hq hk hm hx p h t) (rtotal_pos h t)
end

end Cert.Host
-- ==== Proof.HostTables.lean ====
/-
  THE SLOPES AND THE TABLES OF DISTANCES, ELEMENT BY ELEMENT.

  The slope of head `h` is `2^-(h+1)` (`slope_value`), which is the reference's slope.  At a distance `t - s` the first
  table holds `t - s` and the second the logarithm of how many patterns let `t` see `s`; where none does they hold `+∞`
  and `0` (`table_seen`, `table_unseen`).
-/
module

public import proofs.«01_k».proof.Proof.HostRead
public import proofs.«01_k».proof.Proof.RefForward

@[expose] public section

noncomputable section

namespace Cert.Host

open Cert.KernelIdeal Cert.KernelIdeal.Gen Cert.Reals
open Idealize.ShloMosaic Idealize.ShloMosaic.ValueIdx

/-! ## The slopes -/

theorem power_word (n : Nat) (hn : n < 8) :
    Ideal.ofBits .f32 (BitVec.ofNat 32 (0x3F000000 - n * 0x800000)) = (((2 : ℝ) ^ (n + 1))⁻¹ : ℝ) := by
  interval_cases n <;> simp [Ideal.ofBits, Ideal.ieee] <;> rw [← EReal.coe_mul] <;> norm_num

theorem slope_eq (h : Fin 8) : Cert.RefRows.slope h = ((2 : ℝ) ^ (h.val + 1))⁻¹ := by
  unfold Cert.RefRows.slope
  rw [show -8 * (1 + (h.val : ℝ)) / 8 * Real.log 2 = -(((h.val + 1 : ℕ) : ℝ) * Real.log 2) by push_cast; ring,
    Real.exp_neg, Real.exp_nat_mul, Real.exp_log (by norm_num)]

theorem slope_pos (h : Fin 8) : 0 < Cert.RefRows.slope h := Real.exp_pos _

theorem slope_value (h : Fin 8) (l : Fin 128) :
    slopeArr (F := Ideal) (ix3 h 0 l) = ((Cert.RefRows.slope h : ℝ) : EReal) := by
  rw [slope_eq]
  unfold slopeArr
  refine (broadcastInDim_apply _ bcast_S8_S8x1x128_0 _ (ix3 h 0 l) (ix1 h) (fun a => match a with
    | ⟨0, _⟩ => by show h.val = if (8 : Nat) = 1 then 0 else h.val; rw [if_neg (by decide)])).trans ?_
  refine Eq.trans ?_ (power_word h.val h.isLt)
  show Ideal.ofBits .f32 (lit0 (S8.rowMajor (ix1 h))) = _
  congr 1
  fin_cases h <;> rfl

/-! ## The distances -/

theorem spread {α : Type} (y : S_.Idx → α) (i : S4x512x512.Idx) :
    broadcastInDim S4x512x512 ![] bcast_S_S4x512x512 y i = y (fun a => a.elim0) :=
  broadcastInDim_apply _ bcast_S_S4x512x512 y i (fun a => a.elim0) (fun a => a.elim0)

section
variable {t s : Fin 2048} {o : Fin 4} {r c : Fin 512}

theorem dist_word (e : o.val * 512 + r.val + s.val = t.val + c.val) : distW (F := Ideal) (ix3 o r c) = distWord t s := by
  have h : distW (F := Ideal) (ix3 o r c)
      = BitVec.ofNat 32 o.val * 512#32 + BitVec.ofNat 32 r.val - BitVec.ofNat 32 c.val := by
    show BitVec.ofNat 32 o.val * (word (F := Ideal) 512#32 (ix3 o r c)) + BitVec.ofNat 32 r.val - BitVec.ofNat 32 c.val = _
    rw [show word (F := Ideal) 512#32 (ix3 o r c) = 512#32 from spread _ _]
  rw [h]
  show _ = BitVec.ofNat 32 t.val - BitVec.ofNat 32 s.val
  apply BitVec.eq_of_toNat_eq
  have := o.isLt; have := r.isLt; have := c.isLt; have := t.isLt; have := s.isLt
  simp only [BitVec.toNat_sub, BitVec.toNat_add, BitVec.toNat_mul, BitVec.toNat_ofNat]
  omega

theorem dist_nat (hst : s.val ≤ t.val) : distWord t s = BitVec.ofNat 32 (t.val - s.val) := by
  apply BitVec.eq_of_toInt_eq
  rw [distWord_toInt, small_toInt _ (by omega)]; omega

/-- A low-bits mask against zero tests divisibility. -/
theorem low_bits (n k : ℕ) (hn : n ≤ 2048) (hk : k ≤ 4) :
    IntOp.cmpi .eq (IntOp.andi (BitVec.ofNat 32 n) (BitVec.ofNat 32 (2 ^ k - 1))) 0#32 = BitVec.ofBool (decide (n % 2 ^ k = 0)) := by
  rw [WordCmp.cmpi_eq_eq]
  congr 1
  rw [decide_eq_decide]
  have h2 : 2 ^ k ≤ 16 := by interval_cases k <;> norm_num
  have h0 : 0 < 2 ^ k := by positivity
  have e : (IntOp.andi (BitVec.ofNat 32 n) (BitVec.ofNat 32 (2 ^ k - 1))).toNat = n % 2 ^ k := by
    show (BitVec.ofNat 32 n &&& BitVec.ofNat 32 (2 ^ k - 1)).toNat = _
    rw [BitVec.toNat_and, BitVec.toNat_ofNat, BitVec.toNat_ofNat, Nat.mod_eq_of_lt (by omega), Nat.mod_eq_of_lt (by omega),
      Nat.and_two_pow_sub_one_eq_mod]
  rw [← BitVec.toNat_inj, e]; rfl

theorem at_most (n N : ℕ) (hn : n ≤ 2048) (hN : N ≤ 2048) :
    IntOp.cmpi .sle (BitVec.ofNat 32 n) (BitVec.ofNat 32 N) = BitVec.ofBool (decide (n ≤ N)) := by
  rw [WordCmp.cmpi_sle_eq, small_toInt _ hn, small_toInt _ hN]
  congr 1
  rw [decide_eq_decide]; omega

/-- One where a pattern lets `t` see `s`. -/
def one (p : Fin 3) (t s : Fin 2048) : ℝ := if sees p t s then 1 else 0

/-- How many patterns let `t` see `s`. -/
def many (t s : Fin 2048) : ℝ := ∑ p, one p t s

theorem one_nonneg (p : Fin 3) (t s : Fin 2048) : 0 ≤ one p t s := by unfold one; split <;> norm_num

theorem many_seen {p : Fin 3} (h : sees p t s) : 1 ≤ many t s := by
  have : one p t s = 1 := if_pos h
  rw [← this]
  exact Finset.single_le_sum (f := fun p => one p t s) (fun p _ => one_nonneg p t s) (Finset.mem_univ p)

theorem many_unseen (h : ∀ p, ¬ sees p t s) : many t s = 0 :=
  Finset.sum_eq_zero fun p _ => if_neg (h p)

/-- A mask's bit as a number. -/
theorem bit (P : Prop) [Decidable P] :
    FloatOps.uitofp (F := Ideal) .f32 (BitVec.ofBool (decide P)) = (((if P then 1 else 0 : ℝ) : ℝ) : EReal) := by
  show (((BitVec.ofBool (decide P)).toNat : ℝ) : EReal) = _
  by_cases h : P
  · rw [decide_eq_true h, if_pos h]; show (((1 : ℕ) : ℝ) : EReal) = _; norm_num
  · rw [decide_eq_false h, if_neg h]; show (((0 : ℕ) : ℝ) : EReal) = _; norm_num

variable (e : o.val * 512 + r.val + s.val = t.val + c.val)
include e

theorem mult_value (hst : s.val ≤ t.val) : multA (F := Ideal) (ix3 o r c) = ((many t s : ℝ) : EReal) := by
  have hd : distW (F := Ideal) (ix3 o r c) = BitVec.ofNat 32 (t.val - s.val) := (dist_word e).trans (dist_nat hst)
  have hn : t.val - s.val ≤ 2048 := by omega
  have w : ∀ x : BitVec 32, word (F := Ideal) x (ix3 o r c) = x := fun x => spread _ _
  have a0 : FloatOps.uitofp (F := Ideal) .f32
      (IntOp.cmpi .sle (distW (F := Ideal) (ix3 o r c)) (word (F := Ideal) 128#32 (ix3 o r c))) = ((one 0 t s : ℝ) : EReal) := by
    rw [hd, w, at_most _ 128 hn (by norm_num), bit]
    unfold one sees
    have : (t.val - s.val ≤ 128) ↔ (s.val ≤ t.val ∧ t.val - s.val ≤ reach 0 ∧ (t.val - s.val) % step 0 = 0) := by
      show _ ↔ (_ ∧ _ ≤ 128 ∧ _ % 1 = 0); omega
    simp only [this]
  have a1 : FloatOps.uitofp (F := Ideal) .f32
      (IntOp.andi (IntOp.cmpi .eq (IntOp.andi (distW (F := Ideal) (ix3 o r c)) (word (F := Ideal) 3#32 (ix3 o r c))) (word (F := Ideal) 0#32 (ix3 o r c)))
        (IntOp.cmpi .sle (distW (F := Ideal) (ix3 o r c)) (word (F := Ideal) 512#32 (ix3 o r c)))) = ((one 1 t s : ℝ) : EReal) := by
    rw [hd, w, w, w, at_most _ 512 hn (by norm_num), show (3#32) = BitVec.ofNat 32 (2 ^ 2 - 1) from rfl, low_bits _ 2 hn (by norm_num), and_words, ← Bool.decide_and, bit]
    unfold one sees
    have : ((t.val - s.val) % 2 ^ 2 = 0 ∧ t.val - s.val ≤ 512) ↔ (s.val ≤ t.val ∧ t.val - s.val ≤ reach 1 ∧ (t.val - s.val) % step 1 = 0) := by
      show _ ↔ (_ ∧ _ ≤ 512 ∧ _ % 4 = 0); omega
    simp only [this]
  have a2 : FloatOps.uitofp (F := Ideal) .f32
      (IntOp.cmpi .eq (IntOp.andi (distW (F := Ideal) (ix3 o r c)) (word (F := Ideal) 15#32 (ix3 o r c))) (word (F := Ideal) 0#32 (ix3 o r c)))
        = ((one 2 t s : ℝ) : EReal) := by
    rw [hd, w, w, show (15#32) = BitVec.ofNat 32 (2 ^ 4 - 1) from rfl, low_bits _ 4 hn (by norm_num), bit]
    unfold one sees
    have : ((t.val - s.val) % 2 ^ 4 = 0) ↔ (s.val ≤ t.val ∧ t.val - s.val ≤ reach 2 ∧ (t.val - s.val) % step 2 = 0) := by
      show _ ↔ (_ ∧ _ ≤ 2048 ∧ _ % 16 = 0); omega
    simp only [this]
  unfold many
  rw [Fin.sum_univ_three]
  exact addC (addC a0 a1) a2

theorem seen_word (hst : s.val ≤ t.val) : seenA (F := Ideal) (ix3 o r c) = BitVec.ofBool (decide (0 < many t s)) := by
  have hd : distW (F := Ideal) (ix3 o r c) = BitVec.ofNat 32 (t.val - s.val) := (dist_word e).trans (dist_nat hst)
  have hn : t.val - s.val ≤ 2048 := by omega
  have a : IntOp.cmpi .sge (distW (F := Ideal) (ix3 o r c)) (word (F := Ideal) 0#32 (ix3 o r c)) = BitVec.ofBool true := by
    rw [hd, show word (F := Ideal) 0#32 (ix3 o r c) = 0#32 from spread _ _, WordCmp.cmpi_sge_eq, small_toInt _ hn]
    exact congrArg BitVec.ofBool (decide_eq_true (show (0 : Int) ≤ ((t.val - s.val : Nat) : Int) by omega))
  have b : FloatOps.cmpf (F := Ideal) (φ := .f32) .ogt (multA (F := Ideal) (ix3 o r c)) (real (F := Ideal) 0x00000000#32 (ix3 o r c))
      = BitVec.ofBool (decide (0 < many t s)) := by
    rw [mult_value e hst, show real (F := Ideal) 0x00000000#32 (ix3 o r c) = (0 : EReal) from (spread _ _).trans word_zero]
    show BitVec.ofBool (decide (((many t s : ℝ) : EReal) > 0)) = _
    congr 1
    rw [decide_eq_decide]
    exact EReal.coe_pos
  show IntOp.andi _ _ = _
  refine (congrArg₂ IntOp.andi a b).trans ?_
  rw [and_words, Bool.true_and]

theorem seen_future (hst : ¬ s.val ≤ t.val) : seenA (F := Ideal) (ix3 o r c) = BitVec.ofBool false := by
  have a : IntOp.cmpi .sge (distW (F := Ideal) (ix3 o r c)) (word (F := Ideal) 0#32 (ix3 o r c)) = BitVec.ofBool false := by
    rw [dist_word e, show word (F := Ideal) 0#32 (ix3 o r c) = 0#32 from spread _ _, WordCmp.cmpi_sge_eq, distWord_toInt]
    congr 1
    rw [decide_eq_false_iff_not]
    show ¬ (0 : Int) ≤ _
    omega
  show IntOp.andi _ _ = _
  refine (congrArg (fun x => IntOp.andi x _) a).trans ?_
  show 0#1 &&& _ = 0#1
  exact BitVec.zero_and

theorem table_seen {p : Fin 3} (h : sees p t s) :
    distArr (F := Ideal) (ix3 o r c) = (((t.val : ℝ) - s.val : ℝ) : EReal)
      ∧ countArr (F := Ideal) (ix3 o r c) = ((Real.log (many t s) : ℝ) : EReal) := by
  have hm := many_seen h
  have hs := seen_word e h.1
  rw [decide_eq_true (by linarith : 0 < many t s)] at hs
  constructor
  · show Scalar.select (seenA (F := Ideal) (ix3 o r c)) (FloatOps.sitofp (F := Ideal) .f32 (distW (F := Ideal) (ix3 o r c))) _ = _
    rw [hs, dist_word e]
    show (((distWord t s).toInt : ℝ) : EReal) = _
    rw [distWord_toInt]; push_cast; rfl
  · show Scalar.select (seenA (F := Ideal) (ix3 o r c))
      (FloatOps.hostUnary (F := Ideal) (φ := .f32) .log (FloatOps.maximumf (multA (F := Ideal) (ix3 o r c)) (real (F := Ideal) 0x3F800000#32 (ix3 o r c)))) _ = _
    rw [hs, mult_value e h.1, show real (F := Ideal) 0x3F800000#32 (ix3 o r c) = ((1 : ℝ) : EReal) from (spread _ _).trans word_one]
    refine logC (φ := .f32) ?_ (by linarith)
    exact max_eq_left (EReal.coe_le_coe_iff.2 hm)

theorem table_unseen (h : ∀ p, ¬ sees p t s) :
    distArr (F := Ideal) (ix3 o r c) = ⊤ ∧ countArr (F := Ideal) (ix3 o r c) = ((0 : ℝ) : EReal) := by
  have hs : seenA (F := Ideal) (ix3 o r c) = BitVec.ofBool false := by
    by_cases hst : s.val ≤ t.val
    · rw [seen_word e hst, many_unseen h]; simp
    · exact seen_future e hst
  constructor
  · show Scalar.select (seenA (F := Ideal) (ix3 o r c)) _ (real (F := Ideal) 0x7F800000#32 (ix3 o r c)) = _
    rw [hs]
    have w : real (F := Ideal) 0x7F800000#32 (ix3 o r c) = (⊤ : EReal) := (spread _ _).trans word_top
    exact w
  · show Scalar.select (seenA (F := Ideal) (ix3 o r c)) _ (real (F := Ideal) 0x00000000#32 (ix3 o r c)) = _
    rw [hs]
    have w : real (F := Ideal) 0x00000000#32 (ix3 o r c) = (0 : EReal) := (spread _ _).trans word_zero
    exact w.trans EReal.coe_zero.symm
end

end Cert.Host
-- ==== Proof.Rows.lean ====
/-
  ONE HEAD AND ONE BLOCK OF QUERIES, between the kernel's words and the reference's rows (real numbers only).

  The kernel's probability of a key, `exp (scaled product - slope * distance + log (count) - full)`, is the mixture's
  probability `Row.prob` where some pattern sees the key, and zero where the distance table holds infinity
  (`tabled`). A query sees no key after itself (`prob_future`), so the sums that the kernel takes over the key blocks up
  to the query's own block are sums over all keys (`dq_sum`), and what one query block adds to the gradients of the keys
  is the block's part of a sum over all queries (`dk_step`, `dv_step`).
-/
module

public import proofs.«01_k».proof.Proof.Trips
public import proofs.«01_k».proof.Proof.HostValues
public import proofs.«01_k».proof.Proof.HostTables

@[expose] public section

noncomputable section

namespace Cert.Rows

open Cert.Reals Cert.RefRows Cert.Host
open Cert.Block (inv upto upto_succ upto_full upto_all upto_zero wgt key Tabled)
open Idealize.ShloMosaic Idealize.ShloMosaic.ValueIdx

variable (q k v g : Heads) (m : Fin 3 → Fin 8 → Fin 2048 → ℝ) (mx : Fin 8 → Fin 2048 → ℝ)

/-- Query r of block b. -/
def row (b : Fin 4) (r : Fin 512) : Fin 2048 := ⟨b.val * 512 + r.val, by omega⟩

/-- The logarithm of the whole mixture's denominator. -/
def full (h : Fin 8) (t : Fin 2048) : ℝ := Row.full (okT t) (score q k h t) (fun p => m p h t) (mx h t)

/-- The mixture's output. -/
def out (h : Fin 8) (t : Fin 2048) (d : Fin 128) : ℝ :=
  Row.out (okT t) (score q k h t) (fun p => m p h t) (mx h t) (fun s d => v h s d) d

theorem prob_count (h : Fin 8) (t s : Fin 2048) :
    rprob q k m mx h t s = many t s * Real.exp (score q k h t s - full q k m mx h t) := by
  show (∑ p, if sees p t s then Real.exp (score q k h t s - full q k m mx h t) else 0) = _
  unfold many
  rw [Finset.sum_mul]
  refine Finset.sum_congr rfl fun p _ => ?_
  unfold one
  split <;> simp

theorem prob_future (h : Fin 8) {t s : Fin 2048} (hs : t.val < s.val) : rprob q k m mx h t s = 0 := by
  rw [prob_count, many_unseen (fun p hp => by have := hp.1; omega), zero_mul]

theorem prob_seen (h : Fin 8) {t s : Fin 2048} {p : Fin 3} (hs : sees p t s) :
    rprob q k m mx h t s = Real.exp ((∑ d, q h t d * k h s d) * inv - slope h * ((t.val : ℝ) - s.val)
      + Real.log (many t s) - full q k m mx h t) := by
  have h1 : 0 < many t s := by linarith [many_seen hs]
  rw [prob_count]
  conv_lhs => rw [← Real.exp_log h1]
  rw [← Real.exp_add]
  congr 1
  unfold score Cert.Block.inv
  ring

theorem tabled (h : Fin 8) (b : Fin 4) :
    Tabled b (fun r d => q h (row b r) d) (fun s d => k h s d) (slope h) (fun r => full q k m mx h (row b r))
      (distArr (F := Ideal)) (countArr (F := Ideal)) (fun r s => rprob q k m mx h (row b r) s) := by
  intro n hn r c
  have e : (⟨b.val - n, by omega⟩ : Fin 4).val * 512 + r.val + (key n (by omega) c).val = (row b r).val + c.val := by
    show (b.val - n) * 512 + r.val + (n * 512 + c.val) = b.val * 512 + r.val + c.val
    omega
  by_cases hs : ∃ p, sees p (row b r) (key n (by omega) c)
  · obtain ⟨p, hp⟩ := hs
    have ht := table_seen e hp
    exact Or.inl ⟨_, _, ht.1, ht.2, prob_seen q k m mx h hp⟩
  · have hu := table_unseen e fun p hp => hs ⟨p, hp⟩
    refine Or.inr ⟨hu.1, ⟨_, hu.2⟩, ?_⟩
    show rprob q k m mx h (row b r) (key n (by omega) c) = 0
    rw [prob_count, many_unseen fun p hp => hs ⟨p, hp⟩, zero_mul]

/-- The kernel's weight of a key is the reference's gradient of its score. -/
abbrev kwgt (h : Fin 8) (b : Fin 4) (r : Fin 512) (s : Fin 2048) : ℝ :=
  wgt (fun r d => g h (row b r) d) (fun s d => v h s d) (fun r s => rprob q k m mx h (row b r) s)
    (fun r => ∑ d, g h (row b r) d * out q k v m mx h (row b r) d) r s

theorem kwgt_eq (h : Fin 8) (b : Fin 4) (r : Fin 512) (s : Fin 2048) :
    kwgt q k v g m mx h b r s = rgrad q k v g m mx h (row b r) s := rfl

theorem grad_future (h : Fin 8) {t s : Fin 2048} (hs : t.val < s.val) : rgrad q k v g m mx h t s = 0 := by
  have e : rgrad q k v g m mx h t s = rprob q k m mx h t s
      * (∑ d, g h t d * v h s d - ∑ d, g h t d * out q k v m mx h t d) := rfl
  rw [e, prob_future q k m mx h hs, zero_mul]

theorem dq_sum (h : Fin 8) (b : Fin 4) (r : Fin 512) (d : Fin 128) :
    upto (b.val + 1) (fun s => kwgt q k v g m mx h b r s * k h s d) * inv
      = ∑ s, rgrad q k v g m mx h (row b r) s / Real.sqrt 128 * k h s d := by
  rw [upto_full (by omega) _ fun s hs => by
    rw [kwgt_eq, grad_future q k v g m mx h (by show b.val * 512 + r.val < s.val; omega), zero_mul]]
  rw [Finset.sum_mul]
  refine Finset.sum_congr rfl fun s _ => ?_
  rw [kwgt_eq]; unfold Cert.Block.inv; ring

/-- What the query blocks before n have added to the gradient of a key. -/
def dkAt (h : Fin 8) (n : ℕ) (s : Fin 2048) (d : Fin 128) : ℝ :=
  upto n (fun t => rgrad q k v g m mx h t s * q h t d) * inv

/-- What the query blocks before n have added to the gradient of a value. -/
def dvAt (h : Fin 8) (n : ℕ) (s : Fin 2048) (d : Fin 128) : ℝ :=
  upto n (fun t => rprob q k m mx h t s * g h t d)

theorem dk_step (h : Fin 8) (b : Fin 4) (s : Fin 2048) (d : Fin 128) :
    dkAt q k v g m mx h b.val s d + (if s.val < (b.val + 1) * 512 then (∑ r, kwgt q k v g m mx h b r s * q h (row b r) d) * inv else 0)
      = dkAt q k v g m mx h (b.val + 1) s d := by
  unfold dkAt
  rw [upto_succ (by omega)]
  by_cases hs : s.val < (b.val + 1) * 512
  · rw [if_pos hs]
    exact (add_mul _ _ _).symm
  · rw [if_neg hs, add_zero, Finset.sum_eq_zero, add_zero]
    intro c _
    rw [grad_future q k v g m mx h (by show b.val * 512 + c.val < s.val; omega), zero_mul]

theorem dv_step (h : Fin 8) (b : Fin 4) (s : Fin 2048) (d : Fin 128) :
    dvAt q k g m mx h b.val s d + (if s.val < (b.val + 1) * 512 then ∑ r, rprob q k m mx h (row b r) s * g h (row b r) d else 0)
      = dvAt q k g m mx h (b.val + 1) s d := by
  unfold dvAt
  rw [upto_succ (by omega)]
  congr 1
  split
  · rfl
  · rw [Finset.sum_eq_zero]
    intro c _
    rw [prob_future q k m mx h (by show b.val * 512 + c.val < s.val; omega), zero_mul]

theorem dk_zero (h : Fin 8) (s : Fin 2048) (d : Fin 128) : dkAt q k v g m mx h 0 s d = 0 := by
  unfold dkAt; rw [upto_zero, zero_mul]

theorem dv_zero (h : Fin 8) (s : Fin 2048) (d : Fin 128) : dvAt q k g m mx h 0 s d = 0 := by
  unfold dvAt; rw [upto_zero]

theorem dk_all (h : Fin 8) (s : Fin 2048) (d : Fin 128) :
    dkAt q k v g m mx h 4 s d = ∑ t, rgrad q k v g m mx h t s / Real.sqrt 128 * q h t d := by
  unfold dkAt
  rw [upto_all, Finset.sum_mul]
  refine Finset.sum_congr rfl fun t _ => ?_
  unfold Cert.Block.inv; ring

theorem dv_all (h : Fin 8) (s : Fin 2048) (d : Fin 128) :
    dvAt q k g m mx h 4 s d = ∑ t, rprob q k m mx h t s * g h t d := by
  unfold dvAt; rw [upto_all]

end Cert.Rows
-- ==== Proof.Reads.lean ====
/-
  THE BLOCKS A POINT READS. Point t of the grid works on head t / 4 and query block t % 4; each of its blocks, element by
  element, is the array's element at the head's columns and the block's rows.
-/
module

public import proofs.«01_k».proof.Proof.Rows
public import proofs.«01_k».proof.Proof.Gen.KernelIdeal.Value

@[expose] public section

noncomputable section

namespace Cert.Grid

open Cert.KernelIdeal Cert.KernelIdeal.Gen Idealize.ShloMosaic.TcCoe
open Idealize.ShloMosaic hiding ix1 ix2 ix3 ix4
open Idealize.ShloMosaic.ValueIdx

variable (m : (ℓ : Loc nD τ sig) → Buf (Elt Ideal) ℓ)

/-- The head of a point. -/
def hd (t : Fin cfg0.N) : Fin 8 := ⟨t.val / 4, by have : t.val < 32 := t.isLt; omega⟩

/-- The query block of a point. -/
def qb (t : Fin cfg0.N) : Fin 4 := ⟨t.val % 4, by omega⟩

theorem block_no : ∀ t : Fin cfg0.N, (grid0.coords t 1).val = t.val % 4 := by decide +kernel

theorem idx0 : ∀ t : Fin cfg0.N, win0_0.index t = ![t.val % 4, t.val / 4] := by decide +kernel

theorem read0 (c : Dev nD) (t : Fin cfg0.N) (j : S512x128.Idx) :
    iblk m c 0 t j = (V m c main_arg0 : S2048x1024.Idx → Elt Ideal .bf16) (ix2 (Cert.Rows.row (qb t) (j 0)) (Cert.RefRows.col (hd t) (j 1))) := by
  show (V m c main_arg0 : S2048x1024.Idx → Elt Ideal .bf16) (((cfg0.win 0).blk t).view.emb j) = _
  refine congrArg _ (funext fun a => Fin.ext ((Pipeline.Window.rect_emb_val win0_0 t j a).trans ?_))
  rw [idx0]
  match a with
  | ⟨0, _⟩ => show t.val % 4 * 512 + (j 0).val = t.val % 4 * 512 + (j 0).val; rfl
  | ⟨1, _⟩ => show t.val / 4 * 128 + (j 1).val = t.val / 4 * 128 + (j 1).val; rfl

theorem idx1 : ∀ t : Fin cfg0.N, win0_1.index t = ![0, t.val / 4] := by decide +kernel

theorem read1 (c : Dev nD) (t : Fin cfg0.N) (j : S2048x128.Idx) :
    iblk m c 1 t j = (V m c main_arg1 : S2048x1024.Idx → Elt Ideal .bf16) (ix2 (j 0) (Cert.RefRows.col (hd t) (j 1))) := by
  show (V m c main_arg1 : S2048x1024.Idx → Elt Ideal .bf16) (((cfg0.win 1).blk t).view.emb j) = _
  refine congrArg _ (funext fun a => Fin.ext ((Pipeline.Window.rect_emb_val win0_1 t j a).trans ?_))
  rw [idx1]
  match a with
  | ⟨0, _⟩ => show 0 * 2048 + (j 0).val = (j 0).val; omega
  | ⟨1, _⟩ => show t.val / 4 * 128 + (j 1).val = t.val / 4 * 128 + (j 1).val; rfl

theorem idx2 : ∀ t : Fin cfg0.N, win0_2.index t = ![0, t.val / 4] := by decide +kernel

theorem read2 (c : Dev nD) (t : Fin cfg0.N) (j : S2048x128.Idx) :
    iblk m c 2 t j = (V m c main_arg2 : S2048x1024.Idx → Elt Ideal .bf16) (ix2 (j 0) (Cert.RefRows.col (hd t) (j 1))) := by
  show (V m c main_arg2 : S2048x1024.Idx → Elt Ideal .bf16) (((cfg0.win 2).blk t).view.emb j) = _
  refine congrArg _ (funext fun a => Fin.ext ((Pipeline.Window.rect_emb_val win0_2 t j a).trans ?_))
  rw [idx2]
  match a with
  | ⟨0, _⟩ => show 0 * 2048 + (j 0).val = (j 0).val; omega
  | ⟨1, _⟩ => show t.val / 4 * 128 + (j 1).val = t.val / 4 * 128 + (j 1).val; rfl

theorem idx3 : ∀ t : Fin cfg0.N, win0_3.index t = ![t.val % 4, t.val / 4] := by decide +kernel

theorem read3 (c : Dev nD) (t : Fin cfg0.N) (j : S512x128.Idx) :
    iblk m c 3 t j = (V m c main_v95 : S2048x1024.Idx → Elt Ideal .bf16) (ix2 (Cert.Rows.row (qb t) (j 0)) (Cert.RefRows.col (hd t) (j 1))) := by
  show (V m c main_v95 : S2048x1024.Idx → Elt Ideal .bf16) (((cfg0.win 3).blk t).view.emb j) = _
  refine congrArg _ (funext fun a => Fin.ext ((Pipeline.Window.rect_emb_val win0_3 t j a).trans ?_))
  rw [idx3]
  match a with
  | ⟨0, _⟩ => show t.val % 4 * 512 + (j 0).val = t.val % 4 * 512 + (j 0).val; rfl
  | ⟨1, _⟩ => show t.val / 4 * 128 + (j 1).val = t.val / 4 * 128 + (j 1).val; rfl

theorem idx5 : ∀ t : Fin cfg0.N, win0_5.index t = ![t.val % 4, t.val / 4 + 8] := by decide +kernel

theorem read5 (c : Dev nD) (t : Fin cfg0.N) (j : S512x128.Idx) :
    iblk m c 5 t j = (V m c main_arg3 : S2048x2048.Idx → Elt Ideal .f32) (ix2 (Cert.Rows.row (qb t) (j 0)) (Cert.RefRows.colR (hd t) (j 1))) := by
  show (V m c main_arg3 : S2048x2048.Idx → Elt Ideal .f32) (((cfg0.win 5).blk t).view.emb j) = _
  refine congrArg _ (funext fun a => Fin.ext ((Pipeline.Window.rect_emb_val win0_5 t j a).trans ?_))
  rw [idx5]
  match a with
  | ⟨0, _⟩ => show t.val % 4 * 512 + (j 0).val = t.val % 4 * 512 + (j 0).val; rfl
  | ⟨1, _⟩ => show (t.val / 4 + 8) * 128 + (j 1).val = 1024 + (t.val / 4 * 128 + (j 1).val); omega

theorem idx4 : ∀ t : Fin cfg0.N, win0_4.index t = ![t.val / 4, t.val % 4, 0] := by decide +kernel

theorem read4 (c : Dev nD) (t : Fin cfg0.N) (r : Fin 512) :
    iblk m c 4 t (ix3 (n0 := 1) (n2 := 1) 0 r 0) = (V m c main_v96 : S8x2048x1.Idx → Elt Ideal .f32) (ix3 (hd t) (Cert.Rows.row (qb t) r) 0) := by
  show (V m c main_v96 : S8x2048x1.Idx → Elt Ideal .f32) (((cfg0.win 4).blk t).view.emb (ix3 (n0 := 1) (n2 := 1) 0 r 0)) = _
  refine congrArg _ (funext fun a => Fin.ext ((Pipeline.Window.rect_emb_val win0_4 t (ix3 (n0 := 1) (n2 := 1) 0 r 0) a).trans ?_))
  rw [idx4]
  match a with
  | ⟨0, _⟩ => show t.val / 4 * 1 + 0 = t.val / 4; omega
  | ⟨1, _⟩ => show t.val % 4 * 512 + r.val = t.val % 4 * 512 + r.val; rfl
  | ⟨2, _⟩ => rfl

theorem idx6 : ∀ t : Fin cfg0.N, win0_6.index t = ![t.val / 4, 0, 0] := by decide +kernel

theorem read6 (c : Dev nD) (t : Fin cfg0.N) (j : S1x1x128.Idx) :
    iblk m c 6 t j = (V m c main_v0 : S8x1x128.Idx → Elt Ideal .f32) (ix3 (hd t) 0 (j 2)) := by
  show (V m c main_v0 : S8x1x128.Idx → Elt Ideal .f32) (((cfg0.win 6).blk t).view.emb j) = _
  refine congrArg _ (funext fun a => Fin.ext ((Pipeline.Window.rect_emb_val win0_6 t j a).trans ?_))
  rw [idx6]
  match a with
  | ⟨0, _⟩ => have : (j 0).val < 1 := (j 0).isLt; show t.val / 4 * 1 + (j 0).val = t.val / 4; omega
  | ⟨1, _⟩ => have : (j 1).val < 1 := (j 1).isLt; show 0 * 1 + (j 1).val = 0; omega
  | ⟨2, _⟩ => show 0 * 128 + (j 2).val = (j 2).val; omega

theorem idx7 : ∀ t : Fin cfg0.N, win0_7.index t = ![0, 0, 0] := by decide +kernel

theorem read7 (c : Dev nD) (t : Fin cfg0.N) : iblk m c 7 t = (V m c main_v128 : S4x512x512.Idx → Elt Ideal .f32) := by
  funext j
  show (V m c main_v128 : S4x512x512.Idx → Elt Ideal .f32) (((cfg0.win 7).blk t).view.emb j) = _
  refine congrArg _ (funext fun a => Fin.ext ((Pipeline.Window.rect_emb_val win0_7 t j a).trans ?_))
  rw [idx7]
  match a with
  | ⟨0, _⟩ => show 0 * 4 + (j 0).val = (j 0).val; omega
  | ⟨1, _⟩ => show 0 * 512 + (j 1).val = (j 1).val; omega
  | ⟨2, _⟩ => show 0 * 512 + (j 2).val = (j 2).val; omega

theorem idx8 : ∀ t : Fin cfg0.N, win0_8.index t = ![0, 0, 0] := by decide +kernel

theorem read8 (c : Dev nD) (t : Fin cfg0.N) : iblk m c 8 t = (V m c main_v132 : S4x512x512.Idx → Elt Ideal .f32) := by
  funext j
  show (V m c main_v132 : S4x512x512.Idx → Elt Ideal .f32) (((cfg0.win 8).blk t).view.emb j) = _
  refine congrArg _ (funext fun a => Fin.ext ((Pipeline.Window.rect_emb_val win0_8 t j a).trans ?_))
  rw [idx8]
  match a with
  | ⟨0, _⟩ => show 0 * 4 + (j 0).val = (j 0).val; omega
  | ⟨1, _⟩ => show 0 * 512 + (j 1).val = (j 1).val; omega
  | ⟨2, _⟩ => show 0 * 512 + (j 2).val = (j 2).val; omega

end Cert.Grid
-- ==== Proof.PointForm.lean ====
module
public import proofs.«01_k».proof.Proof.Gen.KernelIdeal.Value
public import proofs.«01_k».proof.Proof.Trips
public import Idealize.ShloMosaic.Lib.VecWindow
/-!
The three blocks that one point of the grid leaves, read off the run of its body.

The body takes a block of 512 queries of one head and the head's 2048 keys.  The loop of `Trips` runs over the
key blocks up to the query block's own; the second of the two counted loops, which would take up a remainder,
makes no trip.  Around them the body prepares the queries' row sums, clears the two accumulators at the first query
block, and scales the queries' gradient at the end.
-/
@[expose] public section
set_option maxRecDepth 8192
noncomputable section
namespace Cert.Block
open Cert.KernelIdeal Cert.KernelIdeal.Gen
open Idealize.ShloMosaic Idealize.ShloMosaic.TcCoe Idealize.ShloMosaic.Tactic

/-- The loop for the remainder leaves the state it starts from. -/
theorem no_rest (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (arg1 : BitVec 32) (v0 : Vec Ideal S512x128 .bf16) (v2 : FVec Ideal S512x128 .bf16) (v4 : FVec Ideal S1x1 .f32) (v6 : FVec Ideal S512x1 .f32) (v11 : FVec Ideal S512x1 .f32) (v38 : BitVec 32) (X_arg3 : BufTy.Contents (Elt Ideal) arg3.view.ty) (X_arg4 : BufTy.Contents (Elt Ideal) arg4.view.ty) (X_arg9 : BufTy.Contents (Elt Ideal) arg9.view.ty) (X_arg10 : BufTy.Contents (Elt Ideal) arg10.view.ty) (G_arg12 : BufTy.Contents (Elt Ideal) arg12.view.ty) (G_arg13 : BufTy.Contents (Elt Ideal) arg13.view.ty) (init : FVec Ideal S512x128 .f32) :
    st_k0_t2 (F := Ideal) 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 v38 X_arg3 X_arg4 X_arg9 X_arg10 G_arg12 G_arg13 init (k0_t2_loop i).trips = (init, [], []) := by
  rw [trips2]
  rfl

theorem no_rest_fst (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (arg1 : BitVec 32) (v0 : Vec Ideal S512x128 .bf16) (v2 : FVec Ideal S512x128 .bf16) (v4 : FVec Ideal S1x1 .f32) (v6 : FVec Ideal S512x1 .f32) (v11 : FVec Ideal S512x1 .f32) (v38 : BitVec 32) (X_arg3 : BufTy.Contents (Elt Ideal) arg3.view.ty) (X_arg4 : BufTy.Contents (Elt Ideal) arg4.view.ty) (X_arg9 : BufTy.Contents (Elt Ideal) arg9.view.ty) (X_arg10 : BufTy.Contents (Elt Ideal) arg10.view.ty) (G_arg12 : BufTy.Contents (Elt Ideal) arg12.view.ty) (G_arg13 : BufTy.Contents (Elt Ideal) arg13.view.ty) (init : FVec Ideal S512x128 .f32) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg1 v0 v2 v4 v6 v11 v38 X_arg3 X_arg4 X_arg9 X_arg10 G_arg12 G_arg13 init (k0_t2_loop i).trips).1 = init := by
  rw [no_rest]

/-- The single slope that the body loads from its block of 128 equal ones. -/
def firstSlope (arg8 : Memref sig .tc .vmem S1x1x128 .f32) (harg8 : arg8.IsWhole) (x6 : Vec Ideal S1x1x128 .f32) : Vec Ideal S1x1x1 .f32 :=
  View.readAt (Elt Ideal) arg8.view (Rect.unit (s := S1x1x128) ![0, 0, 0] S1x1x1.size inb_S1x1x128_S1x1x1_0_0_0).toLoadRect (harg8.unread x6)

/-- The queries' gradient at a later query block. -/
theorem form_B_9 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (hc0 : ¬cond0_0 i)
    (x0 : Vec Ideal S512x128 .bf16) (x1 : Vec Ideal S2048x128 .bf16) (x2 : Vec Ideal S2048x128 .bf16) (x3 : Vec Ideal S512x128 .f32) (x4 : Vec Ideal S1x512x1 .f32) (x5 : Vec Ideal S512x128 .f32) (x6 : Vec Ideal S1x1x128 .f32) (x7 : Vec Ideal S4x512x512 .f32) (x8 : Vec Ideal S4x512x512 .f32) (xo10 : Vec Ideal S2048x128 .f32) (xo11 : Vec Ideal S2048x128 .f32) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 = k0_pay6 (st_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8) (harg12.unread xo10) (harg13.unread xo11) (k0_pay1 (Scalar.ofBits .f32 0x00000000#32)) (k0_t1_loop i).trips).1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11)]
  unfold kernelRun0_B
  dsimp only
  sl_unfold_words
  have hz : ![0, 0] = fun _ : Fin 2 => 0 := by funext a; fin_cases a <;> rfl
  have e2 := (View.readAt_full arg2.view (harg2.unread x0) inb_S512x128_S512x128_0_0).trans (harg2.read_unread x0)
  have e7 := (View.readAt_full arg7.view (harg7.unread x5) inb_S512x128_S512x128_0_0).trans (harg7.read_unread x5)
  have e5 := (View.readAt_full arg5.view (harg5.unread x3) inb_S512x128_S512x128_0_0).trans (harg5.read_unread x3)
  have e6 := (View.readAt_full arg6.view (harg6.unread x4) inb_S1x512x1_S1x512x1_0_0_0).trans (harg6.read_unread x4)
  rw [e2, e7, e5, e6]
  exact (View.canon_cons_unit_zero (S := S512x128) hz _ _ []).trans (congrArg k0_pay6 (no_rest_fst ..))

/-- The keys' gradient at a later query block. -/
theorem form_B_10 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (hc0 : ¬cond0_0 i)
    (x0 : Vec Ideal S512x128 .bf16) (x1 : Vec Ideal S2048x128 .bf16) (x2 : Vec Ideal S2048x128 .bf16) (x3 : Vec Ideal S512x128 .f32) (x4 : Vec Ideal S1x512x1 .f32) (x5 : Vec Ideal S512x128 .f32) (x6 : Vec Ideal S1x1x128 .f32) (x7 : Vec Ideal S4x512x512 .f32) (x8 : Vec Ideal S4x512x512 .f32) (xo10 : Vec Ideal S2048x128 .f32) (xo11 : Vec Ideal S2048x128 .f32) :
    out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 = arg12.view.read (Elt Ideal) (arg12.view.writes (Elt Ideal) (harg12.unread xo10) (st_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8) (harg12.unread xo10) (harg13.unread xo11) (k0_pay1 (Scalar.ofBits .f32 0x00000000#32)) (k0_t1_loop i).trips).2.1) := by
  unfold out0_B_10 kernelRun0_B
  dsimp only
  sl_unfold_words
  have e2 := (View.readAt_full arg2.view (harg2.unread x0) inb_S512x128_S512x128_0_0).trans (harg2.read_unread x0)
  have e7 := (View.readAt_full arg7.view (harg7.unread x5) inb_S512x128_S512x128_0_0).trans (harg7.read_unread x5)
  have e5 := (View.readAt_full arg5.view (harg5.unread x3) inb_S512x128_S512x128_0_0).trans (harg5.read_unread x3)
  have e6 := (View.readAt_full arg6.view (harg6.unread x4) inb_S1x512x1_S1x512x1_0_0_0).trans (harg6.read_unread x4)
  rw [e2, e7, e5, e6]
  exact congrArg (fun L => arg12.view.read (Elt Ideal) (arg12.view.writes (Elt Ideal) (harg12.unread xo10) L))
    ((congrArg (fun t => t.2.1 ++ _) (no_rest ..)).trans (List.nil_append _))

/-- The values' gradient at a later query block. -/
theorem form_B_11 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (hc0 : ¬cond0_0 i)
    (x0 : Vec Ideal S512x128 .bf16) (x1 : Vec Ideal S2048x128 .bf16) (x2 : Vec Ideal S2048x128 .bf16) (x3 : Vec Ideal S512x128 .f32) (x4 : Vec Ideal S1x512x1 .f32) (x5 : Vec Ideal S512x128 .f32) (x6 : Vec Ideal S1x1x128 .f32) (x7 : Vec Ideal S4x512x512 .f32) (x8 : Vec Ideal S4x512x512 .f32) (xo10 : Vec Ideal S2048x128 .f32) (xo11 : Vec Ideal S2048x128 .f32) :
    out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 = arg13.view.read (Elt Ideal) (arg13.view.writes (Elt Ideal) (harg13.unread xo11) (st_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8) (harg12.unread xo10) (harg13.unread xo11) (k0_pay1 (Scalar.ofBits .f32 0x00000000#32)) (k0_t1_loop i).trips).2.2) := by
  unfold out0_B_11 kernelRun0_B
  dsimp only
  sl_unfold_words
  have e2 := (View.readAt_full arg2.view (harg2.unread x0) inb_S512x128_S512x128_0_0).trans (harg2.read_unread x0)
  have e7 := (View.readAt_full arg7.view (harg7.unread x5) inb_S512x128_S512x128_0_0).trans (harg7.read_unread x5)
  have e5 := (View.readAt_full arg5.view (harg5.unread x3) inb_S512x128_S512x128_0_0).trans (harg5.read_unread x3)
  have e6 := (View.readAt_full arg6.view (harg6.unread x4) inb_S1x512x1_S1x512x1_0_0_0).trans (harg6.read_unread x4)
  rw [e2, e7, e5, e6]
  exact congrArg (fun L => arg13.view.read (Elt Ideal) (arg13.view.writes (Elt Ideal) (harg13.unread xo11) L))
    ((congrArg (fun t => t.2.2 ++ _) (no_rest ..)).trans (List.nil_append _))

/-- The queries' gradient at the first query block. -/
theorem form_A_9 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (hc0 : cond0_0 i)
    (x0 : Vec Ideal S512x128 .bf16) (x1 : Vec Ideal S2048x128 .bf16) (x2 : Vec Ideal S2048x128 .bf16) (x3 : Vec Ideal S512x128 .f32) (x4 : Vec Ideal S1x512x1 .f32) (x5 : Vec Ideal S512x128 .f32) (x6 : Vec Ideal S1x1x128 .f32) (x7 : Vec Ideal S4x512x512 .f32) (x8 : Vec Ideal S4x512x512 .f32) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay6 (st_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8) (arg12.view.writes (Elt Ideal) arg12.view.junk [⟨Rect.unit (s := S2048x128) ![0, 0] S2048x128.size inb_S2048x128_S2048x128_0_0, (k0_pay21 (F := Ideal) : S2048x128.Idx → Elt Ideal .f32)⟩]) (arg13.view.writes (Elt Ideal) arg13.view.junk [⟨Rect.unit (s := S2048x128) ![0, 0] S2048x128.size inb_S2048x128_S2048x128_0_0, (k0_pay22 (F := Ideal) : S2048x128.Idx → Elt Ideal .f32)⟩]) (k0_pay1 (Scalar.ofBits .f32 0x00000000#32)) (k0_t1_loop i).trips).1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  have hz : ![0, 0] = fun _ : Fin 2 => 0 := by funext a; fin_cases a <;> rfl
  have e2 := (View.readAt_full arg2.view (harg2.unread x0) inb_S512x128_S512x128_0_0).trans (harg2.read_unread x0)
  have e7 := (View.readAt_full arg7.view (harg7.unread x5) inb_S512x128_S512x128_0_0).trans (harg7.read_unread x5)
  have e5 := (View.readAt_full arg5.view (harg5.unread x3) inb_S512x128_S512x128_0_0).trans (harg5.read_unread x3)
  have e6 := (View.readAt_full arg6.view (harg6.unread x4) inb_S1x512x1_S1x512x1_0_0_0).trans (harg6.read_unread x4)
  rw [e2, e7, e5, e6]
  exact (View.canon_cons_unit_zero (S := S512x128) hz _ _ []).trans (congrArg k0_pay6 (no_rest_fst ..))

/-- The keys' gradient at the first query block. -/
theorem form_A_10 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (hc0 : cond0_0 i)
    (x0 : Vec Ideal S512x128 .bf16) (x1 : Vec Ideal S2048x128 .bf16) (x2 : Vec Ideal S2048x128 .bf16) (x3 : Vec Ideal S512x128 .f32) (x4 : Vec Ideal S1x512x1 .f32) (x5 : Vec Ideal S512x128 .f32) (x6 : Vec Ideal S1x1x128 .f32) (x7 : Vec Ideal S4x512x512 .f32) (x8 : Vec Ideal S4x512x512 .f32) :
    out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = arg12.view.read (Elt Ideal) (arg12.view.writes (Elt Ideal) (arg12.view.writes (Elt Ideal) arg12.view.junk [⟨Rect.unit (s := S2048x128) ![0, 0] S2048x128.size inb_S2048x128_S2048x128_0_0, (k0_pay21 (F := Ideal) : S2048x128.Idx → Elt Ideal .f32)⟩]) (st_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8) (arg12.view.writes (Elt Ideal) arg12.view.junk [⟨Rect.unit (s := S2048x128) ![0, 0] S2048x128.size inb_S2048x128_S2048x128_0_0, (k0_pay21 (F := Ideal) : S2048x128.Idx → Elt Ideal .f32)⟩]) (arg13.view.writes (Elt Ideal) arg13.view.junk [⟨Rect.unit (s := S2048x128) ![0, 0] S2048x128.size inb_S2048x128_S2048x128_0_0, (k0_pay22 (F := Ideal) : S2048x128.Idx → Elt Ideal .f32)⟩]) (k0_pay1 (Scalar.ofBits .f32 0x00000000#32)) (k0_t1_loop i).trips).2.1) := by
  have h : out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = arg12.view.read (Elt Ideal) (arg12.view.writes (Elt Ideal) arg12.view.junk (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1) := by
    unfold out0_A_10
    rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  rw [h]
  unfold kernelRun0_A
  dsimp only
  sl_unfold_words
  have e2 := (View.readAt_full arg2.view (harg2.unread x0) inb_S512x128_S512x128_0_0).trans (harg2.read_unread x0)
  have e7 := (View.readAt_full arg7.view (harg7.unread x5) inb_S512x128_S512x128_0_0).trans (harg7.read_unread x5)
  have e5 := (View.readAt_full arg5.view (harg5.unread x3) inb_S512x128_S512x128_0_0).trans (harg5.read_unread x3)
  have e6 := (View.readAt_full arg6.view (harg6.unread x4) inb_S1x512x1_S1x512x1_0_0_0).trans (harg6.read_unread x4)
  rw [e2, e7, e5, e6]
  refine Eq.trans (b := arg12.view.read (Elt Ideal) (arg12.view.writes (Elt Ideal) arg12.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8) (arg12.view.writes (Elt Ideal) arg12.view.junk [⟨Rect.unit (s := S2048x128) ![0, 0] S2048x128.size inb_S2048x128_S2048x128_0_0, (k0_pay21 (F := Ideal) : S2048x128.Idx → Elt Ideal .f32)⟩]) (arg13.view.writes (Elt Ideal) arg13.view.junk [⟨Rect.unit (s := S2048x128) ![0, 0] S2048x128.size inb_S2048x128_S2048x128_0_0, (k0_pay22 (F := Ideal) : S2048x128.Idx → Elt Ideal .f32)⟩]) (k0_pay1 (Scalar.ofBits .f32 0x00000000#32)) (k0_t1_loop i).trips).2.1 ++ [⟨Rect.unit (s := S2048x128) ![0, 0] S2048x128.size inb_S2048x128_S2048x128_0_0, (k0_pay21 (F := Ideal) : S2048x128.Idx → Elt Ideal .f32)⟩])))
    (congrArg (fun L => arg12.view.read (Elt Ideal) (arg12.view.writes (Elt Ideal) arg12.view.junk L))
      ((congrArg (fun t => t.2.1 ++ _) (no_rest ..)).trans (List.nil_append _))) ?_
  exact congrArg (arg12.view.read (Elt Ideal)) (View.writes_append ..)

/-- The values' gradient at the first query block. -/
theorem form_A_11 (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (hc0 : cond0_0 i)
    (x0 : Vec Ideal S512x128 .bf16) (x1 : Vec Ideal S2048x128 .bf16) (x2 : Vec Ideal S2048x128 .bf16) (x3 : Vec Ideal S512x128 .f32) (x4 : Vec Ideal S1x512x1 .f32) (x5 : Vec Ideal S512x128 .f32) (x6 : Vec Ideal S1x1x128 .f32) (x7 : Vec Ideal S4x512x512 .f32) (x8 : Vec Ideal S4x512x512 .f32) :
    out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = arg13.view.read (Elt Ideal) (arg13.view.writes (Elt Ideal) (arg13.view.writes (Elt Ideal) arg13.view.junk [⟨Rect.unit (s := S2048x128) ![0, 0] S2048x128.size inb_S2048x128_S2048x128_0_0, (k0_pay22 (F := Ideal) : S2048x128.Idx → Elt Ideal .f32)⟩]) (st_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8) (arg12.view.writes (Elt Ideal) arg12.view.junk [⟨Rect.unit (s := S2048x128) ![0, 0] S2048x128.size inb_S2048x128_S2048x128_0_0, (k0_pay21 (F := Ideal) : S2048x128.Idx → Elt Ideal .f32)⟩]) (arg13.view.writes (Elt Ideal) arg13.view.junk [⟨Rect.unit (s := S2048x128) ![0, 0] S2048x128.size inb_S2048x128_S2048x128_0_0, (k0_pay22 (F := Ideal) : S2048x128.Idx → Elt Ideal .f32)⟩]) (k0_pay1 (Scalar.ofBits .f32 0x00000000#32)) (k0_t1_loop i).trips).2.2) := by
  have h : out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = arg13.view.read (Elt Ideal) (arg13.view.writes (Elt Ideal) arg13.view.junk (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1) := by
    unfold out0_A_11
    rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  rw [h]
  unfold kernelRun0_A
  dsimp only
  sl_unfold_words
  have e2 := (View.readAt_full arg2.view (harg2.unread x0) inb_S512x128_S512x128_0_0).trans (harg2.read_unread x0)
  have e7 := (View.readAt_full arg7.view (harg7.unread x5) inb_S512x128_S512x128_0_0).trans (harg7.read_unread x5)
  have e5 := (View.readAt_full arg5.view (harg5.unread x3) inb_S512x128_S512x128_0_0).trans (harg5.read_unread x3)
  have e6 := (View.readAt_full arg6.view (harg6.unread x4) inb_S1x512x1_S1x512x1_0_0_0).trans (harg6.read_unread x4)
  rw [e2, e7, e5, e6]
  refine Eq.trans (b := arg13.view.read (Elt Ideal) (arg13.view.writes (Elt Ideal) arg13.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8) (arg12.view.writes (Elt Ideal) arg12.view.junk [⟨Rect.unit (s := S2048x128) ![0, 0] S2048x128.size inb_S2048x128_S2048x128_0_0, (k0_pay21 (F := Ideal) : S2048x128.Idx → Elt Ideal .f32)⟩]) (arg13.view.writes (Elt Ideal) arg13.view.junk [⟨Rect.unit (s := S2048x128) ![0, 0] S2048x128.size inb_S2048x128_S2048x128_0_0, (k0_pay22 (F := Ideal) : S2048x128.Idx → Elt Ideal .f32)⟩]) (k0_pay1 (Scalar.ofBits .f32 0x00000000#32)) (k0_t1_loop i).trips).2.2 ++ [⟨Rect.unit (s := S2048x128) ![0, 0] S2048x128.size inb_S2048x128_S2048x128_0_0, (k0_pay22 (F := Ideal) : S2048x128.Idx → Elt Ideal .f32)⟩])))
    (congrArg (fun L => arg13.view.read (Elt Ideal) (arg13.view.writes (Elt Ideal) arg13.view.junk L))
      ((congrArg (fun t => t.2.2 ++ _) (no_rest ..)).trans (List.nil_append _))) ?_
  exact congrArg (arg13.view.read (Elt Ideal)) (View.writes_append ..)

end Cert.Block
-- ==== Proof.Point.lean ====
module
public import proofs.«01_k».proof.Proof.PointForm
/-!
What one point of the grid leaves in the three output blocks, over the real numbers.

`x0 … x8` are the point's input blocks: queries, keys, values, attention output, its log of the summed weights,
the gradient of the output, the slope, and the two tables of distances and of logarithms of counts.
-/
@[expose] public section
set_option maxRecDepth 8192
noncomputable section
namespace Cert.Block
open Cert.KernelIdeal Cert.KernelIdeal.Gen Cert.Reals
open Idealize.ShloMosaic Idealize.ShloMosaic.TcCoe Idealize.ShloMosaic.Tactic

theorem first_slope (arg8 : Memref sig .tc .vmem S1x1x128 .f32) (harg8 : arg8.IsWhole) (x6 : Vec Ideal S1x1x128 .f32)
    {sl : ℝ} (h : ∀ j, (x6 j : EReal) = ((sl : ℝ) : EReal)) (j : S1x1.Idx) :
    (k0_pay18 (F := Ideal) (firstSlope arg8 harg8 x6) j : EReal) = ((sl : ℝ) : EReal) := by
  have e : ∀ y, (firstSlope arg8 harg8 x6 y : EReal) = ((sl : ℝ) : EReal) := fun y => by
    unfold firstSlope
    rw [View.readAt_eq_ld, harg8.read_unread]
    exact h _
  unfold k0_pay18
  exact e _

theorem pay19_row (x4 : Vec Ideal S1x512x1 .f32) {ls : Fin 512 → ℝ} (h : ∀ r, (x4 (ix3 (0 : Fin 1) r (0 : Fin 1)) : EReal) = ((ls r : ℝ) : EReal))
    (j : S512x1.Idx) : (k0_pay19 (F := Ideal) x4 j : EReal) = ((ls (j 0) : ℝ) : EReal) := by
  pointwise [k0_pay19]
  exact h _

theorem zero_start (j : S512x128.Idx) :
    (k0_pay1 (F := Ideal) (Scalar.ofBits .f32 0x00000000#32) j : EReal) = ((0 : ℝ) : EReal) := word_zero

theorem zero_keys (j : S2048x128.Idx) : (k0_pay21 (F := Ideal) j : EReal) = ((0 : ℝ) : EReal) := word_zero

theorem zero_values (j : S2048x128.Idx) : (k0_pay22 (F := Ideal) j : EReal) = ((0 : ℝ) : EReal) := word_zero

theorem read_fill {sp : Space} {κ' : Kind} {φ : EltTy} (v : View sig κ' sp S2048x128 φ) (f : v.ty.Contents (Elt Ideal))
    {off : Fin 2 → ℕ} (hoff : off = ![0, 0]) (inb : ∀ a : Fin 2, off a + S2048x128.size a ≤ S2048x128.size a)
    (w : S2048x128.Idx → Elt Ideal φ) (s : Fin 2048) (d : Fin 128) :
    v.read (Elt Ideal) (v.writes (Elt Ideal) f [(⟨Rect.unit (s := S2048x128) off S2048x128.size inb, w⟩ : View.Piece (Elt Ideal) S2048x128 φ)]) (ix2 s d)
      = w (ix2 s d) :=
  View.read_writes_cons_rows_of_mem v f inb w [] (ix2 s d) (ix2 s d) hoff (by show s.val = 0 + s.val; omega) rfl

/-- The three blocks after a later query block. -/
theorem point_B (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (hc0 : ¬cond0_0 i)
    (x0 : Vec Ideal S512x128 .bf16) (x1 : Vec Ideal S2048x128 .bf16) (x2 : Vec Ideal S2048x128 .bf16) (x3 : Vec Ideal S512x128 .f32) (x4 : Vec Ideal S1x512x1 .f32) (x5 : Vec Ideal S512x128 .f32) (x6 : Vec Ideal S1x1x128 .f32) (x7 : Vec Ideal S4x512x512 .f32) (x8 : Vec Ideal S4x512x512 .f32) (xo10 : Vec Ideal S2048x128 .f32) (xo11 : Vec Ideal S2048x128 .f32)
    {Q G O : Fin 512 → Fin 128 → ℝ} {K V : Fin 2048 → Fin 128 → ℝ} {P : Fin 512 → Fin 2048 → ℝ} {sl : ℝ} {ls : Fin 512 → ℝ}
    (hx0 : ∀ j, (x0 j : EReal) = ((Q (j 0) (j 1) : ℝ) : EReal)) (hx1 : ∀ j, (x1 j : EReal) = ((K (j 0) (j 1) : ℝ) : EReal))
    (hx2 : ∀ j, (x2 j : EReal) = ((V (j 0) (j 1) : ℝ) : EReal)) (hx3 : ∀ j, (x3 j : EReal) = ((O (j 0) (j 1) : ℝ) : EReal))
    (hx4 : ∀ r, (x4 (ix3 (0 : Fin 1) r (0 : Fin 1)) : EReal) = ((ls r : ℝ) : EReal)) (hx5 : ∀ j, (x5 j : EReal) = ((G (j 0) (j 1) : ℝ) : EReal))
    (hx6 : ∀ j, (x6 j : EReal) = ((sl : ℝ) : EReal)) (hs : 0 < sl) (hP : Tabled (i 1) Q K sl ls x7 x8 P) {A12 A13 : Fin 2048 → Fin 128 → ℝ}
    (h12 : ∀ s d, (xo10 (ix2 s d) : EReal) = ((A12 s d : ℝ) : EReal)) (h13 : ∀ s d, (xo11 (ix2 s d) : EReal) = ((A13 s d : ℝ) : EReal)) :
    (∀ j, (out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 j : EReal)
        = (((upto ((i 1).val + 1) (fun s => wgt G V P (fun r => ∑ d, G r d * O r d) (j 0) s * K s (j 1))) * inv : ℝ) : EReal))
      ∧ (∀ s d, (out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix2 s d) : EReal)
        = ((A12 s d + (if s.val < ((i 1).val + 1) * 512 then (∑ r, wgt G V P (fun r => ∑ d, G r d * O r d) r s * Q r d) * inv else 0) : ℝ) : EReal))
      ∧ (∀ s d, (out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11 (ix2 s d) : EReal)
        = ((A13 s d + (if s.val < ((i 1).val + 1) * 512 then (∑ r, P r s * G r d) else 0) : ℝ) : EReal)) := by
  rw [form_B_9, form_B_10, form_B_11, trips1]
  have h11 := pay20 (v1 := x5) (v7 := x3) hx5 hx3
  have key := loop Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8)
    (A12 := A12) (A13 := A13) (dl := fun r => ∑ d, G r d * O r d) (T9 := x7) (T10 := x8) (harg12.unread xo10) (harg13.unread xo11) (k0_pay1 (Scalar.ofBits .f32 0x00000000#32))
    hx0 hx5 (first_slope arg8 harg8 x6 hx6) hs (pay19_row x4 hx4) h11
    (fun j => (congrFun (harg3.read_unread x1) j).trans (hx1 j)) (fun j => (congrFun (harg4.read_unread x2) j).trans (hx2 j))
    (fun j => congrFun (harg9.read_unread x7) j) (fun j => congrFun (harg10.read_unread x8) j) hP
    (fun s d => (congrFun (harg12.read_unread xo10) _).trans (h12 s d)) (fun s d => (congrFun (harg13.read_unread xo11) _).trans (h13 s d))
    zero_start ((i 1).val + 1) le_rfl
  exact ⟨fun j => pay6 (A := fun r d => upto ((i 1).val + 1) fun s => wgt G V P (fun r => ∑ d, G r d * O r d) r s * K s d) key.1 j, key.2.1, key.2.2⟩

/-- The three blocks after the first query block. -/
theorem point_A (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole) (hc0 : cond0_0 i)
    (x0 : Vec Ideal S512x128 .bf16) (x1 : Vec Ideal S2048x128 .bf16) (x2 : Vec Ideal S2048x128 .bf16) (x3 : Vec Ideal S512x128 .f32) (x4 : Vec Ideal S1x512x1 .f32) (x5 : Vec Ideal S512x128 .f32) (x6 : Vec Ideal S1x1x128 .f32) (x7 : Vec Ideal S4x512x512 .f32) (x8 : Vec Ideal S4x512x512 .f32)
    {Q G O : Fin 512 → Fin 128 → ℝ} {K V : Fin 2048 → Fin 128 → ℝ} {P : Fin 512 → Fin 2048 → ℝ} {sl : ℝ} {ls : Fin 512 → ℝ}
    (hx0 : ∀ j, (x0 j : EReal) = ((Q (j 0) (j 1) : ℝ) : EReal)) (hx1 : ∀ j, (x1 j : EReal) = ((K (j 0) (j 1) : ℝ) : EReal))
    (hx2 : ∀ j, (x2 j : EReal) = ((V (j 0) (j 1) : ℝ) : EReal)) (hx3 : ∀ j, (x3 j : EReal) = ((O (j 0) (j 1) : ℝ) : EReal))
    (hx4 : ∀ r, (x4 (ix3 (0 : Fin 1) r (0 : Fin 1)) : EReal) = ((ls r : ℝ) : EReal)) (hx5 : ∀ j, (x5 j : EReal) = ((G (j 0) (j 1) : ℝ) : EReal))
    (hx6 : ∀ j, (x6 j : EReal) = ((sl : ℝ) : EReal)) (hs : 0 < sl) (hP : Tabled (i 1) Q K sl ls x7 x8 P)  :
    (∀ j, (out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 j : EReal)
        = (((upto ((i 1).val + 1) (fun s => wgt G V P (fun r => ∑ d, G r d * O r d) (j 0) s * K s (j 1))) * inv : ℝ) : EReal))
      ∧ (∀ s d, (out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 s d) : EReal)
        = ((0 + (if s.val < ((i 1).val + 1) * 512 then (∑ r, wgt G V P (fun r => ∑ d, G r d * O r d) r s * Q r d) * inv else 0) : ℝ) : EReal))
      ∧ (∀ s d, (out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 s d) : EReal)
        = ((0 + (if s.val < ((i 1).val + 1) * 512 then (∑ r, P r s * G r d) else 0) : ℝ) : EReal)) := by
  rw [form_A_9, form_A_10, form_A_11, trips1]
  have z12 : ∀ s d, (arg12.view.read (Elt Ideal) (arg12.view.writes (Elt Ideal) arg12.view.junk [⟨Rect.unit (s := S2048x128) ![0, 0] S2048x128.size inb_S2048x128_S2048x128_0_0, (k0_pay21 (F := Ideal) : S2048x128.Idx → Elt Ideal .f32)⟩]) (ix2 s d) : EReal) = ((0 : ℝ) : EReal) := fun s d => (read_fill arg12.view arg12.view.junk rfl inb_S2048x128_S2048x128_0_0 (k0_pay21 (F := Ideal)) s d).trans (zero_keys (ix2 s d))
  have z13 : ∀ s d, (arg13.view.read (Elt Ideal) (arg13.view.writes (Elt Ideal) arg13.view.junk [⟨Rect.unit (s := S2048x128) ![0, 0] S2048x128.size inb_S2048x128_S2048x128_0_0, (k0_pay22 (F := Ideal) : S2048x128.Idx → Elt Ideal .f32)⟩]) (ix2 s d) : EReal) = ((0 : ℝ) : EReal) := fun s d => (read_fill arg13.view arg13.view.junk rfl inb_S2048x128_S2048x128_0_0 (k0_pay22 (F := Ideal)) s d).trans (zero_values (ix2 s d))
  generalize (arg12.view.writes (Elt Ideal) arg12.view.junk [⟨Rect.unit (s := S2048x128) ![0, 0] S2048x128.size inb_S2048x128_S2048x128_0_0, (k0_pay21 (F := Ideal) : S2048x128.Idx → Elt Ideal .f32)⟩]) = G12 at z12 ⊢
  generalize (arg13.view.writes (Elt Ideal) arg13.view.junk [⟨Rect.unit (s := S2048x128) ![0, 0] S2048x128.size inb_S2048x128_S2048x128_0_0, (k0_pay22 (F := Ideal) : S2048x128.Idx → Elt Ideal .f32)⟩]) = G13 at z13 ⊢
  have h11 := pay20 (v1 := x5) (v7 := x3) hx5 hx3
  have key := loop Variants.none c none i arg2 harg2 arg3 harg3 arg4 harg4 arg5 harg5 arg6 harg6 arg7 harg7 arg8 harg8 arg9 harg9 arg10 harg10 arg11 harg11 arg12 harg12 arg13 harg13 (BitVec.ofNat 32 (i 1).val) x0 (k0_pay17 x5) (k0_pay18 (firstSlope arg8 harg8 x6)) (k0_pay19 x4) (k0_pay20 x5 x3) (harg3.unread x1) (harg4.unread x2) (harg9.unread x7) (harg10.unread x8)
    (A12 := fun _ _ => 0) (A13 := fun _ _ => 0) (dl := fun r => ∑ d, G r d * O r d) (T9 := x7) (T10 := x8) G12 G13 (k0_pay1 (Scalar.ofBits .f32 0x00000000#32))
    hx0 hx5 (first_slope arg8 harg8 x6 hx6) hs (pay19_row x4 hx4) h11
    (fun j => (congrFun (harg3.read_unread x1) j).trans (hx1 j)) (fun j => (congrFun (harg4.read_unread x2) j).trans (hx2 j))
    (fun j => congrFun (harg9.read_unread x7) j) (fun j => congrFun (harg10.read_unread x8) j) hP
    z12 z13
    zero_start ((i 1).val + 1) le_rfl
  exact ⟨fun j => pay6 (A := fun r d => upto ((i 1).val + 1) fun s => wgt G V P (fun r => ∑ d, G r d * O r d) r s * K s d) key.1 j, key.2.1, key.2.2⟩

end Cert.Block
-- ==== Proof.Grid.lean ====
/-
  THE GRID. The points of one head follow each other: at the head's first point the gradients of its keys and values
  start from zero, and each point adds its query block. `state` says what the three result blocks hold after every point;
  `final_dq`, `final_dk` and `final_dv` read the three result arrays after the last point.
-/
module

public import proofs.«01_k».proof.Proof.Reads
public import proofs.«01_k».proof.Proof.Point

@[expose] public section

noncomputable section

namespace Cert.Grid

open Cert.KernelIdeal Cert.KernelIdeal.Gen Cert.RefRows Cert.Rows Idealize.ShloMosaic.TcCoe
open Idealize.ShloMosaic hiding ix1 ix2 ix3 ix4
open Idealize.ShloMosaic.ValueIdx

variable (m : (ℓ : Loc nD τ sig) → Buf (Elt Ideal) ℓ) (c : Dev nD)

/-- What the arrays that the launch reads hold. -/
structure Arrays (q k v g : Heads) (mm : Fin 3 → Fin 8 → Fin 2048 → ℝ) (mx : Fin 8 → Fin 2048 → ℝ) : Prop where
  hq : Holds (V m c main_arg0) q
  hk : Holds (V m c main_arg1) k
  hv : Holds (V m c main_arg2) v
  hg : HoldsR (V m c main_arg3) g
  ho : ∀ h t d, (V m c main_v95 : S2048x1024.Idx → EReal) (ix2 t (col h d)) = ((out q k v mm mx h t d : ℝ) : EReal)
  hl : ∀ h t, (V m c main_v96 : S8x2048x1.Idx → EReal) (ix3 h t 0) = ((full q k mm mx h t : ℝ) : EReal)

variable {m c} {q k v g : Heads} {mm : Fin 3 → Fin 8 → Fin 2048 → ℝ} {mx : Fin 8 → Fin 2048 → ℝ}

theorem table_congr {b b' : Fin 4} {Q : Fin 512 → Fin 128 → ℝ} {K : Fin 2048 → Fin 128 → ℝ} {sl : ℝ} {ls : Fin 512 → ℝ}
    {T T' U U' : S4x512x512.Idx → EReal} {P : Fin 512 → Fin 2048 → ℝ} (hb : b = b') (hT : T = T') (hU : U = U')
    (h : Cert.Block.Tabled b' Q K sl ls T' U' P) : Cert.Block.Tabled b Q K sl ls T U P := by
  subst hb hT hU; exact h

theorem tables (t : Fin cfg0.N) :
    Cert.Block.Tabled (grid0.coords t 1) (fun r d => q (hd t) (row (qb t) r) d) (fun s d => k (hd t) s d) (slope (hd t))
      (fun r => full q k mm mx (hd t) (row (qb t) r)) (iblk m c 7 t) (iblk m c 8 t)
      (fun r s => rprob q k mm mx (hd t) (row (qb t) r) s) := by
  exact table_congr (Fin.ext (block_no t)) ((read7 m c t).trans (Cert.Host.V_v128 m c)) ((read8 m c t).trans (Cert.Host.V_v132 m c))
    (tabled q k mm mx (hd t) (qb t))

/-- What the three result blocks hold after point n. -/
def State (q k v g : Heads) (mm : Fin 3 → Fin 8 → Fin 2048 → ℝ) (mx : Fin 8 → Fin 2048 → ℝ) (t : Fin cfg0.N)
    (o : Vec Ideal S512x128 .f32 × Vec Ideal S2048x128 .f32 × Vec Ideal S2048x128 .f32) : Prop :=
  (∀ j, (o.1 j : EReal) = ((∑ s, rgrad q k v g mm mx (hd t) (row (qb t) (j 0)) s / Real.sqrt 128 * k (hd t) s (j 1) : ℝ) : EReal))
    ∧ (∀ s d, (o.2.1 (ix2 s d) : EReal) = ((dkAt q k v g mm mx (hd t) ((qb t).val + 1) s d : ℝ) : EReal))
    ∧ (∀ s d, (o.2.2 (ix2 s d) : EReal) = ((dvAt q k g mm mx (hd t) ((qb t).val + 1) s d : ℝ) : EReal))

theorem dq_read {o : S512x128.Idx → EReal} (h : Fin 8) (b : Fin 4)
    (p : ∀ j : S512x128.Idx, o j = ((Cert.Block.upto (b.val + 1) (fun s => kwgt q k v g mm mx h b (j 0) s * k h s (j 1)) * Cert.Block.inv : ℝ) : EReal))
    (j : S512x128.Idx) : o j = ((∑ s, rgrad q k v g mm mx h (row b (j 0)) s / Real.sqrt 128 * k h s (j 1) : ℝ) : EReal) :=
  (p j).trans (congrArg Real.toEReal (dq_sum q k v g mm mx h b (j 0) (j 1)))

theorem dk_first (h : Fin 8) (b : Fin 4) (hb : b.val = 0) (s : Fin 2048) (d : Fin 128) :
    0 + (if s.val < (b.val + 1) * 512 then (∑ r, kwgt q k v g mm mx h b r s * q h (row b r) d) * Cert.Block.inv else 0)
      = dkAt q k v g mm mx h (b.val + 1) s d := by
  have e := dk_step q k v g mm mx h b s d
  have z : dkAt q k v g mm mx h b.val s d = 0 := by rw [hb, dk_zero]
  rw [z] at e
  exact e

theorem dv_first (h : Fin 8) (b : Fin 4) (hb : b.val = 0) (s : Fin 2048) (d : Fin 128) :
    0 + (if s.val < (b.val + 1) * 512 then ∑ r, rprob q k mm mx h (row b r) s * g h (row b r) d else 0)
      = dvAt q k g mm mx h (b.val + 1) s d := by
  have e := dv_step q k g mm mx h b s d
  have z : dvAt q k g mm mx h b.val s d = 0 := by rw [hb, dv_zero]
  rw [z] at e
  exact e

theorem dk_read {o : S2048x128.Idx → EReal} (h : Fin 8) (b : Fin 4) (hb : b.val = 0)
    (p : ∀ (s : Fin 2048) (d : Fin 128), o (ix2 s d)
      = ((0 + (if s.val < (b.val + 1) * 512 then (∑ r, kwgt q k v g mm mx h b r s * q h (row b r) d) * Cert.Block.inv else 0) : ℝ) : EReal))
    (s : Fin 2048) (d : Fin 128) : o (ix2 s d) = ((dkAt q k v g mm mx h (b.val + 1) s d : ℝ) : EReal) :=
  (p s d).trans (congrArg Real.toEReal (dk_first h b hb s d))

theorem dv_read {o : S2048x128.Idx → EReal} (h : Fin 8) (b : Fin 4) (hb : b.val = 0)
    (p : ∀ (s : Fin 2048) (d : Fin 128), o (ix2 s d)
      = ((0 + (if s.val < (b.val + 1) * 512 then ∑ r, rprob q k mm mx h (row b r) s * g h (row b r) d else 0) : ℝ) : EReal))
    (s : Fin 2048) (d : Fin 128) : o (ix2 s d) = ((dvAt q k g mm mx h (b.val + 1) s d : ℝ) : EReal) :=
  (p s d).trans (congrArg Real.toEReal (dv_first h b hb s d))

set_option maxHeartbeats 1000000 in
theorem first (H : Arrays m c q k v g mm mx) (t : Fin cfg0.N) (h0 : t.val % 4 = 0) : State q k v g mm mx t (outsAt0 m c t.val t.isLt) := by
  have hb : (grid0.coords t 1).val = (qb t).val := block_no t
  have hz : (qb t).val = 0 := h0
  have p := Cert.Block.point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (iblk m c 8 t)
    (Q := fun r d => q (hd t) (row (qb t) r) d) (G := fun r d => g (hd t) (row (qb t) r) d)
    (O := fun r d => out q k v mm mx (hd t) (row (qb t) r) d) (K := fun s d => k (hd t) s d) (V := fun s d => v (hd t) s d)
    (fun j => (read0 m c t j).trans (H.hq _ _ _)) (fun j => (read1 m c t j).trans (H.hk _ _ _))
    (fun j => (read2 m c t j).trans (H.hv _ _ _)) (fun j => (read3 m c t j).trans (H.ho _ _ _))
    (fun r => (read4 m c t r).trans (H.hl _ _)) (fun j => (read5 m c t j).trans (H.hg _ _ _))
    (fun j => (read6 m c t j).trans ((congrFun (Cert.Host.V_v0 m c) _).trans (Cert.Host.slope_value _ _)))
    (Cert.Host.slope_pos (hd t)) (tables t)
  rw [outsAt0_A m c t h0]
  rw [hb] at p
  refine ⟨dq_read (hd t) (qb t) p.1, dk_read (hd t) (qb t) hz p.2.1, dv_read (hd t) (qb t) hz p.2.2⟩

set_option maxHeartbeats 1000000 in
theorem later (H : Arrays m c q k v g mm mx) (t : Fin cfg0.N) (h0 : ¬t.val % 4 = 0)
    (h12 : ∀ s d, ((outsAt0 m c (t.val - 1) (Nat.lt_of_le_of_lt (Nat.sub_le _ _) t.isLt)).2.1 (ix2 s d) : EReal)
      = ((dkAt q k v g mm mx (hd t) (qb t).val s d : ℝ) : EReal))
    (h13 : ∀ s d, ((outsAt0 m c (t.val - 1) (Nat.lt_of_le_of_lt (Nat.sub_le _ _) t.isLt)).2.2 (ix2 s d) : EReal)
      = ((dvAt q k g mm mx (hd t) (qb t).val s d : ℝ) : EReal)) :
    State q k v g mm mx t (outsAt0 m c t.val t.isLt) := by
  have hb : (grid0.coords t 1).val = (qb t).val := block_no t
  have p := Cert.Block.point_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t)
    (outsAt0 m c (t.val - 1) (Nat.lt_of_le_of_lt (Nat.sub_le _ _) t.isLt)).2.1 (outsAt0 m c (t.val - 1) (Nat.lt_of_le_of_lt (Nat.sub_le _ _) t.isLt)).2.2
    (Q := fun r d => q (hd t) (row (qb t) r) d) (G := fun r d => g (hd t) (row (qb t) r) d)
    (O := fun r d => out q k v mm mx (hd t) (row (qb t) r) d) (K := fun s d => k (hd t) s d) (V := fun s d => v (hd t) s d)
    (fun j => (read0 m c t j).trans (H.hq _ _ _)) (fun j => (read1 m c t j).trans (H.hk _ _ _))
    (fun j => (read2 m c t j).trans (H.hv _ _ _)) (fun j => (read3 m c t j).trans (H.ho _ _ _))
    (fun r => (read4 m c t r).trans (H.hl _ _)) (fun j => (read5 m c t j).trans (H.hg _ _ _))
    (fun j => (read6 m c t j).trans ((congrFun (Cert.Host.V_v0 m c) _).trans (Cert.Host.slope_value _ _)))
    (Cert.Host.slope_pos (hd t)) (tables t) h12 h13
  rw [outsAt0_B m c t h0]
  rw [hb] at p
  exact ⟨dq_read (hd t) (qb t) p.1,
    fun s d => (p.2.1 s d).trans (congrArg Real.toEReal (dk_step q k v g mm mx (hd t) (qb t) s d)),
    fun s d => (p.2.2 s d).trans (congrArg Real.toEReal (dv_step q k g mm mx (hd t) (qb t) s d))⟩

theorem state (H : Arrays m c q k v g mm mx) : ∀ (n : ℕ) (hn : n < cfg0.N), State q k v g mm mx ⟨n, hn⟩ (outsAt0 m c n hn)
  | 0, hn => first H ⟨0, hn⟩ rfl
  | n + 1, hn => by
    by_cases h0 : (n + 1) % 4 = 0
    · exact first H ⟨n + 1, hn⟩ h0
    · have ih := state H n (Nat.lt_of_succ_lt hn)
      have e1 : hd ⟨n, Nat.lt_of_succ_lt hn⟩ = hd ⟨n + 1, hn⟩ := Fin.ext (by show n / 4 = (n + 1) / 4; omega)
      have e2 : (qb ⟨n, Nat.lt_of_succ_lt hn⟩).val + 1 = (qb ⟨n + 1, hn⟩).val := by show n % 4 + 1 = (n + 1) % 4; omega
      refine later H ⟨n + 1, hn⟩ h0 (fun s d => (ih.2.1 s d).trans ?_) (fun s d => (ih.2.2 s d).trans ?_)
      · rw [e1, e2]
      · rw [e1, e2]

/-! ## The result arrays -/

/-- Point b of head h. -/
def pt (h : Fin 8) (b : Fin 4) : Fin cfg0.N := ⟨h.val * 4 + b.val, by show h.val * 4 + b.val < 32; omega⟩

theorem hd_pt (h : Fin 8) (b : Fin 4) : hd (pt h b) = h := Fin.ext (by show (h.val * 4 + b.val) / 4 = h.val; omega)

theorem qb_pt (h : Fin 8) (b : Fin 4) : qb (pt h b) = b := Fin.ext (by show (h.val * 4 + b.val) % 4 = b.val; omega)

theorem idx9 : ∀ t : Fin cfg0.N, win0_9.index t = ![t.val % 4, t.val / 4] := by decide +kernel

theorem final_dq (H : Arrays m c q k v g mm mx) (h : Fin 8) (t : Fin 2048) (d : Fin 128) :
    ((dats m 0 c).arrAt 9 cfg0.N : S2048x1024.Idx → EReal) (ix2 t (col h d))
      = ((∑ s, rgrad q k v g mm mx h t s / Real.sqrt 128 * k h s d : ℝ) : EReal) := by
  let b : Fin 4 := ⟨t.val / 512, by omega⟩
  let r : Fin 512 := ⟨t.val % 512, by omega⟩
  have hr : row b r = t := Fin.ext (by show t.val / 512 * 512 + t.val % 512 = t.val; omega)
  have e : ((cfg0.win 9).blk (pt h b)).view.emb (ix2 r d) = (ix2 t (col h d) : S2048x1024.Idx) := by
    refine funext fun a => Fin.ext ((Pipeline.Window.rect_emb_val win0_9 (pt h b) (ix2 r d) a).trans ?_)
    rw [idx9]
    match a with
    | ⟨0, _⟩ => show (h.val * 4 + t.val / 512) % 4 * 512 + t.val % 512 = t.val; omega
    | ⟨1, _⟩ => show (h.val * 4 + t.val / 512) / 4 * 128 + d.val = h.val * 128 + d.val; omega
  have s := (state H (pt h b).val (pt h b).isLt).1 (ix2 r d)
  have f := (dats m 0 c).arrAt_emb_eq_flushed 9 Cert.KernelIdeal.Value.disjoint9 (pt h b) (flush0_9 _) (ix2 r d)
  rw [e, Cert.KernelIdeal.Value.flushed9] at f
  refine Eq.trans (b := (outsAt0 m c (pt h b).val (pt h b).isLt).1 (ix2 r d)) f (s.trans ?_)
  show ((∑ s, rgrad q k v g mm mx (hd (pt h b)) (row (qb (pt h b)) r) s / Real.sqrt 128 * k (hd (pt h b)) s d : ℝ) : EReal) = _
  rw [hd_pt, qb_pt, hr]

theorem idx10 : ∀ t : Fin cfg0.N, win0_10.index t = ![0, t.val / 4] := by decide +kernel

theorem apart10 : ∀ t t' : Fin cfg0.N, (cfg0.win 10).flush t = true → (cfg0.win 10).flush t' = true → t ≠ t' →
    Disjoint ((cfg0.win 10).blk t).view.set ((cfg0.win 10).blk t').view.set :=
  fun t t' hf hf' hne => (cfg0.win 10).disjoint_blk fun h => hne (by
    have h1 : t.val / 4 = t'.val / 4 := by
      have := congrFun ((idx10 t).symm.trans (h.trans (idx10 t'))) 1
      exact this
    have := (flush0_10 t).mp hf
    have := (flush0_10 t').mp hf'
    exact Fin.ext (by omega))

theorem final_dk (H : Arrays m c q k v g mm mx) (h : Fin 8) (s : Fin 2048) (d : Fin 128) :
    ((dats m 0 c).arrAt 10 cfg0.N : S2048x1024.Idx → EReal) (ix2 s (col h d)) = ((∑ t, rgrad q k v g mm mx h t s / Real.sqrt 128 * q h t d : ℝ) : EReal) := by
  have e : ((cfg0.win 10).blk (pt h 3)).view.emb (ix2 s d) = (ix2 s (col h d) : S2048x1024.Idx) := by
    refine funext fun a => Fin.ext ((Pipeline.Window.rect_emb_val win0_10 (pt h 3) (ix2 s d) a).trans ?_)
    rw [idx10]
    match a with
    | ⟨0, _⟩ => show 0 * 2048 + s.val = s.val; omega
    | ⟨1, _⟩ => show (h.val * 4 + 3) / 4 * 128 + d.val = h.val * 128 + d.val; omega
  have st := (state H (pt h 3).val (pt h 3).isLt).2.1 s d
  have f := (dats m 0 c).arrAt_emb_eq_flushed 10 apart10 (pt h 3) ((flush0_10 _).mpr (by show (h.val * 4 + 3) % 4 = 3; omega)) (ix2 s d)
  rw [e, Cert.KernelIdeal.Value.flushed10] at f
  refine Eq.trans (b := (outsAt0 m c (pt h 3).val (pt h 3).isLt).2.1 (ix2 s d)) f (st.trans ?_)
  show ((dkAt q k v g mm mx (hd (pt h 3)) ((qb (pt h 3)).val + 1) s d : ℝ) : EReal) = _
  rw [hd_pt, qb_pt]
  exact congrArg _ (dk_all q k v g mm mx h s d)

theorem idx11 : ∀ t : Fin cfg0.N, win0_11.index t = ![0, t.val / 4] := by decide +kernel

theorem apart11 : ∀ t t' : Fin cfg0.N, (cfg0.win 11).flush t = true → (cfg0.win 11).flush t' = true → t ≠ t' →
    Disjoint ((cfg0.win 11).blk t).view.set ((cfg0.win 11).blk t').view.set :=
  fun t t' hf hf' hne => (cfg0.win 11).disjoint_blk fun h => hne (by
    have h1 : t.val / 4 = t'.val / 4 := by
      have := congrFun ((idx11 t).symm.trans (h.trans (idx11 t'))) 1
      exact this
    have := (flush0_11 t).mp hf
    have := (flush0_11 t').mp hf'
    exact Fin.ext (by omega))

theorem final_dv (H : Arrays m c q k v g mm mx) (h : Fin 8) (s : Fin 2048) (d : Fin 128) :
    ((dats m 0 c).arrAt 11 cfg0.N : S2048x1024.Idx → EReal) (ix2 s (col h d)) = ((∑ t, rprob q k mm mx h t s * g h t d : ℝ) : EReal) := by
  have e : ((cfg0.win 11).blk (pt h 3)).view.emb (ix2 s d) = (ix2 s (col h d) : S2048x1024.Idx) := by
    refine funext fun a => Fin.ext ((Pipeline.Window.rect_emb_val win0_11 (pt h 3) (ix2 s d) a).trans ?_)
    rw [idx11]
    match a with
    | ⟨0, _⟩ => show 0 * 2048 + s.val = s.val; omega
    | ⟨1, _⟩ => show (h.val * 4 + 3) / 4 * 128 + d.val = h.val * 128 + d.val; omega
  have st := (state H (pt h 3).val (pt h 3).isLt).2.2 s d
  have f := (dats m 0 c).arrAt_emb_eq_flushed 11 apart11 (pt h 3) ((flush0_11 _).mpr (by show (h.val * 4 + 3) % 4 = 3; omega)) (ix2 s d)
  rw [e, Cert.KernelIdeal.Value.flushed11] at f
  refine Eq.trans (b := (outsAt0 m c (pt h 3).val (pt h 3).isLt).2.2 (ix2 s d)) f (st.trans ?_)
  show ((dvAt q k g mm mx (hd (pt h 3)) ((qb (pt h 3)).val + 1) s d : ℝ) : EReal) = _
  rw [hd_pt, qb_pt]
  exact congrArg _ (dv_all q k g mm mx h s d)

end Cert.Grid
-- ==== Proof.Products.lean ====
/-
  PRODUCTS OF BLOCKS. A product of two blocks that starts from zero, read at a place, is the sum over the contracted
  axis: with the axis last in both blocks, first in both, and last in the first and first in the second.
-/
module

public import Idealize.ShloMosaic.Lib.Pointwise
public import Idealize.ShloMosaic.Lib.MatmulPlain
public import Idealize.ShloMosaic.Lib.Pipeline.Value
public import Idealize.ShloMosaic.Lib.Claim

@[expose] public section

noncomputable section

namespace Cert.Products

open Idealize.ShloMosaic hiding ix1 ix2 ix3 ix4
open Idealize.ShloMosaic.ValueIdx

/-- A constant block of zeros. -/
theorem zeros (S : Shape) (i : S.Idx) : (constant S .f32 0x00000000#32 : FVec Ideal S .f32) i = 0 := Ideal.ofBits_zero_f32

/-- Rows against rows. -/
theorem rows_rows {M K N : ℕ} (d : DotDims ⟨2, ![M, K]⟩ ⟨2, ![N, K]⟩ ⟨2, ![M, N]⟩) (hd : d = DotDims.transposedRhs M K N)
    (x : FVec Ideal ⟨2, ![M, K]⟩ .bf16) (y : FVec Ideal ⟨2, ![N, K]⟩ .bf16) (r : Fin M) (c : Fin N) :
    matmul (F := Ideal) d none x y (constant ⟨2, ![M, N]⟩ .f32 0x00000000#32) (ix2 r c) = ∑ k : Fin K, x (ix2 r k) * y (ix2 c k) := by
  subst hd
  refine (Ideal.matmul_transposedRhs_apply none x y _ r c).trans ?_
  rw [zeros, zero_add]

/-- Rows against columns. -/
theorem rows_cols {M K N : ℕ} (d : DotDims ⟨2, ![M, K]⟩ ⟨2, ![K, N]⟩ ⟨2, ![M, N]⟩) (hd : d = DotDims.plain M K N)
    (x : FVec Ideal ⟨2, ![M, K]⟩ .bf16) (y : FVec Ideal ⟨2, ![K, N]⟩ .bf16) (r : Fin M) (c : Fin N) :
    matmul (F := Ideal) d none x y (constant ⟨2, ![M, N]⟩ .f32 0x00000000#32) (ix2 r c) = ∑ k : Fin K, x (ix2 r k) * y (ix2 k c) := by
  subst hd
  refine (Ideal.matmul_plain_apply none x y _ r c).trans ?_
  rw [zeros, zero_add]

/-- The product of two matrices over their first axes. -/
def transposedLhs (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)),
    (by decide : ([1, 0] : List (Fin 2)).Perm (List.finRange 2)), rfl, Nat.two_pos,
    fun b => by fin_cases b <;> rfl⟩

/-- Columns against columns. -/
theorem cols_cols {M K N : ℕ} (d : DotDims ⟨2, ![K, M]⟩ ⟨2, ![K, N]⟩ ⟨2, ![M, N]⟩) (hd : d = transposedLhs M K N)
    (x : FVec Ideal ⟨2, ![K, M]⟩ .bf16) (y : FVec Ideal ⟨2, ![K, N]⟩ .bf16) (r : Fin M) (c : Fin N) :
    matmul (F := Ideal) d none x y (constant ⟨2, ![M, N]⟩ .f32 0x00000000#32) (ix2 r c) = ∑ k : Fin K, x (ix2 k r) * y (ix2 k c) := by
  subst hd
  refine (Ideal.matmul_apply (transposedLhs M K N) none x y _ (ix2 r c)).trans ?_
  rw [zeros, zero_add, ← Equiv.sum_comp (contrEquiv1 (transposedLhs M K N) K rfl rfl).symm]
  refine Finset.sum_congr rfl fun k _ => ?_
  have hk := contrEquiv1_symm_val (transposedLhs M K N) K rfl rfl k
  refine congrArg₂ (· * ·) (congrArg x (funext fun a => Fin.ext ?_)) (congrArg y (funext fun a => Fin.ext ?_))
  · match a with
    | ⟨0, _⟩ => exact hk
    | ⟨1, _⟩ => rfl
  · match a with
    | ⟨0, _⟩ => exact hk
    | ⟨1, _⟩ => rfl

/-- A sum over a long axis, block by block. -/
theorem sum_blocks {A B n : ℕ} (h : n = A * B) (f : Fin n → EReal) :
    ∑ i, f i = ∑ a : Fin A, ∑ b : Fin B, f ⟨a.val * B + b.val, by
      subst h
      exact lt_of_lt_of_le (Nat.add_lt_add_left b.isLt _) ((Nat.succ_mul a.val B).symm ▸ Nat.mul_le_mul_right B a.isLt)⟩ := by
  subst h
  rw [← Equiv.sum_comp finProdFinEquiv, Fintype.sum_prod_type]
  refine Finset.sum_congr rfl fun a _ => Finset.sum_congr rfl fun b _ => congrArg f (Fin.ext ?_)
  show b.val + B * a.val = a.val * B + b.val
  rw [Nat.mul_comm, Nat.add_comm]

/-- A place of a matrix is its row and its column. -/
theorem place {M N : ℕ} (i : Shape.Idx ⟨2, ![M, N]⟩) : ∃ (p : Fin M) (q : Fin N), i = ix2 p q :=
  ⟨i 0, i 1, by funext a; match a with | ⟨0, _⟩ => rfl | ⟨1, _⟩ => rfl⟩

/-- A place of a stack of matrices is its matrix, its row and its column. -/
theorem place3 {D M N : ℕ} (i : Shape.Idx ⟨3, ![D, M, N]⟩) : ∃ (d : Fin D) (p : Fin M) (q : Fin N), i = ix3 d p q :=
  ⟨i 0, i 1, i 2, by funext a; match a with | ⟨0, _⟩ => rfl | ⟨1, _⟩ => rfl | ⟨2, _⟩ => rfl⟩

/-- A matrix as a stack of one. -/
theorem stack_one {M N : ℕ} {α : Type} (v : Shape.Idx ⟨2, ![M, N]⟩ → α) (h : Shape.ShapeCasts ⟨2, ![M, N]⟩ ⟨3, ![1, M, N]⟩) (z : Fin 1) (p : Fin M) (q : Fin N) :
    shapeCast ⟨3, ![1, M, N]⟩ v h (ix3 z p q) = v (ix2 p q) :=
  (shapeCast_addUnit_apply ![M, N] v h (ix3 z p q)).trans (congrArg v (by funext a; match a with | ⟨0, _⟩ => rfl | ⟨1, _⟩ => rfl))

/-- The one matrix of a stack of one. -/
theorem unstack_one {M N : ℕ} {α : Type} (v : Shape.Idx ⟨3, ![1, M, N]⟩ → α) (h : Shape.ShapeCasts ⟨3, ![1, M, N]⟩ ⟨2, ![M, N]⟩) (p : Fin M) (q : Fin N) :
    shapeCast ⟨2, ![M, N]⟩ v h (ix2 p q) = v (ix3 0 p q) :=
  (shapeCast_dropUnit_apply ![M, N] v h (ix2 p q)).trans
    (congrArg v (by funext a; match a with | ⟨0, _⟩ => rfl | ⟨1, _⟩ => rfl | ⟨2, _⟩ => rfl))

/-- Two matrices side by side: a column of the left one. -/
theorem beside_left {M N P : ℕ} {α : Type} (x y : Shape.Idx ⟨2, ![M, N]⟩ → α)
    (h : Shape.Concatenates [⟨2, ![M, N]⟩, ⟨2, ![M, N]⟩] ⟨2, ![M, P]⟩ 1) (p : Fin M) (q : Fin P) (k : Fin N) (hq : k.val = q.val) :
    concatenate ⟨2, ![M, P]⟩ 1 [⟨_, x⟩, ⟨_, y⟩] h (ix2 p q) = x (ix2 p k) :=
  concatenate_pair_apply_left (t := ⟨2, ![M, P]⟩) 1 x y h (ix2 p q) rfl (ix2 p k)
    fun b => by match b with | ⟨0, _⟩ => rfl | ⟨1, _⟩ => exact hq

/-- Two matrices side by side: a column of the right one. -/
theorem beside_right {M N P : ℕ} {α : Type} (x y : Shape.Idx ⟨2, ![M, N]⟩ → α)
    (h : Shape.Concatenates [⟨2, ![M, N]⟩, ⟨2, ![M, N]⟩] ⟨2, ![M, P]⟩ 1) (p : Fin M) (q : Fin P) (k : Fin N) (hq : k.val + N = q.val) :
    concatenate ⟨2, ![M, P]⟩ 1 [⟨_, x⟩, ⟨_, y⟩] h (ix2 p q) = y (ix2 p k) :=
  concatenate_pair_apply_right (t := ⟨2, ![M, P]⟩) 1 x y h (ix2 p q) rfl rfl (ix2 p k)
    (fun b hb => by match b with | ⟨0, _⟩ => rfl | ⟨1, _⟩ => exact absurd rfl hb) hq

end Cert.Products

end
-- ==== Proof.UpDw.lean ====
/-
  THE GRADIENT OF THE UP PROJECTION IN ITS WEIGHT. The result is stacked by device: the first four devices have the columns
  whose gradient is the first array's, the last four those of the second. Point t of the grid multiplies column block t % 2
  of the input with device t / 2's columns of the gradient, over all the tokens; every place of the result lies in one
  block.
-/
module

public import proofs.«01_k».proof.Defs
public import proofs.«01_k».proof.Proof.Gen.UpDw.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Products
public import Idealize.ShloMosaic.Lib.VecWindow

@[expose] public section

noncomputable section

namespace Cert.UpDwProof

open Cert.UpDwIdeal Cert.UpDwIdeal.Gen Idealize.ShloMosaic.TcCoe Idealize.SL.Sem Idealize.ShloMosaic.Tactic
open Idealize.ShloMosaic hiding ix1 ix2 ix3 ix4
open Idealize.ShloMosaic.ValueIdx

/-! ## What one point leaves -/

/-- A point of the first array leaves its product. -/
theorem left_point (c : Dev nD) (i : grid0.Coords) (arg2 : Memref sig .tc .vmem S2048x1024 .bf16) (harg2 : arg2.IsWhole)
    (arg3 : Memref sig .tc .vmem S2048x1408 .bf16) (harg3 : arg3.IsWhole) (arg4 : Memref sig .tc .vmem S2048x1408 .bf16) (harg4 : arg4.IsWhole)
    (arg5 : Memref sig .tc .vmem S1x1024x1408 .bf16) (harg5 : arg5.IsWhole)
    (hc0 : cond0_0 i) (hc1 : ¬cond0_1 i) (x0 : Vec Ideal S2048x1024 .bf16) (x1 x2 : Vec Ideal S2048x1408 .bf16) :
    out0_A_3 (F := Ideal) c i arg2 harg2 arg3 harg3 arg4 harg4 arg5 harg5 hc0 hc1 x0 x1 x2 = k0_pay1 x0 x1 := by
  unfold out0_A_3
  rw [View.read_writes_eq_canon _ _ _ (cover0_A_3 c i arg2 harg2 arg3 harg3 arg4 harg4 arg5 harg5 hc0 hc1 x0 x1 x2)]
  unfold kernelRun0_A
  dsimp only
  sl_unfold_words
  have hz : ![0, 0, 0] = fun _ : Fin 3 => 0 := by funext a; fin_cases a <;> rfl
  have e0 := (View.readAt_full arg2.view (harg2.unread x0) inb_S2048x1024_S2048x1024_0_0).trans (harg2.read_unread x0)
  have e1 := (View.readAt_full arg3.view (harg3.unread x1) inb_S2048x1408_S2048x1408_0_0).trans (harg3.read_unread x1)
  rw [e0, e1]
  exact View.canon_cons_unit_zero (S := S1x1024x1408) hz _ _ []

/-- A point of the second array leaves its product. -/
theorem right_point (c : Dev nD) (i : grid0.Coords) (arg2 : Memref sig .tc .vmem S2048x1024 .bf16) (harg2 : arg2.IsWhole)
    (arg3 : Memref sig .tc .vmem S2048x1408 .bf16) (harg3 : arg3.IsWhole) (arg4 : Memref sig .tc .vmem S2048x1408 .bf16) (harg4 : arg4.IsWhole)
    (arg5 : Memref sig .tc .vmem S1x1024x1408 .bf16) (harg5 : arg5.IsWhole)
    (hc0 : ¬cond0_0 i) (hc1 : cond0_1 i) (x0 : Vec Ideal S2048x1024 .bf16) (x1 x2 : Vec Ideal S2048x1408 .bf16) :
    out0_B_3 (F := Ideal) c i arg2 harg2 arg3 harg3 arg4 harg4 arg5 harg5 hc0 hc1 x0 x1 x2 = k0_pay2 x0 x2 := by
  unfold out0_B_3
  rw [View.read_writes_eq_canon _ _ _ (cover0_B_3 c i arg2 harg2 arg3 harg3 arg4 harg4 arg5 harg5 hc0 hc1 x0 x1 x2)]
  unfold kernelRun0_B
  dsimp only
  sl_unfold_words
  have hz : ![0, 0, 0] = fun _ : Fin 3 => 0 := by funext a; fin_cases a <;> rfl
  have e0 := (View.readAt_full arg2.view (harg2.unread x0) inb_S2048x1024_S2048x1024_0_0).trans (harg2.read_unread x0)
  have e1 := (View.readAt_full arg4.view (harg4.unread x2) inb_S2048x1408_S2048x1408_0_0).trans (harg4.read_unread x2)
  rw [e0, e1]
  exact View.canon_cons_unit_zero (S := S1x1024x1408) hz _ _ []

theorem product (x : Vec Ideal S2048x1024 .bf16) (y : Vec Ideal S2048x1408 .bf16) (z : Fin 1) (r : Fin 1024) (n : Fin 1408) :
    k0_pay1 x y (ix3 z r n) = ∑ k : Fin 2048, (x (ix2 k r) : EReal) * y (ix2 k n) :=
  (Cert.Products.stack_one _ shapeCasts_S1024x1408_S1x1024x1408 z r n).trans (Cert.Products.cols_cols _ rfl x y r n)

/-! ## The blocks of a point -/

variable (m : (ℓ : Loc nD τ sig) → Buf (Elt Ideal) ℓ)

/-- The arguments of a run: the input and the two gradients. -/
abbrev inp (c : Dev nD) : S2048x2048.Idx → EReal := m ((c.tc : Thread nD τ).loc main_arg0)
abbrev cl (c : Dev nD) : S2048x5632.Idx → EReal := m ((c.tc : Thread nD τ).loc main_arg1)
abbrev cr (c : Dev nD) : S2048x5632.Idx → EReal := m ((c.tc : Thread nD τ).loc main_arg2)

/-- The two gradients side by side. -/
abbrev ct (c : Dev nD) : Cert.UpDwRefIdeal.S2048x11264.Idx → EReal := Cert.UpDwRefIdeal.Read.val_main_v0 (F := Ideal) (cl m c) (cr m c)

theorem idx0 : ∀ t : Fin cfg0.N, win0_0.index t = ![0, t.val % 2] := by decide +kernel
theorem idx1 : ∀ t : Fin cfg0.N, win0_1.index t = ![0, min (t.val / 2) 3] := by decide +kernel
theorem idx2 : ∀ t : Fin cfg0.N, win0_2.index t = ![0, t.val / 2 - 4] := by decide +kernel
theorem idx3 : ∀ t : Fin cfg0.N, win0_3.index t = ![t.val / 2, t.val % 2, 0] := by decide +kernel

/-- The point of device d and row block b. -/
def pt (d : Fin 8) (b : Fin 2) : Fin cfg0.N := ⟨d.val * 2 + b.val, by show _ < 16; omega⟩

theorem read0 (c : Dev nD) (d : Fin 8) (b : Fin 2) (k : Fin 2048) (r : Fin 1024) :
    iblk m c 0 (pt d b) (ix2 k r) = inp m c (ix2 k ⟨b.val * 1024 + r.val, by omega⟩) := by
  refine Eq.trans (b := V m c main_arg0 (((cfg0.win 0).blk (pt d b)).view.emb (ix2 k r))) rfl ((congrFun (V_main_arg0 m c) _).trans ?_)
  refine congrArg (inp m c) (funext fun x => Fin.ext ((Pipeline.Window.rect_emb_val win0_0 (pt d b) (ix2 k r) x).trans ?_))
  rw [idx0]
  match x with
  | ⟨0, _⟩ => show 0 * 2048 + k.val = k.val; omega
  | ⟨1, _⟩ => show (d.val * 2 + b.val) % 2 * 1024 + r.val = b.val * 1024 + r.val; omega

theorem read1 (c : Dev nD) (d : Fin 8) (hd : d.val < 4) (b : Fin 2) (k : Fin 2048) (n : Fin 1408) :
    iblk m c 1 (pt d b) (ix2 k n) = ct m c (ix2 k ⟨d.val * 1408 + n.val, by omega⟩) := by
  refine Eq.trans (b := V m c main_arg1 (((cfg0.win 1).blk (pt d b)).view.emb (ix2 k n))) rfl ((congrFun (V_main_arg1 m c) _).trans ?_)
  refine Eq.trans ?_ (Cert.Products.beside_left (cl m c) (cr m c) _ _ _ ⟨d.val * 1408 + n.val, by omega⟩ (by rfl)).symm
  refine congrArg (cl m c) (funext fun x => Fin.ext ((Pipeline.Window.rect_emb_val win0_1 (pt d b) (ix2 k n) x).trans ?_))
  rw [idx1]
  match x with
  | ⟨0, _⟩ => show 0 * 2048 + k.val = k.val; omega
  | ⟨1, _⟩ => show min ((d.val * 2 + b.val) / 2) 3 * 1408 + n.val = d.val * 1408 + n.val; omega

theorem read2 (c : Dev nD) (d : Fin 8) (hd : 4 ≤ d.val) (b : Fin 2) (k : Fin 2048) (n : Fin 1408) :
    iblk m c 2 (pt d b) (ix2 k n) = ct m c (ix2 k ⟨d.val * 1408 + n.val, by omega⟩) := by
  refine Eq.trans (b := V m c main_arg2 (((cfg0.win 2).blk (pt d b)).view.emb (ix2 k n))) rfl ((congrFun (V_main_arg2 m c) _).trans ?_)
  refine Eq.trans ?_ (Cert.Products.beside_right (cl m c) (cr m c) _ _ _ ⟨(d.val - 4) * 1408 + n.val, by omega⟩
    (by show (d.val - 4) * 1408 + n.val + 5632 = d.val * 1408 + n.val; omega)).symm
  refine congrArg (cr m c) (funext fun x => Fin.ext ((Pipeline.Window.rect_emb_val win0_2 (pt d b) (ix2 k n) x).trans ?_))
  rw [idx2]
  match x with
  | ⟨0, _⟩ => show 0 * 2048 + k.val = k.val; omega
  | ⟨1, _⟩ => show ((d.val * 2 + b.val) / 2 - 4) * 1408 + n.val = (d.val - 4) * 1408 + n.val; omega

/-- What a point leaves. -/
theorem point (c : Dev nD) (d : Fin 8) (b : Fin 2) (r : Fin 1024) (n : Fin 1408) :
    (outsAt0 m c (pt d b).val (pt d b).isLt : S1x1024x1408.Idx → EReal) (ix3 0 r n)
      = ∑ k : Fin 2048, inp m c (ix2 k ⟨b.val * 1024 + r.val, by omega⟩) * ct m c (ix2 k ⟨d.val * 1408 + n.val, by omega⟩) := by
  rcases Nat.lt_or_ge d.val 4 with h | h
  · have h8 : (pt d b).val < 8 := by show d.val * 2 + b.val < 8; omega
    rw [outsAt0_A m c (pt d b) h8 (by omega), left_point]
    refine (product _ _ 0 r n).trans (Finset.sum_congr rfl fun k _ => ?_)
    rw [read0, read1 m c d h]
  · have h8 : 8 ≤ (pt d b).val := by show 8 ≤ d.val * 2 + b.val; omega
    rw [outsAt0_B m c (pt d b) (by omega) h8, right_point]
    refine (product _ _ 0 r n).trans (Finset.sum_congr rfl fun k _ => ?_)
    rw [read0, read2 m c d h]

/-- The result, place by place. -/
theorem final (c : Dev nD) (d : Fin 8) (i : Fin 2048) (j : Fin 1408) :
    ((dats m 0 c).arrAt 3 cfg0.N : S8x2048x1408.Idx → EReal) (ix3 d i j)
      = ∑ k : Fin 2048, inp m c (ix2 k i) * ct m c (ix2 k ⟨d.val * 1408 + j.val, by omega⟩) := by
  let b : Fin 2 := ⟨i.val / 1024, by omega⟩
  let r : Fin 1024 := ⟨i.val % 1024, by omega⟩
  have hi : (⟨b.val * 1024 + r.val, by omega⟩ : Fin 2048) = i := Fin.ext (by show i.val / 1024 * 1024 + i.val % 1024 = i.val; omega)
  have e : ((cfg0.win 3).blk (pt d b)).view.emb (ix3 0 r j) = (ix3 d i j : S8x2048x1408.Idx) := by
    refine funext fun x => Fin.ext ((Pipeline.Window.rect_emb_val win0_3 (pt d b) (ix3 0 r j) x).trans ?_)
    rw [idx3]
    match x with
    | ⟨0, _⟩ => show (d.val * 2 + i.val / 1024) / 2 * 1 + 0 = d.val; omega
    | ⟨1, _⟩ => show (d.val * 2 + i.val / 1024) % 2 * 1024 + i.val % 1024 = i.val; omega
    | ⟨2, _⟩ => show 0 * 1408 + j.val = j.val; omega
  have f := (dats m 0 c).arrAt_emb_eq_flushed 3 Cert.UpDwIdeal.Value.disjoint3 (pt d b) (flush0_3 _) (ix3 0 r j)
  rw [e, Cert.UpDwIdeal.Value.flushed3] at f
  have ex : (cfg0.win 3).xinj (grid0.coords (pt d b)) (ix3 0 r j) = (ix3 0 r j : S1x1024x1408.Idx) :=
    funext fun x => Fin.ext (by match x with | ⟨0, _⟩ => rfl | ⟨1, _⟩ => rfl | ⟨2, _⟩ => rfl)
  have s := point m c d b r j
  rw [hi] at s
  exact f.trans ((cast_eq _ _).trans ((congrArg (outsAt0 m c (pt d b).val (pt d b).isLt) ex).trans s))

/-- The kernel's result is the reference's. -/
theorem values (c : Dev nD) : ((dats m 0 c).arrAt 3 cfg0.N : S8x2048x1408.Idx → EReal)
    = Cert.UpDwRefIdeal.Read.val_main_v9 (F := Ideal) (inp m c) (cl m c) (cr m c) := by
  refine funext fun (i : S8x2048x1408.Idx) => ?_
  obtain ⟨d, p, q, rfl⟩ := Cert.Products.place3 i
  refine (final m c d p q).trans (Eq.symm ((((Cert.UpDwRefIdeal.Read.val_main_v8_apply (F := Ideal) (inp m c) (cl m c) (cr m c) _).trans
    (Cert.UpDwRefIdeal.Read.val_main_v7_apply (F := Ideal) (inp m c) (cl m c) (cr m c) _)).trans
    ((Cert.UpDwRefIdeal.Read.val_main_v6_apply (F := Ideal) (inp m c) (cl m c) (cr m c) _).trans
    (Cert.UpDwRefIdeal.Read.val_main_v5_apply (inp m c) (cl m c) (cr m c) _))).trans (Finset.sum_congr rfl fun k _ => ?_)))
  refine (mul_comm _ _).trans (congrArg₂ (· * ·) (congrArg (inp m c) (funext fun a => Fin.ext ?_)) (congrArg (ct m c) (funext fun a => Fin.ext ?_)))
  · match a with
    | ⟨0, _⟩ => rfl
    | ⟨1, _⟩ => show ((p.val * 8 + d.val) * 1408 + q.val) / 11264 = p.val; omega
  · match a with
    | ⟨0, _⟩ => rfl
    | ⟨1, _⟩ => show ((p.val * 8 + d.val) * 1408 + q.val) % 11264 = d.val * 1408 + q.val; omega

theorem algebraic : Cert.algebraic_UpDwIdeal_UpDwRefIdeal (hUpDwIdeal := Cert.UpDwIdeal.Gen.facts)
    (hUpDwRefIdeal := Cert.UpDwRefIdeal.Gen.facts) := by
  intro m ρ m' ρ' _ hargs
  refine ⟨fun c => (dats m 0 c).arrAt 3 cfg0.N, Cert.UpDwIdeal.Value.run_blocks (F := Ideal) m ρ, ?_⟩
  refine (θ_run (Cert.UpDwRefIdeal.defs (F := Ideal)) _ _).mono (fun r h c => ?_) (Cert.UpDwRefIdeal.Value.run (F := Ideal) m' ρ')
  obtain ⟨h0, hr⟩ := h c
  obtain ⟨e0, e1, e2⟩ := hargs c
  refine ⟨h0.trans ((Cert.UpDwRefIdeal.Read.val_main_v9_eq (F := Ideal) _ _ _).trans (Eq.trans ?_ (values m c).symm)), hr⟩
  rw [e0, e1, e2]

theorem frame_reference : Cert.quiescent_UpDwRefIdeal (hUpDwRefIdeal := Cert.UpDwRefIdeal.Gen.facts) := fun m ρ _ =>
  (θ_run (Cert.UpDwRefIdeal.defs (F := Ideal)) _ _).mono (fun r h => ⟨fun c => (h c).2, sem_eq_zero_of_no_sems (by decide) r.2⟩)
    (Cert.UpDwRefIdeal.Value.run (F := Ideal) m ρ)

end Cert.UpDwProof

end
-- ==== Proof.UpDx.lean ====
/-
  THE GRADIENT OF THE UP PROJECTION IN ITS INPUT. The weight is stacked by device: the first four devices have the columns
  whose gradient is the first array's, the last four those of the second. Point t of the grid multiplies row block t / 8 of
  the gradient, at device t % 8's columns, with that device's columns of the weight; the first of the eight points of a row
  block starts the sum, each later one adds to it, and the last one's sum is the result.
-/
module

public import proofs.«01_k».proof.Defs
public import proofs.«01_k».proof.Proof.Gen.UpDx.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Products
public import Idealize.ShloMosaic.Lib.VecWindow

@[expose] public section

noncomputable section

namespace Cert.UpDxProof

open Cert.UpDxIdeal Cert.UpDxIdeal.Gen Idealize.ShloMosaic.TcCoe Idealize.SL.Sem Idealize.ShloMosaic.Tactic
open Idealize.ShloMosaic hiding ix1 ix2 ix3 ix4
open Idealize.ShloMosaic.ValueIdx

/-! ## What one point leaves -/

theorem zero2 : ![0, 0] = fun _ : Fin 2 => 0 := by funext a; fin_cases a <;> rfl

/-- The first point of a row block leaves its product. -/
theorem first (c : Dev nD) (i : grid0.Coords) (arg2 : Memref sig .tc .vmem S1024x1408 .bf16) (harg2 : arg2.IsWhole)
    (arg3 : Memref sig .tc .vmem S1024x1408 .bf16) (harg3 : arg3.IsWhole) (arg4 : Memref sig .tc .vmem S1x2048x1408 .bf16) (harg4 : arg4.IsWhole)
    (arg5 : Memref sig .tc .vmem S1024x2048 .f32) (harg5 : arg5.IsWhole)
    (hc0 : cond0_0 i) (hc1 : cond0_1 i) (hc2 : ¬cond0_2 i) (hc3 : ¬cond0_3 i) (x0 x1 : Vec Ideal S1024x1408 .bf16) (x2 : Vec Ideal S1x2048x1408 .bf16) :
    out0_A_3 (F := Ideal) c i arg2 harg2 arg3 harg3 arg4 harg4 arg5 harg5 hc0 hc1 hc2 hc3 x0 x1 x2 = k0_pay1 x0 x2 := by
  unfold out0_A_3
  rw [View.read_writes_eq_canon _ _ _ (cover0_A_3 c i arg2 harg2 arg3 harg3 arg4 harg4 arg5 harg5 hc0 hc1 hc2 hc3 x0 x1 x2)]
  unfold kernelRun0_A
  dsimp only
  sl_unfold_words
  have e2 := (View.readAt_full arg2.view (harg2.unread x0) inb_S1024x1408_S1024x1408_0_0).trans (harg2.read_unread x0)
  have e4 := (View.readAt_full arg4.view (harg4.unread x2) inb_S1x2048x1408_S1x2048x1408_0_0_0).trans (harg4.read_unread x2)
  rw [e2, e4]
  exact View.canon_cons_unit_zero (S := S1024x2048) zero2 _ _ []

/-- A later point of the first array adds its product to what the point before left. -/
theorem left_later (c : Dev nD) (i : grid0.Coords) (arg2 : Memref sig .tc .vmem S1024x1408 .bf16) (harg2 : arg2.IsWhole)
    (arg3 : Memref sig .tc .vmem S1024x1408 .bf16) (harg3 : arg3.IsWhole) (arg4 : Memref sig .tc .vmem S1x2048x1408 .bf16) (harg4 : arg4.IsWhole)
    (arg5 : Memref sig .tc .vmem S1024x2048 .f32) (harg5 : arg5.IsWhole)
    (hc0 : cond0_0 i) (hc1 : ¬cond0_1 i) (hc2 : cond0_2 i) (hc3 : ¬cond0_3 i) (x0 x1 : Vec Ideal S1024x1408 .bf16) (x2 : Vec Ideal S1x2048x1408 .bf16) (xo : Vec Ideal S1024x2048 .f32) :
    out0_B_3 (F := Ideal) c i arg2 harg2 arg3 harg3 arg4 harg4 arg5 harg5 hc0 hc1 hc2 hc3 x0 x1 x2 xo = k0_pay2 x0 x2 xo := by
  unfold out0_B_3
  rw [View.read_writes_eq_canon _ _ _ (cover0_B_3 c i arg2 harg2 arg3 harg3 arg4 harg4 arg5 harg5 hc0 hc1 hc2 hc3 x0 x1 x2 xo)]
  unfold kernelRun0_B
  dsimp only
  sl_unfold_words
  have e2 := (View.readAt_full arg2.view (harg2.unread x0) inb_S1024x1408_S1024x1408_0_0).trans (harg2.read_unread x0)
  have e4 := (View.readAt_full arg4.view (harg4.unread x2) inb_S1x2048x1408_S1x2048x1408_0_0_0).trans (harg4.read_unread x2)
  have e5 := (View.readAt_full arg5.view (harg5.unread xo) inb_S1024x2048_S1024x2048_0_0).trans (harg5.read_unread xo)
  rw [e2, e4, e5]
  exact View.canon_cons_unit_zero (S := S1024x2048) zero2 _ _ []

/-- A point of the second array adds its product to what the point before left. -/
theorem right_later (c : Dev nD) (i : grid0.Coords) (arg2 : Memref sig .tc .vmem S1024x1408 .bf16) (harg2 : arg2.IsWhole)
    (arg3 : Memref sig .tc .vmem S1024x1408 .bf16) (harg3 : arg3.IsWhole) (arg4 : Memref sig .tc .vmem S1x2048x1408 .bf16) (harg4 : arg4.IsWhole)
    (arg5 : Memref sig .tc .vmem S1024x2048 .f32) (harg5 : arg5.IsWhole)
    (hc0 : ¬cond0_0 i) (hc3 : cond0_3 i) (hc4 : ¬cond0_4 i) (hc5 : cond0_5 i) (x0 x1 : Vec Ideal S1024x1408 .bf16) (x2 : Vec Ideal S1x2048x1408 .bf16) (xo : Vec Ideal S1024x2048 .f32) :
    out0_C_3 (F := Ideal) c i arg2 harg2 arg3 harg3 arg4 harg4 arg5 harg5 hc0 hc3 hc4 hc5 x0 x1 x2 xo = k0_pay4 x1 x2 xo := by
  unfold out0_C_3
  rw [View.read_writes_eq_canon _ _ _ (cover0_C_3 c i arg2 harg2 arg3 harg3 arg4 harg4 arg5 harg5 hc0 hc3 hc4 hc5 x0 x1 x2 xo)]
  unfold kernelRun0_C
  dsimp only
  sl_unfold_words
  have e3 := (View.readAt_full arg3.view (harg3.unread x1) inb_S1024x1408_S1024x1408_0_0).trans (harg3.read_unread x1)
  have e4 := (View.readAt_full arg4.view (harg4.unread x2) inb_S1x2048x1408_S1x2048x1408_0_0_0).trans (harg4.read_unread x2)
  have e5 := (View.readAt_full arg5.view (harg5.unread xo) inb_S1024x2048_S1024x2048_0_0).trans (harg5.read_unread xo)
  rw [e3, e4, e5]
  exact View.canon_cons_unit_zero (S := S1024x2048) zero2 _ _ []

theorem product (x : Vec Ideal S1024x1408 .bf16) (y : Vec Ideal S1x2048x1408 .bf16) (r : Fin 1024) (n : Fin 2048) :
    k0_pay1 x y (ix2 r n) = ∑ k : Fin 1408, (x (ix2 r k) : EReal) * y (ix3 0 n k) :=
  (Cert.Products.rows_rows _ rfl x _ r n).trans
    (Finset.sum_congr rfl fun k _ => congrArg (x (ix2 r k) * ·) (Cert.Products.unstack_one y shapeCasts_S1x2048x1408_S2048x1408 n k))

theorem added (x : Vec Ideal S1024x1408 .bf16) (y : Vec Ideal S1x2048x1408 .bf16) (z : Vec Ideal S1024x2048 .f32) (j : S1024x2048.Idx) :
    k0_pay2 x y z j = (z j : EReal) + k0_pay1 x y j :=
  congrArg (fun v : Vec Ideal S1024x2048 .f32 => (v j : EReal) + k0_pay1 x y j) (shapeCast_self z shapeCasts_S1024x2048_S1024x2048)

/-! ## The blocks of a point -/

variable (m : (ℓ : Loc nD τ sig) → Buf (Elt Ideal) ℓ)

/-- The arguments of a run: the two gradients and the weight, stacked by device. -/
abbrev cl (c : Dev nD) : S2048x5632.Idx → EReal := m ((c.tc : Thread nD τ).loc main_arg0)
abbrev cr (c : Dev nD) : S2048x5632.Idx → EReal := m ((c.tc : Thread nD τ).loc main_arg1)
abbrev wt (c : Dev nD) : S8x2048x1408.Idx → EReal := m ((c.tc : Thread nD τ).loc main_arg2)

/-- The two gradients side by side. -/
abbrev ct (c : Dev nD) : Cert.UpDxRefIdeal.S2048x11264.Idx → EReal := Cert.UpDxRefIdeal.Read.val_main_v0 (F := Ideal) (cl m c) (cr m c)

theorem idx0 : ∀ t : Fin cfg0.N, win0_0.index t = ![t.val / 8, min (t.val % 8) 3] := by decide +kernel
theorem idx1 : ∀ t : Fin cfg0.N, win0_1.index t = ![t.val / 8, t.val % 8 - 4] := by decide +kernel
theorem idx2 : ∀ t : Fin cfg0.N, win0_2.index t = ![t.val % 8, 0, 0] := by decide +kernel
theorem idx3 : ∀ t : Fin cfg0.N, win0_3.index t = ![t.val / 8, 0] := by decide +kernel

/-- The point of row block a and device d. -/
def pt (a : Fin 2) (d : Fin 8) : Fin cfg0.N := ⟨a.val * 8 + d.val, by show _ < 16; omega⟩

theorem read0 (c : Dev nD) (a : Fin 2) (d : Fin 8) (hd : d.val < 4) (r : Fin 1024) (k : Fin 1408) :
    iblk m c 0 (pt a d) (ix2 r k) = ct m c (ix2 ⟨a.val * 1024 + r.val, by omega⟩ ⟨d.val * 1408 + k.val, by omega⟩) := by
  refine Eq.trans (b := V m c main_arg0 (((cfg0.win 0).blk (pt a d)).view.emb (ix2 r k))) rfl ((congrFun (V_main_arg0 m c) _).trans ?_)
  refine Eq.trans ?_ (Cert.Products.beside_left (cl m c) (cr m c) _ _ _ ⟨d.val * 1408 + k.val, by omega⟩ (by rfl)).symm
  refine congrArg (cl m c) (funext fun x => Fin.ext ((Pipeline.Window.rect_emb_val win0_0 (pt a d) (ix2 r k) x).trans ?_))
  rw [idx0]
  match x with
  | ⟨0, _⟩ => show (a.val * 8 + d.val) / 8 * 1024 + r.val = a.val * 1024 + r.val; omega
  | ⟨1, _⟩ => show min ((a.val * 8 + d.val) % 8) 3 * 1408 + k.val = d.val * 1408 + k.val; omega

theorem read1 (c : Dev nD) (a : Fin 2) (d : Fin 8) (hd : 4 ≤ d.val) (r : Fin 1024) (k : Fin 1408) :
    iblk m c 1 (pt a d) (ix2 r k) = ct m c (ix2 ⟨a.val * 1024 + r.val, by omega⟩ ⟨d.val * 1408 + k.val, by omega⟩) := by
  refine Eq.trans (b := V m c main_arg1 (((cfg0.win 1).blk (pt a d)).view.emb (ix2 r k))) rfl ((congrFun (V_main_arg1 m c) _).trans ?_)
  refine Eq.trans ?_ (Cert.Products.beside_right (cl m c) (cr m c) _ _ _ ⟨(d.val - 4) * 1408 + k.val, by omega⟩
    (by show (d.val - 4) * 1408 + k.val + 5632 = d.val * 1408 + k.val; omega)).symm
  refine congrArg (cr m c) (funext fun x => Fin.ext ((Pipeline.Window.rect_emb_val win0_1 (pt a d) (ix2 r k) x).trans ?_))
  rw [idx1]
  match x with
  | ⟨0, _⟩ => show (a.val * 8 + d.val) / 8 * 1024 + r.val = a.val * 1024 + r.val; omega
  | ⟨1, _⟩ => show ((a.val * 8 + d.val) % 8 - 4) * 1408 + k.val = (d.val - 4) * 1408 + k.val; omega

theorem read2 (c : Dev nD) (a : Fin 2) (d : Fin 8) (n : Fin 2048) (k : Fin 1408) :
    iblk m c 2 (pt a d) (ix3 0 n k) = wt m c (ix3 d n k) := by
  refine Eq.trans (b := V m c main_arg2 (((cfg0.win 2).blk (pt a d)).view.emb (ix3 0 n k))) rfl ((congrFun (V_main_arg2 m c) _).trans ?_)
  refine congrArg (wt m c) (funext fun x => Fin.ext ((Pipeline.Window.rect_emb_val win0_2 (pt a d) (ix3 0 n k) x).trans ?_))
  rw [idx2]
  match x with
  | ⟨0, _⟩ => show (a.val * 8 + d.val) % 8 * 1 + 0 = d.val; omega
  | ⟨1, _⟩ => show 0 * 2048 + n.val = n.val; omega
  | ⟨2, _⟩ => show 0 * 1408 + k.val = k.val; omega

/-! ## The sum over the devices -/

/-- Device d's part of the result at row i and column n. -/
def part (c : Dev nD) (i n : Fin 2048) (d : Fin 8) : EReal :=
  ∑ k : Fin 1408, ct m c (ix2 i ⟨d.val * 1408 + k.val, by omega⟩) * wt m c (ix3 d n k)

theorem point_left (c : Dev nD) (a : Fin 2) (d : Fin 8) (hd : d.val < 4) (r : Fin 1024) (n : Fin 2048) :
    k0_pay1 (F := Ideal) (iblk m c 0 (pt a d)) (iblk m c 2 (pt a d)) (ix2 r n) = part m c ⟨a.val * 1024 + r.val, by omega⟩ n d := by
  refine (product _ _ r n).trans (Finset.sum_congr rfl fun k _ => ?_)
  rw [read0 m c a d hd, read2]

theorem point_right (c : Dev nD) (a : Fin 2) (d : Fin 8) (hd : 4 ≤ d.val) (r : Fin 1024) (n : Fin 2048) :
    k0_pay1 (F := Ideal) (iblk m c 1 (pt a d)) (iblk m c 2 (pt a d)) (ix2 r n) = part m c ⟨a.val * 1024 + r.val, by omega⟩ n d := by
  refine (product _ _ r n).trans (Finset.sum_congr rfl fun k _ => ?_)
  rw [read1 m c a d hd, read2]

/-- After device d's point the sum holds the parts of the devices up to d. -/
theorem state (c : Dev nD) (a : Fin 2) (r : Fin 1024) (n : Fin 2048) : ∀ (d : ℕ) (hd : d < 8),
    (outsAt0 m c (pt a ⟨d, hd⟩).val (pt a ⟨d, hd⟩).isLt : S1024x2048.Idx → EReal) (ix2 r n)
      = ∑ e : Fin (d + 1), part m c ⟨a.val * 1024 + r.val, by omega⟩ n ⟨e.val, by omega⟩
  | 0, hd => by
    have h0 : (pt a ⟨0, hd⟩).val % 8 = 0 := by show (a.val * 8 + 0) % 8 = 0; omega
    rw [outsAt0_A m c (pt a ⟨0, hd⟩) (by omega) h0 (by omega) (by omega), first, point_left m c a _ (by decide : 0 < 4), Fin.sum_univ_one]
    rfl
  | d + 1, hd => by
    have h1 : (pt a ⟨d + 1, hd⟩).val % 8 = d + 1 := by show (a.val * 8 + (d + 1)) % 8 = d + 1; omega
    have s := state c a r n d (by omega)
    rw [Fin.sum_univ_castSucc]
    rcases Nat.lt_or_ge (d + 1) 4 with h4 | h4
    · rw [outsAt0_B m c (pt a ⟨d + 1, hd⟩) (by omega) (by omega) (by omega) (by omega), left_later, added, point_left m c a _ h4]
      exact congrArg (· + _) s
    · rw [outsAt0_C m c (pt a ⟨d + 1, hd⟩) (by omega) (by omega) (by omega) (by omega), right_later]
      refine (added _ _ _ _).trans ?_
      rw [point_right m c a _ h4]
      exact congrArg (· + _) s

theorem apart : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (by
    have h1 : t.val / 8 = t'.val / 8 := by
      have := congrFun ((idx3 t).symm.trans (h.trans (idx3 t'))) 0
      exact this
    have := (flush0_3 t).mp hf
    have := (flush0_3 t').mp hf'
    exact Fin.ext (by omega))

/-- The result, place by place. -/
theorem final (c : Dev nD) (i n : Fin 2048) :
    ((dats m 0 c).arrAt 3 cfg0.N : S2048x2048.Idx → EReal) (ix2 i n) = ∑ d : Fin 8, part m c i n d := by
  let a : Fin 2 := ⟨i.val / 1024, by omega⟩
  let r : Fin 1024 := ⟨i.val % 1024, by omega⟩
  have hi : (⟨a.val * 1024 + r.val, by omega⟩ : Fin 2048) = i := Fin.ext (by show i.val / 1024 * 1024 + i.val % 1024 = i.val; omega)
  have e : ((cfg0.win 3).blk (pt a 7)).view.emb (ix2 r n) = (ix2 i n : S2048x2048.Idx) := by
    refine funext fun x => Fin.ext ((Pipeline.Window.rect_emb_val win0_3 (pt a 7) (ix2 r n) x).trans ?_)
    rw [idx3]
    match x with
    | ⟨0, _⟩ => show (i.val / 1024 * 8 + 7) / 8 * 1024 + i.val % 1024 = i.val; omega
    | ⟨1, _⟩ => show 0 * 2048 + n.val = n.val; omega
  have f := (dats m 0 c).arrAt_emb_eq_flushed 3 apart (pt a 7) ((flush0_3 _).mpr (by show (a.val * 8 + 7) % 8 = 7; omega)) (ix2 r n)
  rw [e, Cert.UpDxIdeal.Value.flushed3] at f
  have ex : (cfg0.win 3).xinj (grid0.coords (pt a 7)) (ix2 r n) = (ix2 r n : S1024x2048.Idx) :=
    funext fun x => Fin.ext (by match x with | ⟨0, _⟩ => rfl | ⟨1, _⟩ => rfl)
  have s := state m c a r n 7 (by omega)
  rw [hi] at s
  exact f.trans ((cast_eq _ _).trans ((congrArg (outsAt0 m c (pt a 7).val (pt a 7).isLt) ex).trans s))

/-- The kernel's result is the reference's. -/
theorem values (c : Dev nD) : ((dats m 0 c).arrAt 3 cfg0.N : S2048x2048.Idx → EReal)
    = Cert.UpDxRefIdeal.Read.val_main_v7 (F := Ideal) (cl m c) (cr m c) (wt m c) := by
  refine funext fun (i : S2048x2048.Idx) => ?_
  obtain ⟨p, q, rfl⟩ := Cert.Products.place i
  refine (final m c p q).trans (Eq.symm ((Cert.UpDxRefIdeal.Read.val_main_v7_apply (cl m c) (cr m c) (wt m c) _).trans ?_))
  rw [Cert.Products.sum_blocks (A := 8) (B := 1408) rfl]
  refine Finset.sum_congr rfl fun d _ => Finset.sum_congr rfl fun k _ => ?_
  refine congrArg₂ (· * ·) (congrArg (ct m c) (funext fun a => by match a with | ⟨0, _⟩ => rfl | ⟨1, _⟩ => rfl)) ?_
  refine (Cert.UpDxRefIdeal.Read.val_main_v2_apply (F := Ideal) (wt m c) _).trans ((Cert.UpDxRefIdeal.Read.val_main_v1_apply (F := Ideal) (wt m c) _).trans ?_)
  refine congrArg (wt m c) (funext fun a => Fin.ext ?_)
  match a with
  | ⟨0, _⟩ => show (q.val * 11264 + (d.val * 1408 + k.val)) / 1408 % 8 = d.val; omega
  | ⟨1, _⟩ => show (q.val * 11264 + (d.val * 1408 + k.val)) / 11264 = q.val; omega
  | ⟨2, _⟩ => show (q.val * 11264 + (d.val * 1408 + k.val)) % 1408 = k.val; omega

theorem algebraic : Cert.algebraic_UpDxIdeal_UpDxRefIdeal (hUpDxIdeal := Cert.UpDxIdeal.Gen.facts)
    (hUpDxRefIdeal := Cert.UpDxRefIdeal.Gen.facts) := by
  intro m ρ m' ρ' _ hargs
  refine ⟨fun c => (dats m 0 c).arrAt 3 cfg0.N, Cert.UpDxIdeal.Value.run_blocks (F := Ideal) m ρ, ?_⟩
  refine (θ_run (Cert.UpDxRefIdeal.defs (F := Ideal)) _ _).mono (fun r h c => ?_) (Cert.UpDxRefIdeal.Value.run (F := Ideal) m' ρ')
  obtain ⟨h0, hr⟩ := h c
  obtain ⟨e0, e1, e2⟩ := hargs c
  refine ⟨h0.trans ((Cert.UpDxRefIdeal.Read.val_main_v7_eq (F := Ideal) _ _ _).trans (Eq.trans ?_ (values m c).symm)), hr⟩
  rw [e0, e1, e2]

theorem frame_reference : Cert.quiescent_UpDxRefIdeal (hUpDxRefIdeal := Cert.UpDxRefIdeal.Gen.facts) := fun m ρ _ =>
  (θ_run (Cert.UpDxRefIdeal.defs (F := Ideal)) _ _).mono (fun r h => ⟨fun c => (h c).2, sem_eq_zero_of_no_sems (by decide) r.2⟩)
    (Cert.UpDxRefIdeal.Value.run (F := Ideal) m ρ)

end Cert.UpDxProof

end
-- ==== Proof.DownDx.lean ====
/-
  THE GRADIENT OF THE DOWN PROJECTION IN ITS INPUT. Point t of the grid multiplies row block t / 4 of the gradient with row
  block t % 4 of the weight; every place of the result lies in one block.
-/
module

public import proofs.«01_k».proof.Defs
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Products

@[expose] public section

noncomputable section

namespace Cert.DownDxProof

open Cert.DownDxIdeal Cert.DownDxIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the gradient and the weight. -/
abbrev ct (c : Dev nD) : S2048x2048.Idx → EReal := m ((c.tc : Thread nD τ).loc main_arg0)
abbrev wt (c : Dev nD) : S5632x2048.Idx → EReal := m ((c.tc : Thread nD τ).loc main_arg1)

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

/-- The point of row block a and column block b. -/
def pt (a : Fin 2) (b : Fin 4) : Fin cfg0.N := ⟨a.val * 4 + b.val, by show _ < 8; omega⟩

theorem read0 (c : Dev nD) (a : Fin 2) (b : Fin 4) (r : Fin 1024) (k : Fin 2048) :
    iblk m c 0 (pt a b) (ix2 r k) = ct m c (ix2 ⟨a.val * 1024 + r.val, by omega⟩ k) := by
  refine Eq.trans (b := V m c main_arg0 (((cfg0.win 0).blk (pt a b)).view.emb (ix2 r k))) rfl ((congrFun (V_main_arg0 m c) _).trans ?_)
  refine congrArg (ct m c) (funext fun x => Fin.ext ((Pipeline.Window.rect_emb_val win0_0 (pt a b) (ix2 r k) x).trans ?_))
  rw [idx0]
  match x with
  | ⟨0, _⟩ => show (a.val * 4 + b.val) / 4 * 1024 + r.val = a.val * 1024 + r.val; omega
  | ⟨1, _⟩ => show 0 * 2048 + k.val = k.val; omega

theorem read1 (c : Dev nD) (a : Fin 2) (b : Fin 4) (n : Fin 1408) (k : Fin 2048) :
    iblk m c 1 (pt a b) (ix2 n k) = wt m c (ix2 ⟨b.val * 1408 + n.val, by omega⟩ k) := by
  refine Eq.trans (b := V m c main_arg1 (((cfg0.win 1).blk (pt a b)).view.emb (ix2 n k))) rfl ((congrFun (V_main_arg1 m c) _).trans ?_)
  refine congrArg (wt m c) (funext fun x => Fin.ext ((Pipeline.Window.rect_emb_val win0_1 (pt a b) (ix2 n k) x).trans ?_))
  rw [idx1]
  match x with
  | ⟨0, _⟩ => show (a.val * 4 + b.val) % 4 * 1408 + n.val = b.val * 1408 + n.val; omega
  | ⟨1, _⟩ => show 0 * 2048 + k.val = k.val; omega

/-- What the body leaves of two blocks. -/
theorem left (x : Vec Ideal S1024x2048 .bf16) (y : Vec Ideal S1408x2048 .bf16) (r : Fin 1024) (n : Fin 1408) :
    out0_2 x y (ix2 r n) = ∑ k : Fin 2048, (x (ix2 r k) : EReal) * y (ix2 n k) := by
  have hz : ![0, 0] = fun _ : Fin 2 => 0 := by funext a; fin_cases a <;> rfl
  have e : out0_2 x y = k0_pay1 x y := by
    unfold out0_2
    rw [View.ld_unit_zero hz, View.ld_unit_zero hz]
    exact View.canon_cons_unit_zero hz _ _ []
  rw [e]
  exact Cert.Products.rows_rows _ rfl x y r n

/-- The result, place by place. -/
theorem final (c : Dev nD) (i : Fin 2048) (j : Fin 5632) :
    ((dats m 0 c).arrAt 2 cfg0.N : S2048x5632.Idx → EReal) (ix2 i j) = ∑ k : Fin 2048, ct m c (ix2 i k) * wt m c (ix2 j k) := by
  let a : Fin 2 := ⟨i.val / 1024, by omega⟩
  let b : Fin 4 := ⟨j.val / 1408, by omega⟩
  let r : Fin 1024 := ⟨i.val % 1024, by omega⟩
  let n : Fin 1408 := ⟨j.val % 1408, by omega⟩
  have hi : (⟨a.val * 1024 + r.val, by omega⟩ : Fin 2048) = i := Fin.ext (by show i.val / 1024 * 1024 + i.val % 1024 = i.val; omega)
  have hj : (⟨b.val * 1408 + n.val, by omega⟩ : Fin 5632) = j := Fin.ext (by show j.val / 1408 * 1408 + j.val % 1408 = j.val; omega)
  have e : ((cfg0.win 2).blk (pt a b)).view.emb (ix2 r n) = (ix2 i j : S2048x5632.Idx) := by
    refine funext fun x => Fin.ext ((Pipeline.Window.rect_emb_val win0_2 (pt a b) (ix2 r n) x).trans ?_)
    rw [idx2]
    match x with
    | ⟨0, _⟩ => show (i.val / 1024 * 4 + j.val / 1408) / 4 * 1024 + i.val % 1024 = i.val; omega
    | ⟨1, _⟩ => show (i.val / 1024 * 4 + j.val / 1408) % 4 * 1408 + j.val % 1408 = j.val; omega
  have f := (dats m 0 c).arrAt_emb_eq_flushed 2 Cert.DownDxIdeal.Value.disjoint2 (pt a b) (flush0_2 _) (ix2 r n)
  rw [e, Cert.DownDxIdeal.Value.flushed2] at f
  have ex : (cfg0.win 2).xinj (grid0.coords (pt a b)) (ix2 r n) = (ix2 r n : S1024x1408.Idx) :=
    funext fun x => Fin.ext (by match x with | ⟨0, _⟩ => rfl | ⟨1, _⟩ => rfl)
  refine f.trans ((cast_eq _ _).trans ((congrArg (out0_2 (iblk m c 0 (pt a b)) (iblk m c 1 (pt a b))) ex).trans ((left _ _ r n).trans ?_)))
  refine Finset.sum_congr rfl fun k _ => ?_
  rw [read0, read1, hi, hj]

/-- The kernel's result is the reference's. -/
theorem values (c : Dev nD) : ((dats m 0 c).arrAt 2 cfg0.N : S2048x5632.Idx → EReal)
    = Cert.DownDxRefIdeal.Read.val_main_v5 (F := Ideal) (ct m c) (wt m c) := by
  refine funext fun (i : S2048x5632.Idx) => ?_
  obtain ⟨p, q, rfl⟩ := Cert.Products.place i
  refine (final m c p q).trans (Eq.symm ((Cert.DownDxRefIdeal.Read.val_main_v4_apply (ct m c) (wt m c) _).trans (Finset.sum_congr rfl fun k _ => ?_)))
  refine congrArg₂ (· * ·) (congrArg (ct m c) ?_) (congrArg (wt m c) ?_) <;>
    (funext a; match a with | ⟨0, _⟩ => rfl | ⟨1, _⟩ => rfl)

theorem algebraic : Cert.algebraic_DownDxIdeal_DownDxRefIdeal (hDownDxIdeal := Cert.DownDxIdeal.Gen.facts)
    (hDownDxRefIdeal := Cert.DownDxRefIdeal.Gen.facts) := by
  intro m ρ m' ρ' _ hargs
  refine ⟨fun c => (dats m 0 c).arrAt 2 cfg0.N, Cert.DownDxIdeal.Value.run_blocks (F := Ideal) m ρ, ?_⟩
  refine (θ_run (Cert.DownDxRefIdeal.defs (F := Ideal)) _ _).mono (fun r h c => ?_) (Cert.DownDxRefIdeal.Value.run (F := Ideal) m' ρ')
  obtain ⟨h0, hr⟩ := h c
  obtain ⟨e0, e1⟩ := hargs c
  refine ⟨h0.trans ((Cert.DownDxRefIdeal.Read.val_main_v5_eq (F := Ideal) _ _).trans (Eq.trans ?_ (values m c).symm)), hr⟩
  rw [e0, e1]

theorem frame_reference : Cert.quiescent_DownDxRefIdeal (hDownDxRefIdeal := Cert.DownDxRefIdeal.Gen.facts) := fun m ρ _ =>
  (θ_run (Cert.DownDxRefIdeal.defs (F := Ideal)) _ _).mono (fun r h => ⟨fun c => (h c).2, sem_eq_zero_of_no_sems (by decide) r.2⟩)
    (Cert.DownDxRefIdeal.Value.run (F := Ideal) m ρ)

end Cert.DownDxProof

end
-- ==== Proof.DownDw.lean ====
/-
  THE GRADIENT OF THE DOWN PROJECTION IN ITS WEIGHT. Point t of the grid multiplies column block t / 2 of the input with column
  block t % 2 of the gradient, over all the tokens; every place of the result lies in one block.
-/
module

public import proofs.«01_k».proof.Defs
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Products

@[expose] public section

noncomputable section

namespace Cert.DownDwProof

open Cert.DownDwIdeal Cert.DownDwIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the input and the gradient. -/
abbrev inp (c : Dev nD) : S2048x5632.Idx → EReal := m ((c.tc : Thread nD τ).loc main_arg0)
abbrev ct (c : Dev nD) : S2048x2048.Idx → EReal := m ((c.tc : Thread nD τ).loc main_arg1)

theorem idx0 : ∀ t : Fin cfg0.N, win0_0.index t = ![0, t.val / 2] := by decide +kernel
theorem idx1 : ∀ t : Fin cfg0.N, win0_1.index t = ![0, t.val % 2] := by decide +kernel
theorem idx2 : ∀ t : Fin cfg0.N, win0_2.index t = ![t.val / 2, t.val % 2] := by decide +kernel

/-- The point of row block a and column block b. -/
def pt (a : Fin 4) (b : Fin 2) : Fin cfg0.N := ⟨a.val * 2 + b.val, by show _ < 8; omega⟩

theorem read0 (c : Dev nD) (a : Fin 4) (b : Fin 2) (k : Fin 2048) (r : Fin 1408) :
    iblk m c 0 (pt a b) (ix2 k r) = inp m c (ix2 k ⟨a.val * 1408 + r.val, by omega⟩) := by
  refine Eq.trans (b := V m c main_arg0 (((cfg0.win 0).blk (pt a b)).view.emb (ix2 k r))) rfl ((congrFun (V_main_arg0 m c) _).trans ?_)
  refine congrArg (inp m c) (funext fun x => Fin.ext ((Pipeline.Window.rect_emb_val win0_0 (pt a b) (ix2 k r) x).trans ?_))
  rw [idx0]
  match x with
  | ⟨0, _⟩ => show 0 * 2048 + k.val = k.val; omega
  | ⟨1, _⟩ => show (a.val * 2 + b.val) / 2 * 1408 + r.val = a.val * 1408 + r.val; omega

theorem read1 (c : Dev nD) (a : Fin 4) (b : Fin 2) (k : Fin 2048) (n : Fin 1024) :
    iblk m c 1 (pt a b) (ix2 k n) = ct m c (ix2 k ⟨b.val * 1024 + n.val, by omega⟩) := by
  refine Eq.trans (b := V m c main_arg1 (((cfg0.win 1).blk (pt a b)).view.emb (ix2 k n))) rfl ((congrFun (V_main_arg1 m c) _).trans ?_)
  refine congrArg (ct m c) (funext fun x => Fin.ext ((Pipeline.Window.rect_emb_val win0_1 (pt a b) (ix2 k n) x).trans ?_))
  rw [idx1]
  match x with
  | ⟨0, _⟩ => show 0 * 2048 + k.val = k.val; omega
  | ⟨1, _⟩ => show (a.val * 2 + b.val) % 2 * 1024 + n.val = b.val * 1024 + n.val; omega

/-- What the body leaves of two blocks. -/
theorem left (x : Vec Ideal S2048x1408 .bf16) (y : Vec Ideal S2048x1024 .bf16) (r : Fin 1408) (n : Fin 1024) :
    out0_2 x y (ix2 r n) = ∑ k : Fin 2048, (x (ix2 k r) : EReal) * y (ix2 k n) := by
  have hz : ![0, 0] = fun _ : Fin 2 => 0 := by funext a; fin_cases a <;> rfl
  have e : out0_2 x y = k0_pay1 x y := by
    unfold out0_2
    rw [View.ld_unit_zero hz, View.ld_unit_zero hz]
    exact View.canon_cons_unit_zero hz _ _ []
  rw [e]
  exact Cert.Products.cols_cols _ rfl x y r n

/-- The result, place by place. -/
theorem final (c : Dev nD) (i : Fin 5632) (j : Fin 2048) :
    ((dats m 0 c).arrAt 2 cfg0.N : S5632x2048.Idx → EReal) (ix2 i j) = ∑ k : Fin 2048, inp m c (ix2 k i) * ct m c (ix2 k j) := by
  let a : Fin 4 := ⟨i.val / 1408, by omega⟩
  let b : Fin 2 := ⟨j.val / 1024, by omega⟩
  let r : Fin 1408 := ⟨i.val % 1408, by omega⟩
  let n : Fin 1024 := ⟨j.val % 1024, by omega⟩
  have hi : (⟨a.val * 1408 + r.val, by omega⟩ : Fin 5632) = i := Fin.ext (by show i.val / 1408 * 1408 + i.val % 1408 = i.val; omega)
  have hj : (⟨b.val * 1024 + n.val, by omega⟩ : Fin 2048) = j := Fin.ext (by show j.val / 1024 * 1024 + j.val % 1024 = j.val; omega)
  have e : ((cfg0.win 2).blk (pt a b)).view.emb (ix2 r n) = (ix2 i j : S5632x2048.Idx) := by
    refine funext fun x => Fin.ext ((Pipeline.Window.rect_emb_val win0_2 (pt a b) (ix2 r n) x).trans ?_)
    rw [idx2]
    match x with
    | ⟨0, _⟩ => show (i.val / 1408 * 2 + j.val / 1024) / 2 * 1408 + i.val % 1408 = i.val; omega
    | ⟨1, _⟩ => show (i.val / 1408 * 2 + j.val / 1024) % 2 * 1024 + j.val % 1024 = j.val; omega
  have f := (dats m 0 c).arrAt_emb_eq_flushed 2 Cert.DownDwIdeal.Value.disjoint2 (pt a b) (flush0_2 _) (ix2 r n)
  rw [e, Cert.DownDwIdeal.Value.flushed2] at f
  have ex : (cfg0.win 2).xinj (grid0.coords (pt a b)) (ix2 r n) = (ix2 r n : S1408x1024.Idx) :=
    funext fun x => Fin.ext (by match x with | ⟨0, _⟩ => rfl | ⟨1, _⟩ => rfl)
  refine f.trans ((cast_eq _ _).trans ((congrArg (out0_2 (iblk m c 0 (pt a b)) (iblk m c 1 (pt a b))) ex).trans ((left _ _ r n).trans ?_)))
  refine Finset.sum_congr rfl fun k _ => ?_
  rw [read0, read1, hi, hj]

/-- The kernel's result is the reference's. -/
theorem values (c : Dev nD) : ((dats m 0 c).arrAt 2 cfg0.N : S5632x2048.Idx → EReal)
    = Cert.DownDwRefIdeal.Read.val_main_v6 (F := Ideal) (inp m c) (ct m c) := by
  refine funext fun (i : S5632x2048.Idx) => ?_
  obtain ⟨p, q, rfl⟩ := Cert.Products.place i
  refine (final m c p q).trans (Eq.symm (((Cert.DownDwRefIdeal.Read.val_main_v5_apply (F := Ideal) (inp m c) (ct m c) _).trans
    (Cert.DownDwRefIdeal.Read.val_main_v4_apply (inp m c) (ct m c) _)).trans (Finset.sum_congr rfl fun k _ => ?_)))
  refine (mul_comm _ _).trans (congrArg₂ (· * ·) (congrArg (inp m c) ?_) (congrArg (ct m c) ?_)) <;>
    (funext a; match a with | ⟨0, _⟩ => rfl | ⟨1, _⟩ => rfl)

theorem algebraic : Cert.algebraic_DownDwIdeal_DownDwRefIdeal (hDownDwIdeal := Cert.DownDwIdeal.Gen.facts)
    (hDownDwRefIdeal := Cert.DownDwRefIdeal.Gen.facts) := by
  intro m ρ m' ρ' _ hargs
  refine ⟨fun c => (dats m 0 c).arrAt 2 cfg0.N, Cert.DownDwIdeal.Value.run_blocks (F := Ideal) m ρ, ?_⟩
  refine (θ_run (Cert.DownDwRefIdeal.defs (F := Ideal)) _ _).mono (fun r h c => ?_) (Cert.DownDwRefIdeal.Value.run (F := Ideal) m' ρ')
  obtain ⟨h0, hr⟩ := h c
  obtain ⟨e0, e1⟩ := hargs c
  refine ⟨h0.trans ((Cert.DownDwRefIdeal.Read.val_main_v6_eq (F := Ideal) _ _).trans (Eq.trans ?_ (values m c).symm)), hr⟩
  rw [e0, e1]

theorem frame_reference : Cert.quiescent_DownDwRefIdeal (hDownDwRefIdeal := Cert.DownDwRefIdeal.Gen.facts) := fun m ρ _ =>
  (θ_run (Cert.DownDwRefIdeal.defs (F := Ideal)) _ _).mono (fun r h => ⟨fun c => (h c).2, sem_eq_zero_of_no_sems (by decide) r.2⟩)
    (Cert.DownDwRefIdeal.Value.run (F := Ideal) m ρ)

end Cert.DownDwProof

end
-- ==== Proof.OutDw.lean ====
/-
  THE GRADIENT OF THE OUTPUT PROJECTION IN ITS WEIGHT. Point t of the grid multiplies column block t / 2 of the input with column
  block t % 2 of the gradient, over all the tokens; every place of the result lies in one block.
-/
module

public import proofs.«01_k».proof.Defs
public import proofs.«01_k».proof.Proof.Gen.OutDw.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Products

@[expose] public section

noncomputable section

namespace Cert.OutDwProof

open Cert.OutDwIdeal Cert.OutDwIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the input and the gradient. -/
abbrev inp (c : Dev nD) : S2048x2048.Idx → EReal := m ((c.tc : Thread nD τ).loc main_arg0)
abbrev ct (c : Dev nD) : S2048x2048.Idx → EReal := m ((c.tc : Thread nD τ).loc main_arg1)

theorem idx0 : ∀ t : Fin cfg0.N, win0_0.index t = ![0, t.val / 2] := by decide +kernel
theorem idx1 : ∀ t : Fin cfg0.N, win0_1.index t = ![0, t.val % 2] := by decide +kernel
theorem idx2 : ∀ t : Fin cfg0.N, win0_2.index t = ![t.val / 2, t.val % 2] := by decide +kernel

/-- The point of row block a and column block b. -/
def pt (a : Fin 4) (b : Fin 2) : Fin cfg0.N := ⟨a.val * 2 + b.val, by show _ < 8; omega⟩

theorem read0 (c : Dev nD) (a : Fin 4) (b : Fin 2) (k : Fin 2048) (r : Fin 512) :
    iblk m c 0 (pt a b) (ix2 k r) = inp m c (ix2 k ⟨a.val * 512 + r.val, by omega⟩) := by
  refine Eq.trans (b := V m c main_arg0 (((cfg0.win 0).blk (pt a b)).view.emb (ix2 k r))) rfl ((congrFun (V_main_arg0 m c) _).trans ?_)
  refine congrArg (inp m c) (funext fun x => Fin.ext ((Pipeline.Window.rect_emb_val win0_0 (pt a b) (ix2 k r) x).trans ?_))
  rw [idx0]
  match x with
  | ⟨0, _⟩ => show 0 * 2048 + k.val = k.val; omega
  | ⟨1, _⟩ => show (a.val * 2 + b.val) / 2 * 512 + r.val = a.val * 512 + r.val; omega

theorem read1 (c : Dev nD) (a : Fin 4) (b : Fin 2) (k : Fin 2048) (n : Fin 1024) :
    iblk m c 1 (pt a b) (ix2 k n) = ct m c (ix2 k ⟨b.val * 1024 + n.val, by omega⟩) := by
  refine Eq.trans (b := V m c main_arg1 (((cfg0.win 1).blk (pt a b)).view.emb (ix2 k n))) rfl ((congrFun (V_main_arg1 m c) _).trans ?_)
  refine congrArg (ct m c) (funext fun x => Fin.ext ((Pipeline.Window.rect_emb_val win0_1 (pt a b) (ix2 k n) x).trans ?_))
  rw [idx1]
  match x with
  | ⟨0, _⟩ => show 0 * 2048 + k.val = k.val; omega
  | ⟨1, _⟩ => show (a.val * 2 + b.val) % 2 * 1024 + n.val = b.val * 1024 + n.val; omega

/-- What the body leaves of two blocks. -/
theorem left (x : Vec Ideal S2048x512 .bf16) (y : Vec Ideal S2048x1024 .bf16) (r : Fin 512) (n : Fin 1024) :
    out0_2 x y (ix2 r n) = ∑ k : Fin 2048, (x (ix2 k r) : EReal) * y (ix2 k n) := by
  have hz : ![0, 0] = fun _ : Fin 2 => 0 := by funext a; fin_cases a <;> rfl
  have e : out0_2 x y = k0_pay1 x y := by
    unfold out0_2
    rw [View.ld_unit_zero hz, View.ld_unit_zero hz]
    exact View.canon_cons_unit_zero hz _ _ []
  rw [e]
  exact Cert.Products.cols_cols _ rfl x y r n

/-- The result, place by place. -/
theorem final (c : Dev nD) (i : Fin 2048) (j : Fin 2048) :
    ((dats m 0 c).arrAt 2 cfg0.N : S2048x2048.Idx → EReal) (ix2 i j) = ∑ k : Fin 2048, inp m c (ix2 k i) * ct m c (ix2 k j) := by
  let a : Fin 4 := ⟨i.val / 512, by omega⟩
  let b : Fin 2 := ⟨j.val / 1024, by omega⟩
  let r : Fin 512 := ⟨i.val % 512, by omega⟩
  let n : Fin 1024 := ⟨j.val % 1024, by omega⟩
  have hi : (⟨a.val * 512 + r.val, by omega⟩ : Fin 2048) = i := Fin.ext (by show i.val / 512 * 512 + i.val % 512 = i.val; omega)
  have hj : (⟨b.val * 1024 + n.val, by omega⟩ : Fin 2048) = j := Fin.ext (by show j.val / 1024 * 1024 + j.val % 1024 = j.val; omega)
  have e : ((cfg0.win 2).blk (pt a b)).view.emb (ix2 r n) = (ix2 i j : S2048x2048.Idx) := by
    refine funext fun x => Fin.ext ((Pipeline.Window.rect_emb_val win0_2 (pt a b) (ix2 r n) x).trans ?_)
    rw [idx2]
    match x with
    | ⟨0, _⟩ => show (i.val / 512 * 2 + j.val / 1024) / 2 * 512 + i.val % 512 = i.val; omega
    | ⟨1, _⟩ => show (i.val / 512 * 2 + j.val / 1024) % 2 * 1024 + j.val % 1024 = j.val; omega
  have f := (dats m 0 c).arrAt_emb_eq_flushed 2 Cert.OutDwIdeal.Value.disjoint2 (pt a b) (flush0_2 _) (ix2 r n)
  rw [e, Cert.OutDwIdeal.Value.flushed2] at f
  have ex : (cfg0.win 2).xinj (grid0.coords (pt a b)) (ix2 r n) = (ix2 r n : S512x1024.Idx) :=
    funext fun x => Fin.ext (by match x with | ⟨0, _⟩ => rfl | ⟨1, _⟩ => rfl)
  refine f.trans ((cast_eq _ _).trans ((congrArg (out0_2 (iblk m c 0 (pt a b)) (iblk m c 1 (pt a b))) ex).trans ((left _ _ r n).trans ?_)))
  refine Finset.sum_congr rfl fun k _ => ?_
  rw [read0, read1, hi, hj]

/-- The kernel's result is the reference's. -/
theorem values (c : Dev nD) : ((dats m 0 c).arrAt 2 cfg0.N : S2048x2048.Idx → EReal)
    = Cert.OutDwRefIdeal.Read.val_main_v6 (F := Ideal) (inp m c) (ct m c) := by
  refine funext fun (i : S2048x2048.Idx) => ?_
  obtain ⟨p, q, rfl⟩ := Cert.Products.place i
  refine (final m c p q).trans (Eq.symm (((Cert.OutDwRefIdeal.Read.val_main_v5_apply (F := Ideal) (inp m c) (ct m c) _).trans
    (Cert.OutDwRefIdeal.Read.val_main_v4_apply (inp m c) (ct m c) _)).trans (Finset.sum_congr rfl fun k _ => ?_)))
  refine (mul_comm _ _).trans (congrArg₂ (· * ·) (congrArg (inp m c) ?_) (congrArg (ct m c) ?_)) <;>
    (funext a; match a with | ⟨0, _⟩ => rfl | ⟨1, _⟩ => rfl)

theorem algebraic : Cert.algebraic_OutDwIdeal_OutDwRefIdeal (hOutDwIdeal := Cert.OutDwIdeal.Gen.facts)
    (hOutDwRefIdeal := Cert.OutDwRefIdeal.Gen.facts) := by
  intro m ρ m' ρ' _ hargs
  refine ⟨fun c => (dats m 0 c).arrAt 2 cfg0.N, Cert.OutDwIdeal.Value.run_blocks (F := Ideal) m ρ, ?_⟩
  refine (θ_run (Cert.OutDwRefIdeal.defs (F := Ideal)) _ _).mono (fun r h c => ?_) (Cert.OutDwRefIdeal.Value.run (F := Ideal) m' ρ')
  obtain ⟨h0, hr⟩ := h c
  obtain ⟨e0, e1⟩ := hargs c
  refine ⟨h0.trans ((Cert.OutDwRefIdeal.Read.val_main_v6_eq (F := Ideal) _ _).trans (Eq.trans ?_ (values m c).symm)), hr⟩
  rw [e0, e1]

theorem frame_reference : Cert.quiescent_OutDwRefIdeal (hOutDwRefIdeal := Cert.OutDwRefIdeal.Gen.facts) := fun m ρ _ =>
  (θ_run (Cert.OutDwRefIdeal.defs (F := Ideal)) _ _).mono (fun r h => ⟨fun c => (h c).2, sem_eq_zero_of_no_sems (by decide) r.2⟩)
    (Cert.OutDwRefIdeal.Value.run (F := Ideal) m ρ)

end Cert.OutDwProof

end
-- ==== Proof.OutDx.lean ====
/-
  THE GRADIENT OF THE OUTPUT PROJECTION IN ITS INPUT. Point t of the grid multiplies row block t / 2 of the gradient with row
  block t % 2 of the weight; every place of the result lies in one block.
-/
module

public import proofs.«01_k».proof.Defs
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Products

@[expose] public section

noncomputable section

namespace Cert.OutDxProof

open Cert.OutDxIdeal Cert.OutDxIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the gradient and the weight. -/
abbrev ct (c : Dev nD) : S2048x2048.Idx → EReal := m ((c.tc : Thread nD τ).loc main_arg0)
abbrev wt (c : Dev nD) : S2048x2048.Idx → EReal := m ((c.tc : Thread nD τ).loc main_arg1)

theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel

/-- The point of row block a and column block b. -/
def pt (a : Fin 4) (b : Fin 2) : Fin cfg0.N := ⟨a.val * 2 + b.val, by show _ < 8; omega⟩

theorem read0 (c : Dev nD) (a : Fin 4) (b : Fin 2) (r : Fin 512) (k : Fin 2048) :
    iblk m c 0 (pt a b) (ix2 r k) = ct m c (ix2 ⟨a.val * 512 + r.val, by omega⟩ k) := by
  refine Eq.trans (b := V m c main_arg0 (((cfg0.win 0).blk (pt a b)).view.emb (ix2 r k))) rfl ((congrFun (V_main_arg0 m c) _).trans ?_)
  refine congrArg (ct m c) (funext fun x => Fin.ext ((Pipeline.Window.rect_emb_val win0_0 (pt a b) (ix2 r k) x).trans ?_))
  rw [idx0]
  match x with
  | ⟨0, _⟩ => show (a.val * 2 + b.val) / 2 * 512 + r.val = a.val * 512 + r.val; omega
  | ⟨1, _⟩ => show 0 * 2048 + k.val = k.val; omega

theorem read1 (c : Dev nD) (a : Fin 4) (b : Fin 2) (n : Fin 1024) (k : Fin 2048) :
    iblk m c 1 (pt a b) (ix2 n k) = wt m c (ix2 ⟨b.val * 1024 + n.val, by omega⟩ k) := by
  refine Eq.trans (b := V m c main_arg1 (((cfg0.win 1).blk (pt a b)).view.emb (ix2 n k))) rfl ((congrFun (V_main_arg1 m c) _).trans ?_)
  refine congrArg (wt m c) (funext fun x => Fin.ext ((Pipeline.Window.rect_emb_val win0_1 (pt a b) (ix2 n k) x).trans ?_))
  rw [idx1]
  match x with
  | ⟨0, _⟩ => show (a.val * 2 + b.val) % 2 * 1024 + n.val = b.val * 1024 + n.val; omega
  | ⟨1, _⟩ => show 0 * 2048 + k.val = k.val; omega

/-- What the body leaves of two blocks. -/
theorem left (x : Vec Ideal S512x2048 .bf16) (y : Vec Ideal S1024x2048 .bf16) (r : Fin 512) (n : Fin 1024) :
    out0_2 x y (ix2 r n) = ∑ k : Fin 2048, (x (ix2 r k) : EReal) * y (ix2 n k) := by
  have hz : ![0, 0] = fun _ : Fin 2 => 0 := by funext a; fin_cases a <;> rfl
  have e : out0_2 x y = k0_pay1 x y := by
    unfold out0_2
    rw [View.ld_unit_zero hz, View.ld_unit_zero hz]
    exact View.canon_cons_unit_zero hz _ _ []
  rw [e]
  exact Cert.Products.rows_rows _ rfl x y r n

/-- The result, place by place. -/
theorem final (c : Dev nD) (i : Fin 2048) (j : Fin 2048) :
    ((dats m 0 c).arrAt 2 cfg0.N : S2048x2048.Idx → EReal) (ix2 i j) = ∑ k : Fin 2048, ct m c (ix2 i k) * wt m c (ix2 j k) := by
  let a : Fin 4 := ⟨i.val / 512, by omega⟩
  let b : Fin 2 := ⟨j.val / 1024, by omega⟩
  let r : Fin 512 := ⟨i.val % 512, by omega⟩
  let n : Fin 1024 := ⟨j.val % 1024, by omega⟩
  have hi : (⟨a.val * 512 + r.val, by omega⟩ : Fin 2048) = i := Fin.ext (by show i.val / 512 * 512 + i.val % 512 = i.val; omega)
  have hj : (⟨b.val * 1024 + n.val, by omega⟩ : Fin 2048) = j := Fin.ext (by show j.val / 1024 * 1024 + j.val % 1024 = j.val; omega)
  have e : ((cfg0.win 2).blk (pt a b)).view.emb (ix2 r n) = (ix2 i j : S2048x2048.Idx) := by
    refine funext fun x => Fin.ext ((Pipeline.Window.rect_emb_val win0_2 (pt a b) (ix2 r n) x).trans ?_)
    rw [idx2]
    match x with
    | ⟨0, _⟩ => show (i.val / 512 * 2 + j.val / 1024) / 2 * 512 + i.val % 512 = i.val; omega
    | ⟨1, _⟩ => show (i.val / 512 * 2 + j.val / 1024) % 2 * 1024 + j.val % 1024 = j.val; omega
  have f := (dats m 0 c).arrAt_emb_eq_flushed 2 Cert.OutDxIdeal.Value.disjoint2 (pt a b) (flush0_2 _) (ix2 r n)
  rw [e, Cert.OutDxIdeal.Value.flushed2] at f
  have ex : (cfg0.win 2).xinj (grid0.coords (pt a b)) (ix2 r n) = (ix2 r n : S512x1024.Idx) :=
    funext fun x => Fin.ext (by match x with | ⟨0, _⟩ => rfl | ⟨1, _⟩ => rfl)
  refine f.trans ((cast_eq _ _).trans ((congrArg (out0_2 (iblk m c 0 (pt a b)) (iblk m c 1 (pt a b))) ex).trans ((left _ _ r n).trans ?_)))
  refine Finset.sum_congr rfl fun k _ => ?_
  rw [read0, read1, hi, hj]

/-- The kernel's result is the reference's. -/
theorem values (c : Dev nD) : ((dats m 0 c).arrAt 2 cfg0.N : S2048x2048.Idx → EReal)
    = Cert.OutDxRefIdeal.Read.val_main_v4 (F := Ideal) (ct m c) (wt m c) := by
  refine funext fun (i : S2048x2048.Idx) => ?_
  obtain ⟨p, q, rfl⟩ := Cert.Products.place i
  refine (final m c p q).trans (Eq.symm ((Cert.OutDxRefIdeal.Read.val_main_v4_apply (ct m c) (wt m c) _).trans (Finset.sum_congr rfl fun k _ => ?_)))
  refine congrArg₂ (· * ·) (congrArg (ct m c) ?_) (congrArg (wt m c) ?_) <;>
    (funext a; match a with | ⟨0, _⟩ => rfl | ⟨1, _⟩ => rfl)

theorem algebraic : Cert.algebraic_OutDxIdeal_OutDxRefIdeal (hOutDxIdeal := Cert.OutDxIdeal.Gen.facts)
    (hOutDxRefIdeal := Cert.OutDxRefIdeal.Gen.facts) := by
  intro m ρ m' ρ' _ hargs
  refine ⟨fun c => (dats m 0 c).arrAt 2 cfg0.N, Cert.OutDxIdeal.Value.run_blocks (F := Ideal) m ρ, ?_⟩
  refine (θ_run (Cert.OutDxRefIdeal.defs (F := Ideal)) _ _).mono (fun r h c => ?_) (Cert.OutDxRefIdeal.Value.run (F := Ideal) m' ρ')
  obtain ⟨h0, hr⟩ := h c
  obtain ⟨e0, e1⟩ := hargs c
  refine ⟨h0.trans ((Cert.OutDxRefIdeal.Read.val_main_v4_eq (F := Ideal) _ _).trans (Eq.trans ?_ (values m c).symm)), hr⟩
  rw [e0, e1]

theorem frame_reference : Cert.quiescent_OutDxRefIdeal (hOutDxRefIdeal := Cert.OutDxRefIdeal.Gen.facts) := fun m ρ _ =>
  (θ_run (Cert.OutDxRefIdeal.defs (F := Ideal)) _ _).mono (fun r h => ⟨fun c => (h c).2, sem_eq_zero_of_no_sems (by decide) r.2⟩)
    (Cert.OutDxRefIdeal.Value.run (F := Ideal) m ρ)

end Cert.OutDxProof

end
-- ==== Proof.InDw.lean ====
/-
  THE GRADIENT OF THE INPUT PROJECTION IN ITS WEIGHT. The result is stacked by device: device j has columns j * 896 … of the
  weight. Point t of the grid multiplies column block t % 2 of the input with device t / 2's columns of the gradient, over
  all the tokens; every place of the result lies in one block.
-/
module

public import proofs.«01_k».proof.Defs
public import proofs.«01_k».proof.Proof.Gen.InDw.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Products

@[expose] public section

noncomputable section

namespace Cert.InDwProof

open Cert.InDwIdeal Cert.InDwIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the input and the gradient. -/
abbrev inp (c : Dev nD) : S2048x2048.Idx → EReal := m ((c.tc : Thread nD τ).loc main_arg0)
abbrev ct (c : Dev nD) : S2048x7168.Idx → EReal := m ((c.tc : Thread nD τ).loc main_arg1)

theorem idx0 : ∀ t : Fin cfg0.N, win0_0.index t = ![0, t.val % 2] := by decide +kernel
theorem idx1 : ∀ t : Fin cfg0.N, win0_1.index t = ![0, t.val / 2] := by decide +kernel
theorem idx2 : ∀ t : Fin cfg0.N, win0_2.index t = ![t.val / 2, t.val % 2, 0] := by decide +kernel

/-- The point of device d and row block b. -/
def pt (d : Fin 8) (b : Fin 2) : Fin cfg0.N := ⟨d.val * 2 + b.val, by show _ < 16; omega⟩

theorem read0 (c : Dev nD) (d : Fin 8) (b : Fin 2) (k : Fin 2048) (r : Fin 1024) :
    iblk m c 0 (pt d b) (ix2 k r) = inp m c (ix2 k ⟨b.val * 1024 + r.val, by omega⟩) := by
  refine Eq.trans (b := V m c main_arg0 (((cfg0.win 0).blk (pt d b)).view.emb (ix2 k r))) rfl ((congrFun (V_main_arg0 m c) _).trans ?_)
  refine congrArg (inp m c) (funext fun x => Fin.ext ((Pipeline.Window.rect_emb_val win0_0 (pt d b) (ix2 k r) x).trans ?_))
  rw [idx0]
  match x with
  | ⟨0, _⟩ => show 0 * 2048 + k.val = k.val; omega
  | ⟨1, _⟩ => show (d.val * 2 + b.val) % 2 * 1024 + r.val = b.val * 1024 + r.val; omega

theorem read1 (c : Dev nD) (d : Fin 8) (b : Fin 2) (k : Fin 2048) (n : Fin 896) :
    iblk m c 1 (pt d b) (ix2 k n) = ct m c (ix2 k ⟨d.val * 896 + n.val, by omega⟩) := by
  refine Eq.trans (b := V m c main_arg1 (((cfg0.win 1).blk (pt d b)).view.emb (ix2 k n))) rfl ((congrFun (V_main_arg1 m c) _).trans ?_)
  refine congrArg (ct m c) (funext fun x => Fin.ext ((Pipeline.Window.rect_emb_val win0_1 (pt d b) (ix2 k n) x).trans ?_))
  rw [idx1]
  match x with
  | ⟨0, _⟩ => show 0 * 2048 + k.val = k.val; omega
  | ⟨1, _⟩ => show (d.val * 2 + b.val) / 2 * 896 + n.val = d.val * 896 + n.val; omega

/-- What the body leaves of two blocks. -/
theorem left (x : Vec Ideal S2048x1024 .bf16) (y : Vec Ideal S2048x896 .bf16) (z : Fin 1) (r : Fin 1024) (n : Fin 896) :
    out0_2 x y (ix3 z r n) = ∑ k : Fin 2048, (x (ix2 k r) : EReal) * y (ix2 k n) := by
  have hz : ![0, 0] = fun _ : Fin 2 => 0 := by funext a; fin_cases a <;> rfl
  have hz3 : ![0, 0, 0] = fun _ : Fin 3 => 0 := by funext a; fin_cases a <;> rfl
  have e : out0_2 x y = k0_pay1 x y := by
    unfold out0_2
    rw [View.ld_unit_zero hz, View.ld_unit_zero hz]
    exact View.canon_cons_unit_zero hz3 _ _ []
  rw [e]
  exact (Cert.Products.stack_one _ shapeCasts_S1024x896_S1x1024x896 z r n).trans (Cert.Products.cols_cols _ rfl x y r n)

/-- The result, place by place. -/
theorem final (c : Dev nD) (d : Fin 8) (i : Fin 2048) (j : Fin 896) :
    ((dats m 0 c).arrAt 2 cfg0.N : S8x2048x896.Idx → EReal) (ix3 d i j)
      = ∑ k : Fin 2048, inp m c (ix2 k i) * ct m c (ix2 k ⟨d.val * 896 + j.val, by omega⟩) := by
  let b : Fin 2 := ⟨i.val / 1024, by omega⟩
  let r : Fin 1024 := ⟨i.val % 1024, by omega⟩
  have hi : (⟨b.val * 1024 + r.val, by omega⟩ : Fin 2048) = i := Fin.ext (by show i.val / 1024 * 1024 + i.val % 1024 = i.val; omega)
  have e : ((cfg0.win 2).blk (pt d b)).view.emb (ix3 0 r j) = (ix3 d i j : S8x2048x896.Idx) := by
    refine funext fun x => Fin.ext ((Pipeline.Window.rect_emb_val win0_2 (pt d b) (ix3 0 r j) x).trans ?_)
    rw [idx2]
    match x with
    | ⟨0, _⟩ => show (d.val * 2 + i.val / 1024) / 2 * 1 + 0 = d.val; omega
    | ⟨1, _⟩ => show (d.val * 2 + i.val / 1024) % 2 * 1024 + i.val % 1024 = i.val; omega
    | ⟨2, _⟩ => show 0 * 896 + j.val = j.val; omega
  have f := (dats m 0 c).arrAt_emb_eq_flushed 2 Cert.InDwIdeal.Value.disjoint2 (pt d b) (flush0_2 _) (ix3 0 r j)
  rw [e, Cert.InDwIdeal.Value.flushed2] at f
  have ex : (cfg0.win 2).xinj (grid0.coords (pt d b)) (ix3 0 r j) = (ix3 0 r j : S1x1024x896.Idx) :=
    funext fun x => Fin.ext (by match x with | ⟨0, _⟩ => rfl | ⟨1, _⟩ => rfl | ⟨2, _⟩ => rfl)
  refine f.trans ((cast_eq _ _).trans ((congrArg (out0_2 (iblk m c 0 (pt d b)) (iblk m c 1 (pt d b))) ex).trans ((left _ _ 0 r j).trans ?_)))
  refine Finset.sum_congr rfl fun k _ => ?_
  rw [read0, read1, hi]

/-- The kernel's result is the reference's. -/
theorem values (c : Dev nD) : ((dats m 0 c).arrAt 2 cfg0.N : S8x2048x896.Idx → EReal)
    = Cert.InDwRefIdeal.Read.val_main_v8 (F := Ideal) (inp m c) (ct m c) := by
  refine funext fun (i : S8x2048x896.Idx) => ?_
  obtain ⟨d, p, q, rfl⟩ := Cert.Products.place3 i
  refine (final m c d p q).trans (Eq.symm ((((Cert.InDwRefIdeal.Read.val_main_v7_apply (F := Ideal) (inp m c) (ct m c) _).trans
    (Cert.InDwRefIdeal.Read.val_main_v6_apply (F := Ideal) (inp m c) (ct m c) _)).trans
    ((Cert.InDwRefIdeal.Read.val_main_v5_apply (F := Ideal) (inp m c) (ct m c) _).trans
    (Cert.InDwRefIdeal.Read.val_main_v4_apply (inp m c) (ct m c) _))).trans (Finset.sum_congr rfl fun k _ => ?_)))
  refine (mul_comm _ _).trans (congrArg₂ (· * ·) (congrArg (inp m c) (funext fun a => Fin.ext ?_)) (congrArg (ct m c) (funext fun a => Fin.ext ?_)))
  · match a with
    | ⟨0, _⟩ => rfl
    | ⟨1, _⟩ => show ((p.val * 8 + d.val) * 896 + q.val) / 7168 = p.val; omega
  · match a with
    | ⟨0, _⟩ => rfl
    | ⟨1, _⟩ => show ((p.val * 8 + d.val) * 896 + q.val) % 7168 = d.val * 896 + q.val; omega

theorem algebraic : Cert.algebraic_InDwIdeal_InDwRefIdeal (hInDwIdeal := Cert.InDwIdeal.Gen.facts)
    (hInDwRefIdeal := Cert.InDwRefIdeal.Gen.facts) := by
  intro m ρ m' ρ' _ hargs
  refine ⟨fun c => (dats m 0 c).arrAt 2 cfg0.N, Cert.InDwIdeal.Value.run_blocks (F := Ideal) m ρ, ?_⟩
  refine (θ_run (Cert.InDwRefIdeal.defs (F := Ideal)) _ _).mono (fun r h c => ?_) (Cert.InDwRefIdeal.Value.run (F := Ideal) m' ρ')
  obtain ⟨h0, hr⟩ := h c
  obtain ⟨e0, e1⟩ := hargs c
  refine ⟨h0.trans ((Cert.InDwRefIdeal.Read.val_main_v8_eq (F := Ideal) _ _).trans (Eq.trans ?_ (values m c).symm)), hr⟩
  rw [e0, e1]

theorem frame_reference : Cert.quiescent_InDwRefIdeal (hInDwRefIdeal := Cert.InDwRefIdeal.Gen.facts) := fun m ρ _ =>
  (θ_run (Cert.InDwRefIdeal.defs (F := Ideal)) _ _).mono (fun r h => ⟨fun c => (h c).2, sem_eq_zero_of_no_sems (by decide) r.2⟩)
    (Cert.InDwRefIdeal.Value.run (F := Ideal) m ρ)

end Cert.InDwProof

end
-- ==== Proof.InDx.lean ====
/-
  THE GRADIENT OF THE INPUT PROJECTION IN ITS INPUT. The weight is stacked by device. Point t of the grid multiplies row
  block t / 8 of the gradient, at device t % 8's columns, with that device's columns of the weight; the first of the eight
  points of a row block starts the sum, each later one adds to it, and the last one's sum is the result.
-/
module

public import proofs.«01_k».proof.Defs
public import proofs.«01_k».proof.Proof.Gen.InDx.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.Products
public import Idealize.ShloMosaic.Lib.VecWindow

@[expose] public section

noncomputable section

namespace Cert.InDxProof

open Cert.InDxIdeal Cert.InDxIdeal.Gen Idealize.ShloMosaic.TcCoe Idealize.SL.Sem Idealize.ShloMosaic.Tactic
open Idealize.ShloMosaic hiding ix1 ix2 ix3 ix4
open Idealize.ShloMosaic.ValueIdx

/-! ## What one point leaves -/

theorem zero2 : ![0, 0] = fun _ : Fin 2 => 0 := by funext a; fin_cases a <;> rfl

/-- The first point of a row block leaves its product. -/
theorem first (c : Dev nD) (i : grid0.Coords) (arg2 : Memref sig .tc .vmem S1024x896 .bf16) (harg2 : arg2.IsWhole)
    (arg3 : Memref sig .tc .vmem S1x2048x896 .bf16) (harg3 : arg3.IsWhole) (arg4 : Memref sig .tc .vmem S1024x2048 .f32) (harg4 : arg4.IsWhole)
    (hc0 : cond0_0 i) (hc1 : ¬cond0_1 i) (x0 : Vec Ideal S1024x896 .bf16) (x1 : Vec Ideal S1x2048x896 .bf16) :
    out0_A_2 (F := Ideal) c i arg2 harg2 arg3 harg3 arg4 harg4 hc0 hc1 x0 x1 = k0_pay1 x0 x1 := by
  unfold out0_A_2
  rw [View.read_writes_eq_canon _ _ _ (cover0_A_2 c i arg2 harg2 arg3 harg3 arg4 harg4 hc0 hc1 x0 x1)]
  unfold kernelRun0_A
  dsimp only
  sl_unfold_words
  have e2 := (View.readAt_full arg2.view (harg2.unread x0) inb_S1024x896_S1024x896_0_0).trans (harg2.read_unread x0)
  have e3 := (View.readAt_full arg3.view (harg3.unread x1) inb_S1x2048x896_S1x2048x896_0_0_0).trans (harg3.read_unread x1)
  rw [e2, e3]
  exact View.canon_cons_unit_zero (S := S1024x2048) zero2 _ _ []

/-- A later point adds its product to what the point before left. -/
theorem later (c : Dev nD) (i : grid0.Coords) (arg2 : Memref sig .tc .vmem S1024x896 .bf16) (harg2 : arg2.IsWhole)
    (arg3 : Memref sig .tc .vmem S1x2048x896 .bf16) (harg3 : arg3.IsWhole) (arg4 : Memref sig .tc .vmem S1024x2048 .f32) (harg4 : arg4.IsWhole)
    (hc0 : ¬cond0_0 i) (hc1 : cond0_1 i) (x0 : Vec Ideal S1024x896 .bf16) (x1 : Vec Ideal S1x2048x896 .bf16) (xo : Vec Ideal S1024x2048 .f32) :
    out0_B_2 (F := Ideal) c i arg2 harg2 arg3 harg3 arg4 harg4 hc0 hc1 x0 x1 xo = k0_pay2 x0 x1 xo := by
  unfold out0_B_2
  rw [View.read_writes_eq_canon _ _ _ (cover0_B_2 c i arg2 harg2 arg3 harg3 arg4 harg4 hc0 hc1 x0 x1 xo)]
  unfold kernelRun0_B
  dsimp only
  sl_unfold_words
  have e2 := (View.readAt_full arg2.view (harg2.unread x0) inb_S1024x896_S1024x896_0_0).trans (harg2.read_unread x0)
  have e3 := (View.readAt_full arg3.view (harg3.unread x1) inb_S1x2048x896_S1x2048x896_0_0_0).trans (harg3.read_unread x1)
  have e4 := (View.readAt_full arg4.view (harg4.unread xo) inb_S1024x2048_S1024x2048_0_0).trans (harg4.read_unread xo)
  rw [e2, e3, e4]
  exact View.canon_cons_unit_zero (S := S1024x2048) zero2 _ _ []

theorem product (x : Vec Ideal S1024x896 .bf16) (y : Vec Ideal S1x2048x896 .bf16) (r : Fin 1024) (n : Fin 2048) :
    k0_pay1 x y (ix2 r n) = ∑ k : Fin 896, (x (ix2 r k) : EReal) * y (ix3 0 n k) :=
  (Cert.Products.rows_rows _ rfl x _ r n).trans
    (Finset.sum_congr rfl fun k _ => congrArg (x (ix2 r k) * ·) (Cert.Products.unstack_one y shapeCasts_S1x2048x896_S2048x896 n k))

theorem added (x : Vec Ideal S1024x896 .bf16) (y : Vec Ideal S1x2048x896 .bf16) (z : Vec Ideal S1024x2048 .f32) (j : S1024x2048.Idx) :
    k0_pay2 x y z j = (z j : EReal) + k0_pay1 x y j :=
  congrArg (fun v : Vec Ideal S1024x2048 .f32 => (v j : EReal) + k0_pay1 x y j) (shapeCast_self z shapeCasts_S1024x2048_S1024x2048)

/-! ## The blocks of a point -/

variable (m : (ℓ : Loc nD τ sig) → Buf (Elt Ideal) ℓ)

/-- The arguments of a run: the gradient and the weight, stacked by device. -/
abbrev ct (c : Dev nD) : S2048x7168.Idx → EReal := m ((c.tc : Thread nD τ).loc main_arg0)
abbrev wt (c : Dev nD) : S8x2048x896.Idx → EReal := m ((c.tc : Thread nD τ).loc main_arg1)

theorem idx0 : ∀ t : Fin cfg0.N, win0_0.index t = ![t.val / 8, t.val % 8] := by decide +kernel
theorem idx1 : ∀ t : Fin cfg0.N, win0_1.index t = ![t.val % 8, 0, 0] := by decide +kernel
theorem idx2 : ∀ t : Fin cfg0.N, win0_2.index t = ![t.val / 8, 0] := by decide +kernel

/-- The point of row block a and device d. -/
def pt (a : Fin 2) (d : Fin 8) : Fin cfg0.N := ⟨a.val * 8 + d.val, by show _ < 16; omega⟩

theorem read0 (c : Dev nD) (a : Fin 2) (d : Fin 8) (r : Fin 1024) (k : Fin 896) :
    iblk m c 0 (pt a d) (ix2 r k) = ct m c (ix2 ⟨a.val * 1024 + r.val, by omega⟩ ⟨d.val * 896 + k.val, by omega⟩) := by
  refine Eq.trans (b := V m c main_arg0 (((cfg0.win 0).blk (pt a d)).view.emb (ix2 r k))) rfl ((congrFun (V_main_arg0 m c) _).trans ?_)
  refine congrArg (ct m c) (funext fun x => Fin.ext ((Pipeline.Window.rect_emb_val win0_0 (pt a d) (ix2 r k) x).trans ?_))
  rw [idx0]
  match x with
  | ⟨0, _⟩ => show (a.val * 8 + d.val) / 8 * 1024 + r.val = a.val * 1024 + r.val; omega
  | ⟨1, _⟩ => show (a.val * 8 + d.val) % 8 * 896 + k.val = d.val * 896 + k.val; omega

theorem read1 (c : Dev nD) (a : Fin 2) (d : Fin 8) (n : Fin 2048) (k : Fin 896) :
    iblk m c 1 (pt a d) (ix3 0 n k) = wt m c (ix3 d n k) := by
  refine Eq.trans (b := V m c main_arg1 (((cfg0.win 1).blk (pt a d)).view.emb (ix3 0 n k))) rfl ((congrFun (V_main_arg1 m c) _).trans ?_)
  refine congrArg (wt m c) (funext fun x => Fin.ext ((Pipeline.Window.rect_emb_val win0_1 (pt a d) (ix3 0 n k) x).trans ?_))
  rw [idx1]
  match x with
  | ⟨0, _⟩ => show (a.val * 8 + d.val) % 8 * 1 + 0 = d.val; omega
  | ⟨1, _⟩ => show 0 * 2048 + n.val = n.val; omega
  | ⟨2, _⟩ => show 0 * 896 + k.val = k.val; omega

/-! ## The sum over the devices -/

/-- Device d's part of the result at row i and column n. -/
def part (c : Dev nD) (i n : Fin 2048) (d : Fin 8) : EReal :=
  ∑ k : Fin 896, ct m c (ix2 i ⟨d.val * 896 + k.val, by omega⟩) * wt m c (ix3 d n k)

theorem point (c : Dev nD) (a : Fin 2) (d : Fin 8) (r : Fin 1024) (n : Fin 2048) :
    k0_pay1 (F := Ideal) (iblk m c 0 (pt a d)) (iblk m c 1 (pt a d)) (ix2 r n) = part m c ⟨a.val * 1024 + r.val, by omega⟩ n d := by
  refine (product _ _ r n).trans (Finset.sum_congr rfl fun k _ => ?_)
  rw [read0, read1]

/-- After device d's point the sum holds the parts of the devices up to d. -/
theorem state (c : Dev nD) (a : Fin 2) (r : Fin 1024) (n : Fin 2048) : ∀ (d : ℕ) (hd : d < 8),
    (outsAt0 m c (pt a ⟨d, hd⟩).val (pt a ⟨d, hd⟩).isLt : S1024x2048.Idx → EReal) (ix2 r n)
      = ∑ e : Fin (d + 1), part m c ⟨a.val * 1024 + r.val, by omega⟩ n ⟨e.val, by omega⟩
  | 0, hd => by
    have h0 : (pt a ⟨0, hd⟩).val % 8 = 0 := by show (a.val * 8 + 0) % 8 = 0; omega
    rw [outsAt0_A m c (pt a ⟨0, hd⟩) h0 (by omega), first, point, Fin.sum_univ_one]
    rfl
  | d + 1, hd => by
    have h1 : (pt a ⟨d + 1, hd⟩).val % 8 = d + 1 := by show (a.val * 8 + (d + 1)) % 8 = d + 1; omega
    have s := state c a r n d (by omega)
    rw [outsAt0_B m c (pt a ⟨d + 1, hd⟩) (by omega) (by omega), later, added, point, Fin.sum_univ_castSucc]
    exact congrArg (· + _) s

theorem apart : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (by
    have h1 : t.val / 8 = t'.val / 8 := by
      have := congrFun ((idx2 t).symm.trans (h.trans (idx2 t'))) 0
      exact this
    have := (flush0_2 t).mp hf
    have := (flush0_2 t').mp hf'
    exact Fin.ext (by omega))

/-- The result, place by place. -/
theorem final (c : Dev nD) (i n : Fin 2048) :
    ((dats m 0 c).arrAt 2 cfg0.N : S2048x2048.Idx → EReal) (ix2 i n) = ∑ d : Fin 8, part m c i n d := by
  let a : Fin 2 := ⟨i.val / 1024, by omega⟩
  let r : Fin 1024 := ⟨i.val % 1024, by omega⟩
  have hi : (⟨a.val * 1024 + r.val, by omega⟩ : Fin 2048) = i := Fin.ext (by show i.val / 1024 * 1024 + i.val % 1024 = i.val; omega)
  have e : ((cfg0.win 2).blk (pt a 7)).view.emb (ix2 r n) = (ix2 i n : S2048x2048.Idx) := by
    refine funext fun x => Fin.ext ((Pipeline.Window.rect_emb_val win0_2 (pt a 7) (ix2 r n) x).trans ?_)
    rw [idx2]
    match x with
    | ⟨0, _⟩ => show (i.val / 1024 * 8 + 7) / 8 * 1024 + i.val % 1024 = i.val; omega
    | ⟨1, _⟩ => show 0 * 2048 + n.val = n.val; omega
  have f := (dats m 0 c).arrAt_emb_eq_flushed 2 apart (pt a 7) ((flush0_2 _).mpr (by show (a.val * 8 + 7) % 8 = 7; omega)) (ix2 r n)
  rw [e, Cert.InDxIdeal.Value.flushed2] at f
  have ex : (cfg0.win 2).xinj (grid0.coords (pt a 7)) (ix2 r n) = (ix2 r n : S1024x2048.Idx) :=
    funext fun x => Fin.ext (by match x with | ⟨0, _⟩ => rfl | ⟨1, _⟩ => rfl)
  have s := state m c a r n 7 (by omega)
  rw [hi] at s
  exact f.trans ((cast_eq _ _).trans ((congrArg (outsAt0 m c (pt a 7).val (pt a 7).isLt) ex).trans s))

/-- The kernel's result is the reference's. -/
theorem values (c : Dev nD) : ((dats m 0 c).arrAt 2 cfg0.N : S2048x2048.Idx → EReal)
    = Cert.InDxRefIdeal.Read.val_main_v6 (F := Ideal) (ct m c) (wt m c) := by
  refine funext fun (i : S2048x2048.Idx) => ?_
  obtain ⟨p, q, rfl⟩ := Cert.Products.place i
  refine (final m c p q).trans (Eq.symm ((Cert.InDxRefIdeal.Read.val_main_v6_apply (ct m c) (wt m c) _).trans ?_))
  rw [Cert.Products.sum_blocks (A := 8) (B := 896) rfl]
  refine Finset.sum_congr rfl fun d _ => Finset.sum_congr rfl fun k _ => ?_
  refine congrArg₂ (· * ·) (congrArg (ct m c) (funext fun a => by match a with | ⟨0, _⟩ => rfl | ⟨1, _⟩ => rfl)) ?_
  refine (Cert.InDxRefIdeal.Read.val_main_v1_apply (F := Ideal) (wt m c) _).trans ((Cert.InDxRefIdeal.Read.val_main_v0_apply (F := Ideal) (wt m c) _).trans ?_)
  refine congrArg (wt m c) (funext fun a => Fin.ext ?_)
  match a with
  | ⟨0, _⟩ => show (q.val * 7168 + (d.val * 896 + k.val)) / 896 % 8 = d.val; omega
  | ⟨1, _⟩ => show (q.val * 7168 + (d.val * 896 + k.val)) / 7168 = q.val; omega
  | ⟨2, _⟩ => show (q.val * 7168 + (d.val * 896 + k.val)) % 896 = k.val; omega

theorem algebraic : Cert.algebraic_InDxIdeal_InDxRefIdeal (hInDxIdeal := Cert.InDxIdeal.Gen.facts)
    (hInDxRefIdeal := Cert.InDxRefIdeal.Gen.facts) := by
  intro m ρ m' ρ' _ hargs
  refine ⟨fun c => (dats m 0 c).arrAt 2 cfg0.N, Cert.InDxIdeal.Value.run_blocks (F := Ideal) m ρ, ?_⟩
  refine (θ_run (Cert.InDxRefIdeal.defs (F := Ideal)) _ _).mono (fun r h c => ?_) (Cert.InDxRefIdeal.Value.run (F := Ideal) m' ρ')
  obtain ⟨h0, hr⟩ := h c
  obtain ⟨e0, e1⟩ := hargs c
  refine ⟨h0.trans ((Cert.InDxRefIdeal.Read.val_main_v6_eq (F := Ideal) _ _).trans (Eq.trans ?_ (values m c).symm)), hr⟩
  rw [e0, e1]

theorem frame_reference : Cert.quiescent_InDxRefIdeal (hInDxRefIdeal := Cert.InDxRefIdeal.Gen.facts) := fun m ρ _ =>
  (θ_run (Cert.InDxRefIdeal.defs (F := Ideal)) _ _).mono (fun r h => ⟨fun c => (h c).2, sem_eq_zero_of_no_sems (by decide) r.2⟩)
    (Cert.InDxRefIdeal.Value.run (F := Ideal) m ρ)

end Cert.InDxProof

end
-- ==== Proof.InFwd.lean ====
/-
  THE INPUT PROJECTION. The weight is stacked by device: device d has columns d * 896 … of it. Point t of the grid
  multiplies row block t % 2 of the input with device t / 2's columns of the weight; every place of the result lies in one
  block.
-/
module

public import proofs.«01_k».proof.Defs
public import proofs.«01_k».proof.Proof.Gen.InFwd.Frame
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Products

@[expose] public section

noncomputable section

namespace Cert.InFwdProof

open Cert.InFwdIdeal Cert.InFwdIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the input and the weight, stacked by device. -/
abbrev inp (c : Dev nD) : S2048x2048.Idx → EReal := m ((c.tc : Thread nD τ).loc main_arg0)
abbrev wt (c : Dev nD) : S8x2048x896.Idx → EReal := m ((c.tc : Thread nD τ).loc main_arg1)

theorem idx0 : ∀ t : Fin cfg0.N, win0_0.index t = ![t.val % 2, 0] := by decide +kernel
theorem idx1 : ∀ t : Fin cfg0.N, win0_1.index t = ![t.val / 2, 0, 0] := by decide +kernel
theorem idx2 : ∀ t : Fin cfg0.N, win0_2.index t = ![t.val % 2, t.val / 2] := by decide +kernel

/-- The point of device d and row block b. -/
def pt (d : Fin 8) (b : Fin 2) : Fin cfg0.N := ⟨d.val * 2 + b.val, by show _ < 16; omega⟩

theorem read0 (c : Dev nD) (d : Fin 8) (b : Fin 2) (r : Fin 1024) (k : Fin 2048) :
    iblk m c 0 (pt d b) (ix2 r k) = inp m c (ix2 ⟨b.val * 1024 + r.val, by omega⟩ k) := by
  refine Eq.trans (b := V m c main_arg0 (((cfg0.win 0).blk (pt d b)).view.emb (ix2 r k))) rfl ((congrFun (V_main_arg0 m c) _).trans ?_)
  refine congrArg (inp m c) (funext fun x => Fin.ext ((Pipeline.Window.rect_emb_val win0_0 (pt d b) (ix2 r k) x).trans ?_))
  rw [idx0]
  match x with
  | ⟨0, _⟩ => show (d.val * 2 + b.val) % 2 * 1024 + r.val = b.val * 1024 + r.val; omega
  | ⟨1, _⟩ => show 0 * 2048 + k.val = k.val; omega

theorem read1 (c : Dev nD) (d : Fin 8) (b : Fin 2) (k : Fin 2048) (n : Fin 896) :
    iblk m c 1 (pt d b) (ix3 0 k n) = wt m c (ix3 d k n) := by
  refine Eq.trans (b := V m c main_arg1 (((cfg0.win 1).blk (pt d b)).view.emb (ix3 0 k n))) rfl ((congrFun (V_main_arg1 m c) _).trans ?_)
  refine congrArg (wt m c) (funext fun x => Fin.ext ((Pipeline.Window.rect_emb_val win0_1 (pt d b) (ix3 0 k n) x).trans ?_))
  rw [idx1]
  match x with
  | ⟨0, _⟩ => show (d.val * 2 + b.val) / 2 * 1 + 0 = d.val; omega
  | ⟨1, _⟩ => show 0 * 2048 + k.val = k.val; omega
  | ⟨2, _⟩ => show 0 * 896 + n.val = n.val; omega

/-- What the body leaves of two blocks. -/
theorem left (x : Vec Ideal S1024x2048 .bf16) (y : Vec Ideal S1x2048x896 .bf16) (r : Fin 1024) (n : Fin 896) :
    out0_2 x y (ix2 r n) = ∑ k : Fin 2048, (x (ix2 r k) : EReal) * y (ix3 0 k n) := by
  have hz : ![0, 0] = fun _ : Fin 2 => 0 := by funext a; fin_cases a <;> rfl
  have hz3 : ![0, 0, 0] = fun _ : Fin 3 => 0 := by funext a; fin_cases a <;> rfl
  have e : out0_2 x y = k0_pay1 x y := by
    unfold out0_2
    rw [View.ld_unit_zero hz, View.ld_unit_zero hz3]
    exact View.canon_cons_unit_zero hz _ _ []
  rw [e]
  exact (Cert.Products.rows_cols _ rfl x _ r n).trans
    (Finset.sum_congr rfl fun k _ => congrArg (x (ix2 r k) * ·) (Cert.Products.unstack_one y shapeCasts_S1x2048x896_S2048x896 k n))

/-- The result, place by place. -/
theorem final (c : Dev nD) (i : Fin 2048) (d : Fin 8) (n : Fin 896) :
    ((dats m 0 c).arrAt 2 cfg0.N : S2048x7168.Idx → EReal) (ix2 i ⟨d.val * 896 + n.val, by omega⟩)
      = ∑ k : Fin 2048, inp m c (ix2 i k) * wt m c (ix3 d k n) := by
  let b : Fin 2 := ⟨i.val / 1024, by omega⟩
  let r : Fin 1024 := ⟨i.val % 1024, by omega⟩
  have hi : (⟨b.val * 1024 + r.val, by omega⟩ : Fin 2048) = i := Fin.ext (by show i.val / 1024 * 1024 + i.val % 1024 = i.val; omega)
  have e : ((cfg0.win 2).blk (pt d b)).view.emb (ix2 r n) = (ix2 i ⟨d.val * 896 + n.val, by omega⟩ : S2048x7168.Idx) := by
    refine funext fun x => Fin.ext ((Pipeline.Window.rect_emb_val win0_2 (pt d b) (ix2 r n) x).trans ?_)
    rw [idx2]
    match x with
    | ⟨0, _⟩ => show (d.val * 2 + i.val / 1024) % 2 * 1024 + i.val % 1024 = i.val; omega
    | ⟨1, _⟩ => show (d.val * 2 + i.val / 1024) / 2 * 896 + n.val = d.val * 896 + n.val; omega
  have f := (dats m 0 c).arrAt_emb_eq_flushed 2 Cert.InFwdIdeal.Value.disjoint2 (pt d b) (flush0_2 _) (ix2 r n)
  rw [e, Cert.InFwdIdeal.Value.flushed2] at f
  have ex : (cfg0.win 2).xinj (grid0.coords (pt d b)) (ix2 r n) = (ix2 r n : S1024x896.Idx) :=
    funext fun x => Fin.ext (by match x with | ⟨0, _⟩ => rfl | ⟨1, _⟩ => rfl)
  refine f.trans ((cast_eq _ _).trans ((congrArg (out0_2 (iblk m c 0 (pt d b)) (iblk m c 1 (pt d b))) ex).trans ((left _ _ r n).trans ?_)))
  refine Finset.sum_congr rfl fun k _ => ?_
  rw [read0, read1, hi]

/-- The kernel's result is the reference's. -/
theorem values (c : Dev nD) : ((dats m 0 c).arrAt 2 cfg0.N : S2048x7168.Idx → EReal)
    = Cert.InFwdRefIdeal.Read.val_main_v4 (F := Ideal) (inp m c) (wt m c) := by
  refine funext fun (i : S2048x7168.Idx) => ?_
  obtain ⟨p, q, rfl⟩ := Cert.Products.place i
  have hq : (⟨q.val / 896 * 896 + q.val % 896, by omega⟩ : Fin 7168) = q := Fin.ext (by show q.val / 896 * 896 + q.val % 896 = q.val; omega)
  have f := final m c p ⟨q.val / 896, by omega⟩ ⟨q.val % 896, by omega⟩
  rw [hq] at f
  refine f.trans (Eq.symm ((Cert.InFwdRefIdeal.Read.val_main_v4_apply (inp m c) (wt m c) _).trans (Finset.sum_congr rfl fun k _ => ?_)))
  refine congrArg₂ (· * ·) (congrArg (inp m c) (funext fun a => by match a with | ⟨0, _⟩ => rfl | ⟨1, _⟩ => rfl)) ?_
  refine (Cert.InFwdRefIdeal.Read.val_main_v1_apply (F := Ideal) (wt m c) _).trans ((Cert.InFwdRefIdeal.Read.val_main_v0_apply (F := Ideal) (wt m c) _).trans ?_)
  refine congrArg (wt m c) (funext fun a => Fin.ext ?_)
  match a with
  | ⟨0, _⟩ => show (k.val * 7168 + q.val) / 896 % 8 = q.val / 896; omega
  | ⟨1, _⟩ => show (k.val * 7168 + q.val) / 7168 = k.val; omega
  | ⟨2, _⟩ => show (k.val * 7168 + q.val) % 896 = q.val % 896; omega

theorem algebraic : Cert.algebraic_InFwdIdeal_InFwdRefIdeal (hInFwdIdeal := Cert.InFwdIdeal.Gen.facts)
    (hInFwdRefIdeal := Cert.InFwdRefIdeal.Gen.facts) := by
  intro m ρ m' ρ' _ hargs
  refine ⟨fun c => (dats m 0 c).arrAt 2 cfg0.N, Cert.InFwdIdeal.Value.run_blocks (F := Ideal) m ρ, ?_⟩
  refine (θ_run (Cert.InFwdRefIdeal.defs (F := Ideal)) _ _).mono (fun r h c => ?_) (Cert.InFwdRefIdeal.Value.run (F := Ideal) m' ρ')
  obtain ⟨h0, hr⟩ := h c
  obtain ⟨e0, e1⟩ := hargs c
  refine ⟨h0.trans ((Cert.InFwdRefIdeal.Read.val_main_v4_eq (F := Ideal) _ _).trans (Eq.trans ?_ (values m c).symm)), hr⟩
  rw [e0, e1]

theorem frame_reference : Cert.quiescent_InFwdRefIdeal (hInFwdRefIdeal := Cert.InFwdRefIdeal.Gen.facts) := fun m ρ _ =>
  (θ_run (Cert.InFwdRefIdeal.defs (F := Ideal)) _ _).mono (fun r h => ⟨fun c => (h c).2, sem_eq_zero_of_no_sems (by decide) r.2⟩)
    (Cert.InFwdRefIdeal.Value.run (F := Ideal) m ρ)

end Cert.InFwdProof

end
-- ==== Proof.OutFwd.lean ====
/-
  THE OUTPUT PROJECTION. Point t of the grid multiplies row block t / 2 of the input with column block t % 2 of the
  weight; every place of the result lies in one block.
-/
module

public import proofs.«01_k».proof.Defs
public import proofs.«01_k».proof.Proof.Gen.OutFwd.Frame
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Products

@[expose] public section

noncomputable section

namespace Cert.OutFwdProof

open Cert.OutFwdIdeal Cert.OutFwdIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the input and the weight. -/
abbrev inp (c : Dev nD) : S2048x2048.Idx → EReal := m ((c.tc : Thread nD τ).loc main_arg0)
abbrev wt (c : Dev nD) : S2048x2048.Idx → EReal := m ((c.tc : Thread nD τ).loc main_arg1)

theorem idx0 : ∀ t : Fin cfg0.N, win0_0.index t = ![t.val / 2, 0] := by decide +kernel
theorem idx1 : ∀ t : Fin cfg0.N, win0_1.index t = ![0, t.val % 2] := by decide +kernel
theorem idx2 : ∀ t : Fin cfg0.N, win0_2.index t = ![t.val / 2, t.val % 2] := by decide +kernel

/-- The point of row block a and column block b. -/
def pt (a : Fin 4) (b : Fin 2) : Fin cfg0.N := ⟨a.val * 2 + b.val, by show _ < 8; omega⟩

theorem read0 (c : Dev nD) (a : Fin 4) (b : Fin 2) (r : Fin 512) (k : Fin 2048) :
    iblk m c 0 (pt a b) (ix2 r k) = inp m c (ix2 ⟨a.val * 512 + r.val, by omega⟩ k) := by
  refine Eq.trans (b := V m c main_arg0 (((cfg0.win 0).blk (pt a b)).view.emb (ix2 r k))) rfl ((congrFun (V_main_arg0 m c) _).trans ?_)
  refine congrArg (inp m c) (funext fun x => Fin.ext ((Pipeline.Window.rect_emb_val win0_0 (pt a b) (ix2 r k) x).trans ?_))
  rw [idx0]
  match x with
  | ⟨0, _⟩ => show (a.val * 2 + b.val) / 2 * 512 + r.val = a.val * 512 + r.val; omega
  | ⟨1, _⟩ => show 0 * 2048 + k.val = k.val; omega

theorem read1 (c : Dev nD) (a : Fin 4) (b : Fin 2) (k : Fin 2048) (n : Fin 1024) :
    iblk m c 1 (pt a b) (ix2 k n) = wt m c (ix2 k ⟨b.val * 1024 + n.val, by omega⟩) := by
  refine Eq.trans (b := V m c main_arg1 (((cfg0.win 1).blk (pt a b)).view.emb (ix2 k n))) rfl ((congrFun (V_main_arg1 m c) _).trans ?_)
  refine congrArg (wt m c) (funext fun x => Fin.ext ((Pipeline.Window.rect_emb_val win0_1 (pt a b) (ix2 k n) x).trans ?_))
  rw [idx1]
  match x with
  | ⟨0, _⟩ => show 0 * 2048 + k.val = k.val; omega
  | ⟨1, _⟩ => show (a.val * 2 + b.val) % 2 * 1024 + n.val = b.val * 1024 + n.val; omega

/-- What the body leaves of two blocks. -/
theorem left (x : Vec Ideal S512x2048 .bf16) (y : Vec Ideal S2048x1024 .bf16) (r : Fin 512) (n : Fin 1024) :
    out0_2 x y (ix2 r n) = ∑ k : Fin 2048, (x (ix2 r k) : EReal) * y (ix2 k n) := by
  have hz : ![0, 0] = fun _ : Fin 2 => 0 := by funext a; fin_cases a <;> rfl
  have e : out0_2 x y = k0_pay1 x y := by
    unfold out0_2
    rw [View.ld_unit_zero hz, View.ld_unit_zero hz]
    exact View.canon_cons_unit_zero hz _ _ []
  rw [e]
  exact Cert.Products.rows_cols _ rfl x y r n

/-- The result, place by place. -/
theorem final (c : Dev nD) (i : Fin 2048) (j : Fin 2048) :
    ((dats m 0 c).arrAt 2 cfg0.N : S2048x2048.Idx → EReal) (ix2 i j) = ∑ k : Fin 2048, inp m c (ix2 i k) * wt m c (ix2 k j) := by
  let a : Fin 4 := ⟨i.val / 512, by omega⟩
  let b : Fin 2 := ⟨j.val / 1024, by omega⟩
  let r : Fin 512 := ⟨i.val % 512, by omega⟩
  let n : Fin 1024 := ⟨j.val % 1024, by omega⟩
  have hi : (⟨a.val * 512 + r.val, by omega⟩ : Fin 2048) = i := Fin.ext (by show i.val / 512 * 512 + i.val % 512 = i.val; omega)
  have hj : (⟨b.val * 1024 + n.val, by omega⟩ : Fin 2048) = j := Fin.ext (by show j.val / 1024 * 1024 + j.val % 1024 = j.val; omega)
  have e : ((cfg0.win 2).blk (pt a b)).view.emb (ix2 r n) = (ix2 i j : S2048x2048.Idx) := by
    refine funext fun x => Fin.ext ((Pipeline.Window.rect_emb_val win0_2 (pt a b) (ix2 r n) x).trans ?_)
    rw [idx2]
    match x with
    | ⟨0, _⟩ => show (i.val / 512 * 2 + j.val / 1024) / 2 * 512 + i.val % 512 = i.val; omega
    | ⟨1, _⟩ => show (i.val / 512 * 2 + j.val / 1024) % 2 * 1024 + j.val % 1024 = j.val; omega
  have f := (dats m 0 c).arrAt_emb_eq_flushed 2 Cert.OutFwdIdeal.Value.disjoint2 (pt a b) (flush0_2 _) (ix2 r n)
  rw [e, Cert.OutFwdIdeal.Value.flushed2] at f
  have ex : (cfg0.win 2).xinj (grid0.coords (pt a b)) (ix2 r n) = (ix2 r n : S512x1024.Idx) :=
    funext fun x => Fin.ext (by match x with | ⟨0, _⟩ => rfl | ⟨1, _⟩ => rfl)
  refine f.trans ((cast_eq _ _).trans ((congrArg (out0_2 (iblk m c 0 (pt a b)) (iblk m c 1 (pt a b))) ex).trans ((left _ _ r n).trans ?_)))
  refine Finset.sum_congr rfl fun k _ => ?_
  rw [read0, read1, hi, hj]

/-- The kernel's result is the reference's. -/
theorem values (c : Dev nD) : ((dats m 0 c).arrAt 2 cfg0.N : S2048x2048.Idx → EReal)
    = Cert.OutFwdRefIdeal.Read.val_main_v2 (F := Ideal) (inp m c) (wt m c) := by
  refine funext fun (i : S2048x2048.Idx) => ?_
  obtain ⟨p, q, rfl⟩ := Cert.Products.place i
  refine (final m c p q).trans (Eq.symm ((Cert.OutFwdRefIdeal.Read.val_main_v2_apply (inp m c) (wt m c) _).trans (Finset.sum_congr rfl fun k _ => ?_)))
  refine congrArg₂ (· * ·) (congrArg (inp m c) ?_) (congrArg (wt m c) ?_) <;>
    (funext a; match a with | ⟨0, _⟩ => rfl | ⟨1, _⟩ => rfl)

theorem algebraic : Cert.algebraic_OutFwdIdeal_OutFwdRefIdeal (hOutFwdIdeal := Cert.OutFwdIdeal.Gen.facts)
    (hOutFwdRefIdeal := Cert.OutFwdRefIdeal.Gen.facts) := by
  intro m ρ m' ρ' _ hargs
  refine ⟨fun c => (dats m 0 c).arrAt 2 cfg0.N, Cert.OutFwdIdeal.Value.run_blocks (F := Ideal) m ρ, ?_⟩
  refine (θ_run (Cert.OutFwdRefIdeal.defs (F := Ideal)) _ _).mono (fun r h c => ?_) (Cert.OutFwdRefIdeal.Value.run (F := Ideal) m' ρ')
  obtain ⟨h0, hr⟩ := h c
  obtain ⟨e0, e1⟩ := hargs c
  refine ⟨h0.trans ((Cert.OutFwdRefIdeal.Read.val_main_v2_eq (F := Ideal) _ _).trans (Eq.trans ?_ (values m c).symm)), hr⟩
  rw [e0, e1]

theorem frame_reference : Cert.quiescent_OutFwdRefIdeal (hOutFwdRefIdeal := Cert.OutFwdRefIdeal.Gen.facts) := fun m ρ _ =>
  (θ_run (Cert.OutFwdRefIdeal.defs (F := Ideal)) _ _).mono (fun r h => ⟨fun c => (h c).2, sem_eq_zero_of_no_sems (by decide) r.2⟩)
    (Cert.OutFwdRefIdeal.Value.run (F := Ideal) m ρ)

end Cert.OutFwdProof

end
-- ==== Proof.UpFwd.lean ====
/-
  THE UP PROJECTION. The weight is stacked by device: device d has columns d * 1408 … of it. Point t of the grid
  multiplies row block t % 2 of the input with device t / 2's columns of the weight; every place of the result lies in one
  block.
-/
module

public import proofs.«01_k».proof.Defs
public import proofs.«01_k».proof.Proof.Gen.UpFwd.Frame
public import proofs.«01_k».proof.Proof.Gen.UpFwdIdeal.Value
public import proofs.«01_k».proof.Proof.Gen.UpFwdRefIdeal.Run
public import proofs.«01_k».proof.Proof.Gen.UpFwdRefIdeal.Read
public import proofs.«01_k».proof.Proof.Products

@[expose] public section

noncomputable section

namespace Cert.UpFwdProof

open Cert.UpFwdIdeal Cert.UpFwdIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the input and the weight, stacked by device. -/
abbrev inp (c : Dev nD) : S2048x2048.Idx → EReal := m ((c.tc : Thread nD τ).loc main_arg0)
abbrev wt (c : Dev nD) : S8x2048x1408.Idx → EReal := m ((c.tc : Thread nD τ).loc main_arg1)

theorem idx0 : ∀ t : Fin cfg0.N, win0_0.index t = ![t.val % 2, 0] := by decide +kernel
theorem idx1 : ∀ t : Fin cfg0.N, win0_1.index t = ![t.val / 2, 0, 0] := by decide +kernel
theorem idx2 : ∀ t : Fin cfg0.N, win0_2.index t = ![t.val % 2, t.val / 2] := by decide +kernel

/-- The point of device d and row block b. -/
def pt (d : Fin 8) (b : Fin 2) : Fin cfg0.N := ⟨d.val * 2 + b.val, by show _ < 16; omega⟩

theorem read0 (c : Dev nD) (d : Fin 8) (b : Fin 2) (r : Fin 1024) (k : Fin 2048) :
    iblk m c 0 (pt d b) (ix2 r k) = inp m c (ix2 ⟨b.val * 1024 + r.val, by omega⟩ k) := by
  refine Eq.trans (b := V m c main_arg0 (((cfg0.win 0).blk (pt d b)).view.emb (ix2 r k))) rfl ((congrFun (V_main_arg0 m c) _).trans ?_)
  refine congrArg (inp m c) (funext fun x => Fin.ext ((Pipeline.Window.rect_emb_val win0_0 (pt d b) (ix2 r k) x).trans ?_))
  rw [idx0]
  match x with
  | ⟨0, _⟩ => show (d.val * 2 + b.val) % 2 * 1024 + r.val = b.val * 1024 + r.val; omega
  | ⟨1, _⟩ => show 0 * 2048 + k.val = k.val; omega

theorem read1 (c : Dev nD) (d : Fin 8) (b : Fin 2) (k : Fin 2048) (n : Fin 1408) :
    iblk m c 1 (pt d b) (ix3 0 k n) = wt m c (ix3 d k n) := by
  refine Eq.trans (b := V m c main_arg1 (((cfg0.win 1).blk (pt d b)).view.emb (ix3 0 k n))) rfl ((congrFun (V_main_arg1 m c) _).trans ?_)
  refine congrArg (wt m c) (funext fun x => Fin.ext ((Pipeline.Window.rect_emb_val win0_1 (pt d b) (ix3 0 k n) x).trans ?_))
  rw [idx1]
  match x with
  | ⟨0, _⟩ => show (d.val * 2 + b.val) / 2 * 1 + 0 = d.val; omega
  | ⟨1, _⟩ => show 0 * 2048 + k.val = k.val; omega
  | ⟨2, _⟩ => show 0 * 1408 + n.val = n.val; omega

/-- What the body leaves of two blocks. -/
theorem left (x : Vec Ideal S1024x2048 .bf16) (y : Vec Ideal S1x2048x1408 .bf16) (r : Fin 1024) (n : Fin 1408) :
    out0_2 x y (ix2 r n) = ∑ k : Fin 2048, (x (ix2 r k) : EReal) * y (ix3 0 k n) := by
  have hz : ![0, 0] = fun _ : Fin 2 => 0 := by funext a; fin_cases a <;> rfl
  have hz3 : ![0, 0, 0] = fun _ : Fin 3 => 0 := by funext a; fin_cases a <;> rfl
  have e : out0_2 x y = k0_pay1 x y := by
    unfold out0_2
    rw [View.ld_unit_zero hz, View.ld_unit_zero hz3]
    exact View.canon_cons_unit_zero hz _ _ []
  rw [e]
  exact (Cert.Products.rows_cols _ rfl x _ r n).trans
    (Finset.sum_congr rfl fun k _ => congrArg (x (ix2 r k) * ·) (Cert.Products.unstack_one y shapeCasts_S1x2048x1408_S2048x1408 k n))

/-- The result, place by place. -/
theorem final (c : Dev nD) (i : Fin 2048) (d : Fin 8) (n : Fin 1408) :
    ((dats m 0 c).arrAt 2 cfg0.N : S2048x11264.Idx → EReal) (ix2 i ⟨d.val * 1408 + n.val, by omega⟩)
      = ∑ k : Fin 2048, inp m c (ix2 i k) * wt m c (ix3 d k n) := by
  let b : Fin 2 := ⟨i.val / 1024, by omega⟩
  let r : Fin 1024 := ⟨i.val % 1024, by omega⟩
  have hi : (⟨b.val * 1024 + r.val, by omega⟩ : Fin 2048) = i := Fin.ext (by show i.val / 1024 * 1024 + i.val % 1024 = i.val; omega)
  have e : ((cfg0.win 2).blk (pt d b)).view.emb (ix2 r n) = (ix2 i ⟨d.val * 1408 + n.val, by omega⟩ : S2048x11264.Idx) := by
    refine funext fun x => Fin.ext ((Pipeline.Window.rect_emb_val win0_2 (pt d b) (ix2 r n) x).trans ?_)
    rw [idx2]
    match x with
    | ⟨0, _⟩ => show (d.val * 2 + i.val / 1024) % 2 * 1024 + i.val % 1024 = i.val; omega
    | ⟨1, _⟩ => show (d.val * 2 + i.val / 1024) / 2 * 1408 + n.val = d.val * 1408 + n.val; omega
  have f := (dats m 0 c).arrAt_emb_eq_flushed 2 Cert.UpFwdIdeal.Value.disjoint2 (pt d b) (flush0_2 _) (ix2 r n)
  rw [e, Cert.UpFwdIdeal.Value.flushed2] at f
  have ex : (cfg0.win 2).xinj (grid0.coords (pt d b)) (ix2 r n) = (ix2 r n : S1024x1408.Idx) :=
    funext fun x => Fin.ext (by match x with | ⟨0, _⟩ => rfl | ⟨1, _⟩ => rfl)
  refine f.trans ((cast_eq _ _).trans ((congrArg (out0_2 (iblk m c 0 (pt d b)) (iblk m c 1 (pt d b))) ex).trans ((left _ _ r n).trans ?_)))
  refine Finset.sum_congr rfl fun k _ => ?_
  rw [read0, read1, hi]

/-- The kernel's result is the reference's. -/
theorem values (c : Dev nD) : ((dats m 0 c).arrAt 2 cfg0.N : S2048x11264.Idx → EReal)
    = Cert.UpFwdRefIdeal.Read.val_main_v4 (F := Ideal) (inp m c) (wt m c) := by
  refine funext fun (i : S2048x11264.Idx) => ?_
  obtain ⟨p, q, rfl⟩ := Cert.Products.place i
  have hq : (⟨q.val / 1408 * 1408 + q.val % 1408, by omega⟩ : Fin 11264) = q := Fin.ext (by show q.val / 1408 * 1408 + q.val % 1408 = q.val; omega)
  have f := final m c p ⟨q.val / 1408, by omega⟩ ⟨q.val % 1408, by omega⟩
  rw [hq] at f
  refine f.trans (Eq.symm ((Cert.UpFwdRefIdeal.Read.val_main_v4_apply (inp m c) (wt m c) _).trans (Finset.sum_congr rfl fun k _ => ?_)))
  refine congrArg₂ (· * ·) (congrArg (inp m c) (funext fun a => by match a with | ⟨0, _⟩ => rfl | ⟨1, _⟩ => rfl)) ?_
  refine (Cert.UpFwdRefIdeal.Read.val_main_v1_apply (F := Ideal) (wt m c) _).trans ((Cert.UpFwdRefIdeal.Read.val_main_v0_apply (F := Ideal) (wt m c) _).trans ?_)
  refine congrArg (wt m c) (funext fun a => Fin.ext ?_)
  match a with
  | ⟨0, _⟩ => show (k.val * 11264 + q.val) / 1408 % 8 = q.val / 1408; omega
  | ⟨1, _⟩ => show (k.val * 11264 + q.val) / 11264 = k.val; omega
  | ⟨2, _⟩ => show (k.val * 11264 + q.val) % 1408 = q.val % 1408; omega

theorem algebraic : Cert.algebraic_UpFwdIdeal_UpFwdRefIdeal (hUpFwdIdeal := Cert.UpFwdIdeal.Gen.facts)
    (hUpFwdRefIdeal := Cert.UpFwdRefIdeal.Gen.facts) := by
  intro m ρ m' ρ' _ hargs
  refine ⟨fun c => (dats m 0 c).arrAt 2 cfg0.N, Cert.UpFwdIdeal.Value.run_blocks (F := Ideal) m ρ, ?_⟩
  refine (θ_run (Cert.UpFwdRefIdeal.defs (F := Ideal)) _ _).mono (fun r h c => ?_) (Cert.UpFwdRefIdeal.Value.run (F := Ideal) m' ρ')
  obtain ⟨h0, hr⟩ := h c
  obtain ⟨e0, e1⟩ := hargs c
  refine ⟨h0.trans ((Cert.UpFwdRefIdeal.Read.val_main_v4_eq (F := Ideal) _ _).trans (Eq.trans ?_ (values m c).symm)), hr⟩
  rw [e0, e1]

theorem frame_reference : Cert.quiescent_UpFwdRefIdeal (hUpFwdRefIdeal := Cert.UpFwdRefIdeal.Gen.facts) := fun m ρ _ =>
  (θ_run (Cert.UpFwdRefIdeal.defs (F := Ideal)) _ _).mono (fun r h => ⟨fun c => (h c).2, sem_eq_zero_of_no_sems (by decide) r.2⟩)
    (Cert.UpFwdRefIdeal.Value.run (F := Ideal) m ρ)

end Cert.UpFwdProof

end
-- ==== Proof.DownFwd.lean ====
/-
  THE DOWN PROJECTION. Point t of the grid multiplies row block t / 4 of the input with column block t % 4 of the
  weight; every place of the result lies in one block.
-/
module

public import proofs.«01_k».proof.Defs
public import proofs.«01_k».proof.Proof.Gen.DownFwd.Frame
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.Products

@[expose] public section

noncomputable section

namespace Cert.DownFwdProof

open Cert.DownFwdIdeal Cert.DownFwdIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the input and the weight. -/
abbrev inp (c : Dev nD) : S2048x5632.Idx → EReal := m ((c.tc : Thread nD τ).loc main_arg0)
abbrev wt (c : Dev nD) : S5632x2048.Idx → EReal := m ((c.tc : Thread nD τ).loc main_arg1)

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel

/-- The point of row block a and column block b. -/
def pt (a : Fin 2) (b : Fin 4) : Fin cfg0.N := ⟨a.val * 4 + b.val, by show _ < 8; omega⟩

theorem read0 (c : Dev nD) (a : Fin 2) (b : Fin 4) (r : Fin 1024) (k : Fin 5632) :
    iblk m c 0 (pt a b) (ix2 r k) = inp m c (ix2 ⟨a.val * 1024 + r.val, by omega⟩ k) := by
  refine Eq.trans (b := V m c main_arg0 (((cfg0.win 0).blk (pt a b)).view.emb (ix2 r k))) rfl ((congrFun (V_main_arg0 m c) _).trans ?_)
  refine congrArg (inp m c) (funext fun x => Fin.ext ((Pipeline.Window.rect_emb_val win0_0 (pt a b) (ix2 r k) x).trans ?_))
  rw [idx0]
  match x with
  | ⟨0, _⟩ => show (a.val * 4 + b.val) / 4 * 1024 + r.val = a.val * 1024 + r.val; omega
  | ⟨1, _⟩ => show 0 * 5632 + k.val = k.val; omega

theorem read1 (c : Dev nD) (a : Fin 2) (b : Fin 4) (k : Fin 5632) (n : Fin 512) :
    iblk m c 1 (pt a b) (ix2 k n) = wt m c (ix2 k ⟨b.val * 512 + n.val, by omega⟩) := by
  refine Eq.trans (b := V m c main_arg1 (((cfg0.win 1).blk (pt a b)).view.emb (ix2 k n))) rfl ((congrFun (V_main_arg1 m c) _).trans ?_)
  refine congrArg (wt m c) (funext fun x => Fin.ext ((Pipeline.Window.rect_emb_val win0_1 (pt a b) (ix2 k n) x).trans ?_))
  rw [idx1]
  match x with
  | ⟨0, _⟩ => show 0 * 5632 + k.val = k.val; omega
  | ⟨1, _⟩ => show (a.val * 4 + b.val) % 4 * 512 + n.val = b.val * 512 + n.val; omega

/-- What the body leaves of two blocks. -/
theorem left (x : Vec Ideal S1024x5632 .bf16) (y : Vec Ideal S5632x512 .bf16) (r : Fin 1024) (n : Fin 512) :
    out0_2 x y (ix2 r n) = ∑ k : Fin 5632, (x (ix2 r k) : EReal) * y (ix2 k n) := by
  have hz : ![0, 0] = fun _ : Fin 2 => 0 := by funext a; fin_cases a <;> rfl
  have e : out0_2 x y = k0_pay1 x y := by
    unfold out0_2
    rw [View.ld_unit_zero hz, View.ld_unit_zero hz]
    exact View.canon_cons_unit_zero hz _ _ []
  rw [e]
  exact Cert.Products.rows_cols _ rfl x y r n

/-- The result, place by place. -/
theorem final (c : Dev nD) (i : Fin 2048) (j : Fin 2048) :
    ((dats m 0 c).arrAt 2 cfg0.N : S2048x2048.Idx → EReal) (ix2 i j) = ∑ k : Fin 5632, inp m c (ix2 i k) * wt m c (ix2 k j) := by
  let a : Fin 2 := ⟨i.val / 1024, by omega⟩
  let b : Fin 4 := ⟨j.val / 512, by omega⟩
  let r : Fin 1024 := ⟨i.val % 1024, by omega⟩
  let n : Fin 512 := ⟨j.val % 512, by omega⟩
  have hi : (⟨a.val * 1024 + r.val, by omega⟩ : Fin 2048) = i := Fin.ext (by show i.val / 1024 * 1024 + i.val % 1024 = i.val; omega)
  have hj : (⟨b.val * 512 + n.val, by omega⟩ : Fin 2048) = j := Fin.ext (by show j.val / 512 * 512 + j.val % 512 = j.val; omega)
  have e : ((cfg0.win 2).blk (pt a b)).view.emb (ix2 r n) = (ix2 i j : S2048x2048.Idx) := by
    refine funext fun x => Fin.ext ((Pipeline.Window.rect_emb_val win0_2 (pt a b) (ix2 r n) x).trans ?_)
    rw [idx2]
    match x with
    | ⟨0, _⟩ => show (i.val / 1024 * 4 + j.val / 512) / 4 * 1024 + i.val % 1024 = i.val; omega
    | ⟨1, _⟩ => show (i.val / 1024 * 4 + j.val / 512) % 4 * 512 + j.val % 512 = j.val; omega
  have f := (dats m 0 c).arrAt_emb_eq_flushed 2 Cert.DownFwdIdeal.Value.disjoint2 (pt a b) (flush0_2 _) (ix2 r n)
  rw [e, Cert.DownFwdIdeal.Value.flushed2] at f
  have ex : (cfg0.win 2).xinj (grid0.coords (pt a b)) (ix2 r n) = (ix2 r n : S1024x512.Idx) :=
    funext fun x => Fin.ext (by match x with | ⟨0, _⟩ => rfl | ⟨1, _⟩ => rfl)
  refine f.trans ((cast_eq _ _).trans ((congrArg (out0_2 (iblk m c 0 (pt a b)) (iblk m c 1 (pt a b))) ex).trans ((left _ _ r n).trans ?_)))
  refine Finset.sum_congr rfl fun k _ => ?_
  rw [read0, read1, hi, hj]

/-- The kernel's result is the reference's. -/
theorem values (c : Dev nD) : ((dats m 0 c).arrAt 2 cfg0.N : S2048x2048.Idx → EReal)
    = Cert.DownFwdRefIdeal.Read.val_main_v2 (F := Ideal) (inp m c) (wt m c) := by
  refine funext fun (i : S2048x2048.Idx) => ?_
  obtain ⟨p, q, rfl⟩ := Cert.Products.place i
  refine (final m c p q).trans (Eq.symm ((Cert.DownFwdRefIdeal.Read.val_main_v2_apply (inp m c) (wt m c) _).trans (Finset.sum_congr rfl fun k _ => ?_)))
  refine congrArg₂ (· * ·) (congrArg (inp m c) ?_) (congrArg (wt m c) ?_) <;>
    (funext a; match a with | ⟨0, _⟩ => rfl | ⟨1, _⟩ => rfl)

theorem algebraic : Cert.algebraic_DownFwdIdeal_DownFwdRefIdeal (hDownFwdIdeal := Cert.DownFwdIdeal.Gen.facts)
    (hDownFwdRefIdeal := Cert.DownFwdRefIdeal.Gen.facts) := by
  intro m ρ m' ρ' _ hargs
  refine ⟨fun c => (dats m 0 c).arrAt 2 cfg0.N, Cert.DownFwdIdeal.Value.run_blocks (F := Ideal) m ρ, ?_⟩
  refine (θ_run (Cert.DownFwdRefIdeal.defs (F := Ideal)) _ _).mono (fun r h c => ?_) (Cert.DownFwdRefIdeal.Value.run (F := Ideal) m' ρ')
  obtain ⟨h0, hr⟩ := h c
  obtain ⟨e0, e1⟩ := hargs c
  refine ⟨h0.trans ((Cert.DownFwdRefIdeal.Read.val_main_v2_eq (F := Ideal) _ _).trans (Eq.trans ?_ (values m c).symm)), hr⟩
  rw [e0, e1]

theorem frame_reference : Cert.quiescent_DownFwdRefIdeal (hDownFwdRefIdeal := Cert.DownFwdRefIdeal.Gen.facts) := fun m ρ _ =>
  (θ_run (Cert.DownFwdRefIdeal.defs (F := Ideal)) _ _).mono (fun r h => ⟨fun c => (h c).2, sem_eq_zero_of_no_sems (by decide) r.2⟩)
    (Cert.DownFwdRefIdeal.Value.run (F := Ideal) m ρ)

end Cert.DownFwdProof

end
-- ==== Proof.Norms.lean ====
/-
  ROOT MEAN SQUARE NORMS over rows of numbers, as both programs compute them: the reciprocal root of a row's mean
  square, a place of the modulated row, and what the kernel's row sum and its broadcast column are at a place.
-/

module

public import Idealize.ShloMosaic.Lib.ValueLayoutCasts
public import proofs.«01_k».proof.Proof.Products

@[expose] public section

noncomputable section

namespace Cert.Norms

open Idealize.ShloMosaic.TcCoe Idealize.SL.Sem
open Idealize.ShloMosaic hiding ix1 ix2 ix3 ix4
open Idealize.ShloMosaic.ValueIdx

/-- The reciprocal root of a row's mean square, the small number added; b is the row's length as it is written. -/
def inv {N : ℕ} (b : BitVec FTy.f32.bits) (f : Fin N → EReal) : EReal := FloatOps.hostUnary (F := Ideal) (φ := .f32) .rsqrt (FloatOps.addf (F := Ideal) (φ := .f32)
  (FloatOps.hostDivf (F := Ideal) (φ := .f32) (∑ k : Fin N, f k * f k) (FloatOps.ofBits .f32 b)) (FloatOps.ofBits .f32 0x358637BD#32))

/-- A place of the row, normed, weighted, scaled and shifted. -/
def modulated (v s w sc sh : EReal) : EReal := FloatOps.addf (F := Ideal) (φ := .f32) (FloatOps.mulf (F := Ideal) (φ := .f32)
  (FloatOps.mulf (F := Ideal) (φ := .f32) (FloatOps.mulf (F := Ideal) (φ := .f32) v s) w)
  (FloatOps.addf (F := Ideal) (φ := .f32) (FloatOps.ofBits .f32 0x3F800000#32) sc)) sh

/-- The kernel's reciprocal root of row r of a block. -/
theorem inv_row {R N : ℕ} (b : BitVec FTy.f32.bits) (x : FVec Ideal ⟨2, ![R, N]⟩ .f32) (h : (⟨2, ![R, N]⟩ : Shape).Reduces [1] ⟨1, ![R]⟩) (hφ : FKind.Formats .f32)
    (hacc : 0x00000000#32 = FKind.add.neutral .f32 hφ) (hc : (⟨1, ![R]⟩ : Shape).ShapeCasts ⟨2, ![R, 1]⟩) (r : Fin R) :
    rsqrt (addf (divf (shapeCast ⟨2, ![R, 1]⟩ (multiReduction .add [1] ⟨1, ![R]⟩ (mulf x x) 0x00000000#32 h hφ hacc) hc)
      (broadcast ⟨2, ![R, 1]⟩ (Scalar.ofBits .f32 b))) (broadcast ⟨2, ![R, 1]⟩ (Scalar.ofBits .f32 0x358637BD#32))) (ix2 r 0)
      = inv b fun k => x (ix2 r k) := by
  refine congrArg (fun z : EReal => FloatOps.hostUnary (F := Ideal) (φ := .f32) .rsqrt (FloatOps.addf (F := Ideal) (φ := .f32)
    (FloatOps.hostDivf (F := Ideal) (φ := .f32) z (FloatOps.ofBits .f32 b)) (FloatOps.ofBits .f32 0x358637BD#32))) ?_
  refine (shapeCast_a_a1_apply _ hc r 0).trans ((Ideal.reduceAdd_r2_a1 h (mulf x x) (ix1 r)).trans (Finset.sum_congr rfl fun k _ => ?_))
  exact congrArg (fun i => x i * x i) (funext fun a => by match a with | ⟨0, _⟩ => rfl | ⟨1, _⟩ => rfl)

/-- A column broadcast along its rows. -/
theorem column {R N : ℕ} (hR : R ≠ 1) (v : (⟨2, ![R, 1]⟩ : Shape).Idx → EReal) (h : (⟨2, ![R, 1]⟩ : Shape).Broadcasts ⟨2, ![R, N]⟩) (r : Fin R) (n : Fin N) :
    broadcastTo ⟨2, ![R, N]⟩ v h (ix2 r n) = v (ix2 r 0) :=
  broadcastTo_apply v h (ix2 r n) (ix2 r 0) fun ax => by match ax with | ⟨0, _⟩ => exact (if_neg hR).symm | ⟨1, _⟩ => rfl

/-- A zero added before a sum of squares. -/
theorem from_zero (s : EReal) : (FloatOps.ofBits .f32 0x00000000#32 : Ideal .f32) + s = s := by
  have h : (FloatOps.ofBits .f32 0x00000000#32 : Ideal .f32) = (0 : EReal) := Ideal.ofBits_zero_f32
  rw [h]
  exact zero_add s

/-- Row r of row block a. -/
def row (a : Fin 8) (r : Fin 256) : Fin 2048 := ⟨a.val * 256 + r.val, by omega⟩

/-- Every row is a row of a block. -/
theorem rows (i : Fin 2048) : ∃ a r, row a r = i :=
  ⟨⟨i.val / 256, by omega⟩, ⟨i.val % 256, by omega⟩, Fin.ext (by show i.val / 256 * 256 + i.val % 256 = i.val; omega)⟩

/-- An index whose entries are those of a place in block a of rows of N numbers is that place. -/
theorem there {N : ℕ} (a : Fin 8) (r : Fin 256) (n : Fin N) (t : (⟨2, ![2048, N]⟩ : Shape).Idx)
    (h : ∀ x, (t x).val = (![a.val, 0] : Fin 2 → ℕ) x * (![256, N] : Fin 2 → ℕ) x + ((ix2 r n : (⟨2, ![256, N]⟩ : Shape).Idx) x).val) : t = ix2 (row a r) n := by
  refine funext fun x => Fin.ext ((h x).trans ?_)
  match x with
  | ⟨0, _⟩ => rfl
  | ⟨1, _⟩ => show 0 * N + n.val = n.val; omega

/-- The same of the one row that every point reads. -/
theorem there_one (n : Fin 2048) (t : (⟨2, ![1, 2048]⟩ : Shape).Idx)
    (h : ∀ x, (t x).val = (![0, 0] : Fin 2 → ℕ) x * (![1, 2048] : Fin 2 → ℕ) x + ((ix2 0 n : (⟨2, ![1, 2048]⟩ : Shape).Idx) x).val) : t = ix2 0 n := by
  refine funext fun x => Fin.ext ((h x).trans ?_)
  match x with
  | ⟨0, _⟩ => rfl
  | ⟨1, _⟩ => show 0 * 2048 + n.val = n.val; omega

/-- The rectangle of a whole block begins at zero. -/
theorem start : ![0, 0] = fun _ : Fin 2 => 0 := by funext a; fin_cases a <;> rfl

end Cert.Norms

end
-- ==== Proof.Norm1.lean ====
/-
  THE FIRST NORM of a layer. Point t of the grid has rows 256 t to 256 t + 255 of the activations and leaves those rows,
  normed and modulated, and the reciprocal root of each row's mean square.
-/
module

public import proofs.«01_k».proof.Defs
public import proofs.«01_k».proof.Proof.Gen.Norm1.Frame
public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Norms

@[expose] public section

noncomputable section

namespace Cert.Norm1Proof

open Cert.Norms Cert.Norm1Ideal Cert.Norm1Ideal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run. -/
abbrev x (c : Dev nD) : S2048x2048.Idx → EReal := m ((c.tc : Thread nD τ).loc main_arg0)
abbrev wt (c : Dev nD) : S1x2048.Idx → EReal := m ((c.tc : Thread nD τ).loc main_arg1)
abbrev scale (c : Dev nD) : S1x2048.Idx → EReal := m ((c.tc : Thread nD τ).loc main_arg2)
abbrev shift (c : Dev nD) : S1x2048.Idx → EReal := m ((c.tc : Thread nD τ).loc main_arg3)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel

/-- The point of row block a. -/
def pt (a : Fin 8) : Fin cfg0.N := ⟨a.val, a.isLt⟩

theorem emb0 (a : Fin 8) (r : Fin 256) (n : Fin 2048) : ((cfg0.win 0).blk (pt a)).view.emb (ix2 r n) = (ix2 (row a r) n : S2048x2048.Idx) :=
  there a r n _ fun x => (Pipeline.Window.rect_emb_val win0_0 (pt a) (ix2 r n) x).trans (by rw [idx0]; match x with | ⟨0, _⟩ => rfl | ⟨1, _⟩ => rfl)
theorem emb1 (a : Fin 8) (n : Fin 2048) : ((cfg0.win 1).blk (pt a)).view.emb (ix2 0 n) = (ix2 0 n : S1x2048.Idx) :=
  there_one n _ fun x => (Pipeline.Window.rect_emb_val win0_1 (pt a) (ix2 0 n) x).trans (by rw [idx1])
theorem emb2 (a : Fin 8) (n : Fin 2048) : ((cfg0.win 2).blk (pt a)).view.emb (ix2 0 n) = (ix2 0 n : S1x2048.Idx) :=
  there_one n _ fun x => (Pipeline.Window.rect_emb_val win0_2 (pt a) (ix2 0 n) x).trans (by rw [idx2])
theorem emb3 (a : Fin 8) (n : Fin 2048) : ((cfg0.win 3).blk (pt a)).view.emb (ix2 0 n) = (ix2 0 n : S1x2048.Idx) :=
  there_one n _ fun x => (Pipeline.Window.rect_emb_val win0_3 (pt a) (ix2 0 n) x).trans (by rw [idx3])
theorem emb4 (a : Fin 8) (r : Fin 256) (n : Fin 2048) : ((cfg0.win 4).blk (pt a)).view.emb (ix2 r n) = (ix2 (row a r) n : S2048x2048.Idx) :=
  there a r n _ fun x => (Pipeline.Window.rect_emb_val win0_4 (pt a) (ix2 r n) x).trans (by rw [idx4]; match x with | ⟨0, _⟩ => rfl | ⟨1, _⟩ => rfl)
theorem emb5 (a : Fin 8) (r : Fin 256) (n : Fin 1) : ((cfg0.win 5).blk (pt a)).view.emb (ix2 r n) = (ix2 (row a r) n : S2048x1.Idx) :=
  there a r n _ fun x => (Pipeline.Window.rect_emb_val win0_5 (pt a) (ix2 r n) x).trans (by rw [idx5]; match x with | ⟨0, _⟩ => rfl | ⟨1, _⟩ => rfl)

theorem read0 (c : Dev nD) (a : Fin 8) (r : Fin 256) (n : Fin 2048) : iblk m c 0 (pt a) (ix2 r n) = x m c (ix2 (row a r) n) :=
  Eq.trans (b := V m c main_arg0 (((cfg0.win 0).blk (pt a)).view.emb (ix2 r n))) rfl ((congrFun (V_main_arg0 m c) _).trans (congrArg (x m c) (emb0 a r n)))
theorem read1 (c : Dev nD) (a : Fin 8) (n : Fin 2048) : iblk m c 1 (pt a) (ix2 0 n) = wt m c (ix2 0 n) :=
  Eq.trans (b := V m c main_arg1 (((cfg0.win 1).blk (pt a)).view.emb (ix2 0 n))) rfl ((congrFun (V_main_arg1 m c) _).trans (congrArg (wt m c) (emb1 a n)))
theorem read2 (c : Dev nD) (a : Fin 8) (n : Fin 2048) : iblk m c 2 (pt a) (ix2 0 n) = scale m c (ix2 0 n) :=
  Eq.trans (b := V m c main_arg2 (((cfg0.win 2).blk (pt a)).view.emb (ix2 0 n))) rfl ((congrFun (V_main_arg2 m c) _).trans (congrArg (scale m c) (emb2 a n)))
theorem read3 (c : Dev nD) (a : Fin 8) (n : Fin 2048) : iblk m c 3 (pt a) (ix2 0 n) = shift m c (ix2 0 n) :=
  Eq.trans (b := V m c main_arg3 (((cfg0.win 3).blk (pt a)).view.emb (ix2 0 n))) rfl ((congrFun (V_main_arg3 m c) _).trans (congrArg (shift m c) (emb3 a n)))

theorem inv_block (x : Vec Ideal S256x2048 .f32) (r : Fin 256) : k0_pay1 x (ix2 r 0) = inv 0x45000000#32 fun k => x (ix2 r k) :=
  inv_row _ x reduces_S256x2048_S256 (.inl rfl) rfl shapeCasts_S256_S256x1 r

/-- What the body leaves in result 0 of its blocks. -/
theorem left4 (x0 : Vec Ideal S256x2048 .f32) (x1 : Vec Ideal S1x2048 .f32) (x2 : Vec Ideal S1x2048 .f32) (x3 : Vec Ideal S1x2048 .f32) (r : Fin 256) (n : Fin 2048) : out0_4 x0 x1 x2 x3 (ix2 r n) = modulated (x0 (ix2 r n)) (inv 0x45000000#32 fun k => x0 (ix2 r k)) (x1 (ix2 0 n)) (x2 (ix2 0 n)) (x3 (ix2 0 n)) := by
  have e : out0_4 x0 x1 x2 x3 = k0_pay2 x0 x1 x2 x3 := by
    unfold out0_4
    rw [View.ld_unit_zero start, View.ld_unit_zero start, View.ld_unit_zero start, View.ld_unit_zero start]
    exact View.canon_cons_unit_zero start _ _ []
  rw [e]
  have h0 := (rfl : x0 (ix2 r n) = x0 (ix2 r n))
  have h1 := (column (by decide) (k0_pay1 x0) broadcasts_S256x1_S256x2048 r n).trans (inv_block x0 r)
  have h2 := broadcastTo_1b_ab_apply x1 broadcasts_S1x2048_S256x2048 r n
  have h3 := broadcastTo_1b_ab_apply (addf (broadcast S1x2048 (Scalar.ofBits (F := Ideal) .f32 0x3F800000#32)) x2) broadcasts_S1x2048_S256x2048 r n
  have h4 := broadcastTo_1b_ab_apply x3 broadcasts_S1x2048_S256x2048 r n
  exact congrArg₂ (fun a b : EReal => FloatOps.addf (F := Ideal) (φ := .f32) a b) (congrArg₂ (fun a b : EReal => FloatOps.mulf (F := Ideal) (φ := .f32) a b)
    (congrArg₂ (fun a b : EReal => FloatOps.mulf (F := Ideal) (φ := .f32) a b) (congrArg₂ (fun a b : EReal => FloatOps.mulf (F := Ideal) (φ := .f32) a b) h0 h1) h2) h3) h4

/-- What the body leaves in result 1 of its blocks. -/
theorem left5 (x0 : Vec Ideal S256x2048 .f32) (x1 : Vec Ideal S1x2048 .f32) (x2 : Vec Ideal S1x2048 .f32) (x3 : Vec Ideal S1x2048 .f32) (r : Fin 256) (n : Fin 1) : out0_5 x0 x1 x2 x3 (ix2 r n) = inv 0x45000000#32 fun k => x0 (ix2 r k) := by
  have e : out0_5 x0 x1 x2 x3 = k0_pay1 x0 := by
    unfold out0_5
    rw [View.ld_unit_zero start]
    exact View.canon_cons_unit_zero start _ _ []
  rw [e]
  obtain rfl : n = 0 := Subsingleton.elim _ _
  exact inv_block x0 r

/-- The reference's reciprocal roots, those of its second result. -/
theorem ref_inv (c : Dev nD) (i : Fin 2048) : Cert.Norm1RefIdeal.Read.val_main_v26 (F := Ideal) (x m c) (ix2 i 0) = inv 0x45000000#32 fun k => x m c (ix2 i k) := by
  refine congrArg (fun z : EReal => FloatOps.hostUnary (F := Ideal) (φ := .f32) .rsqrt (FloatOps.addf (F := Ideal) (φ := .f32)
    (FloatOps.hostDivf (F := Ideal) (φ := .f32) z (FloatOps.ofBits .f32 0x45000000#32)) (FloatOps.ofBits .f32 0x358637BD#32))) ?_
  refine (Cert.Norm1RefIdeal.Read.val_main_v21_apply (F := Ideal) (x m c) _).trans ((Cert.Norm1RefIdeal.Read.val_main_v20_apply (x m c) _).trans ((from_zero _).trans (Finset.sum_congr rfl fun k _ => ?_)))
  have e : Cert.Norm1RefIdeal.Read.idx_main_v20 (Cert.Norm1RefIdeal.Read.idx_main_v21 (ix2 i 0)) k = ix2 i k := funext fun a => by match a with | ⟨0, _⟩ => rfl | ⟨1, _⟩ => rfl
  rw [e]
  rfl

/-- The reference's reciprocal roots, those within its first result. -/
theorem ref_inv_first (c : Dev nD) (i : Fin 2048) : Cert.Norm1RefIdeal.Read.val_main_v7 (F := Ideal) (x m c) (ix2 i 0) = inv 0x45000000#32 fun k => x m c (ix2 i k) := by
  refine congrArg (fun z : EReal => FloatOps.hostUnary (F := Ideal) (φ := .f32) .rsqrt (FloatOps.addf (F := Ideal) (φ := .f32)
    (FloatOps.hostDivf (F := Ideal) (φ := .f32) z (FloatOps.ofBits .f32 0x45000000#32)) (FloatOps.ofBits .f32 0x358637BD#32))) ?_
  refine (Cert.Norm1RefIdeal.Read.val_main_v2_apply (F := Ideal) (x m c) _).trans ((Cert.Norm1RefIdeal.Read.val_main_v1_apply (x m c) _).trans ((from_zero _).trans (Finset.sum_congr rfl fun k _ => ?_)))
  have e : Cert.Norm1RefIdeal.Read.idx_main_v1 (Cert.Norm1RefIdeal.Read.idx_main_v2 (ix2 i 0)) k = ix2 i k := funext fun a => by match a with | ⟨0, _⟩ => rfl | ⟨1, _⟩ => rfl
  rw [e]
  rfl

/-- Result 0 is the reference's. -/
theorem values4 (c : Dev nD) : ((dats m 0 c).arrAt 4 cfg0.N : S2048x2048.Idx → EReal) = Cert.Norm1RefIdeal.Read.val_main_v18 (F := Ideal) (x m c) (wt m c) (scale m c) (shift m c) := by
  refine funext fun (p : S2048x2048.Idx) => ?_
  obtain ⟨i, j, rfl⟩ := Cert.Products.place p
  refine Eq.trans (b := modulated (x m c (ix2 i j)) (inv 0x45000000#32 fun k => x m c (ix2 i k)) (wt m c (ix2 0 j)) (scale m c (ix2 0 j)) (shift m c (ix2 0 j))) ?_ (Eq.symm ?_)
  · obtain ⟨a, r, rfl⟩ := rows i
    have f := (dats m 0 c).arrAt_emb_eq_flushed 4 Cert.Norm1Ideal.Value.disjoint4 (pt a) (flush0_4 _) (ix2 r j)
    rw [emb4, Cert.Norm1Ideal.Value.flushed4] at f
    have ex : (cfg0.win 4).xinj (grid0.coords (pt a)) (ix2 r j) = (ix2 r j : S256x2048.Idx) :=
      funext fun x => Fin.ext (by match x with | ⟨0, _⟩ => rfl | ⟨1, _⟩ => rfl)
    refine f.trans ((cast_eq _ _).trans ((congrArg (out0_4 (iblk m c 0 (pt a)) (iblk m c 1 (pt a)) (iblk m c 2 (pt a)) (iblk m c 3 (pt a))) ex).trans ((left4 _ _ _ _ r j).trans ?_)))
    simp only [read0, read1, read2, read3]
  · have h0 := (rfl : x m c (ix2 i j) = x m c (ix2 i j))
    have h1 := ((Cert.Norm1RefIdeal.Read.val_main_v8_apply (F := Ideal) (x m c) (ix2 i j)).trans (congrArg (Cert.Norm1RefIdeal.Read.val_main_v7 (F := Ideal) (x m c)) (a₂ := ix2 i 0) (funext fun a => by match a with | ⟨0, _⟩ => rfl | ⟨1, _⟩ => rfl))).trans (ref_inv_first m c i)
    have h2 := (Cert.Norm1RefIdeal.Read.val_main_v10_apply (F := Ideal) (wt m c) (ix2 i j)).trans (congrArg (wt m c) (a₂ := ix2 0 j) (funext fun a => by match a with | ⟨0, _⟩ => rfl | ⟨1, _⟩ => rfl))
    have h3 := (Cert.Norm1RefIdeal.Read.val_main_v14_apply (F := Ideal) (scale m c) (ix2 i j)).trans (congrArg (Cert.Norm1RefIdeal.Read.val_main_v13 (F := Ideal) (scale m c)) (a₂ := ix2 0 j) (funext fun a => by match a with | ⟨0, _⟩ => rfl | ⟨1, _⟩ => rfl))
    have h4 := (Cert.Norm1RefIdeal.Read.val_main_v16_apply (F := Ideal) (shift m c) (ix2 i j)).trans (congrArg (shift m c) (a₂ := ix2 0 j) (funext fun a => by match a with | ⟨0, _⟩ => rfl | ⟨1, _⟩ => rfl))
    exact congrArg₂ (fun a b : EReal => FloatOps.addf (F := Ideal) (φ := .f32) a b) (congrArg₂ (fun a b : EReal => FloatOps.mulf (F := Ideal) (φ := .f32) a b)
      (congrArg₂ (fun a b : EReal => FloatOps.mulf (F := Ideal) (φ := .f32) a b) (congrArg₂ (fun a b : EReal => FloatOps.mulf (F := Ideal) (φ := .f32) a b) h0 h1) h2) h3) h4

/-- Result 1 is the reference's. -/
theorem values5 (c : Dev nD) : ((dats m 0 c).arrAt 5 cfg0.N : S2048x1.Idx → EReal) = Cert.Norm1RefIdeal.Read.val_main_v26 (F := Ideal) (x m c) := by
  refine funext fun (p : S2048x1.Idx) => ?_
  obtain ⟨i, j, rfl⟩ := Cert.Products.place p
  refine Eq.trans (b := inv 0x45000000#32 fun k => x m c (ix2 i k)) ?_ (Eq.symm ?_)
  · obtain ⟨a, r, rfl⟩ := rows i
    have f := (dats m 0 c).arrAt_emb_eq_flushed 5 Cert.Norm1Ideal.Value.disjoint5 (pt a) (flush0_5 _) (ix2 r j)
    rw [emb5, Cert.Norm1Ideal.Value.flushed5] at f
    have ex : (cfg0.win 5).xinj (grid0.coords (pt a)) (ix2 r j) = (ix2 r j : S256x1.Idx) :=
      funext fun x => Fin.ext (by match x with | ⟨0, _⟩ => rfl | ⟨1, _⟩ => rfl)
    refine f.trans ((cast_eq _ _).trans ((congrArg (out0_5 (iblk m c 0 (pt a)) (iblk m c 1 (pt a)) (iblk m c 2 (pt a)) (iblk m c 3 (pt a))) ex).trans ((left5 _ _ _ _ r j).trans ?_)))
    simp only [read0]
  · obtain rfl : j = 0 := Subsingleton.elim _ _
    exact ref_inv m c i

theorem algebraic : Cert.algebraic_Norm1Ideal_Norm1RefIdeal (hNorm1Ideal := Cert.Norm1Ideal.Gen.facts)
    (hNorm1RefIdeal := Cert.Norm1RefIdeal.Gen.facts) := by
  intro m ρ m' ρ' _ hargs
  refine ⟨fun c => (dats m 0 c).arrAt 4 cfg0.N, fun c => (dats m 0 c).arrAt 5 cfg0.N,
    Cert.Norm1Ideal.Value.run_blocks (F := Ideal) m ρ, ?_⟩
  refine (θ_run (Cert.Norm1RefIdeal.defs (F := Ideal)) _ _).mono (fun r h c => ?_) (Cert.Norm1RefIdeal.Value.run (F := Ideal) m' ρ')
  obtain ⟨h0, h1, hr⟩ := h c
  obtain ⟨e0, e1, e2, e3⟩ := hargs c
  refine ⟨h0.trans ((Cert.Norm1RefIdeal.Read.val_main_v18_eq (F := Ideal) _ _ _ _).trans (Eq.trans ?_ (values4 m c).symm)),
    h1.trans ((Cert.Norm1RefIdeal.Read.val_main_v26_eq (F := Ideal) _).trans (Eq.trans ?_ (values5 m c).symm)), hr⟩
  · rw [e0, e1, e2, e3]
  · rw [e0]

theorem frame_reference : Cert.quiescent_Norm1RefIdeal (hNorm1RefIdeal := Cert.Norm1RefIdeal.Gen.facts) := fun m ρ _ =>
  (θ_run (Cert.Norm1RefIdeal.defs (F := Ideal)) _ _).mono (fun r h => ⟨fun c => (h c).2.2, sem_eq_zero_of_no_sems (by decide) r.2⟩)
    (Cert.Norm1RefIdeal.Value.run (F := Ideal) m ρ)

end Cert.Norm1Proof

end
-- ==== Proof.Norm2.lean ====
/-
  THE SECOND NORM of a layer. Point t of the grid has rows 256 t to 256 t + 255 of the activations and of the mixed rows,
  adds the mixed rows behind their gate to the activations, and leaves the sum, the sum normed and modulated, and the
  reciprocal root of each row's mean square.
-/
module

public import proofs.«01_k».proof.Defs
public import proofs.«01_k».proof.Proof.Gen.Norm2.Frame
public import proofs.«01_k».proof.Proof.Gen.Norm2Ideal.Value
public import proofs.«01_k».proof.Proof.Gen.Norm2RefIdeal.Run
public import proofs.«01_k».proof.Proof.Gen.Norm2RefIdeal.Read
public import proofs.«01_k».proof.Proof.Norms

@[expose] public section

noncomputable section

namespace Cert.Norm2Proof

open Cert.Norms Cert.Norm2Ideal Cert.Norm2Ideal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run. -/
abbrev x (c : Dev nD) : S2048x2048.Idx → EReal := m ((c.tc : Thread nD τ).loc main_arg0)
abbrev mix (c : Dev nD) : S2048x2048.Idx → EReal := m ((c.tc : Thread nD τ).loc main_arg1)
abbrev gate (c : Dev nD) : S1x2048.Idx → EReal := m ((c.tc : Thread nD τ).loc main_arg2)
abbrev wt (c : Dev nD) : S1x2048.Idx → EReal := m ((c.tc : Thread nD τ).loc main_arg3)
abbrev scale (c : Dev nD) : S1x2048.Idx → EReal := m ((c.tc : Thread nD τ).loc main_arg4)
abbrev shift (c : Dev nD) : S1x2048.Idx → EReal := m ((c.tc : Thread nD τ).loc main_arg5)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel

/-- The point of row block a. -/
def pt (a : Fin 8) : Fin cfg0.N := ⟨a.val, a.isLt⟩

theorem emb0 (a : Fin 8) (r : Fin 256) (n : Fin 2048) : ((cfg0.win 0).blk (pt a)).view.emb (ix2 r n) = (ix2 (row a r) n : S2048x2048.Idx) :=
  there a r n _ fun x => (Pipeline.Window.rect_emb_val win0_0 (pt a) (ix2 r n) x).trans (by rw [idx0]; match x with | ⟨0, _⟩ => rfl | ⟨1, _⟩ => rfl)
theorem emb1 (a : Fin 8) (r : Fin 256) (n : Fin 2048) : ((cfg0.win 1).blk (pt a)).view.emb (ix2 r n) = (ix2 (row a r) n : S2048x2048.Idx) :=
  there a r n _ fun x => (Pipeline.Window.rect_emb_val win0_1 (pt a) (ix2 r n) x).trans (by rw [idx1]; match x with | ⟨0, _⟩ => rfl | ⟨1, _⟩ => rfl)
theorem emb2 (a : Fin 8) (n : Fin 2048) : ((cfg0.win 2).blk (pt a)).view.emb (ix2 0 n) = (ix2 0 n : S1x2048.Idx) :=
  there_one n _ fun x => (Pipeline.Window.rect_emb_val win0_2 (pt a) (ix2 0 n) x).trans (by rw [idx2])
theorem emb3 (a : Fin 8) (n : Fin 2048) : ((cfg0.win 3).blk (pt a)).view.emb (ix2 0 n) = (ix2 0 n : S1x2048.Idx) :=
  there_one n _ fun x => (Pipeline.Window.rect_emb_val win0_3 (pt a) (ix2 0 n) x).trans (by rw [idx3])
theorem emb4 (a : Fin 8) (n : Fin 2048) : ((cfg0.win 4).blk (pt a)).view.emb (ix2 0 n) = (ix2 0 n : S1x2048.Idx) :=
  there_one n _ fun x => (Pipeline.Window.rect_emb_val win0_4 (pt a) (ix2 0 n) x).trans (by rw [idx4])
theorem emb5 (a : Fin 8) (n : Fin 2048) : ((cfg0.win 5).blk (pt a)).view.emb (ix2 0 n) = (ix2 0 n : S1x2048.Idx) :=
  there_one n _ fun x => (Pipeline.Window.rect_emb_val win0_5 (pt a) (ix2 0 n) x).trans (by rw [idx5])
theorem emb6 (a : Fin 8) (r : Fin 256) (n : Fin 2048) : ((cfg0.win 6).blk (pt a)).view.emb (ix2 r n) = (ix2 (row a r) n : S2048x2048.Idx) :=
  there a r n _ fun x => (Pipeline.Window.rect_emb_val win0_6 (pt a) (ix2 r n) x).trans (by rw [idx6]; match x with | ⟨0, _⟩ => rfl | ⟨1, _⟩ => rfl)
theorem emb7 (a : Fin 8) (r : Fin 256) (n : Fin 2048) : ((cfg0.win 7).blk (pt a)).view.emb (ix2 r n) = (ix2 (row a r) n : S2048x2048.Idx) :=
  there a r n _ fun x => (Pipeline.Window.rect_emb_val win0_7 (pt a) (ix2 r n) x).trans (by rw [idx7]; match x with | ⟨0, _⟩ => rfl | ⟨1, _⟩ => rfl)
theorem emb8 (a : Fin 8) (r : Fin 256) (n : Fin 1) : ((cfg0.win 8).blk (pt a)).view.emb (ix2 r n) = (ix2 (row a r) n : S2048x1.Idx) :=
  there a r n _ fun x => (Pipeline.Window.rect_emb_val win0_8 (pt a) (ix2 r n) x).trans (by rw [idx8]; match x with | ⟨0, _⟩ => rfl | ⟨1, _⟩ => rfl)

theorem read0 (c : Dev nD) (a : Fin 8) (r : Fin 256) (n : Fin 2048) : iblk m c 0 (pt a) (ix2 r n) = x m c (ix2 (row a r) n) :=
  Eq.trans (b := V m c main_arg0 (((cfg0.win 0).blk (pt a)).view.emb (ix2 r n))) rfl ((congrFun (V_main_arg0 m c) _).trans (congrArg (x m c) (emb0 a r n)))
theorem read1 (c : Dev nD) (a : Fin 8) (r : Fin 256) (n : Fin 2048) : iblk m c 1 (pt a) (ix2 r n) = mix m c (ix2 (row a r) n) :=
  Eq.trans (b := V m c main_arg1 (((cfg0.win 1).blk (pt a)).view.emb (ix2 r n))) rfl ((congrFun (V_main_arg1 m c) _).trans (congrArg (mix m c) (emb1 a r n)))
theorem read2 (c : Dev nD) (a : Fin 8) (n : Fin 2048) : iblk m c 2 (pt a) (ix2 0 n) = gate m c (ix2 0 n) :=
  Eq.trans (b := V m c main_arg2 (((cfg0.win 2).blk (pt a)).view.emb (ix2 0 n))) rfl ((congrFun (V_main_arg2 m c) _).trans (congrArg (gate m c) (emb2 a n)))
theorem read3 (c : Dev nD) (a : Fin 8) (n : Fin 2048) : iblk m c 3 (pt a) (ix2 0 n) = wt m c (ix2 0 n) :=
  Eq.trans (b := V m c main_arg3 (((cfg0.win 3).blk (pt a)).view.emb (ix2 0 n))) rfl ((congrFun (V_main_arg3 m c) _).trans (congrArg (wt m c) (emb3 a n)))
theorem read4 (c : Dev nD) (a : Fin 8) (n : Fin 2048) : iblk m c 4 (pt a) (ix2 0 n) = scale m c (ix2 0 n) :=
  Eq.trans (b := V m c main_arg4 (((cfg0.win 4).blk (pt a)).view.emb (ix2 0 n))) rfl ((congrFun (V_main_arg4 m c) _).trans (congrArg (scale m c) (emb4 a n)))
theorem read5 (c : Dev nD) (a : Fin 8) (n : Fin 2048) : iblk m c 5 (pt a) (ix2 0 n) = shift m c (ix2 0 n) :=
  Eq.trans (b := V m c main_arg5 (((cfg0.win 5).blk (pt a)).view.emb (ix2 0 n))) rfl ((congrFun (V_main_arg5 m c) _).trans (congrArg (shift m c) (emb5 a n)))

/-- A place of the row: what entered, and the mixed row behind its gate. -/
def joined (x g y : EReal) : EReal := FloatOps.addf (F := Ideal) (φ := .f32) x (FloatOps.mulf (F := Ideal) (φ := .f32) g y)

theorem sum_block (x : Vec Ideal S256x2048 .f32) (g : Vec Ideal S1x2048 .f32) (y : Vec Ideal S256x2048 .f32) (r : Fin 256) (n : Fin 2048) :
    k0_pay1 x g y (ix2 r n) = joined (x (ix2 r n)) (g (ix2 0 n)) (y (ix2 r n)) :=
  congrArg (fun z : EReal => joined (x (ix2 r n)) z (y (ix2 r n))) (broadcastTo_1b_ab_apply g broadcasts_S1x2048_S256x2048 r n)

theorem inv_block (x : Vec Ideal S256x2048 .f32) (g : Vec Ideal S1x2048 .f32) (y : Vec Ideal S256x2048 .f32) (r : Fin 256) :
    k0_pay2 x g y (ix2 r 0) = inv 0x45000000#32 fun k => joined (x (ix2 r k)) (g (ix2 0 k)) (y (ix2 r k)) :=
  (inv_row _ (k0_pay1 x g y) reduces_S256x2048_S256 (.inl rfl) rfl shapeCasts_S256_S256x1 r).trans
    (congrArg (inv 0x45000000#32) (funext fun k => sum_block x g y r k))

/-- What the body leaves in result 0 of its blocks. -/
theorem left6 (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (r : Fin 256) (n : Fin 2048) : out0_6 x0 x1 x2 x3 x4 x5 (ix2 r n) = joined (x0 (ix2 r n)) (x2 (ix2 0 n)) (x1 (ix2 r n)) := by
  have e : out0_6 x0 x1 x2 x3 x4 x5 = k0_pay1 x0 x2 x1 := by
    unfold out0_6
    rw [View.ld_unit_zero start, View.ld_unit_zero start, View.ld_unit_zero start]
    exact View.canon_cons_unit_zero start _ _ []
  rw [e]
  exact sum_block _ _ _ r n

/-- What the body leaves in result 1 of its blocks. -/
theorem left7 (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (r : Fin 256) (n : Fin 2048) : out0_7 x0 x1 x2 x3 x4 x5 (ix2 r n) = modulated (joined (x0 (ix2 r n)) (x2 (ix2 0 n)) (x1 (ix2 r n))) (inv 0x45000000#32 fun k => joined (x0 (ix2 r k)) (x2 (ix2 0 k)) (x1 (ix2 r k))) (x3 (ix2 0 n)) (x4 (ix2 0 n)) (x5 (ix2 0 n)) := by
  have e : out0_7 x0 x1 x2 x3 x4 x5 = k0_pay3 x0 x2 x1 x3 x4 x5 := by
    unfold out0_7
    rw [View.ld_unit_zero start, View.ld_unit_zero start, View.ld_unit_zero start, View.ld_unit_zero start, View.ld_unit_zero start, View.ld_unit_zero start]
    exact View.canon_cons_unit_zero start _ _ []
  rw [e]
  have h0 := sum_block x0 x2 x1 r n
  have h1 := (column (by decide) (k0_pay2 x0 x2 x1) broadcasts_S256x1_S256x2048 r n).trans (inv_block x0 x2 x1 r)
  have h2 := broadcastTo_1b_ab_apply x3 broadcasts_S1x2048_S256x2048 r n
  have h3 := broadcastTo_1b_ab_apply (addf (broadcast S1x2048 (Scalar.ofBits (F := Ideal) .f32 0x3F800000#32)) x4) broadcasts_S1x2048_S256x2048 r n
  have h4 := broadcastTo_1b_ab_apply x5 broadcasts_S1x2048_S256x2048 r n
  exact congrArg₂ (fun a b : EReal => FloatOps.addf (F := Ideal) (φ := .f32) a b) (congrArg₂ (fun a b : EReal => FloatOps.mulf (F := Ideal) (φ := .f32) a b)
    (congrArg₂ (fun a b : EReal => FloatOps.mulf (F := Ideal) (φ := .f32) a b) (congrArg₂ (fun a b : EReal => FloatOps.mulf (F := Ideal) (φ := .f32) a b) h0 h1) h2) h3) h4

/-- What the body leaves in result 2 of its blocks. -/
theorem left8 (x0 : Vec Ideal S256x2048 .f32) (x1 : Vec Ideal S256x2048 .f32) (x2 : Vec Ideal S1x2048 .f32) (x3 : Vec Ideal S1x2048 .f32) (x4 : Vec Ideal S1x2048 .f32) (x5 : Vec Ideal S1x2048 .f32) (r : Fin 256) (n : Fin 1) : out0_8 x0 x1 x2 x3 x4 x5 (ix2 r n) = inv 0x45000000#32 fun k => joined (x0 (ix2 r k)) (x2 (ix2 0 k)) (x1 (ix2 r k)) := by
  have e : out0_8 x0 x1 x2 x3 x4 x5 = k0_pay2 x0 x2 x1 := by
    unfold out0_8
    rw [View.ld_unit_zero start, View.ld_unit_zero start, View.ld_unit_zero start]
    exact View.canon_cons_unit_zero start _ _ []
  rw [e]
  obtain rfl : n = 0 := Subsingleton.elim _ _
  exact inv_block x0 x2 x1 r

/-- The reference's rows: what entered, and the mixed rows behind their gate. -/
theorem ref_sum (c : Dev nD) (i j : Fin 2048) : Cert.Norm2RefIdeal.Read.val_main_v2 (F := Ideal) (x m c) (mix m c) (gate m c) (ix2 i j) = joined (x m c (ix2 i j)) (gate m c (ix2 0 j)) (mix m c (ix2 i j)) :=
  congrArg (fun z : EReal => joined (x m c (ix2 i j)) z (mix m c (ix2 i j))) ((Cert.Norm2RefIdeal.Read.val_main_v0_apply (F := Ideal) (gate m c) _).trans
    (congrArg (gate m c) (funext fun a => by match a with | ⟨0, _⟩ => rfl | ⟨1, _⟩ => rfl)))

/-- The reference's reciprocal roots, those of its third result. -/
theorem ref_inv (c : Dev nD) (i : Fin 2048) : Cert.Norm2RefIdeal.Read.val_main_v29 (F := Ideal) (x m c) (mix m c) (gate m c) (ix2 i 0) = inv 0x45000000#32 fun k => joined (x m c (ix2 i k)) (gate m c (ix2 0 k)) (mix m c (ix2 i k)) := by
  refine congrArg (fun z : EReal => FloatOps.hostUnary (F := Ideal) (φ := .f32) .rsqrt (FloatOps.addf (F := Ideal) (φ := .f32)
    (FloatOps.hostDivf (F := Ideal) (φ := .f32) z (FloatOps.ofBits .f32 0x45000000#32)) (FloatOps.ofBits .f32 0x358637BD#32))) ?_
  refine (Cert.Norm2RefIdeal.Read.val_main_v24_apply (F := Ideal) (x m c) (mix m c) (gate m c) _).trans ((Cert.Norm2RefIdeal.Read.val_main_v23_apply (x m c) (mix m c) (gate m c) _).trans ((from_zero _).trans (Finset.sum_congr rfl fun k _ => ?_)))
  have e : Cert.Norm2RefIdeal.Read.idx_main_v23 (Cert.Norm2RefIdeal.Read.idx_main_v24 (ix2 i 0)) k = ix2 i k := funext fun a => by match a with | ⟨0, _⟩ => rfl | ⟨1, _⟩ => rfl
  rw [e]
  exact congrArg (fun z : EReal => z * z) (ref_sum m c i k)

/-- The reference's reciprocal roots, those within its second result. -/
theorem ref_inv_first (c : Dev nD) (i : Fin 2048) : Cert.Norm2RefIdeal.Read.val_main_v10 (F := Ideal) (x m c) (mix m c) (gate m c) (ix2 i 0) = inv 0x45000000#32 fun k => joined (x m c (ix2 i k)) (gate m c (ix2 0 k)) (mix m c (ix2 i k)) := by
  refine congrArg (fun z : EReal => FloatOps.hostUnary (F := Ideal) (φ := .f32) .rsqrt (FloatOps.addf (F := Ideal) (φ := .f32)
    (FloatOps.hostDivf (F := Ideal) (φ := .f32) z (FloatOps.ofBits .f32 0x45000000#32)) (FloatOps.ofBits .f32 0x358637BD#32))) ?_
  refine (Cert.Norm2RefIdeal.Read.val_main_v5_apply (F := Ideal) (x m c) (mix m c) (gate m c) _).trans ((Cert.Norm2RefIdeal.Read.val_main_v4_apply (x m c) (mix m c) (gate m c) _).trans ((from_zero _).trans (Finset.sum_congr rfl fun k _ => ?_)))
  have e : Cert.Norm2RefIdeal.Read.idx_main_v4 (Cert.Norm2RefIdeal.Read.idx_main_v5 (ix2 i 0)) k = ix2 i k := funext fun a => by match a with | ⟨0, _⟩ => rfl | ⟨1, _⟩ => rfl
  rw [e]
  exact congrArg (fun z : EReal => z * z) (ref_sum m c i k)

/-- Result 0 is the reference's. -/
theorem values6 (c : Dev nD) : ((dats m 0 c).arrAt 6 cfg0.N : S2048x2048.Idx → EReal) = Cert.Norm2RefIdeal.Read.val_main_v2 (F := Ideal) (x m c) (mix m c) (gate m c) := by
  refine funext fun (p : S2048x2048.Idx) => ?_
  obtain ⟨i, j, rfl⟩ := Cert.Products.place p
  refine Eq.trans (b := joined (x m c (ix2 i j)) (gate m c (ix2 0 j)) (mix m c (ix2 i j))) ?_ (Eq.symm ?_)
  · obtain ⟨a, r, rfl⟩ := rows i
    have f := (dats m 0 c).arrAt_emb_eq_flushed 6 Cert.Norm2Ideal.Value.disjoint6 (pt a) (flush0_6 _) (ix2 r j)
    rw [emb6, Cert.Norm2Ideal.Value.flushed6] at f
    have ex : (cfg0.win 6).xinj (grid0.coords (pt a)) (ix2 r j) = (ix2 r j : S256x2048.Idx) :=
      funext fun x => Fin.ext (by match x with | ⟨0, _⟩ => rfl | ⟨1, _⟩ => rfl)
    refine f.trans ((cast_eq _ _).trans ((congrArg (out0_6 (iblk m c 0 (pt a)) (iblk m c 1 (pt a)) (iblk m c 2 (pt a)) (iblk m c 3 (pt a)) (iblk m c 4 (pt a)) (iblk m c 5 (pt a))) ex).trans ((left6 _ _ _ _ _ _ r j).trans ?_)))
    simp only [read0, read1, read2]
  · exact ref_sum m c i j

/-- Result 1 is the reference's. -/
theorem values7 (c : Dev nD) : ((dats m 0 c).arrAt 7 cfg0.N : S2048x2048.Idx → EReal) = Cert.Norm2RefIdeal.Read.val_main_v21 (F := Ideal) (x m c) (mix m c) (gate m c) (wt m c) (scale m c) (shift m c) := by
  refine funext fun (p : S2048x2048.Idx) => ?_
  obtain ⟨i, j, rfl⟩ := Cert.Products.place p
  refine Eq.trans (b := modulated (joined (x m c (ix2 i j)) (gate m c (ix2 0 j)) (mix m c (ix2 i j))) (inv 0x45000000#32 fun k => joined (x m c (ix2 i k)) (gate m c (ix2 0 k)) (mix m c (ix2 i k))) (wt m c (ix2 0 j)) (scale m c (ix2 0 j)) (shift m c (ix2 0 j))) ?_ (Eq.symm ?_)
  · obtain ⟨a, r, rfl⟩ := rows i
    have f := (dats m 0 c).arrAt_emb_eq_flushed 7 Cert.Norm2Ideal.Value.disjoint7 (pt a) (flush0_7 _) (ix2 r j)
    rw [emb7, Cert.Norm2Ideal.Value.flushed7] at f
    have ex : (cfg0.win 7).xinj (grid0.coords (pt a)) (ix2 r j) = (ix2 r j : S256x2048.Idx) :=
      funext fun x => Fin.ext (by match x with | ⟨0, _⟩ => rfl | ⟨1, _⟩ => rfl)
    refine f.trans ((cast_eq _ _).trans ((congrArg (out0_7 (iblk m c 0 (pt a)) (iblk m c 1 (pt a)) (iblk m c 2 (pt a)) (iblk m c 3 (pt a)) (iblk m c 4 (pt a)) (iblk m c 5 (pt a))) ex).trans ((left7 _ _ _ _ _ _ r j).trans ?_)))
    simp only [read0, read1, read2, read3, read4, read5]
  · have h0 := ref_sum m c i j
    have h1 := ((Cert.Norm2RefIdeal.Read.val_main_v11_apply (F := Ideal) (x m c) (mix m c) (gate m c) (ix2 i j)).trans (congrArg (Cert.Norm2RefIdeal.Read.val_main_v10 (F := Ideal) (x m c) (mix m c) (gate m c)) (a₂ := ix2 i 0) (funext fun a => by match a with | ⟨0, _⟩ => rfl | ⟨1, _⟩ => rfl))).trans (ref_inv_first m c i)
    have h2 := (Cert.Norm2RefIdeal.Read.val_main_v13_apply (F := Ideal) (wt m c) (ix2 i j)).trans (congrArg (wt m c) (a₂ := ix2 0 j) (funext fun a => by match a with | ⟨0, _⟩ => rfl | ⟨1, _⟩ => rfl))
    have h3 := (Cert.Norm2RefIdeal.Read.val_main_v17_apply (F := Ideal) (scale m c) (ix2 i j)).trans (congrArg (Cert.Norm2RefIdeal.Read.val_main_v16 (F := Ideal) (scale m c)) (a₂ := ix2 0 j) (funext fun a => by match a with | ⟨0, _⟩ => rfl | ⟨1, _⟩ => rfl))
    have h4 := (Cert.Norm2RefIdeal.Read.val_main_v19_apply (F := Ideal) (shift m c) (ix2 i j)).trans (congrArg (shift m c) (a₂ := ix2 0 j) (funext fun a => by match a with | ⟨0, _⟩ => rfl | ⟨1, _⟩ => rfl))
    exact congrArg₂ (fun a b : EReal => FloatOps.addf (F := Ideal) (φ := .f32) a b) (congrArg₂ (fun a b : EReal => FloatOps.mulf (F := Ideal) (φ := .f32) a b)
      (congrArg₂ (fun a b : EReal => FloatOps.mulf (F := Ideal) (φ := .f32) a b) (congrArg₂ (fun a b : EReal => FloatOps.mulf (F := Ideal) (φ := .f32) a b) h0 h1) h2) h3) h4

/-- Result 2 is the reference's. -/
theorem values8 (c : Dev nD) : ((dats m 0 c).arrAt 8 cfg0.N : S2048x1.Idx → EReal) = Cert.Norm2RefIdeal.Read.val_main_v29 (F := Ideal) (x m c) (mix m c) (gate m c) := by
  refine funext fun (p : S2048x1.Idx) => ?_
  obtain ⟨i, j, rfl⟩ := Cert.Products.place p
  refine Eq.trans (b := inv 0x45000000#32 fun k => joined (x m c (ix2 i k)) (gate m c (ix2 0 k)) (mix m c (ix2 i k))) ?_ (Eq.symm ?_)
  · obtain ⟨a, r, rfl⟩ := rows i
    have f := (dats m 0 c).arrAt_emb_eq_flushed 8 Cert.Norm2Ideal.Value.disjoint8 (pt a) (flush0_8 _) (ix2 r j)
    rw [emb8, Cert.Norm2Ideal.Value.flushed8] at f
    have ex : (cfg0.win 8).xinj (grid0.coords (pt a)) (ix2 r j) = (ix2 r j : S256x1.Idx) :=
      funext fun x => Fin.ext (by match x with | ⟨0, _⟩ => rfl | ⟨1, _⟩ => rfl)
    refine f.trans ((cast_eq _ _).trans ((congrArg (out0_8 (iblk m c 0 (pt a)) (iblk m c 1 (pt a)) (iblk m c 2 (pt a)) (iblk m c 3 (pt a)) (iblk m c 4 (pt a)) (iblk m c 5 (pt a))) ex).trans ((left8 _ _ _ _ _ _ r j).trans ?_)))
    simp only [read0, read1, read2]
  · obtain rfl : j = 0 := Subsingleton.elim _ _
    exact ref_inv m c i

theorem algebraic : Cert.algebraic_Norm2Ideal_Norm2RefIdeal (hNorm2Ideal := Cert.Norm2Ideal.Gen.facts)
    (hNorm2RefIdeal := Cert.Norm2RefIdeal.Gen.facts) := by
  intro m ρ m' ρ' _ hargs
  refine ⟨fun c => (dats m 0 c).arrAt 6 cfg0.N, fun c => (dats m 0 c).arrAt 7 cfg0.N, fun c => (dats m 0 c).arrAt 8 cfg0.N,
    Cert.Norm2Ideal.Value.run_blocks (F := Ideal) m ρ, ?_⟩
  refine (θ_run (Cert.Norm2RefIdeal.defs (F := Ideal)) _ _).mono (fun r h c => ?_) (Cert.Norm2RefIdeal.Value.run (F := Ideal) m' ρ')
  obtain ⟨h0, h1, h2, hr⟩ := h c
  obtain ⟨e0, e1, e2, e3, e4, e5⟩ := hargs c
  refine ⟨h0.trans ((Cert.Norm2RefIdeal.Read.val_main_v2_eq (F := Ideal) _ _ _).trans (Eq.trans ?_ (values6 m c).symm)),
    h1.trans ((Cert.Norm2RefIdeal.Read.val_main_v21_eq (F := Ideal) _ _ _ _ _ _).trans (Eq.trans ?_ (values7 m c).symm)),
    h2.trans ((Cert.Norm2RefIdeal.Read.val_main_v29_eq (F := Ideal) _ _ _).trans (Eq.trans ?_ (values8 m c).symm)), hr⟩
  · rw [e0, e1, e2]
  · rw [e0, e1, e2, e3, e4, e5]
  · rw [e0, e1, e2]

theorem frame_reference : Cert.quiescent_Norm2RefIdeal (hNorm2RefIdeal := Cert.Norm2RefIdeal.Gen.facts) := fun m ρ _ =>
  (θ_run (Cert.Norm2RefIdeal.defs (F := Ideal)) _ _).mono (fun r h => ⟨fun c => (h c).2.2.2, sem_eq_zero_of_no_sems (by decide) r.2⟩)
    (Cert.Norm2RefIdeal.Value.run (F := Ideal) m ρ)

end Cert.Norm2Proof

end
-- ==== Proof.Dense.lean ====
/-
  THE DENSE LAYER OF THE MODULATION: the activation silu, and the two products of it, of operands of any format.
-/

module

public import proofs.«01_k».proof.Proof.Products

@[expose] public section

noncomputable section

namespace Cert.Dense

open Cert.Products

open Idealize.ShloMosaic hiding ix1 ix2 ix3 ix4
open Idealize.ShloMosaic.ValueIdx

/-- Rows against columns. -/
theorem rows_cols {M K N : ℕ} {φ₁ φ₂ : FTy} (d : DotDims ⟨2, ![M, K]⟩ ⟨2, ![K, N]⟩ ⟨2, ![M, N]⟩) (hd : d = DotDims.plain M K N)
    (x : FVec Ideal ⟨2, ![M, K]⟩ φ₁) (y : FVec Ideal ⟨2, ![K, N]⟩ φ₂) (r : Fin M) (c : Fin N) :
    matmul (F := Ideal) d none x y (constant ⟨2, ![M, N]⟩ .f32 0x00000000#32) (ix2 r c) = ∑ k : Fin K, x (ix2 r k) * y (ix2 k c) := by
  subst hd
  refine (Ideal.matmul_plain_apply none x y _ r c).trans ?_
  rw [zeros, zero_add]

/-- Columns against columns. -/
theorem cols_cols {M K N : ℕ} {φ₁ φ₂ : FTy} (d : DotDims ⟨2, ![K, M]⟩ ⟨2, ![K, N]⟩ ⟨2, ![M, N]⟩) (hd : d = transposedLhs M K N)
    (x : FVec Ideal ⟨2, ![K, M]⟩ φ₁) (y : FVec Ideal ⟨2, ![K, N]⟩ φ₂) (r : Fin M) (c : Fin N) :
    matmul (F := Ideal) d none x y (constant ⟨2, ![M, N]⟩ .f32 0x00000000#32) (ix2 r c) = ∑ k : Fin K, x (ix2 k r) * y (ix2 k c) := by
  subst hd
  refine (Ideal.matmul_apply (transposedLhs M K N) none x y _ (ix2 r c)).trans ?_
  rw [zeros, zero_add, ← Equiv.sum_comp (contrEquiv1 (transposedLhs M K N) K rfl rfl).symm]
  refine Finset.sum_congr rfl fun k _ => ?_
  have hk := contrEquiv1_symm_val (transposedLhs M K N) K rfl rfl k
  refine congrArg₂ (· * ·) (congrArg x (funext fun a => Fin.ext ?_)) (congrArg y (funext fun a => Fin.ext ?_))
  · match a with
    | ⟨0, _⟩ => exact hk
    | ⟨1, _⟩ => rfl
  · match a with
    | ⟨0, _⟩ => exact hk
    | ⟨1, _⟩ => rfl

/-- The activation silu, as it is computed. -/
def silu (z : EReal) : EReal :=
  FloatOps.mulf (F := Ideal) (φ := .f32) z (FloatOps.hostDivf (F := Ideal) (φ := .f32) (FloatOps.ofBits .f32 0x3F800000#32)
    (FloatOps.addf (F := Ideal) (φ := .f32) (FloatOps.ofBits .f32 0x3F800000#32) (FloatOps.hostUnary (F := Ideal) (φ := .f32) .exp (FloatOps.hostNegf (F := Ideal) (φ := .f32) z))))

/-- Zero less a number is its negation. -/
theorem zero_less (z : EReal) : FloatOps.subf (F := Ideal) (φ := .f32) (FloatOps.ofBits .f32 0x00000000#32) z = FloatOps.hostNegf (F := Ideal) (φ := .f32) z := by
  have h : (FloatOps.ofBits .f32 0x00000000#32 : Ideal .f32) = (0 : EReal) := Ideal.ofBits_zero_f32
  rw [h]
  exact zero_sub (z : EReal)

end Cert.Dense

end
-- ==== Proof.AdaFwd.lean ====
/-
  THE MODULATION: the activated conditioning vectors times a weight, and a bias. Point t of the grid has column block t of
  the weight, of the bias and of the result.
-/
module

public import proofs.«01_k».proof.Defs
public import proofs.«01_k».proof.Proof.Gen.AdaFwd.Frame
public import proofs.«01_k».proof.Proof.Gen.AdaFwdIdeal.Value
public import proofs.«01_k».proof.Proof.Gen.AdaFwdRefIdeal.Run
public import proofs.«01_k».proof.Proof.Gen.AdaFwdRefIdeal.Read
public import proofs.«01_k».proof.Proof.Dense

@[expose] public section

noncomputable section

namespace Cert.AdaFwdProof

open Cert.AdaFwdIdeal Cert.AdaFwdIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the conditioning vectors, the weight and the bias. -/
abbrev cond (c : Dev nD) : S8x2048.Idx → EReal := m ((c.tc : Thread nD τ).loc main_arg0)
abbrev wt (c : Dev nD) : S2048x1536.Idx → EReal := m ((c.tc : Thread nD τ).loc main_arg1)
abbrev bias (c : Dev nD) : S1x1536.Idx → EReal := m ((c.tc : Thread nD τ).loc main_arg2)

theorem idx0 : ∀ t : Fin cfg0.N, win0_0.index t = ![0, 0] := by decide +kernel
theorem idx1 : ∀ t : Fin cfg0.N, win0_1.index t = ![0, t.val] := by decide +kernel
theorem idx2 : ∀ t : Fin cfg0.N, win0_2.index t = ![0, t.val] := by decide +kernel
theorem idx3 : ∀ t : Fin cfg0.N, win0_3.index t = ![0, t.val] := by decide +kernel

/-- The point of column block a. -/
def pt (a : Fin 3) : Fin cfg0.N := ⟨a.val, a.isLt⟩

theorem read0 (c : Dev nD) (a : Fin 3) (r : Fin 8) (k : Fin 2048) : iblk m c 0 (pt a) (ix2 r k) = cond m c (ix2 r k) := by
  refine Eq.trans (b := V m c main_arg0 (((cfg0.win 0).blk (pt a)).view.emb (ix2 r k))) rfl ((congrFun (V_main_arg0 m c) _).trans ?_)
  refine congrArg (cond m c) (funext fun x => Fin.ext ((Pipeline.Window.rect_emb_val win0_0 (pt a) (ix2 r k) x).trans ?_))
  rw [idx0]
  match x with
  | ⟨0, _⟩ => show 0 * 8 + r.val = r.val; omega
  | ⟨1, _⟩ => show 0 * 2048 + k.val = k.val; omega

theorem read1 (c : Dev nD) (a : Fin 3) (k : Fin 2048) (n : Fin 512) :
    iblk m c 1 (pt a) (ix2 k n) = wt m c (ix2 k ⟨a.val * 512 + n.val, by omega⟩) := by
  refine Eq.trans (b := V m c main_arg1 (((cfg0.win 1).blk (pt a)).view.emb (ix2 k n))) rfl ((congrFun (V_main_arg1 m c) _).trans ?_)
  refine congrArg (wt m c) (funext fun x => Fin.ext ((Pipeline.Window.rect_emb_val win0_1 (pt a) (ix2 k n) x).trans ?_))
  rw [idx1]
  match x with
  | ⟨0, _⟩ => show 0 * 2048 + k.val = k.val; omega
  | ⟨1, _⟩ => rfl

theorem read2 (c : Dev nD) (a : Fin 3) (n : Fin 512) :
    iblk m c 2 (pt a) (ix2 0 n) = bias m c (ix2 0 ⟨a.val * 512 + n.val, by omega⟩) := by
  refine Eq.trans (b := V m c main_arg2 (((cfg0.win 2).blk (pt a)).view.emb (ix2 0 n))) rfl ((congrFun (V_main_arg2 m c) _).trans ?_)
  refine congrArg (bias m c) (funext fun x => Fin.ext ((Pipeline.Window.rect_emb_val win0_2 (pt a) (ix2 0 n) x).trans ?_))
  rw [idx2]
  match x with
  | ⟨0, _⟩ => rfl
  | ⟨1, _⟩ => rfl

/-- What the body leaves of three blocks. -/
theorem left (x : Vec Ideal S8x2048 .f32) (y : Vec Ideal S2048x512 .f32) (z : Vec Ideal S1x512 .f32) (r : Fin 8) (n : Fin 512) :
    out0_3 x y z (ix2 r n) = (∑ k : Fin 2048, Cert.Dense.silu (x (ix2 r k)) * y (ix2 k n)) + z (ix2 0 n) := by
  have hz : ![0, 0] = fun _ : Fin 2 => 0 := by funext a; fin_cases a <;> rfl
  have e : out0_3 x y z = k0_pay1 x y z := by
    unfold out0_3
    rw [View.ld_unit_zero hz, View.ld_unit_zero hz, View.ld_unit_zero hz]
    exact View.canon_cons_unit_zero hz _ _ []
  rw [e]
  refine congrArg₂ (fun a b : EReal => a + b) ((Cert.Dense.rows_cols _ rfl _ y r n).trans (Finset.sum_congr rfl fun k _ => congrArg (· * y (ix2 k n)) ?_))
    (congrArg z (funext fun a => by match a with | ⟨0, _⟩ => rfl | ⟨1, _⟩ => rfl))
  exact congrArg (fun z : EReal => FloatOps.mulf (F := Ideal) (φ := .f32) (x (ix2 r k)) (FloatOps.hostDivf (F := Ideal) (φ := .f32) (FloatOps.ofBits .f32 0x3F800000#32)
    (FloatOps.addf (F := Ideal) (φ := .f32) (FloatOps.ofBits .f32 0x3F800000#32) (FloatOps.hostUnary (F := Ideal) (φ := .f32) .exp z)))) (Cert.Dense.zero_less (x (ix2 r k)))

/-- The result, place by place. -/
theorem final (c : Dev nD) (i : Fin 8) (j : Fin 1536) : ((dats m 0 c).arrAt 3 cfg0.N : S8x1536.Idx → EReal) (ix2 i j)
    = (∑ k : Fin 2048, Cert.Dense.silu (cond m c (ix2 i k)) * wt m c (ix2 k j)) + bias m c (ix2 0 j) := by
  let a : Fin 3 := ⟨j.val / 512, by omega⟩
  let n : Fin 512 := ⟨j.val % 512, by omega⟩
  have hj : (⟨a.val * 512 + n.val, by omega⟩ : Fin 1536) = j := Fin.ext (by show j.val / 512 * 512 + j.val % 512 = j.val; omega)
  have e : ((cfg0.win 3).blk (pt a)).view.emb (ix2 i n) = (ix2 i j : S8x1536.Idx) := by
    refine funext fun x => Fin.ext ((Pipeline.Window.rect_emb_val win0_3 (pt a) (ix2 i n) x).trans ?_)
    rw [idx3]
    match x with
    | ⟨0, _⟩ => show 0 * 8 + i.val = i.val; omega
    | ⟨1, _⟩ => show j.val / 512 * 512 + j.val % 512 = j.val; omega
  have f := (dats m 0 c).arrAt_emb_eq_flushed 3 Cert.AdaFwdIdeal.Value.disjoint3 (pt a) (flush0_3 _) (ix2 i n)
  rw [e, Cert.AdaFwdIdeal.Value.flushed3] at f
  have ex : (cfg0.win 3).xinj (grid0.coords (pt a)) (ix2 i n) = (ix2 i n : S8x512.Idx) :=
    funext fun x => Fin.ext (by match x with | ⟨0, _⟩ => rfl | ⟨1, _⟩ => rfl)
  refine f.trans ((cast_eq _ _).trans ((congrArg (out0_3 (iblk m c 0 (pt a)) (iblk m c 1 (pt a)) (iblk m c 2 (pt a))) ex).trans ((left _ _ _ i n).trans ?_)))
  refine congrArg₂ (fun a b : EReal => a + b) (Finset.sum_congr rfl fun k _ => ?_) ?_
  · rw [read0, read1, hj]
  · rw [read2, hj]

/-- The kernel's result is the reference's. -/
theorem values (c : Dev nD) : ((dats m 0 c).arrAt 3 cfg0.N : S8x1536.Idx → EReal)
    = Cert.AdaFwdRefIdeal.Read.val_main_v3 (F := Ideal) (cond m c) (wt m c) (bias m c) := by
  refine funext fun (i : S8x1536.Idx) => ?_
  obtain ⟨p, q, rfl⟩ := Cert.Products.place i
  refine (final m c p q).trans (Eq.symm ((Cert.AdaFwdRefIdeal.Read.val_main_v3_apply (F := Ideal) (cond m c) (wt m c) (bias m c) _).trans ?_))
  refine congrArg₂ (fun a b : EReal => a + b) ((Cert.AdaFwdRefIdeal.Read.val_main_v1_apply (cond m c) (wt m c) _).trans (Finset.sum_congr rfl fun k _ => ?_))
    ((Cert.AdaFwdRefIdeal.Read.val_main_v2_apply (F := Ideal) (bias m c) _).trans (congrArg (bias m c) (funext fun a => by match a with | ⟨0, _⟩ => rfl | ⟨1, _⟩ => rfl)))
  refine congrArg₂ (· * ·) ?_ (congrArg (wt m c) (funext fun a => by match a with | ⟨0, _⟩ => rfl | ⟨1, _⟩ => rfl))
  have h : ∀ j, Cert.AdaFwdRefIdeal.Read.val_main_v0 (F := Ideal) (cond m c) j = Cert.Dense.silu (cond m c j) := fun _ => rfl
  exact (h _).trans (congrArg (fun j => Cert.Dense.silu (cond m c j)) (funext fun a => by match a with | ⟨0, _⟩ => rfl | ⟨1, _⟩ => rfl))

theorem algebraic : Cert.algebraic_AdaFwdIdeal_AdaFwdRefIdeal (hAdaFwdIdeal := Cert.AdaFwdIdeal.Gen.facts)
    (hAdaFwdRefIdeal := Cert.AdaFwdRefIdeal.Gen.facts) := by
  intro m ρ m' ρ' _ hargs
  refine ⟨fun c => (dats m 0 c).arrAt 3 cfg0.N, Cert.AdaFwdIdeal.Value.run_blocks (F := Ideal) m ρ, ?_⟩
  refine (θ_run (Cert.AdaFwdRefIdeal.defs (F := Ideal)) _ _).mono (fun r h c => ?_) (Cert.AdaFwdRefIdeal.Value.run (F := Ideal) m' ρ')
  obtain ⟨h0, hr⟩ := h c
  obtain ⟨e0, e1, e2⟩ := hargs c
  refine ⟨h0.trans ((Cert.AdaFwdRefIdeal.Read.val_main_v3_eq (F := Ideal) _ _ _).trans (Eq.trans ?_ (values m c).symm)), hr⟩
  rw [e0, e1, e2]

theorem frame_reference : Cert.quiescent_AdaFwdRefIdeal (hAdaFwdRefIdeal := Cert.AdaFwdRefIdeal.Gen.facts) := fun m ρ _ =>
  (θ_run (Cert.AdaFwdRefIdeal.defs (F := Ideal)) _ _).mono (fun r h => ⟨fun c => (h c).2, sem_eq_zero_of_no_sems (by decide) r.2⟩)
    (Cert.AdaFwdRefIdeal.Value.run (F := Ideal) m ρ)

end Cert.AdaFwdProof

end
-- ==== Proof.AdaDw.lean ====
/-
  THE GRADIENT OF THE MODULATION IN ITS WEIGHT. Point t of the grid multiplies column block t of the activated conditioning
  vectors with the gradient, over the eight sequences; every place of the result lies in one block.
-/
module

public import proofs.«01_k».proof.Defs
public import proofs.«01_k».proof.Proof.Gen.AdaDw.Frame
public import proofs.«01_k».proof.Proof.Gen.AdaDwIdeal.Value
public import proofs.«01_k».proof.Proof.Gen.AdaDwRefIdeal.Run
public import proofs.«01_k».proof.Proof.Gen.AdaDwRefIdeal.Read
public import proofs.«01_k».proof.Proof.Dense

@[expose] public section

noncomputable section

namespace Cert.AdaDwProof

open Cert.AdaDwIdeal Cert.AdaDwIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the conditioning vectors and the gradient. -/
abbrev cond (c : Dev nD) : S8x2048.Idx → EReal := m ((c.tc : Thread nD τ).loc main_arg0)
abbrev ct (c : Dev nD) : S8x1536.Idx → EReal := m ((c.tc : Thread nD τ).loc main_arg1)

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

/-- The point of column block a. -/
def pt (a : Fin 4) : Fin cfg0.N := ⟨a.val, a.isLt⟩

theorem read0 (c : Dev nD) (a : Fin 4) (k : Fin 8) (r : Fin 512) :
    iblk m c 0 (pt a) (ix2 k r) = cond m c (ix2 k ⟨a.val * 512 + r.val, by omega⟩) := by
  refine Eq.trans (b := V m c main_arg0 (((cfg0.win 0).blk (pt a)).view.emb (ix2 k r))) rfl ((congrFun (V_main_arg0 m c) _).trans ?_)
  refine congrArg (cond m c) (funext fun x => Fin.ext ((Pipeline.Window.rect_emb_val win0_0 (pt a) (ix2 k r) x).trans ?_))
  rw [idx0]
  match x with
  | ⟨0, _⟩ => show 0 * 8 + k.val = k.val; omega
  | ⟨1, _⟩ => rfl

theorem read1 (c : Dev nD) (a : Fin 4) (k : Fin 8) (n : Fin 1536) : iblk m c 1 (pt a) (ix2 k n) = ct m c (ix2 k n) := by
  refine Eq.trans (b := V m c main_arg1 (((cfg0.win 1).blk (pt a)).view.emb (ix2 k n))) rfl ((congrFun (V_main_arg1 m c) _).trans ?_)
  refine congrArg (ct m c) (funext fun x => Fin.ext ((Pipeline.Window.rect_emb_val win0_1 (pt a) (ix2 k n) x).trans ?_))
  rw [idx1]
  match x with
  | ⟨0, _⟩ => show 0 * 8 + k.val = k.val; omega
  | ⟨1, _⟩ => show 0 * 1536 + n.val = n.val; omega

/-- What the body leaves of two blocks. -/
theorem left (x : Vec Ideal S8x512 .f32) (y : Vec Ideal S8x1536 .f32) (r : Fin 512) (n : Fin 1536) :
    out0_2 x y (ix2 r n) = ∑ k : Fin 8, Cert.Dense.silu (x (ix2 k r)) * y (ix2 k n) := by
  have hz : ![0, 0] = fun _ : Fin 2 => 0 := by funext a; fin_cases a <;> rfl
  have e : out0_2 x y = k0_pay1 x y := by
    unfold out0_2
    rw [View.ld_unit_zero hz, View.ld_unit_zero hz]
    exact View.canon_cons_unit_zero hz _ _ []
  rw [e]
  refine (Cert.Dense.cols_cols _ rfl _ y r n).trans (Finset.sum_congr rfl fun k _ => congrArg (· * y (ix2 k n)) ?_)
  exact congrArg (fun z : EReal => FloatOps.mulf (F := Ideal) (φ := .f32) (x (ix2 k r)) (FloatOps.hostDivf (F := Ideal) (φ := .f32) (FloatOps.ofBits .f32 0x3F800000#32)
    (FloatOps.addf (F := Ideal) (φ := .f32) (FloatOps.ofBits .f32 0x3F800000#32) (FloatOps.hostUnary (F := Ideal) (φ := .f32) .exp z)))) (Cert.Dense.zero_less (x (ix2 k r)))

/-- The result, place by place. -/
theorem final (c : Dev nD) (i : Fin 2048) (j : Fin 1536) :
    ((dats m 0 c).arrAt 2 cfg0.N : S2048x1536.Idx → EReal) (ix2 i j) = ∑ k : Fin 8, Cert.Dense.silu (cond m c (ix2 k i)) * ct m c (ix2 k j) := by
  let a : Fin 4 := ⟨i.val / 512, by omega⟩
  let r : Fin 512 := ⟨i.val % 512, by omega⟩
  have hi : (⟨a.val * 512 + r.val, by omega⟩ : Fin 2048) = i := Fin.ext (by show i.val / 512 * 512 + i.val % 512 = i.val; omega)
  have e : ((cfg0.win 2).blk (pt a)).view.emb (ix2 r j) = (ix2 i j : S2048x1536.Idx) := by
    refine funext fun x => Fin.ext ((Pipeline.Window.rect_emb_val win0_2 (pt a) (ix2 r j) x).trans ?_)
    rw [idx2]
    match x with
    | ⟨0, _⟩ => show i.val / 512 * 512 + i.val % 512 = i.val; omega
    | ⟨1, _⟩ => show 0 * 1536 + j.val = j.val; omega
  have f := (dats m 0 c).arrAt_emb_eq_flushed 2 Cert.AdaDwIdeal.Value.disjoint2 (pt a) (flush0_2 _) (ix2 r j)
  rw [e, Cert.AdaDwIdeal.Value.flushed2] at f
  have ex : (cfg0.win 2).xinj (grid0.coords (pt a)) (ix2 r j) = (ix2 r j : S512x1536.Idx) :=
    funext fun x => Fin.ext (by match x with | ⟨0, _⟩ => rfl | ⟨1, _⟩ => rfl)
  refine f.trans ((cast_eq _ _).trans ((congrArg (out0_2 (iblk m c 0 (pt a)) (iblk m c 1 (pt a))) ex).trans ((left _ _ r j).trans ?_)))
  refine Finset.sum_congr rfl fun k _ => ?_
  rw [read0, read1, hi]

/-- The kernel's result is the reference's. -/
theorem values (c : Dev nD) : ((dats m 0 c).arrAt 2 cfg0.N : S2048x1536.Idx → EReal)
    = Cert.AdaDwRefIdeal.Read.val_main_v4 (F := Ideal) (cond m c) (ct m c) := by
  refine funext fun (i : S2048x1536.Idx) => ?_
  obtain ⟨p, q, rfl⟩ := Cert.Products.place i
  refine (final m c p q).trans (Eq.symm (((Cert.AdaDwRefIdeal.Read.val_main_v4_apply (F := Ideal) (cond m c) (ct m c) _).trans
    (Cert.AdaDwRefIdeal.Read.val_main_v3_apply (cond m c) (ct m c) _)).trans (Finset.sum_congr rfl fun k _ => ?_)))
  refine (mul_comm _ _).trans (congrArg₂ (· * ·) ?_ (congrArg (ct m c) (funext fun a => by match a with | ⟨0, _⟩ => rfl | ⟨1, _⟩ => rfl)))
  have h : ∀ j, Cert.AdaDwRefIdeal.Read.val_main_v1 (F := Ideal) (cond m c) j = Cert.Dense.silu (cond m c j) := fun _ => rfl
  exact (h _).trans (congrArg (fun j => Cert.Dense.silu (cond m c j)) (funext fun a => by match a with | ⟨0, _⟩ => rfl | ⟨1, _⟩ => rfl))

theorem algebraic : Cert.algebraic_AdaDwIdeal_AdaDwRefIdeal (hAdaDwIdeal := Cert.AdaDwIdeal.Gen.facts)
    (hAdaDwRefIdeal := Cert.AdaDwRefIdeal.Gen.facts) := by
  intro m ρ m' ρ' _ hargs
  refine ⟨fun c => (dats m 0 c).arrAt 2 cfg0.N, Cert.AdaDwIdeal.Value.run_blocks (F := Ideal) m ρ, ?_⟩
  refine (θ_run (Cert.AdaDwRefIdeal.defs (F := Ideal)) _ _).mono (fun r h c => ?_) (Cert.AdaDwRefIdeal.Value.run (F := Ideal) m' ρ')
  obtain ⟨h0, hr⟩ := h c
  obtain ⟨e0, e1⟩ := hargs c
  refine ⟨h0.trans ((Cert.AdaDwRefIdeal.Read.val_main_v4_eq (F := Ideal) _ _).trans (Eq.trans ?_ (values m c).symm)), hr⟩
  rw [e0, e1]

theorem frame_reference : Cert.quiescent_AdaDwRefIdeal (hAdaDwRefIdeal := Cert.AdaDwRefIdeal.Gen.facts) := fun m ρ _ =>
  (θ_run (Cert.AdaDwRefIdeal.defs (F := Ideal)) _ _).mono (fun r h => ⟨fun c => (h c).2, sem_eq_zero_of_no_sems (by decide) r.2⟩)
    (Cert.AdaDwRefIdeal.Value.run (F := Ideal) m ρ)

end Cert.AdaDwProof

end
-- ==== Proof.QkPrep.lean ====
/-
  QUERIES, KEYS AND VALUES OF A LAYER. Point t of the grid has head t: its columns of the projected rows. It leaves the
  head's queries and keys, normed over the head and weighted, and the head's values.
-/
module

public import proofs.«01_k».proof.Defs
public import proofs.«01_k».proof.Proof.Gen.QkPrep.Frame
public import proofs.«01_k».proof.Proof.Gen.QkPrepIdeal.Value
public import proofs.«01_k».proof.Proof.Gen.QkPrepRefIdeal.Run
public import proofs.«01_k».proof.Proof.Gen.QkPrepRefIdeal.Read
public import proofs.«01_k».proof.Proof.Norms

@[expose] public section

noncomputable section

namespace Cert.QkPrepProof

open Cert.Norms Cert.QkPrepIdeal Cert.QkPrepIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the projected rows and the two weights. -/
abbrev proj (c : Dev nD) : S2048x7168.Idx → EReal := m ((c.tc : Thread nD τ).loc main_arg0)
abbrev qw (c : Dev nD) : S1x128.Idx → EReal := m ((c.tc : Thread nD τ).loc main_arg1)
abbrev kw (c : Dev nD) : S1x128.Idx → EReal := m ((c.tc : Thread nD τ).loc main_arg2)

theorem idx0 : ∀ t : Fin cfg0.N, win0_0.index t = ![0, 32 + t.val] := by decide +kernel
theorem idx1 : ∀ t : Fin cfg0.N, win0_1.index t = ![0, 40 + t.val] := by decide +kernel
theorem idx2 : ∀ t : Fin cfg0.N, win0_2.index t = ![0, 48 + t.val] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, t.val] := by decide +kernel
theorem idx6 : ∀ t : Fin cfg0.N, win0_6.index t = ![0, t.val] := by decide +kernel
theorem idx7 : ∀ t : Fin cfg0.N, win0_7.index t = ![0, t.val] := by decide +kernel

/-- The point of head a. -/
def pt (a : Fin 8) : Fin cfg0.N := ⟨a.val, a.isLt⟩

/-- Column n of head a, among the results' columns, and among the projected columns from o on. -/
def col (a : Fin 8) (n : Fin 128) : Fin 1024 := ⟨a.val * 128 + n.val, by omega⟩
def fromCol (o : ℕ) (ho : o ≤ 6144) (a : Fin 8) (n : Fin 128) : Fin 7168 := ⟨o + (a.val * 128 + n.val), by omega⟩

/-- Every column is a column of a head. -/
theorem cols (j : Fin 1024) : ∃ a n, col a n = j :=
  ⟨⟨j.val / 128, by omega⟩, ⟨j.val % 128, by omega⟩, Fin.ext (by show j.val / 128 * 128 + j.val % 128 = j.val; omega)⟩

theorem read0 (c : Dev nD) (a : Fin 8) (r : Fin 2048) (n : Fin 128) : iblk m c 0 (pt a) (ix2 r n) = proj m c (ix2 r (fromCol 4096 (by decide) a n)) := by
  refine Eq.trans (b := V m c main_arg0 (((cfg0.win 0).blk (pt a)).view.emb (ix2 r n))) rfl ((congrFun (V_main_arg0 m c) _).trans ?_)
  refine congrArg (proj m c) (funext fun x => Fin.ext ((Pipeline.Window.rect_emb_val win0_0 (pt a) (ix2 r n) x).trans ?_))
  rw [idx0]
  match x with
  | ⟨0, _⟩ => show 0 * 2048 + r.val = r.val; omega
  | ⟨1, _⟩ => show (32 + a.val) * 128 + n.val = 4096 + (a.val * 128 + n.val); omega

theorem read1 (c : Dev nD) (a : Fin 8) (r : Fin 2048) (n : Fin 128) : iblk m c 1 (pt a) (ix2 r n) = proj m c (ix2 r (fromCol 5120 (by decide) a n)) := by
  refine Eq.trans (b := V m c main_arg0 (((cfg0.win 1).blk (pt a)).view.emb (ix2 r n))) rfl ((congrFun (V_main_arg0 m c) _).trans ?_)
  refine congrArg (proj m c) (funext fun x => Fin.ext ((Pipeline.Window.rect_emb_val win0_1 (pt a) (ix2 r n) x).trans ?_))
  rw [idx1]
  match x with
  | ⟨0, _⟩ => show 0 * 2048 + r.val = r.val; omega
  | ⟨1, _⟩ => show (40 + a.val) * 128 + n.val = 5120 + (a.val * 128 + n.val); omega

theorem read2 (c : Dev nD) (a : Fin 8) (r : Fin 2048) (n : Fin 128) : iblk m c 2 (pt a) (ix2 r n) = proj m c (ix2 r (fromCol 6144 (by decide) a n)) := by
  refine Eq.trans (b := V m c main_arg0 (((cfg0.win 2).blk (pt a)).view.emb (ix2 r n))) rfl ((congrFun (V_main_arg0 m c) _).trans ?_)
  refine congrArg (proj m c) (funext fun x => Fin.ext ((Pipeline.Window.rect_emb_val win0_2 (pt a) (ix2 r n) x).trans ?_))
  rw [idx2]
  match x with
  | ⟨0, _⟩ => show 0 * 2048 + r.val = r.val; omega
  | ⟨1, _⟩ => show (48 + a.val) * 128 + n.val = 6144 + (a.val * 128 + n.val); omega

theorem read3 (c : Dev nD) (a : Fin 8) (n : Fin 128) : iblk m c 3 (pt a) (ix2 0 n) = qw m c (ix2 0 n) := by
  refine Eq.trans (b := V m c main_arg1 (((cfg0.win 3).blk (pt a)).view.emb (ix2 0 n))) rfl ((congrFun (V_main_arg1 m c) _).trans ?_)
  refine congrArg (qw m c) (funext fun x => Fin.ext ((Pipeline.Window.rect_emb_val win0_3 (pt a) (ix2 0 n) x).trans ?_))
  rw [idx3]
  match x with
  | ⟨0, _⟩ => rfl
  | ⟨1, _⟩ => show 0 * 128 + n.val = n.val; omega

theorem read4 (c : Dev nD) (a : Fin 8) (n : Fin 128) : iblk m c 4 (pt a) (ix2 0 n) = kw m c (ix2 0 n) := by
  refine Eq.trans (b := V m c main_arg2 (((cfg0.win 4).blk (pt a)).view.emb (ix2 0 n))) rfl ((congrFun (V_main_arg2 m c) _).trans ?_)
  refine congrArg (kw m c) (funext fun x => Fin.ext ((Pipeline.Window.rect_emb_val win0_4 (pt a) (ix2 0 n) x).trans ?_))
  rw [idx4]
  match x with
  | ⟨0, _⟩ => rfl
  | ⟨1, _⟩ => show 0 * 128 + n.val = n.val; omega

/-- A place of a head, normed and weighted. -/
def normed (v s w : EReal) : EReal := FloatOps.mulf (F := Ideal) (φ := .f32) (FloatOps.mulf (F := Ideal) (φ := .f32) v s) w

/-- A block of a head, normed and weighted. -/
theorem normed_block (x : Vec Ideal S2048x128 .f32) (w : Vec Ideal S1x128 .f32) (r : Fin 2048) (n : Fin 128) :
    k0_pay1 x w (ix2 r n) = normed (x (ix2 r n)) (inv 0x43000000#32 fun k => x (ix2 r k)) (w (ix2 0 n)) :=
  congrArg₂ (fun a b : EReal => normed (x (ix2 r n)) a b)
    ((column (by decide) _ broadcasts_S2048x1_S2048x128 r n).trans (inv_row _ x reduces_S2048x128_S2048 (.inl rfl) rfl shapeCasts_S2048_S2048x1 r))
    (broadcastTo_1b_ab_apply w broadcasts_S1x128_S2048x128 r n)

/-- What the body leaves of a head's queries. -/
theorem left5 (x0 x1 x2 : Vec Ideal S2048x128 .f32) (x3 x4 : Vec Ideal S1x128 .f32) (r : Fin 2048) (n : Fin 128) : out0_5 x0 x1 x2 x3 x4 (ix2 r n) = normed (x0 (ix2 r n)) (inv 0x43000000#32 fun k => x0 (ix2 r k)) (x3 (ix2 0 n)) := by
  have e : out0_5 x0 x1 x2 x3 x4 = k0_pay1 x0 x3 := by
    unfold out0_5
    rw [View.ld_unit_zero start, View.ld_unit_zero start]
    exact View.canon_cons_unit_zero start _ _ []
  rw [e]
  exact normed_block x0 x3 r n

/-- What the body leaves of a head's keys. -/
theorem left6 (x0 x1 x2 : Vec Ideal S2048x128 .f32) (x3 x4 : Vec Ideal S1x128 .f32) (r : Fin 2048) (n : Fin 128) : out0_6 x0 x1 x2 x3 x4 (ix2 r n) = normed (x1 (ix2 r n)) (inv 0x43000000#32 fun k => x1 (ix2 r k)) (x4 (ix2 0 n)) := by
  have e : out0_6 x0 x1 x2 x3 x4 = k0_pay2 x1 x4 := by
    unfold out0_6
    rw [View.ld_unit_zero start, View.ld_unit_zero start]
    exact View.canon_cons_unit_zero start _ _ []
  rw [e]
  exact normed_block x1 x4 r n

/-- What the body leaves of a head's values. -/
theorem left7 (x0 x1 x2 : Vec Ideal S2048x128 .f32) (x3 x4 : Vec Ideal S1x128 .f32) (r : Fin 2048) (n : Fin 128) : out0_7 x0 x1 x2 x3 x4 (ix2 r n) = x2 (ix2 r n) := by
  have e : out0_7 x0 x1 x2 x3 x4 = k0_pay3 x2 := by
    unfold out0_7
    rw [View.ld_unit_zero start]
    exact View.canon_cons_unit_zero start _ _ []
  rw [e]
  rfl

/-- The reference's queries before their norm, by row, head and column. -/
theorem ref_head0 (c : Dev nD) (i : Fin 2048) (a : Fin 8) (n : Fin 128) :
    Cert.QkPrepRefIdeal.Read.val_main_v1 (F := Ideal) (proj m c) (ix3 i a n) = proj m c (ix2 i (fromCol 4096 (by decide) a n)) := by
  refine (Cert.QkPrepRefIdeal.Read.val_main_v1_apply (F := Ideal) (proj m c) _).trans ((Cert.QkPrepRefIdeal.Read.val_main_v0_apply (F := Ideal) (proj m c) _).trans (congrArg (proj m c) (funext fun x => Fin.ext ?_)))
  match x with
  | ⟨0, _⟩ => show ((i.val * 8 + a.val) * 128 + n.val) / 1024 = i.val; omega
  | ⟨1, _⟩ => show 4096 + ((i.val * 8 + a.val) * 128 + n.val) % 1024 = 4096 + (a.val * 128 + n.val); omega

/-- The reference's keys before their norm, by row, head and column. -/
theorem ref_head1 (c : Dev nD) (i : Fin 2048) (a : Fin 8) (n : Fin 128) :
    Cert.QkPrepRefIdeal.Read.val_main_v3 (F := Ideal) (proj m c) (ix3 i a n) = proj m c (ix2 i (fromCol 5120 (by decide) a n)) := by
  refine (Cert.QkPrepRefIdeal.Read.val_main_v3_apply (F := Ideal) (proj m c) _).trans ((Cert.QkPrepRefIdeal.Read.val_main_v2_apply (F := Ideal) (proj m c) _).trans (congrArg (proj m c) (funext fun x => Fin.ext ?_)))
  match x with
  | ⟨0, _⟩ => show ((i.val * 8 + a.val) * 128 + n.val) / 1024 = i.val; omega
  | ⟨1, _⟩ => show 5120 + ((i.val * 8 + a.val) * 128 + n.val) % 1024 = 5120 + (a.val * 128 + n.val); omega

/-- The reference's values before their norm, by row, head and column. -/
theorem ref_head2 (c : Dev nD) (i : Fin 2048) (a : Fin 8) (n : Fin 128) :
    Cert.QkPrepRefIdeal.Read.val_main_v5 (F := Ideal) (proj m c) (ix3 i a n) = proj m c (ix2 i (fromCol 6144 (by decide) a n)) := by
  refine (Cert.QkPrepRefIdeal.Read.val_main_v5_apply (F := Ideal) (proj m c) _).trans ((Cert.QkPrepRefIdeal.Read.val_main_v4_apply (F := Ideal) (proj m c) _).trans (congrArg (proj m c) (funext fun x => Fin.ext ?_)))
  match x with
  | ⟨0, _⟩ => show ((i.val * 8 + a.val) * 128 + n.val) / 1024 = i.val; omega
  | ⟨1, _⟩ => show 6144 + ((i.val * 8 + a.val) * 128 + n.val) % 1024 = 6144 + (a.val * 128 + n.val); omega

/-- The reference's reciprocal roots of the queries. -/
theorem ref_inv0 (c : Dev nD) (i : Fin 2048) (a : Fin 8) :
    Cert.QkPrepRefIdeal.Read.val_main_v13 (F := Ideal) (proj m c) (ix3 i a 0) = inv 0x43000000#32 fun k => proj m c (ix2 i (fromCol 4096 (by decide) a k)) := by
  refine congrArg (fun z : EReal => FloatOps.hostUnary (F := Ideal) (φ := .f32) .rsqrt (FloatOps.addf (F := Ideal) (φ := .f32)
    (FloatOps.hostDivf (F := Ideal) (φ := .f32) z (FloatOps.ofBits .f32 0x43000000#32)) (FloatOps.ofBits .f32 0x358637BD#32))) ?_
  refine (Cert.QkPrepRefIdeal.Read.val_main_v8_apply (F := Ideal) (proj m c) _).trans ((Cert.QkPrepRefIdeal.Read.val_main_v7_apply (proj m c) _).trans ((from_zero _).trans (Finset.sum_congr rfl fun k _ => ?_)))
  have e : Cert.QkPrepRefIdeal.Read.idx_main_v7 (Cert.QkPrepRefIdeal.Read.idx_main_v8 (ix3 i a 0)) k = ix3 i a k :=
    funext fun x => by match x with | ⟨0, _⟩ => rfl | ⟨1, _⟩ => rfl | ⟨2, _⟩ => rfl
  rw [e]
  exact congrArg (fun z : EReal => z * z) (ref_head0 m c i a k)

/-- The reference's queries. -/
theorem ref_normed0 (c : Dev nD) (i : Fin 2048) (a : Fin 8) (n : Fin 128) : Cert.QkPrepRefIdeal.Read.val_main_v18 (F := Ideal) (proj m c) (qw m c) (ix3 i a n)
    = normed (proj m c (ix2 i (fromCol 4096 (by decide) a n))) (inv 0x43000000#32 fun k => proj m c (ix2 i (fromCol 4096 (by decide) a k))) (qw m c (ix2 0 n)) := by
  have h0 := ref_head0 m c i a n
  have h1 := ((Cert.QkPrepRefIdeal.Read.val_main_v14_apply (F := Ideal) (proj m c) (ix3 i a n)).trans (congrArg (Cert.QkPrepRefIdeal.Read.val_main_v13 (F := Ideal) (proj m c)) (a₂ := ix3 i a 0)
    (funext fun x => by match x with | ⟨0, _⟩ => rfl | ⟨1, _⟩ => rfl | ⟨2, _⟩ => rfl))).trans (ref_inv0 m c i a)
  have h2 := ((Cert.QkPrepRefIdeal.Read.val_main_v17_apply (F := Ideal) (qw m c) (ix3 i a n)).trans (Cert.QkPrepRefIdeal.Read.val_main_v16_apply (F := Ideal) (qw m c) _)).trans
    (congrArg (qw m c) (a₂ := ix2 0 n) (funext fun x => by match x with | ⟨0, _⟩ => rfl | ⟨1, _⟩ => rfl))
  exact congrArg₂ (fun a b : EReal => FloatOps.mulf (F := Ideal) (φ := .f32) a b) (congrArg₂ (fun a b : EReal => FloatOps.mulf (F := Ideal) (φ := .f32) a b) h0 h1) h2

/-- The reference's reciprocal roots of the keys. -/
theorem ref_inv1 (c : Dev nD) (i : Fin 2048) (a : Fin 8) :
    Cert.QkPrepRefIdeal.Read.val_main_v26 (F := Ideal) (proj m c) (ix3 i a 0) = inv 0x43000000#32 fun k => proj m c (ix2 i (fromCol 5120 (by decide) a k)) := by
  refine congrArg (fun z : EReal => FloatOps.hostUnary (F := Ideal) (φ := .f32) .rsqrt (FloatOps.addf (F := Ideal) (φ := .f32)
    (FloatOps.hostDivf (F := Ideal) (φ := .f32) z (FloatOps.ofBits .f32 0x43000000#32)) (FloatOps.ofBits .f32 0x358637BD#32))) ?_
  refine (Cert.QkPrepRefIdeal.Read.val_main_v21_apply (F := Ideal) (proj m c) _).trans ((Cert.QkPrepRefIdeal.Read.val_main_v20_apply (proj m c) _).trans ((from_zero _).trans (Finset.sum_congr rfl fun k _ => ?_)))
  have e : Cert.QkPrepRefIdeal.Read.idx_main_v20 (Cert.QkPrepRefIdeal.Read.idx_main_v21 (ix3 i a 0)) k = ix3 i a k :=
    funext fun x => by match x with | ⟨0, _⟩ => rfl | ⟨1, _⟩ => rfl | ⟨2, _⟩ => rfl
  rw [e]
  exact congrArg (fun z : EReal => z * z) (ref_head1 m c i a k)

/-- The reference's keys. -/
theorem ref_normed1 (c : Dev nD) (i : Fin 2048) (a : Fin 8) (n : Fin 128) : Cert.QkPrepRefIdeal.Read.val_main_v31 (F := Ideal) (proj m c) (kw m c) (ix3 i a n)
    = normed (proj m c (ix2 i (fromCol 5120 (by decide) a n))) (inv 0x43000000#32 fun k => proj m c (ix2 i (fromCol 5120 (by decide) a k))) (kw m c (ix2 0 n)) := by
  have h0 := ref_head1 m c i a n
  have h1 := ((Cert.QkPrepRefIdeal.Read.val_main_v27_apply (F := Ideal) (proj m c) (ix3 i a n)).trans (congrArg (Cert.QkPrepRefIdeal.Read.val_main_v26 (F := Ideal) (proj m c)) (a₂ := ix3 i a 0)
    (funext fun x => by match x with | ⟨0, _⟩ => rfl | ⟨1, _⟩ => rfl | ⟨2, _⟩ => rfl))).trans (ref_inv1 m c i a)
  have h2 := ((Cert.QkPrepRefIdeal.Read.val_main_v30_apply (F := Ideal) (kw m c) (ix3 i a n)).trans (Cert.QkPrepRefIdeal.Read.val_main_v29_apply (F := Ideal) (kw m c) _)).trans
    (congrArg (kw m c) (a₂ := ix2 0 n) (funext fun x => by match x with | ⟨0, _⟩ => rfl | ⟨1, _⟩ => rfl))
  exact congrArg₂ (fun a b : EReal => FloatOps.mulf (F := Ideal) (φ := .f32) a b) (congrArg₂ (fun a b : EReal => FloatOps.mulf (F := Ideal) (φ := .f32) a b) h0 h1) h2

/-- The queries are the reference's. -/
theorem values5 (c : Dev nD) : ((dats m 0 c).arrAt 5 cfg0.N : S2048x1024.Idx → EReal) = Cert.QkPrepRefIdeal.Read.val_main_v33 (F := Ideal) (proj m c) (qw m c) := by
  refine funext fun (p : S2048x1024.Idx) => ?_
  obtain ⟨i, j, rfl⟩ := Cert.Products.place p
  obtain ⟨a, n, rfl⟩ := cols j
  refine Eq.trans (b := normed (proj m c (ix2 i (fromCol 4096 (by decide) a n))) (inv 0x43000000#32 fun k => proj m c (ix2 i (fromCol 4096 (by decide) a k))) (qw m c (ix2 0 n))) ?_ (Eq.symm ?_)
  · have e : ((cfg0.win 5).blk (pt a)).view.emb (ix2 i n) = (ix2 i (col a n) : S2048x1024.Idx) := by
      refine funext fun x => Fin.ext ((Pipeline.Window.rect_emb_val win0_5 (pt a) (ix2 i n) x).trans ?_)
      rw [idx5]
      match x with
      | ⟨0, _⟩ => show 0 * 2048 + i.val = i.val; omega
      | ⟨1, _⟩ => rfl
    have f := (dats m 0 c).arrAt_emb_eq_flushed 5 Cert.QkPrepIdeal.Value.disjoint5 (pt a) (flush0_5 _) (ix2 i n)
    rw [e, Cert.QkPrepIdeal.Value.flushed5] at f
    have ex : (cfg0.win 5).xinj (grid0.coords (pt a)) (ix2 i n) = (ix2 i n : S2048x128.Idx) :=
      funext fun x => Fin.ext (by match x with | ⟨0, _⟩ => rfl | ⟨1, _⟩ => rfl)
    refine f.trans ((cast_eq _ _).trans ((congrArg (out0_5 (iblk m c 0 (pt a)) (iblk m c 1 (pt a)) (iblk m c 2 (pt a)) (iblk m c 3 (pt a)) (iblk m c 4 (pt a))) ex).trans ((left5 _ _ _ _ _ i n).trans ?_)))
    simp only [read0, read3]
  · have e : Cert.QkPrepRefIdeal.Read.idx_main_v32 (ix2 i (col a n)) = ix3 i a n := by
      refine funext fun x => Fin.ext ?_
      match x with
      | ⟨0, _⟩ => show (i.val * 1024 + (a.val * 128 + n.val)) / 1024 = i.val; omega
      | ⟨1, _⟩ => show (i.val * 1024 + (a.val * 128 + n.val)) / 128 % 8 = a.val; omega
      | ⟨2, _⟩ => show (i.val * 1024 + (a.val * 128 + n.val)) % 128 = n.val; omega
    have f := Cert.QkPrepRefIdeal.Read.val_main_v32_apply (F := Ideal) (proj m c) (qw m c) (ix2 i (col a n))
    rw [e] at f
    exact f.trans (ref_normed0 m c i a n)

/-- The keys are the reference's. -/
theorem values6 (c : Dev nD) : ((dats m 0 c).arrAt 6 cfg0.N : S2048x1024.Idx → EReal) = Cert.QkPrepRefIdeal.Read.val_main_v35 (F := Ideal) (proj m c) (kw m c) := by
  refine funext fun (p : S2048x1024.Idx) => ?_
  obtain ⟨i, j, rfl⟩ := Cert.Products.place p
  obtain ⟨a, n, rfl⟩ := cols j
  refine Eq.trans (b := normed (proj m c (ix2 i (fromCol 5120 (by decide) a n))) (inv 0x43000000#32 fun k => proj m c (ix2 i (fromCol 5120 (by decide) a k))) (kw m c (ix2 0 n))) ?_ (Eq.symm ?_)
  · have e : ((cfg0.win 6).blk (pt a)).view.emb (ix2 i n) = (ix2 i (col a n) : S2048x1024.Idx) := by
      refine funext fun x => Fin.ext ((Pipeline.Window.rect_emb_val win0_6 (pt a) (ix2 i n) x).trans ?_)
      rw [idx6]
      match x with
      | ⟨0, _⟩ => show 0 * 2048 + i.val = i.val; omega
      | ⟨1, _⟩ => rfl
    have f := (dats m 0 c).arrAt_emb_eq_flushed 6 Cert.QkPrepIdeal.Value.disjoint6 (pt a) (flush0_6 _) (ix2 i n)
    rw [e, Cert.QkPrepIdeal.Value.flushed6] at f
    have ex : (cfg0.win 6).xinj (grid0.coords (pt a)) (ix2 i n) = (ix2 i n : S2048x128.Idx) :=
      funext fun x => Fin.ext (by match x with | ⟨0, _⟩ => rfl | ⟨1, _⟩ => rfl)
    refine f.trans ((cast_eq _ _).trans ((congrArg (out0_6 (iblk m c 0 (pt a)) (iblk m c 1 (pt a)) (iblk m c 2 (pt a)) (iblk m c 3 (pt a)) (iblk m c 4 (pt a))) ex).trans ((left6 _ _ _ _ _ i n).trans ?_)))
    simp only [read1, read4]
  · have e : Cert.QkPrepRefIdeal.Read.idx_main_v34 (ix2 i (col a n)) = ix3 i a n := by
      refine funext fun x => Fin.ext ?_
      match x with
      | ⟨0, _⟩ => show (i.val * 1024 + (a.val * 128 + n.val)) / 1024 = i.val; omega
      | ⟨1, _⟩ => show (i.val * 1024 + (a.val * 128 + n.val)) / 128 % 8 = a.val; omega
      | ⟨2, _⟩ => show (i.val * 1024 + (a.val * 128 + n.val)) % 128 = n.val; omega
    have f := Cert.QkPrepRefIdeal.Read.val_main_v34_apply (F := Ideal) (proj m c) (kw m c) (ix2 i (col a n))
    rw [e] at f
    exact f.trans (ref_normed1 m c i a n)

/-- The values are the reference's. -/
theorem values7 (c : Dev nD) : ((dats m 0 c).arrAt 7 cfg0.N : S2048x1024.Idx → EReal) = Cert.QkPrepRefIdeal.Read.val_main_v37 (F := Ideal) (proj m c) := by
  refine funext fun (p : S2048x1024.Idx) => ?_
  obtain ⟨i, j, rfl⟩ := Cert.Products.place p
  obtain ⟨a, n, rfl⟩ := cols j
  refine Eq.trans (b := proj m c (ix2 i (fromCol 6144 (by decide) a n))) ?_ (Eq.symm ?_)
  · have e : ((cfg0.win 7).blk (pt a)).view.emb (ix2 i n) = (ix2 i (col a n) : S2048x1024.Idx) := by
      refine funext fun x => Fin.ext ((Pipeline.Window.rect_emb_val win0_7 (pt a) (ix2 i n) x).trans ?_)
      rw [idx7]
      match x with
      | ⟨0, _⟩ => show 0 * 2048 + i.val = i.val; omega
      | ⟨1, _⟩ => rfl
    have f := (dats m 0 c).arrAt_emb_eq_flushed 7 Cert.QkPrepIdeal.Value.disjoint7 (pt a) (flush0_7 _) (ix2 i n)
    rw [e, Cert.QkPrepIdeal.Value.flushed7] at f
    have ex : (cfg0.win 7).xinj (grid0.coords (pt a)) (ix2 i n) = (ix2 i n : S2048x128.Idx) :=
      funext fun x => Fin.ext (by match x with | ⟨0, _⟩ => rfl | ⟨1, _⟩ => rfl)
    refine f.trans ((cast_eq _ _).trans ((congrArg (out0_7 (iblk m c 0 (pt a)) (iblk m c 1 (pt a)) (iblk m c 2 (pt a)) (iblk m c 3 (pt a)) (iblk m c 4 (pt a))) ex).trans ((left7 _ _ _ _ _ i n).trans ?_)))
    simp only [read2]
  · have e : Cert.QkPrepRefIdeal.Read.idx_main_v36 (ix2 i (col a n)) = ix3 i a n := by
      refine funext fun x => Fin.ext ?_
      match x with
      | ⟨0, _⟩ => show (i.val * 1024 + (a.val * 128 + n.val)) / 1024 = i.val; omega
      | ⟨1, _⟩ => show (i.val * 1024 + (a.val * 128 + n.val)) / 128 % 8 = a.val; omega
      | ⟨2, _⟩ => show (i.val * 1024 + (a.val * 128 + n.val)) % 128 = n.val; omega
    have f := Cert.QkPrepRefIdeal.Read.val_main_v36_apply (F := Ideal) (proj m c) (ix2 i (col a n))
    rw [e] at f
    exact f.trans (ref_head2 m c i a n)

theorem algebraic : Cert.algebraic_QkPrepIdeal_QkPrepRefIdeal (hQkPrepIdeal := Cert.QkPrepIdeal.Gen.facts)
    (hQkPrepRefIdeal := Cert.QkPrepRefIdeal.Gen.facts) := by
  intro m ρ m' ρ' _ hargs
  refine ⟨fun c => (dats m 0 c).arrAt 5 cfg0.N, fun c => (dats m 0 c).arrAt 6 cfg0.N, fun c => (dats m 0 c).arrAt 7 cfg0.N,
    Cert.QkPrepIdeal.Value.run_blocks (F := Ideal) m ρ, ?_⟩
  refine (θ_run (Cert.QkPrepRefIdeal.defs (F := Ideal)) _ _).mono (fun r h c => ?_) (Cert.QkPrepRefIdeal.Value.run (F := Ideal) m' ρ')
  obtain ⟨h0, h1, h2, hr⟩ := h c
  obtain ⟨e0, e1, e2⟩ := hargs c
  refine ⟨h0.trans ((Cert.QkPrepRefIdeal.Read.val_main_v33_eq (F := Ideal) _ _).trans (Eq.trans ?_ (values5 m c).symm)),
    h1.trans ((Cert.QkPrepRefIdeal.Read.val_main_v35_eq (F := Ideal) _ _).trans (Eq.trans ?_ (values6 m c).symm)),
    h2.trans ((Cert.QkPrepRefIdeal.Read.val_main_v37_eq (F := Ideal) _).trans (Eq.trans ?_ (values7 m c).symm)), hr⟩
  · rw [e0, e1]
  · rw [e0, e2]
  · rw [e0]

theorem frame_reference : Cert.quiescent_QkPrepRefIdeal (hQkPrepRefIdeal := Cert.QkPrepRefIdeal.Gen.facts) := fun m ρ _ =>
  (θ_run (Cert.QkPrepRefIdeal.defs (F := Ideal)) _ _).mono (fun r h => ⟨fun c => (h c).2.2.2, sem_eq_zero_of_no_sems (by decide) r.2⟩)
    (Cert.QkPrepRefIdeal.Value.run (F := Ideal) m ρ)

end Cert.QkPrepProof

end
-- ==== Proof.Adam.lean ====
/-
  THE ADAMW STEP of one weight. Point t of the grid has rows 256 t to 256 t + 255 of the weight, of the two moments and of
  the gradient, and leaves those rows of the gradient, of the change and of the two new moments. Place by place, both
  programs compute the same expression of the four values there.
-/
module

public import proofs.«01_k».proof.Defs
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Products

@[expose] public section

noncomputable section

namespace Cert.AdamProof

open Cert.AdamIdeal Cert.AdamIdeal.Gen Idealize.ShloMosaic.TcCoe Idealize.SL.Sem
open Idealize.ShloMosaic hiding ix1 ix2 ix3 ix4
open Idealize.ShloMosaic.ValueIdx

variable (m : (ℓ : Loc nD τ sig) → Buf (Elt Ideal) ℓ)

/-- The arguments of a run: the weight, its two moments and its gradient. -/
abbrev wt (c : Dev nD) : S2048x1536.Idx → EReal := m ((c.tc : Thread nD τ).loc main_arg0)
abbrev mom (c : Dev nD) : S2048x1536.Idx → EReal := m ((c.tc : Thread nD τ).loc main_arg1)
abbrev var (c : Dev nD) : S2048x1536.Idx → EReal := m ((c.tc : Thread nD τ).loc main_arg2)
abbrev grad (c : Dev nD) : S2048x1536.Idx → EReal := m ((c.tc : Thread nD τ).loc main_arg3)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

/-- The point of row block a. -/
def pt (a : Fin 8) : Fin cfg0.N := ⟨a.val, a.isLt⟩

/-- Row r of row block a. -/
def row (a : Fin 8) (r : Fin 256) : Fin 2048 := ⟨a.val * 256 + r.val, by omega⟩

/-- An index whose two entries are those of a place in block a is that place. -/
theorem there (a : Fin 8) (r : Fin 256) (n : Fin 1536) (t : S2048x1536.Idx)
    (h : ∀ x, (t x).val = (![a.val, 0] : Fin 2 → ℕ) x * (![256, 1536] : Fin 2 → ℕ) x + ((ix2 r n : S256x1536.Idx) x).val) : t = ix2 (row a r) n := by
  refine funext fun x => Fin.ext ((h x).trans ?_)
  match x with
  | ⟨0, _⟩ => rfl
  | ⟨1, _⟩ => show 0 * 1536 + n.val = n.val; omega

theorem emb0 (a : Fin 8) (r : Fin 256) (n : Fin 1536) : ((cfg0.win 0).blk (pt a)).view.emb (ix2 r n) = (ix2 (row a r) n : S2048x1536.Idx) :=
  there a r n _ fun x => (Pipeline.Window.rect_emb_val win0_0 (pt a) (ix2 r n) x).trans (by rw [idx0]; match x with | ⟨0, _⟩ => rfl | ⟨1, _⟩ => rfl)
theorem emb1 (a : Fin 8) (r : Fin 256) (n : Fin 1536) : ((cfg0.win 1).blk (pt a)).view.emb (ix2 r n) = (ix2 (row a r) n : S2048x1536.Idx) :=
  there a r n _ fun x => (Pipeline.Window.rect_emb_val win0_1 (pt a) (ix2 r n) x).trans (by rw [idx1]; match x with | ⟨0, _⟩ => rfl | ⟨1, _⟩ => rfl)
theorem emb2 (a : Fin 8) (r : Fin 256) (n : Fin 1536) : ((cfg0.win 2).blk (pt a)).view.emb (ix2 r n) = (ix2 (row a r) n : S2048x1536.Idx) :=
  there a r n _ fun x => (Pipeline.Window.rect_emb_val win0_2 (pt a) (ix2 r n) x).trans (by rw [idx2]; match x with | ⟨0, _⟩ => rfl | ⟨1, _⟩ => rfl)
theorem emb3 (a : Fin 8) (r : Fin 256) (n : Fin 1536) : ((cfg0.win 3).blk (pt a)).view.emb (ix2 r n) = (ix2 (row a r) n : S2048x1536.Idx) :=
  there a r n _ fun x => (Pipeline.Window.rect_emb_val win0_3 (pt a) (ix2 r n) x).trans (by rw [idx3]; match x with | ⟨0, _⟩ => rfl | ⟨1, _⟩ => rfl)
theorem emb4 (a : Fin 8) (r : Fin 256) (n : Fin 1536) : ((cfg0.win 4).blk (pt a)).view.emb (ix2 r n) = (ix2 (row a r) n : S2048x1536.Idx) :=
  there a r n _ fun x => (Pipeline.Window.rect_emb_val win0_4 (pt a) (ix2 r n) x).trans (by rw [idx4]; match x with | ⟨0, _⟩ => rfl | ⟨1, _⟩ => rfl)
theorem emb5 (a : Fin 8) (r : Fin 256) (n : Fin 1536) : ((cfg0.win 5).blk (pt a)).view.emb (ix2 r n) = (ix2 (row a r) n : S2048x1536.Idx) :=
  there a r n _ fun x => (Pipeline.Window.rect_emb_val win0_5 (pt a) (ix2 r n) x).trans (by rw [idx5]; match x with | ⟨0, _⟩ => rfl | ⟨1, _⟩ => rfl)
theorem emb6 (a : Fin 8) (r : Fin 256) (n : Fin 1536) : ((cfg0.win 6).blk (pt a)).view.emb (ix2 r n) = (ix2 (row a r) n : S2048x1536.Idx) :=
  there a r n _ fun x => (Pipeline.Window.rect_emb_val win0_6 (pt a) (ix2 r n) x).trans (by rw [idx6]; match x with | ⟨0, _⟩ => rfl | ⟨1, _⟩ => rfl)
theorem emb7 (a : Fin 8) (r : Fin 256) (n : Fin 1536) : ((cfg0.win 7).blk (pt a)).view.emb (ix2 r n) = (ix2 (row a r) n : S2048x1536.Idx) :=
  there a r n _ fun x => (Pipeline.Window.rect_emb_val win0_7 (pt a) (ix2 r n) x).trans (by rw [idx7]; match x with | ⟨0, _⟩ => rfl | ⟨1, _⟩ => rfl)

theorem read0 (c : Dev nD) (a : Fin 8) (r : Fin 256) (n : Fin 1536) : iblk m c 0 (pt a) (ix2 r n) = wt m c (ix2 (row a r) n) :=
  Eq.trans (b := V m c main_arg0 (((cfg0.win 0).blk (pt a)).view.emb (ix2 r n))) rfl ((congrFun (V_main_arg0 m c) _).trans (congrArg (wt m c) (emb0 a r n)))
theorem read1 (c : Dev nD) (a : Fin 8) (r : Fin 256) (n : Fin 1536) : iblk m c 1 (pt a) (ix2 r n) = mom m c (ix2 (row a r) n) :=
  Eq.trans (b := V m c main_arg1 (((cfg0.win 1).blk (pt a)).view.emb (ix2 r n))) rfl ((congrFun (V_main_arg1 m c) _).trans (congrArg (mom m c) (emb1 a r n)))
theorem read2 (c : Dev nD) (a : Fin 8) (r : Fin 256) (n : Fin 1536) : iblk m c 2 (pt a) (ix2 r n) = var m c (ix2 (row a r) n) :=
  Eq.trans (b := V m c main_arg2 (((cfg0.win 2).blk (pt a)).view.emb (ix2 r n))) rfl ((congrFun (V_main_arg2 m c) _).trans (congrArg (var m c) (emb2 a r n)))
theorem read3 (c : Dev nD) (a : Fin 8) (r : Fin 256) (n : Fin 1536) : iblk m c 3 (pt a) (ix2 r n) = grad m c (ix2 (row a r) n) :=
  Eq.trans (b := V m c main_arg3 (((cfg0.win 3).blk (pt a)).view.emb (ix2 r n))) rfl ((congrFun (V_main_arg3 m c) _).trans (congrArg (grad m c) (emb3 a r n)))

/-- Every row is a row of a block. -/
theorem rows (i : Fin 2048) : ∃ a r, row a r = i :=
  ⟨⟨i.val / 256, by omega⟩, ⟨i.val % 256, by omega⟩, Fin.ext (by show i.val / 256 * 256 + i.val % 256 = i.val; omega)⟩

/-- The new first moment of a gradient and a first moment. -/
def first (g u : EReal) : EReal := FloatOps.addf (F := Ideal) (φ := .f32) (FloatOps.mulf (F := Ideal) (φ := .f32) (FloatOps.ofBits .f32 0x3F666666#32) u)
  (FloatOps.mulf (F := Ideal) (φ := .f32) (FloatOps.ofBits .f32 0x3DCCCCCD#32) g)

/-- The new second moment of a gradient and a second moment. -/
def second (g v : EReal) : EReal := FloatOps.addf (F := Ideal) (φ := .f32) (FloatOps.mulf (F := Ideal) (φ := .f32) (FloatOps.ofBits .f32 0x3F7FBE77#32) v)
  (FloatOps.mulf (F := Ideal) (φ := .f32) (FloatOps.ofBits .f32 0x3A83126F#32) (FloatOps.mulf (F := Ideal) (φ := .f32) g g))

/-- The change of a weight, of its gradient, itself and its two moments. -/
def change (g w u v : EReal) : EReal := FloatOps.mulf (F := Ideal) (φ := .f32) (FloatOps.ofBits .f32 0xBA83126F#32) (FloatOps.addf (F := Ideal) (φ := .f32)
  (FloatOps.hostDivf (F := Ideal) (φ := .f32) (FloatOps.hostDivf (F := Ideal) (φ := .f32) (first g u) (FloatOps.ofBits .f32 0x3F26BD02#32))
    (FloatOps.addf (F := Ideal) (φ := .f32) (FloatOps.hostUnary (F := Ideal) (φ := .f32) .sqrt (FloatOps.hostDivf (F := Ideal) (φ := .f32) (second g v) (FloatOps.ofBits .f32 0x3C231ACC#32)))
      (FloatOps.ofBits .f32 0x322BCC77#32)))
  (FloatOps.mulf (F := Ideal) (φ := .f32) (FloatOps.ofBits .f32 0x3C23D70A#32) w))

/-- The one rectangle the body reads and writes begins at zero. -/
theorem start : ![0, 0] = fun _ : Fin 2 => 0 := by funext a; fin_cases a <;> rfl

theorem left4 (x0 x1 x2 x3 : Vec Ideal S256x1536 .f32) (i : S256x1536.Idx) : out0_4 x0 x1 x2 x3 i = x3 i := by
  have e : out0_4 x0 x1 x2 x3 = x3 := by
    unfold out0_4
    rw [View.ld_unit_zero start]
    exact View.canon_cons_unit_zero start _ _ []
  rw [e]

theorem left5 (x0 x1 x2 x3 : Vec Ideal S256x1536 .f32) (i : S256x1536.Idx) : out0_5 x0 x1 x2 x3 i = change (x3 i) (x0 i) (x1 i) (x2 i) := by
  have e : out0_5 x0 x1 x2 x3 = k0_pay3 x3 x0 x1 x2 := by
    unfold out0_5
    rw [View.ld_unit_zero start, View.ld_unit_zero start, View.ld_unit_zero start, View.ld_unit_zero start]
    exact View.canon_cons_unit_zero start _ _ []
  rw [e]
  rfl

theorem left6 (x0 x1 x2 x3 : Vec Ideal S256x1536 .f32) (i : S256x1536.Idx) : out0_6 x0 x1 x2 x3 i = first (x3 i) (x1 i) := by
  have e : out0_6 x0 x1 x2 x3 = k0_pay1 x3 x1 := by
    unfold out0_6
    rw [View.ld_unit_zero start, View.ld_unit_zero start]
    exact View.canon_cons_unit_zero start _ _ []
  rw [e]
  rfl

theorem left7 (x0 x1 x2 x3 : Vec Ideal S256x1536 .f32) (i : S256x1536.Idx) : out0_7 x0 x1 x2 x3 i = second (x3 i) (x2 i) := by
  have e : out0_7 x0 x1 x2 x3 = k0_pay2 x3 x2 := by
    unfold out0_7
    rw [View.ld_unit_zero start, View.ld_unit_zero start]
    exact View.canon_cons_unit_zero start _ _ []
  rw [e]
  rfl

theorem values4 (c : Dev nD) : ((dats m 0 c).arrAt 4 cfg0.N : S2048x1536.Idx → EReal) = grad m c := by
  refine funext fun (p : S2048x1536.Idx) => ?_
  obtain ⟨i, j, rfl⟩ := Cert.Products.place p
  obtain ⟨a, r, rfl⟩ := rows i
  have f := (dats m 0 c).arrAt_emb_eq_flushed 4 Cert.AdamIdeal.Value.disjoint4 (pt a) (flush0_4 _) (ix2 r j)
  rw [emb4, Cert.AdamIdeal.Value.flushed4] at f
  have ex : (cfg0.win 4).xinj (grid0.coords (pt a)) (ix2 r j) = (ix2 r j : S256x1536.Idx) :=
    funext fun x => Fin.ext (by match x with | ⟨0, _⟩ => rfl | ⟨1, _⟩ => rfl)
  refine f.trans ((cast_eq _ _).trans ((congrArg (out0_4 (iblk m c 0 (pt a)) (iblk m c 1 (pt a)) (iblk m c 2 (pt a)) (iblk m c 3 (pt a))) ex).trans ((left4 _ _ _ _ _).trans ?_)))
  rw [read3]

theorem values5 (c : Dev nD) : ((dats m 0 c).arrAt 5 cfg0.N : S2048x1536.Idx → EReal) = Cert.AdamRefIdeal.Read.val_main_v23 (F := Ideal) (wt m c) (mom m c) (var m c) (grad m c) := by
  refine funext fun (p : S2048x1536.Idx) => ?_
  obtain ⟨i, j, rfl⟩ := Cert.Products.place p
  obtain ⟨a, r, rfl⟩ := rows i
  have f := (dats m 0 c).arrAt_emb_eq_flushed 5 Cert.AdamIdeal.Value.disjoint5 (pt a) (flush0_5 _) (ix2 r j)
  rw [emb5, Cert.AdamIdeal.Value.flushed5] at f
  have ex : (cfg0.win 5).xinj (grid0.coords (pt a)) (ix2 r j) = (ix2 r j : S256x1536.Idx) :=
    funext fun x => Fin.ext (by match x with | ⟨0, _⟩ => rfl | ⟨1, _⟩ => rfl)
  refine f.trans ((cast_eq _ _).trans ((congrArg (out0_5 (iblk m c 0 (pt a)) (iblk m c 1 (pt a)) (iblk m c 2 (pt a)) (iblk m c 3 (pt a))) ex).trans ((left5 _ _ _ _ _).trans ?_)))
  rw [read3, read0, read1, read2]
  rfl

theorem values6 (c : Dev nD) : ((dats m 0 c).arrAt 6 cfg0.N : S2048x1536.Idx → EReal) = Cert.AdamRefIdeal.Read.val_main_v4 (F := Ideal) (mom m c) (grad m c) := by
  refine funext fun (p : S2048x1536.Idx) => ?_
  obtain ⟨i, j, rfl⟩ := Cert.Products.place p
  obtain ⟨a, r, rfl⟩ := rows i
  have f := (dats m 0 c).arrAt_emb_eq_flushed 6 Cert.AdamIdeal.Value.disjoint6 (pt a) (flush0_6 _) (ix2 r j)
  rw [emb6, Cert.AdamIdeal.Value.flushed6] at f
  have ex : (cfg0.win 6).xinj (grid0.coords (pt a)) (ix2 r j) = (ix2 r j : S256x1536.Idx) :=
    funext fun x => Fin.ext (by match x with | ⟨0, _⟩ => rfl | ⟨1, _⟩ => rfl)
  refine f.trans ((cast_eq _ _).trans ((congrArg (out0_6 (iblk m c 0 (pt a)) (iblk m c 1 (pt a)) (iblk m c 2 (pt a)) (iblk m c 3 (pt a))) ex).trans ((left6 _ _ _ _ _).trans ?_)))
  rw [read3, read1]
  rfl

theorem values7 (c : Dev nD) : ((dats m 0 c).arrAt 7 cfg0.N : S2048x1536.Idx → EReal) = Cert.AdamRefIdeal.Read.val_main_v10 (F := Ideal) (var m c) (grad m c) := by
  refine funext fun (p : S2048x1536.Idx) => ?_
  obtain ⟨i, j, rfl⟩ := Cert.Products.place p
  obtain ⟨a, r, rfl⟩ := rows i
  have f := (dats m 0 c).arrAt_emb_eq_flushed 7 Cert.AdamIdeal.Value.disjoint7 (pt a) (flush0_7 _) (ix2 r j)
  rw [emb7, Cert.AdamIdeal.Value.flushed7] at f
  have ex : (cfg0.win 7).xinj (grid0.coords (pt a)) (ix2 r j) = (ix2 r j : S256x1536.Idx) :=
    funext fun x => Fin.ext (by match x with | ⟨0, _⟩ => rfl | ⟨1, _⟩ => rfl)
  refine f.trans ((cast_eq _ _).trans ((congrArg (out0_7 (iblk m c 0 (pt a)) (iblk m c 1 (pt a)) (iblk m c 2 (pt a)) (iblk m c 3 (pt a))) ex).trans ((left7 _ _ _ _ _).trans ?_)))
  rw [read3, read2]
  rfl

theorem algebraic : Cert.algebraic_AdamIdeal_AdamRefIdeal (hAdamIdeal := Cert.AdamIdeal.Gen.facts)
    (hAdamRefIdeal := Cert.AdamRefIdeal.Gen.facts) := by
  intro m ρ m' ρ' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamIdeal.Value.run_blocks (F := Ideal) m ρ, ?_⟩
  refine (θ_run (Cert.AdamRefIdeal.defs (F := Ideal)) _ _).mono (fun r h c => ?_) (Cert.AdamRefIdeal.Value.run (F := Ideal) m' ρ')
  obtain ⟨h0, h1, h2, h3, hr⟩ := h c
  obtain ⟨e0, e1, e2, e3⟩ := hargs c
  refine ⟨h0.trans (e3.trans (values4 m c).symm),
    h1.trans ((Cert.AdamRefIdeal.Read.val_main_v23_eq (F := Ideal) _ _ _ _).trans (Eq.trans ?_ (values5 m c).symm)),
    h2.trans ((Cert.AdamRefIdeal.Read.val_main_v4_eq (F := Ideal) _ _).trans (Eq.trans ?_ (values6 m c).symm)),
    h3.trans ((Cert.AdamRefIdeal.Read.val_main_v10_eq (F := Ideal) _ _).trans (Eq.trans ?_ (values7 m c).symm)), hr⟩
  · rw [e0, e1, e2, e3]
  · rw [e1, e3]
  · rw [e2, e3]

theorem frame_reference : Cert.quiescent_AdamRefIdeal (hAdamRefIdeal := Cert.AdamRefIdeal.Gen.facts) := fun m ρ _ =>
  (θ_run (Cert.AdamRefIdeal.defs (F := Ideal)) _ _).mono (fun r h => ⟨fun c => (h c).2.2.2.2, sem_eq_zero_of_no_sems (by decide) r.2⟩)
    (Cert.AdamRefIdeal.Value.run (F := Ideal) m ρ)

end Cert.AdamProof

end
-- ==== Proof.lean ====
/-
  THE PROOF OF THE CLAIM about nineteen calls of one training step. Each of the calls but the attention's backward has a
  module of its own under Proof/, named as its program. Here are the attention's frames, the naming of its kernel's one
  rounded constant and its value claim, the gradients of q, k and v, and at the end the claims of all calls together.

  Both programs' results are the same sums of real numbers, element by element: Proof/Grid.lean reads the kernel's three
  result arrays after its last grid point, Proof/RefBackward.lean the reference's, and here they are set side by side. The
  real numbers come from the precondition (Proof/Finite.lean).
-/
module

public import proofs.«01_k».proof.Defs
public import proofs.«01_k».proof.Proof.Gen.Kernel.Frame
public import proofs.«01_k».proof.Proof.Gen.Pre_finite
public import proofs.«01_k».proof.Proof.Gen.ReferenceIdeal.Run
public import proofs.«01_k».proof.Proof.Finite
public import proofs.«01_k».proof.Proof.Grid
public import proofs.«01_k».proof.Proof.UpDw
public import proofs.«01_k».proof.Proof.UpDx
public import proofs.«01_k».proof.Proof.DownDx
public import proofs.«01_k».proof.Proof.DownDw
public import proofs.«01_k».proof.Proof.OutDw
public import proofs.«01_k».proof.Proof.OutDx
public import proofs.«01_k».proof.Proof.InDw
public import proofs.«01_k».proof.Proof.InDx
public import proofs.«01_k».proof.Proof.InFwd
public import proofs.«01_k».proof.Proof.OutFwd
public import proofs.«01_k».proof.Proof.UpFwd
public import proofs.«01_k».proof.Proof.DownFwd
public import proofs.«01_k».proof.Proof.Norm1
public import proofs.«01_k».proof.Proof.Norm2
public import proofs.«01_k».proof.Proof.AdaFwd
public import proofs.«01_k».proof.Proof.AdaDw
public import proofs.«01_k».proof.Proof.QkPrep
public import proofs.«01_k».proof.Proof.Adam

@[expose] public section

noncomputable section

namespace Cert.Proof

open Idealize.ShloMosaic hiding ix1 ix2 ix3 ix4
open Idealize.ShloMosaic.ValueIdx
open Idealize.ShloMosaic.TcCoe Idealize.SL.Sem Cert.RefRows

/-! ## Every place of an array of eight heads -/

/-- Two arrays that agree at every head's columns are equal. -/
theorem by_heads {x y : Cert.KernelIdeal.S2048x1024.Idx → EReal}
    (h : ∀ (h : Fin 8) (t : Fin 2048) (d : Fin 128), x (ix2 t (col h d)) = y (ix2 t (col h d))) : x = y := by
  funext i
  have hi : i = (ix2 (n0 := 2048) (n1 := 1024) (i 0) (col ⟨(i 1).val / 128, by have : (i 1).val < 1024 := (i 1).isLt; omega⟩ ⟨(i 1).val % 128, by omega⟩)) := by
    funext a
    match a with
    | ⟨0, _⟩ => rfl
    | ⟨1, _⟩ => exact Fin.ext (by show (i 1).val = (i 1).val / 128 * 128 + (i 1).val % 128; omega)
  rw [hi]
  exact h _ _ _

section Values

variable (m : (ℓ : Loc Cert.KernelIdeal.nD Cert.KernelIdeal.τ Cert.KernelIdeal.sig) → Buf (Elt Ideal) ℓ) (c : Dev Cert.KernelIdeal.nD)

/-- The four arguments. -/
abbrev a0 : (⟨Cert.KernelIdeal.S2048x1024, .bf16⟩ : BufTy).Contents (Elt Ideal) := m ((c.tc : Thread Cert.KernelIdeal.nD Cert.KernelIdeal.τ).loc Cert.KernelIdeal.main_arg0)
abbrev a1 : (⟨Cert.KernelIdeal.S2048x1024, .bf16⟩ : BufTy).Contents (Elt Ideal) := m ((c.tc : Thread Cert.KernelIdeal.nD Cert.KernelIdeal.τ).loc Cert.KernelIdeal.main_arg1)
abbrev a2 : (⟨Cert.KernelIdeal.S2048x1024, .bf16⟩ : BufTy).Contents (Elt Ideal) := m ((c.tc : Thread Cert.KernelIdeal.nD Cert.KernelIdeal.τ).loc Cert.KernelIdeal.main_arg2)
abbrev a3 : (⟨Cert.KernelIdeal.S2048x2048, .f32⟩ : BufTy).Contents (Elt Ideal) := m ((c.tc : Thread Cert.KernelIdeal.nD Cert.KernelIdeal.τ).loc Cert.KernelIdeal.main_arg3)

/-- The kernel's three result arrays hold what the reference's three results are. -/
theorem values (hf : Cert.Pre_finite.fn (F := Ideal) (a0 m c) (a1 m c) (a2 m c) (a3 m c) = fun _ => 1#1) :
    ((Cert.KernelIdeal.Gen.dats m 0 c).arrAt 9 Cert.KernelIdeal.cfg0.N : Cert.KernelIdeal.S2048x1024.Idx → EReal)
        = Cert.ReferenceIdeal.Read.val_main_v178 (F := Ideal) (a0 m c) (a1 m c) (a2 m c) (a3 m c)
      ∧ ((Cert.KernelIdeal.Gen.dats m 0 c).arrAt 10 Cert.KernelIdeal.cfg0.N : Cert.KernelIdeal.S2048x1024.Idx → EReal)
        = Cert.ReferenceIdeal.Read.val_main_v176 (F := Ideal) (a0 m c) (a1 m c) (a2 m c) (a3 m c)
      ∧ ((Cert.KernelIdeal.Gen.dats m 0 c).arrAt 11 Cert.KernelIdeal.cfg0.N : Cert.KernelIdeal.S2048x1024.Idx → EReal)
        = Cert.ReferenceIdeal.Read.val_main_v149 (F := Ideal) (a0 m c) (a1 m c) (a3 m c) := by
  obtain ⟨r0, r1, r2, r3⟩ := Cert.Finite.reals_of_finite _ _ _ _ hf
  let q : Heads := fun h t d => (a0 m c (ix2 t (col h d)) : EReal).toReal
  let k : Heads := fun h t d => (a1 m c (ix2 t (col h d)) : EReal).toReal
  let v : Heads := fun h t d => (a2 m c (ix2 t (col h d)) : EReal).toReal
  let g : Heads := fun h t d => (a3 m c (ix2 t (colR h d)) : EReal).toReal
  have hq : Holds (a0 m c) q := fun h t d => (r0 (ix2 t (col h d))).symm
  have hk : Holds (a1 m c) k := fun h t d => (r1 (ix2 t (col h d))).symm
  have hv : Holds (a2 m c) v := fun h t d => (r2 (ix2 t (col h d))).symm
  have hg : HoldsR (a3 m c) g := fun h t d => (r3 (ix2 t (col h d))).symm
  obtain ⟨mm, hm⟩ := tops_exist hq hk
  obtain ⟨mx, hx⟩ := topLse_exist hq hk hm
  have H : Cert.Grid.Arrays m c q k v g mm mx :=
    { hq := fun h t d => (congrFun (Cert.KernelIdeal.Gen.V_main_arg0 m c) _).trans (hq h t d)
      hk := fun h t d => (congrFun (Cert.KernelIdeal.Gen.V_main_arg1 m c) _).trans (hk h t d)
      hv := fun h t d => (congrFun (Cert.KernelIdeal.Gen.V_main_arg2 m c) _).trans (hv h t d)
      hg := fun h t d => (congrFun (Cert.KernelIdeal.Gen.V_main_arg3 m c) _).trans (hg h t d)
      ho := fun h t d => (congrFun (Cert.Host.V_v95 m c) _).trans (Cert.Host.out_value hq hk hm hx hv h t d)
      hl := fun h t => (congrFun (Cert.Host.V_v96 m c) _).trans (Cert.Host.lse_value hq hk hm hx h t) }
  exact ⟨by_heads fun h t d => (Cert.Grid.final_dq H h t d).trans (ref_dq hq hk hm hx hv hg h t d).symm,
    by_heads fun h s d => (Cert.Grid.final_dk H h s d).trans (ref_dk hq hk hm hx hv hg h s d).symm,
    by_heads fun h s d => (Cert.Grid.final_dv H h s d).trans (ref_dv hq hk hm hx hg h s d).symm⟩

end Values

/-- The value claim. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks (F := Ideal) m ρ, ?_⟩
  refine (θ_run (Cert.ReferenceIdeal.defs (F := Ideal)) _ _).mono (fun r h c => ?_) (Cert.ReferenceIdeal.Value.run (F := Ideal) m' ρ')
  obtain ⟨h0, h1, h2, hr⟩ := h c
  obtain ⟨e0, e1, e2, e3⟩ := hargs c
  obtain ⟨w0, w1, w2⟩ := values m c (hpre c)
  refine ⟨h0.trans ((Cert.ReferenceIdeal.Read.val_main_v178_eq (F := Ideal) (StableHlo.launchContents m' c)).trans ?_),
    h1.trans ((Cert.ReferenceIdeal.Read.val_main_v176_eq (F := Ideal) (StableHlo.launchContents m' c)).trans ?_),
    h2.trans ((Cert.ReferenceIdeal.Read.val_main_v149_eq (F := Ideal) (StableHlo.launchContents m' c)).trans ?_), hr⟩
  · refine Eq.trans ?_ w0.symm
    simp only [StableHlo.launchContents_devRef, e0, e1, e2, e3]
  · refine Eq.trans ?_ w1.symm
    simp only [StableHlo.launchContents_devRef, e0, e1, e2, e3]
  · refine Eq.trans ?_ w2.symm
    simp only [StableHlo.launchContents_devRef, e0, e1, e3]

/-- The reference's frame: its arguments end unchanged, and it has no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2.2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.UpDw.Gen.facts, Cert.UpDwIdeal.Gen.facts, Cert.UpDwRefIdeal.Gen.facts,
    Cert.UpDx.Gen.facts, Cert.UpDxIdeal.Gen.facts, Cert.UpDxRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.OutDw.Gen.facts, Cert.OutDwIdeal.Gen.facts, Cert.OutDwRefIdeal.Gen.facts,
    Cert.OutDx.Gen.facts, Cert.OutDxIdeal.Gen.facts, Cert.OutDxRefIdeal.Gen.facts,
    Cert.InDw.Gen.facts, Cert.InDwIdeal.Gen.facts, Cert.InDwRefIdeal.Gen.facts,
    Cert.InDx.Gen.facts, Cert.InDxIdeal.Gen.facts, Cert.InDxRefIdeal.Gen.facts,
    Cert.InFwd.Gen.facts, Cert.InFwdIdeal.Gen.facts, Cert.InFwdRefIdeal.Gen.facts,
    Cert.OutFwd.Gen.facts, Cert.OutFwdIdeal.Gen.facts, Cert.OutFwdRefIdeal.Gen.facts,
    Cert.UpFwd.Gen.facts, Cert.UpFwdIdeal.Gen.facts, Cert.UpFwdRefIdeal.Gen.facts,
    Cert.DownFwd.Gen.facts, Cert.DownFwdIdeal.Gen.facts, Cert.DownFwdRefIdeal.Gen.facts,
    Cert.Norm1.Gen.facts, Cert.Norm1Ideal.Gen.facts, Cert.Norm1RefIdeal.Gen.facts,
    Cert.Norm2.Gen.facts, Cert.Norm2Ideal.Gen.facts, Cert.Norm2RefIdeal.Gen.facts,
    Cert.AdaFwd.Gen.facts, Cert.AdaFwdIdeal.Gen.facts, Cert.AdaFwdRefIdeal.Gen.facts,
    Cert.AdaDw.Gen.facts, Cert.AdaDwIdeal.Gen.facts, Cert.AdaDwRefIdeal.Gen.facts,
    Cert.QkPrep.Gen.facts, Cert.QkPrepIdeal.Gen.facts, Cert.QkPrepRefIdeal.Gen.facts,
    Cert.Adam.Gen.facts, Cert.AdamIdeal.Gen.facts, Cert.AdamRefIdeal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.UpDw.Gen.frame m ρ, fun m ρ _ => Cert.UpDwIdeal.Gen.frame m ρ, Cert.UpDwProof.frame_reference,
    fun m ρ _ => Cert.UpDx.Gen.frame m ρ, fun m ρ _ => Cert.UpDxIdeal.Gen.frame m ρ, Cert.UpDxProof.frame_reference,
    fun m ρ _ => Cert.DownDx.Gen.frame m ρ, fun m ρ _ => Cert.DownDxIdeal.Gen.frame m ρ, Cert.DownDxProof.frame_reference,
    fun m ρ _ => Cert.DownDw.Gen.frame m ρ, fun m ρ _ => Cert.DownDwIdeal.Gen.frame m ρ, Cert.DownDwProof.frame_reference,
    fun m ρ _ => Cert.OutDw.Gen.frame m ρ, fun m ρ _ => Cert.OutDwIdeal.Gen.frame m ρ, Cert.OutDwProof.frame_reference,
    fun m ρ _ => Cert.OutDx.Gen.frame m ρ, fun m ρ _ => Cert.OutDxIdeal.Gen.frame m ρ, Cert.OutDxProof.frame_reference,
    fun m ρ _ => Cert.InDw.Gen.frame m ρ, fun m ρ _ => Cert.InDwIdeal.Gen.frame m ρ, Cert.InDwProof.frame_reference,
    fun m ρ _ => Cert.InDx.Gen.frame m ρ, fun m ρ _ => Cert.InDxIdeal.Gen.frame m ρ, Cert.InDxProof.frame_reference,
    fun m ρ _ => Cert.InFwd.Gen.frame m ρ, fun m ρ _ => Cert.InFwdIdeal.Gen.frame m ρ, Cert.InFwdProof.frame_reference,
    fun m ρ _ => Cert.OutFwd.Gen.frame m ρ, fun m ρ _ => Cert.OutFwdIdeal.Gen.frame m ρ, Cert.OutFwdProof.frame_reference,
    fun m ρ _ => Cert.UpFwd.Gen.frame m ρ, fun m ρ _ => Cert.UpFwdIdeal.Gen.frame m ρ, Cert.UpFwdProof.frame_reference,
    fun m ρ _ => Cert.DownFwd.Gen.frame m ρ, fun m ρ _ => Cert.DownFwdIdeal.Gen.frame m ρ, Cert.DownFwdProof.frame_reference,
    fun m ρ _ => Cert.Norm1.Gen.frame m ρ, fun m ρ _ => Cert.Norm1Ideal.Gen.frame m ρ, Cert.Norm1Proof.frame_reference,
    fun m ρ _ => Cert.Norm2.Gen.frame m ρ, fun m ρ _ => Cert.Norm2Ideal.Gen.frame m ρ, Cert.Norm2Proof.frame_reference,
    fun m ρ _ => Cert.AdaFwd.Gen.frame m ρ, fun m ρ _ => Cert.AdaFwdIdeal.Gen.frame m ρ, Cert.AdaFwdProof.frame_reference,
    fun m ρ _ => Cert.AdaDw.Gen.frame m ρ, fun m ρ _ => Cert.AdaDwIdeal.Gen.frame m ρ, Cert.AdaDwProof.frame_reference,
    fun m ρ _ => Cert.QkPrep.Gen.frame m ρ, fun m ρ _ => Cert.QkPrepIdeal.Gen.frame m ρ, Cert.QkPrepProof.frame_reference,
    fun m ρ _ => Cert.Adam.Gen.frame m ρ, fun m ρ _ => Cert.AdamIdeal.Gen.frame m ρ, Cert.AdamProof.frame_reference,
    IdealRules.named_const.statement Cert.KernelIdeal.κ "att_scale" .f32 0x3DB504F3#32 (((Real.sqrt 128)⁻¹ : ℝ) : EReal) rfl, algebraic,
    trivial, Cert.UpDwProof.algebraic,
    trivial, Cert.UpDxProof.algebraic,
    trivial, Cert.DownDxProof.algebraic,
    trivial, Cert.DownDwProof.algebraic,
    trivial, Cert.OutDwProof.algebraic,
    trivial, Cert.OutDxProof.algebraic,
    trivial, Cert.InDwProof.algebraic,
    trivial, Cert.InDxProof.algebraic,
    trivial, Cert.InFwdProof.algebraic,
    trivial, Cert.OutFwdProof.algebraic,
    trivial, Cert.UpFwdProof.algebraic,
    trivial, Cert.DownFwdProof.algebraic,
    trivial, Cert.Norm1Proof.algebraic,
    trivial, Cert.Norm2Proof.algebraic,
    trivial, Cert.AdaFwdProof.algebraic,
    trivial, Cert.AdaDwProof.algebraic,
    trivial, Cert.QkPrepProof.algebraic,
    trivial, Cert.AdamProof.algebraic⟩

end Cert.Proof

end
